-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mlp_finite [hPre_mlp_finite : Cert.Pre_mlp_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mlp_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mlp_finite [hPre_mlp_finite : Cert.Pre_mlp_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mlp_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_in_bwd_finite [hPre_in_bwd_finite : Cert.Pre_in_bwd_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_in_bwd_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_in_bwd_finite [hPre_in_bwd_finite : Cert.Pre_in_bwd_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_in_bwd_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_out_bwd_finite [hPre_out_bwd_finite : Cert.Pre_out_bwd_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_out_bwd_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_out_bwd_finite [hPre_out_bwd_finite : Cert.Pre_out_bwd_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_out_bwd_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_mlp_finite [hKernel2Ideal : Cert.Kernel2Ideal.Facts] [hPre_mlp_finite : Cert.Pre_mlp_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mlp_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_mlp_finite [hReference2Ideal : Cert.Reference2Ideal.Facts] [hPre_mlp_finite : Cert.Pre_mlp_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mlp_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_in_bwd_finite [hKernel10Ideal : Cert.Kernel10Ideal.Facts] [hPre_in_bwd_finite : Cert.Pre_in_bwd_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_in_bwd_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_in_bwd_finite [hReference10Ideal : Cert.Reference10Ideal.Facts] [hPre_in_bwd_finite : Cert.Pre_in_bwd_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_in_bwd_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Kernel12Ideal_pre_out_bwd_finite [hKernel12Ideal : Cert.Kernel12Ideal.Facts] [hPre_out_bwd_finite : Cert.Pre_out_bwd_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_out_bwd_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Reference12Ideal_pre_out_bwd_finite [hReference12Ideal : Cert.Reference12Ideal.Facts] [hPre_out_bwd_finite : Cert.Pre_out_bwd_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_out_bwd_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_mlp_finite [hKernel2Ideal : Cert.Kernel2Ideal.Facts] [hReference2Ideal : Cert.Reference2Ideal.Facts] [hPre_mlp_finite : Cert.Pre_mlp_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mlp_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v207) = v0 c
          ∧ r.2.mem ((c.tc : Thread Cert.Reference2Ideal.nD Cert.Reference2Ideal.τ).loc Cert.Reference2Ideal.main_v217) = v1 c
          ∧ r.2.mem ((c.tc : Thread Cert.Reference2Ideal.nD Cert.Reference2Ideal.τ).loc Cert.Reference2Ideal.main_v218) = v2 c
          ∧ r.2.mem ((c.tc : Thread Cert.Reference2Ideal.nD Cert.Reference2Ideal.τ).loc Cert.Reference2Ideal.main_v219) = v3 c
          ∧ r.2.mem ((c.tc : Thread Cert.Reference2Ideal.nD Cert.Reference2Ideal.τ).loc Cert.Reference2Ideal.main_v223) = v4 c
          ∧ r.2.mem ((c.tc : Thread Cert.Reference2Ideal.nD Cert.Reference2Ideal.τ).loc Cert.Reference2Ideal.main_v224) = v5 c
          ∧ r.2.mem ((c.tc : Thread Cert.Reference2Ideal.nD Cert.Reference2Ideal.τ).loc Cert.Reference2Ideal.main_v225) = v6 c
          ∧ r.2.mem ((c.tc : Thread Cert.Reference2Ideal.nD Cert.Reference2Ideal.τ).loc Cert.Reference2Ideal.main_v226) = v7 c
          ∧ r.2.mem ((c.tc : Thread Cert.Reference2Ideal.nD Cert.Reference2Ideal.τ).loc Cert.Reference2Ideal.main_v227) = v8 c
          ∧ r.2.mem ((c.tc : Thread Cert.Reference2Ideal.nD Cert.Reference2Ideal.τ).loc Cert.Reference2Ideal.main_v216) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_in_bwd_finite [hKernel10Ideal : Cert.Kernel10Ideal.Facts] [hReference10Ideal : Cert.Reference10Ideal.Facts] [hPre_in_bwd_finite : Cert.Pre_in_bwd_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_in_bwd_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_v77) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v47) = v0 c
          ∧ r.2.mem ((c.tc : Thread Cert.Reference11Ideal.nD Cert.Reference11Ideal.τ).loc Cert.Reference11Ideal.main_v48) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal_pre_out_bwd_finite [hKernel12Ideal : Cert.Kernel12Ideal.Facts] [hReference12Ideal : Cert.Reference12Ideal.Facts] [hPre_out_bwd_finite : Cert.Pre_out_bwd_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_out_bwd_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v108) = v0 c
          ∧ r.2.mem ((c.tc : Thread Cert.Reference12Ideal.nD Cert.Reference12Ideal.τ).loc Cert.Reference12Ideal.main_v122) = v1 c
          ∧ r.2.mem ((c.tc : Thread Cert.Reference12Ideal.nD Cert.Reference12Ideal.τ).loc Cert.Reference12Ideal.main_v80) = v2 c
          ∧ r.2.mem ((c.tc : Thread Cert.Reference12Ideal.nD Cert.Reference12Ideal.τ).loc Cert.Reference12Ideal.main_v114) = v3 c
          ∧ r.2.mem ((c.tc : Thread Cert.Reference12Ideal.nD Cert.Reference12Ideal.τ).loc Cert.Reference12Ideal.main_v124) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v67) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v27) = v1 c
          ∧ r.2.mem ((c.tc : Thread Cert.Reference19Ideal.nD Cert.Reference19Ideal.τ).loc Cert.Reference19Ideal.main_v8) = v2 c
          ∧ r.2.mem ((c.tc : Thread Cert.Reference19Ideal.nD Cert.Reference19Ideal.τ).loc Cert.Reference19Ideal.main_v14) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_mlp_finite : Cert.Pre_mlp_finite.Facts) (hPre_in_bwd_finite : Cert.Pre_in_bwd_finite.Facts) (hPre_out_bwd_finite : Cert.Pre_out_bwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_mlp_finite (hKernel2Ideal := hKernel2Ideal) (hPre_mlp_finite := hPre_mlp_finite)
    ∧ quiescent_Reference2Ideal (hReference2Ideal := hReference2Ideal)
    ∧ quiescent_Reference2Ideal_pre_mlp_finite (hReference2Ideal := hReference2Ideal) (hPre_mlp_finite := hPre_mlp_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_in_bwd_finite (hKernel10Ideal := hKernel10Ideal) (hPre_in_bwd_finite := hPre_in_bwd_finite)
    ∧ quiescent_Reference10Ideal (hReference10Ideal := hReference10Ideal)
    ∧ quiescent_Reference10Ideal_pre_in_bwd_finite (hReference10Ideal := hReference10Ideal) (hPre_in_bwd_finite := hPre_in_bwd_finite)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_out_bwd_finite (hKernel12Ideal := hKernel12Ideal) (hPre_out_bwd_finite := hPre_out_bwd_finite)
    ∧ quiescent_Reference12Ideal (hReference12Ideal := hReference12Ideal)
    ∧ quiescent_Reference12Ideal_pre_out_bwd_finite (hReference12Ideal := hReference12Ideal) (hPre_out_bwd_finite := hPre_out_bwd_finite)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_mlp_finite (hKernel2Ideal := hKernel2Ideal) (hReference2Ideal := hReference2Ideal) (hPre_mlp_finite := hPre_mlp_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_in_bwd_finite (hKernel10Ideal := hKernel10Ideal) (hReference10Ideal := hReference10Ideal) (hPre_in_bwd_finite := hPre_in_bwd_finite)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_out_bwd_finite (hKernel12Ideal := hKernel12Ideal) (hReference12Ideal := hReference12Ideal) (hPre_out_bwd_finite := hPre_out_bwd_finite)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S2048x3712 : Shape := ⟨2, ![2048, 3712]⟩
abbrev S4x1536 : Shape := ⟨2, ![4, 1536]⟩
abbrev S2048x512 : Shape := ⟨2, ![2048, 512]⟩
abbrev S_ : Shape := ⟨0, ![]⟩

class Facts : Prop where
  bcast_S_S2048x3712 : S_.BroadcastsInDim S2048x3712 (![] : Fin 0 → Fin S2048x3712.rank)
  reducesTo_S2048x3712_S_d0_1 : S2048x3712.ReducesTo [0, 1] S_
  h_S_ : 0 < S_.numel
  bcast_S_S4x1536 : S_.BroadcastsInDim S4x1536 (![] : Fin 0 → Fin S4x1536.rank)
  reducesTo_S4x1536_S_d0_1 : S4x1536.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S2048x512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  main_v23

def fn {F : FTy → Type} [FloatOps F] (main_arg0 : FVec F S2048x3712 .f32) (main_arg1 : FVec F S4x1536 .f32) (main_arg2 : FVec F S2048x512 .f32) (main_arg3 : FVec F S2048x512 .f32) (main_arg4 : FVec F S2048x512 .f32) : IVec S_ 1 :=
  let main_v0 : FVec F S2048x3712 .f32 := Host.absf main_arg0
  let main_cst : FVec F S_ .f32 := constant S_ .f32 0x7F800000#32
  let main_v1 : FVec F S2048x3712 .f32 := broadcastInDim S2048x3712 ![] bcast_S_S2048x3712 main_cst
  let main_v2 : IVec S2048x3712 1 := cmpf .olt main_v0 main_v1
  let main_c : IVec S_ 1 := constantI S_ 1 1#1
  let main_v3 : IVec S_ 1 := (fun x v => Host.reduce IntOp.andi x v reducesTo_S2048x3712_S_d0_1 h_S_) main_v2 main_c
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_c_1 : IVec S_ 1 := constantI S_ 1 1#1
  let main_v7 : IVec S_ 1 := (fun x v => Host.reduce IntOp.andi x v reducesTo_S4x1536_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_v13 main_v16
-- ==== Pre_in_bwd_finite.lean ====
abbrev S2048x3712 : Shape := ⟨2, ![2048, 3712]⟩
abbrev S1024x3712 : Shape := ⟨2, ![1024, 3712]⟩
abbrev S2048x1024 : Shape := ⟨2, ![2048, 1024]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S2048x3712 : S_.BroadcastsInDim S2048x3712 (![] : Fin 0 → Fin S2048x3712.rank)
  reducesTo_S2048x3712_S_d0_1 : S2048x3712.ReducesTo [0, 1] S_
  h_S_ : 0 < S_.numel
  bcast_S_S1024x3712 : S_.BroadcastsInDim S1024x3712 (![] : Fin 0 → Fin S1024x3712.rank)
  reducesTo_S1024x3712_S_d0_1 : S1024x3712.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S2048x1024 .f32) (main_cst_4 : FVec F S_ .f32) : IVec S_ 1 :=
  let main_v17 : FVec F S2048x1024 .f32 := broadcastInDim S2048x1024 ![] bcast_S_S2048x1024 main_cst_4
  let main_v18 : IVec S2048x1024 1 := cmpf .olt main_v16 main_v17
  let main_c_5 : IVec S_ 1 := constantI S_ 1 1#1
  let main_v19 : IVec S_ 1 := (fun x v => Host.reduce IntOp.andi x v reducesTo_S2048x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S2048x3712 .bf16) (main_arg1 : FVec F S1024x3712 .bf16) (main_arg2 : FVec F S2048x1024 .f32) (main_arg3 : FVec F S2048x1024 .f32) (main_arg4 : FVec F S1x1024 .f32) (main_arg5 : FVec F S8x128 .f32) : IVec S_ 1 :=
  let main_v0 : FVec F S2048x3712 .f32 := (extf .f32 · bitsLt_bf16_f32) main_arg0
  let main_v1 : FVec F S2048x3712 .f32 := Host.absf main_v0
  let main_cst : FVec F S_ .f32 := constant S_ .f32 0x7F800000#32
  let main_v2 : FVec F S2048x3712 .f32 := broadcastInDim S2048x3712 ![] bcast_S_S2048x3712 main_cst
  let main_v3 : IVec S2048x3712 1 := cmpf .olt main_v1 main_v2
  let main_c : IVec S_ 1 := constantI S_ 1 1#1
  let main_v4 : IVec S_ 1 := (fun x v => Host.reduce IntOp.andi x v reducesTo_S2048x3712_S_d0_1 h_S_) main_v3 main_c
  let main_v5 : FVec F S1024x3712 .f32 := (extf .f32 · bitsLt_bf16_f32) main_arg1
  let main_v6 : FVec F S1024x3712 .f32 := Host.absf main_v5
  let main_cst_0 : FVec F S_ .f32 := constant S_ .f32 0x7F800000#32
  let main_v7 : FVec F S1024x3712 .f32 := broadcastInDim S1024x3712 ![] bcast_S_S1024x3712 main_cst_0
  let main_v8 : IVec S1024x3712 1 := cmpf .olt main_v6 main_v7
  let main_c_1 : IVec S_ 1 := constantI S_ 1 1#1
  let main_v9 : IVec S_ 1 := (fun x v => Host.reduce IntOp.andi x v reducesTo_S1024x3712_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S2048x1024 .f32 := Host.absf main_arg3
  let main_cst_4 : FVec F S_ .f32 := constant S_ .f32 0x7F800000#32
  fn_part1 (F := F) main_arg4 main_v15 main_v16 main_cst_4
-- ==== Pre_mlp_finite.lean ====
abbrev S2048x1024 : Shape := ⟨2, ![2048, 1024]⟩
abbrev S2048x256 : Shape := ⟨2, ![2048, 256]⟩
abbrev S8x1024x512 : Shape := ⟨3, ![8, 1024, 512]⟩
abbrev S4096x1024 : Shape := ⟨2, ![4096, 1024]⟩
abbrev S1024x1024 : Shape := ⟨2, ![1024, 1024]⟩
abbrev S8x256x128 : Shape := ⟨3, ![8, 256, 128]⟩
abbrev S8x1024 : Shape := ⟨2, ![8, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bitsLt_bf16_f32 : FTy.bits .bf16 < FTy.bits .f32
  bcast_S_S8x1024x512 : S_.BroadcastsInDim S8x1024x512 (![] : Fin 0 → Fin S8x1024x512.rank)
  reducesTo_S8x1024x512_S_d0_1_2 : S8x1024x512.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8x256x128 : S_.BroadcastsInDim S8x256x128 (![] : Fin 0 → Fin S8x256x128.rank)
  reducesTo_S8x256x128_S_d0_1_2 : S8x256x128.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part2 {F : FTy → Type} [FloatOps F] (main_arg7 : FVec F S8x1024 .f32) (main_v31 : IVec S_ 1) (main_v33 : FVec F S8x256x128 .f32) (main_v34 : FVec F S8x256x128 .f32) : IVec S_ 1 :=
  let main_v35 : IVec S8x256x128 1 := cmpf .olt main_v33 main_v34
  let main_c_11 : IVec S_ 1 := constantI S_ 1 1#1
  let main_v36 : IVec S_ 1 := (fun x v => Host.reduce IntOp.andi x v reducesTo_S8x256x128_S_d0_1_2 h_S_) main_v35 main_c_11
  let main_v37 : IVec S_ 1 := andi main_v31 main_v36
  let main_v38 : FVec F S8x1024 .f32 := Host.absf main_arg7
  let main_cst_12 : FVec F S_ .f32 := constant S_ .f32 0x7F800000#32
  let main_v39 : FVec F S8x1024 .f32 := broadcastInDim S8x1024 ![] bcast_S_S8x1024 main_cst_12
  let main_v40 : IVec S8x1024 1 := cmpf .olt main_v38 main_v39
  let main_c_13 : IVec S_ 1 := constantI S_ 1 1#1
  let main_v41 : IVec S_ 1 := (fun x v => Host.reduce IntOp.andi x v reducesTo_S8x1024_S_d0_1 h_S_) main_v40 main_c_13
  let main_v42 : IVec S_ 1 := andi main_v37 main_v41
  main_v42

def fn_part1 {F : FTy → Type} [FloatOps F] (main_arg4 : FVec F S4096x1024 .bf16) (main_arg5 : FVec F S1024x1024 .bf16) (main_arg6 : FVec F S8x256x128 .bf16) (main_arg7 : FVec F S8x1024 .f32) (main_v13 : IVec S_ 1) (main_v15 : FVec F S8x1024x512 .f32) (main_v16 : FVec F S8x1024x512 .f32) : IVec S_ 1 :=
  let main_v17 : IVec S8x1024x512 1 := cmpf .olt main_v15 main_v16
  let main_c_5 : IVec S_ 1 := constantI S_ 1 1#1
  let main_v18 : IVec S_ 1 := (fun x v => Host.reduce IntOp.andi x v reducesTo_S8x1024x512_S_d0_1_2 h_S_) main_v17 main_c_5
  let main_v19 : IVec S_ 1 := andi main_v13 main_v18
  let main_v20 : FVec F S4096x1024 .f32 := (extf .f32 · bitsLt_bf16_f32) main_arg4
  let main_v21 : FVec F S4096x1024 .f32 := Host.absf main_v20
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v19 main_v24
  let main_v26 : FVec F S1024x1024 .f32 := (extf .f32 · bitsLt_bf16_f32) main_arg5
  let main_v27 : FVec F S1024x1024 .f32 := Host.absf main_v26
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_c_9 : IVec S_ 1 := constantI S_ 1 1#1
  let main_v30 : IVec S_ 1 := (fun x v => Host.reduce IntOp.andi x v reducesTo_S1024x1024_S_d0_1 h_S_) main_v29 main_c_9
  let main_v31 : IVec S_ 1 := andi main_v25 main_v30
  let main_v32 : FVec F S8x256x128 .f32 := (extf .f32 · bitsLt_bf16_f32) main_arg6
  let main_v33 : FVec F S8x256x128 .f32 := Host.absf main_v32
  let main_cst_10 : FVec F S_ .f32 := constant S_ .f32 0x7F800000#32
  let main_v34 : FVec F S8x256x128 .f32 := broadcastInDim S8x256x128 ![] bcast_S_S8x256x128 main_cst_10
  fn_part2 (F := F) main_arg7 main_v31 main_v33 main_v34

def fn {F : FTy → Type} [FloatOps F] (main_arg0 : FVec F S2048x1024 .f32) (main_arg1 : FVec F S2048x256 .f32) (main_arg2 : FVec F S2048x1024 .f32) (main_arg3 : FVec F S8x1024x512 .bf16) (main_arg4 : FVec F S4096x1024 .bf16) (main_arg5 : FVec F S1024x1024 .bf16) (main_arg6 : FVec F S8x256x128 .bf16) (main_arg7 : FVec F S8x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S8x1024x512 .f32 := (extf .f32 · bitsLt_bf16_f32) main_arg3
  let main_v15 : FVec F S8x1024x512 .f32 := Host.absf main_v14
  let main_cst_4 : FVec F S_ .f32 := constant S_ .f32 0x7F800000#32
  let main_v16 : FVec F S8x1024x512 .f32 := broadcastInDim S8x1024x512 ![] bcast_S_S8x1024x512 main_cst_4
  fn_part1 (F := F) main_arg4 main_arg5 main_arg6 main_arg7 main_v13 main_v15 main_v16
-- ==== Pre_out_bwd_finite.lean ====
abbrev S2048x1024 : Shape := ⟨2, ![2048, 1024]⟩
abbrev S2048x512 : Shape := ⟨2, ![2048, 512]⟩
abbrev S2048x3712 : Shape := ⟨2, ![2048, 3712]⟩
abbrev S1x512 : Shape := ⟨2, ![1, 512]⟩
abbrev S1024x1024 : Shape := ⟨2, ![1024, 1024]⟩
abbrev S8x128 : Shape := ⟨2, ![8, 128]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x3712 : S_.BroadcastsInDim S2048x3712 (![] : Fin 0 → Fin S2048x3712.rank)
  reducesTo_S2048x3712_S_d0_1 : S2048x3712.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v29 : IVec S_ 1) (main_v33 : IVec S1024x1024 1) (main_c_11 : IVec S_ 1) : IVec S_ 1 :=
  let main_v34 : IVec S_ 1 := (fun x v => Host.reduce IntOp.andi x v reducesTo_S1024x1024_S_d0_1 h_S_) main_v33 main_c_11
  let main_v35 : IVec S_ 1 := andi main_v29 main_v34
  main_v35

def fn_part1 {F : FTy → Type} [FloatOps F] (main_arg4 : FVec F S1x512 .f32) (main_arg5 : FVec F S1x512 .f32) (main_arg6 : FVec F S1024x1024 .bf16) (main_v14 : IVec S_ 1) (main_v15 : FVec F S2048x512 .f32) (main_v16 : FVec F S2048x512 .f32) : IVec S_ 1 :=
  let main_v17 : IVec S2048x512 1 := cmpf .olt main_v15 main_v16
  let main_c_5 : IVec S_ 1 := constantI S_ 1 1#1
  let main_v18 : IVec S_ 1 := (fun x v => Host.reduce IntOp.andi x v reducesTo_S2048x512_S_d0_1 h_S_) main_v17 main_c_5
  let main_v19 : IVec S_ 1 := andi main_v14 main_v18
  let main_v20 : FVec F S1x512 .f32 := Host.absf main_arg4
  let main_cst_6 : FVec F S_ .f32 := constant S_ .f32 0x7F800000#32
  let main_v21 : FVec F S1x512 .f32 := broadcastInDim S1x512 ![] bcast_S_S1x512 main_cst_6
  let main_v22 : IVec S1x512 1 := cmpf .olt main_v20 main_v21
  let main_c_7 : IVec S_ 1 := constantI S_ 1 1#1
  let main_v23 : IVec S_ 1 := (fun x v => Host.reduce IntOp.andi x v reducesTo_S1x512_S_d0_1 h_S_) main_v22 main_c_7
  let main_v24 : IVec S_ 1 := andi main_v19 main_v23
  let main_v25 : FVec F S1x512 .f32 := Host.absf main_arg5
  let main_cst_8 : FVec F S_ .f32 := constant S_ .f32 0x7F800000#32
  let main_v26 : FVec F S1x512 .f32 := broadcastInDim S1x512 ![] bcast_S_S1x512 main_cst_8
  let main_v27 : IVec S1x512 1 := cmpf .olt main_v25 main_v26
  let main_c_9 : IVec S_ 1 := constantI S_ 1 1#1
  let main_v28 : IVec S_ 1 := (fun x v => Host.reduce IntOp.andi x v reducesTo_S1x512_S_d0_1 h_S_) main_v27 main_c_9
  let main_v29 : IVec S_ 1 := andi main_v24 main_v28
  let main_v30 : FVec F S1024x1024 .f32 := (extf .f32 · bitsLt_bf16_f32) main_arg6
  let main_v31 : FVec F S1024x1024 .f32 := Host.absf main_v30
  let main_cst_10 : FVec F S_ .f32 := constant S_ .f32 0x7F800000#32
  let main_v32 : FVec F S1024x1024 .f32 := broadcastInDim S1024x1024 ![] bcast_S_S1024x1024 main_cst_10
  let main_v33 : IVec S1024x1024 1 := cmpf .olt main_v31 main_v32
  let main_c_11 : IVec S_ 1 := constantI S_ 1 1#1
  fn_part2 (F := F) main_v29 main_v33 main_c_11

def fn {F : FTy → Type} [FloatOps F] (main_arg0 : FVec F S2048x1024 .bf16) (main_arg1 : FVec F S2048x512 .f32) (main_arg2 : FVec F S2048x3712 .f32) (main_arg3 : FVec F S2048x512 .f32) (main_arg4 : FVec F S1x512 .f32) (main_arg5 : FVec F S1x512 .f32) (main_arg6 : FVec F S1024x1024 .bf16) (main_arg7 : FVec F S8x128 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x512 .f32 := Host.absf main_arg1
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v4 main_v8
  let main_v10 : FVec F S2048x3712 .f32 := Host.absf main_arg2
  let main_cst_2 : FVec F S_ .f32 := constant S_ .f32 0x7F800000#32
  let main_v11 : FVec F S2048x3712 .f32 := broadcastInDim S2048x3712 ![] bcast_S_S2048x3712 main_cst_2
  let main_v12 : IVec S2048x3712 1 := cmpf .olt main_v10 main_v11
  let main_c_3 : IVec S_ 1 := constantI S_ 1 1#1
  let main_v13 : IVec S_ 1 := (fun x v => Host.reduce IntOp.andi x v reducesTo_S2048x3712_S_d0_1 h_S_) main_v12 main_c_3
  let main_v14 : IVec S_ 1 := andi main_v9 main_v13
  let main_v15 : FVec F S2048x512 .f32 := Host.absf main_arg3
  let main_cst_4 : FVec F S_ .f32 := constant S_ .f32 0x7F800000#32
  let main_v16 : FVec F S2048x512 .f32 := broadcastInDim S2048x512 ![] bcast_S_S2048x512 main_cst_4
  fn_part1 (F := F) main_arg4 main_arg5 main_arg6 main_v14 main_v15 main_v16
-- ==== Kernel.lean ====
abbrev S2048x3712 : Shape := ⟨2, ![2048, 3712]⟩
abbrev S4x1536 : Shape := ⟨2, ![4, 1536]⟩
abbrev S2048x512 : Shape := ⟨2, ![2048, 512]⟩
abbrev S2048x1536 : Shape := ⟨2, ![2048, 1536]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S2048x3712, .f32⟩
  | .hbm, ⟨1, _⟩ => ⟨S4x1536, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x1536, .bf16⟩
  | .hbm, ⟨6, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S4x128, .f32⟩
  | .local _ .vmem, ⟨13, _⟩ => ⟨S4x128, .f32⟩
  | _, _ => ⟨S2048x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c3_i32 : BitVec 32 := 3#32
  let v0 : BitVec 32 := Scalar.maxsi c0_i32 arg0
  let v1 : BitVec 32 := Scalar.minsi c3_i32 v0
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x3712 : Shape := ⟨2, ![2048, 3712]⟩
abbrev S4x1536 : Shape := ⟨2, ![4, 1536]⟩
abbrev S2048x512 : Shape := ⟨2, ![2048, 512]⟩
abbrev S2048x1536 : Shape := ⟨2, ![2048, 1536]⟩
abbrev S_ : Shape := ⟨0, ![]⟩
abbrev S3x1536 : Shape := ⟨2, ![3, 1536]⟩
abbrev S2045x1536 : Shape := ⟨2, ![2045, 1536]⟩
abbrev S1x1536 : Shape := ⟨2, ![1, 1536]⟩
abbrev S1536 : Shape := ⟨1, ![1536]⟩
abbrev S2x1536 : Shape := ⟨2, ![2, 1536]⟩
abbrev S2046x1536 : Shape := ⟨2, ![2046, 1536]⟩
abbrev S2047x1536 : Shape := ⟨2, ![2047, 1536]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 206
  | .vmem => 0
  | .smem => 0
  | _ => 0

abbrev hbmTy0_0 (i : Nat) : BufTy := match i % 128 with
  | 0 => ⟨S2048x3712, .f32⟩
  | 1 => ⟨S4x1536, .f32⟩
  | 2 => ⟨S2048x512, .f32⟩
  | 3 => ⟨S2048x512, .f32⟩
  | 4 => ⟨S2048x512, .f32⟩
  | 5 => ⟨S2048x1536, .f32⟩
  | 6 => ⟨S_, .f32⟩
  | 7 => ⟨S3x1536, .f32⟩
  | 8 => ⟨S2045x1536, .f32⟩
  | 9 => ⟨S2048x1536, .f32⟩
  | 10 => ⟨S_, .f32⟩
  | 11 => ⟨S3x1536, .f32⟩
  | 12 => ⟨S1x1536, .f32⟩
  | 13 => ⟨S1536, .f32⟩
  | 14 => ⟨S1x1536, .f32⟩
  | 15 => ⟨S2048x1536, .f32⟩
  | 16 => ⟨S2048x1536, .f32⟩
  | 17 => ⟨S_, .f32⟩
  | 18 => ⟨S2048x1536, .f32⟩
  | 19 => ⟨S2048x1536, .f32⟩
  | 20 => ⟨S_, .f32⟩
  | 21 => ⟨S2x1536, .f32⟩
  | 22 => ⟨S2046x1536, .f32⟩
  | 23 => ⟨S2048x1536, .f32⟩
  | 24 => ⟨S_, .f32⟩
  | 25 => ⟨S2x1536, .f32⟩
  | 26 => ⟨S1x1536, .f32⟩
  | 27 => ⟨S1536, .f32⟩
  | 28 => ⟨S1x1536, .f32⟩
  | 29 => ⟨S2048x1536, .f32⟩
  | 30 => ⟨S2048x1536, .f32⟩
  | 31 => ⟨S2048x1536, .f32⟩
  | 32 => ⟨S_, .f32⟩
  | 33 => ⟨S1x1536, .f32⟩
  | 34 => ⟨S2047x1536, .f32⟩
  | 35 => ⟨S2048x1536, .f32⟩
  | 36 => ⟨S_, .f32⟩
  | 37 => ⟨S1x1536, .f32⟩
  | 38 => ⟨S1x1536, .f32⟩
  | 39 => ⟨S1536, .f32⟩
  | 40 => ⟨S1x1536, .f32⟩
  | 41 => ⟨S2048x1536, .f32⟩
  | 42 => ⟨S2048x1536, .f32⟩
  | 43 => ⟨S2048x1536, .f32⟩
  | 44 => ⟨S1x1536, .f32⟩
  | 45 => ⟨S1536, .f32⟩
  | 46 => ⟨S1x1536, .f32⟩
  | 47 => ⟨S2048x1536, .f32⟩
  | 48 => ⟨S2048x1536, .f32⟩
  | 49 => ⟨S2048x1536, .f32⟩
  | 50 => ⟨S2048x1536, .f32⟩
  | 51 => ⟨S2048x1536, .f32⟩
  | 52 => ⟨S_, .f32⟩
  | 53 => ⟨S2048x1536, .f32⟩
  | 54 => ⟨S2048x1536, .f32⟩
  | 55 => ⟨S_, .f32⟩
  | 56 => ⟨S2048x1536, .f32⟩
  | 57 => ⟨S2048x1536, .f32⟩
  | 58 => ⟨S_, .f32⟩
  | 59 => ⟨S2048x1536, .f32⟩
  | 60 => ⟨S2048x1536, .f32⟩
  | 61 => ⟨S2048x1536, .f32⟩
  | 62 => ⟨S2048x1536, .f32⟩
  | 63 => ⟨S2048x512, .f32⟩
  | 64 => ⟨S2048x4x128, .f32⟩
  | 65 => ⟨S2048x4x128, .f32⟩
  | 66 => ⟨S_, .f32⟩
  | 67 => ⟨S2048x4, .f32⟩
  | 68 => ⟨S2048x4x1, .f32⟩
  | 69 => ⟨S_, .f32⟩
  | 70 => ⟨S2048x4x1, .f32⟩
  | 71 => ⟨S2048x4x1, .f32⟩
  | 72 => ⟨S2048x4x1, .f32⟩
  | 73 => ⟨S2048x4x1, .f32⟩
  | 74 => ⟨S_, .f32⟩
  | 75 => ⟨S2048x4x1, .f32⟩
  | 76 => ⟨S2048x4x1, .f32⟩
  | 77 => ⟨S2048x4x128, .f32⟩
  | 78 => ⟨S2048x4x128, .f32⟩
  | 79 => ⟨S2048x512, .f32⟩
  | 80 => ⟨S2048x4x128, .f32⟩
  | 81 => ⟨S2048x4x128, .f32⟩
  | 82 => ⟨S_, .f32⟩
  | 83 => ⟨S2048x4, .f32⟩
  | 84 => ⟨S2048x4x1, .f32⟩
  | 85 => ⟨S_, .f32⟩
  | 86 => ⟨S2048x4x1, .f32⟩
  | 87 => ⟨S2048x4x1, .f32⟩
  | 88 => ⟨S2048x4x1, .f32⟩
  | 89 => ⟨S2048x4x1, .f32⟩
  | 90 => ⟨S_, .f32⟩
  | 91 => ⟨S2048x4x1, .f32⟩
  | 92 => ⟨S2048x4x1, .f32⟩
  | 93 => ⟨S2048x4x128, .f32⟩
  | 94 => ⟨S2048x4x128, .f32⟩
  | 95 => ⟨S2048x512, .f32⟩
  | 96 => ⟨S2048x4x128, .f32⟩
  | 97 => ⟨S2048x4x128, .f32⟩
  | 98 => ⟨S2048x4x128, .f32⟩
  | 99 => ⟨S2048x4x128, .f32⟩
  | 100 => ⟨S2048x512, .f32⟩
  | 101 => ⟨S_, .f32⟩
  | 102 => ⟨S2048x1536, .f32⟩
  | 103 => ⟨S2048x4x128, .f32⟩
  | 104 => ⟨S_, .f32⟩
  | 105 => ⟨S2048x4, .f32⟩
  | 106 => ⟨S2048x4x1, .f32⟩
  | 107 => ⟨S2048x4x128, .f32⟩
  | 108 => ⟨S2048x4x128, .f32⟩
  | 109 => ⟨S2048x4x1, .f32⟩
  | 110 => ⟨S_, .f32⟩
  | 111 => ⟨S2048x4, .f32⟩
  | 112 => ⟨S2048x4x128, .f32⟩
  | 113 => ⟨S2048x4x128, .f32⟩
  | 114 => ⟨S2048x4x128, .f32⟩
  | 115 => ⟨S2048x4x128, .f32⟩
  | 116 => ⟨S2048x4x128, .f32⟩
  | 117 => ⟨S2048x512, .f32⟩
  | 118 => ⟨S_, .f32⟩
  | 119 => ⟨S2048x1536, .f32⟩
  | 120 => ⟨S2048x1536, .f32⟩
  | 121 => ⟨S2048x4x128, .f32⟩
  | 122 => ⟨S_, .f32⟩
  | 123 => ⟨S2048x4, .f32⟩
  | 124 => ⟨S2048x4x1, .f32⟩
  | 125 => ⟨S2048x4x128, .f32⟩
  | 126 => ⟨S2048x4x128, .f32⟩
  | 127 => ⟨S2048x4x1, .f32⟩
  | _ => ⟨S2048x3712, .f32⟩

abbrev hbmTy0_1 (i : Nat) : BufTy := match i % 128 with
  | 0 => ⟨S_, .f32⟩
  | 1 => ⟨S2048x4, .f32⟩
  | 2 => ⟨S2048x4x128, .f32⟩
  | 3 => ⟨S2048x4x128, .f32⟩
  | 4 => ⟨S2048x4x128, .f32⟩
  | 5 => ⟨S2048x4x128, .f32⟩
  | 6 => ⟨S2048x4x128, .f32⟩
  | 7 => ⟨S2048x512, .f32⟩
  | 8 => ⟨S_, .f32⟩
  | 9 => ⟨S2048x1536, .f32⟩
  | 10 => ⟨S2048x1536, .f32⟩
  | 11 => ⟨S2048x1536, .f32⟩
  | 12 => ⟨S2048x1536, .f32⟩
  | 13 => ⟨S2048x1536, .f32⟩
  | 14 => ⟨S2048x1536, .f32⟩
  | 15 => ⟨S2048x1536, .f32⟩
  | 16 => ⟨S_, .f32⟩
  | 17 => ⟨S1536, .f32⟩
  | 18 => ⟨S1x1536, .f32⟩
  | 19 => ⟨S2048x1536, .f32⟩
  | 20 => ⟨S2048x1536, .f32⟩
  | 21 => ⟨S_, .f32⟩
  | 22 => ⟨S1536, .f32⟩
  | 23 => ⟨S1x1536, .f32⟩
  | 24 => ⟨S_, .f32⟩
  | 25 => ⟨S4x1536, .f32⟩
  | 26 => ⟨S2048x1536, .f32⟩
  | 27 => ⟨S_, .f32⟩
  | 28 => ⟨S1536, .f32⟩
  | 29 => ⟨S1x1536, .f32⟩
  | 30 => ⟨S2048x1536, .f32⟩
  | 31 => ⟨S2048x1536, .f32⟩
  | 32 => ⟨S_, .f32⟩
  | 33 => ⟨S1536, .f32⟩
  | 34 => ⟨S1x1536, .f32⟩
  | 35 => ⟨S_, .f32⟩
  | 36 => ⟨S4x1536, .f32⟩
  | 37 => ⟨S4x1536, .f32⟩
  | 38 => ⟨S1x1536, .f32⟩
  | 39 => ⟨S2047x1536, .f32⟩
  | 40 => ⟨S_, .f32⟩
  | 41 => ⟨S2048x1536, .f32⟩
  | 42 => ⟨S2048x1536, .f32⟩
  | 43 => ⟨S2048x1536, .f32⟩
  | 44 => ⟨S_, .f32⟩
  | 45 => ⟨S1536, .f32⟩
  | 46 => ⟨S1x1536, .f32⟩
  | 47 => ⟨S2048x1536, .f32⟩
  | 48 => ⟨S2048x1536, .f32⟩
  | 49 => ⟨S_, .f32⟩
  | 50 => ⟨S1536, .f32⟩
  | 51 => ⟨S1x1536, .f32⟩
  | 52 => ⟨S_, .f32⟩
  | 53 => ⟨S4x1536, .f32⟩
  | 54 => ⟨S4x1536, .f32⟩
  | 55 => ⟨S2x1536, .f32⟩
  | 56 => ⟨S2046x1536, .f32⟩
  | 57 => ⟨S_, .f32⟩
  | 58 => ⟨S2048x1536, .f32⟩
  | 59 => ⟨S2048x1536, .f32⟩
  | 60 => ⟨S2048x1536, .f32⟩
  | 61 => ⟨S_, .f32⟩
  | 62 => ⟨S1536, .f32⟩
  | 63 => ⟨S1x1536, .f32⟩
  | 64 => ⟨S2048x1536, .f32⟩
  | 65 => ⟨S2048x1536, .f32⟩
  | 66 => ⟨S_, .f32⟩
  | 67 => ⟨S1536, .f32⟩
  | 68 => ⟨S1x1536, .f32⟩
  | 69 => ⟨S_, .f32⟩
  | 70 => ⟨S4x1536, .f32⟩
  | 71 => ⟨S4x1536, .f32⟩
  | 72 => ⟨S3x1536, .f32⟩
  | 73 => ⟨S2045x1536, .f32⟩
  | 74 => ⟨S_, .f32⟩
  | 75 => ⟨S2048x1536, .f32⟩
  | 76 => ⟨S2048x1536, .f32⟩
  | 77 => ⟨S2048x1536, .bf16⟩
  | _ => ⟨S2048x3712, .f32⟩

abbrev hbmTy (i : Nat) : BufTy := match i / 128 with
  | 0 => hbmTy0_0 i
  | 1 => hbmTy0_1 i
  | _ => ⟨S2048x3712, .f32⟩

abbrev bufTy : (tb : Table) → Fin (tcTables nBuf tb) → BufTy
  | .hbm, ⟨i, _⟩ => hbmTy i
  | _, _ => ⟨S2048x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_17 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_18 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_19 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_20 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_21 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_22 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_23 : Ref sig .tc := ⟨.hbm, 149, rfl⟩
abbrev main_v120 : Ref sig .tc := ⟨.hbm, 150, rfl⟩
abbrev main_v121 : Ref sig .tc := ⟨.hbm, 151, rfl⟩
abbrev main_cst_24 : Ref sig .tc := ⟨.hbm, 152, rfl⟩
abbrev main_v122 : Ref sig .tc := ⟨.hbm, 153, rfl⟩
abbrev main_v123 : Ref sig .tc := ⟨.hbm, 154, rfl⟩
abbrev main_cst_25 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_26 : Ref sig .tc := ⟨.hbm, 160, rfl⟩
abbrev main_v128 : Ref sig .tc := ⟨.hbm, 161, rfl⟩
abbrev main_v129 : Ref sig .tc := ⟨.hbm, 162, rfl⟩
abbrev main_cst_27 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_28 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_29 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_30 : Ref sig .tc := ⟨.hbm, 177, rfl⟩
abbrev main_v141 : Ref sig .tc := ⟨.hbm, 178, rfl⟩
abbrev main_v142 : Ref sig .tc := ⟨.hbm, 179, rfl⟩
abbrev main_cst_31 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_32 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_33 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_34 : Ref sig .tc := ⟨.hbm, 194, rfl⟩
abbrev main_v154 : Ref sig .tc := ⟨.hbm, 195, rfl⟩
abbrev main_v155 : Ref sig .tc := ⟨.hbm, 196, rfl⟩
abbrev main_cst_35 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_36 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩

abbrev nD : Nat := 1
abbrev τ : Topo := Topo.v7x

variable {F : FTy → Type} [FloatOps F]
-- ==== Kernel2.lean ====
abbrev S2048x1024 : Shape := ⟨2, ![2048, 1024]⟩
abbrev S2048x256 : Shape := ⟨2, ![2048, 256]⟩
abbrev S8x1024x512 : Shape := ⟨3, ![8, 1024, 512]⟩
abbrev S4096x1024 : Shape := ⟨2, ![4096, 1024]⟩
abbrev S1024x1024 : Shape := ⟨2, ![1024, 1024]⟩
abbrev S8x256x128 : Shape := ⟨3, ![8, 256, 128]⟩
abbrev S8x1024 : Shape := ⟨2, ![8, 1024]⟩
abbrev S2048x4096 : Shape := ⟨2, ![2048, 4096]⟩
abbrev S256x1024 : Shape := ⟨2, ![256, 1024]⟩
abbrev S256x256 : Shape := ⟨2, ![256, 256]⟩
abbrev S256x4096 : Shape := ⟨2, ![256, 4096]⟩
abbrev S1x1024 : Shape := ⟨2, ![1, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x256x128 : Shape := ⟨3, ![1, 256, 128]⟩
abbrev S256x128 : Shape := ⟨2, ![256, 128]⟩
abbrev S512x1024 : Shape := ⟨2, ![512, 1024]⟩
abbrev S1024 : Shape := ⟨1, ![1024]⟩

abbrev nBuf : Space → Nat
  | .hbm => 18
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S8x1024x512, .bf16⟩
  | .hbm, ⟨4, _⟩ => ⟨S4096x1024, .bf16⟩
  | .hbm, ⟨5, _⟩ => ⟨S1024x1024, .bf16⟩
  | .hbm, ⟨6, _⟩ => ⟨S8x256x128, .bf16⟩
  | .hbm, ⟨7, _⟩ => ⟨S8x1024, .f32⟩
  | .hbm, ⟨8, _⟩ => ⟨S2048x1024, .f32⟩
  | .hbm, ⟨9, _⟩ => ⟨S2048x1024, .bf16⟩
  | .hbm, ⟨10, _⟩ => ⟨S2048x1024, .bf16⟩
  | .hbm, ⟨11, _⟩ => ⟨S2048x4096, .bf16⟩
  | .hbm, ⟨12, _⟩ => ⟨S2048x4096, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x256, .bf16⟩
  | .hbm, ⟨17, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S8x1024x512, .bf16⟩
  | .local _ .vmem, ⟨7, _⟩ => ⟨S4096x1024, .bf16⟩
  | .local _ .vmem, ⟨8, _⟩ => ⟨S1024x1024, .bf16⟩
  | .local _ .vmem, ⟨9, _⟩ => ⟨S8x256x128, .bf16⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x256, .bf16⟩
  | .local _ .vmem, ⟨28, _⟩ => ⟨S256x256, .bf16⟩
  | .local _ .vmem, ⟨29, _⟩ => ⟨S8x1024, .f32⟩
  | .local _ .vmem, ⟨30, _⟩ => ⟨S256x4096, .f32⟩
  | .local _ .vmem, ⟨31, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev main_v0_9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S2048x1024 : Shape := ⟨2, ![2048, 1024]⟩
abbrev S2048x256 : Shape := ⟨2, ![2048, 256]⟩
abbrev S8x1024x512 : Shape := ⟨3, ![8, 1024, 512]⟩
abbrev S4096x1024 : Shape := ⟨2, ![4096, 1024]⟩
abbrev S1024x1024 : Shape := ⟨2, ![1024, 1024]⟩
abbrev S8x256x128 : Shape := ⟨3, ![8, 256, 128]⟩
abbrev S8x1024 : Shape := ⟨2, ![8, 1024]⟩
abbrev S1x1024 : Shape := ⟨2, ![1, 1024]⟩
abbrev S1024 : Shape := ⟨1, ![1024]⟩
abbrev S1024x8x512 : Shape := ⟨3, ![1024, 8, 512]⟩
abbrev S1024x4096 : Shape := ⟨2, ![1024, 4096]⟩
abbrev S256x8x128 : Shape := ⟨3, ![256, 8, 128]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S6x1024 : Shape := ⟨2, ![6, 1024]⟩
abbrev S2x1024 : Shape := ⟨2, ![2, 1024]⟩

abbrev nBuf : Space → Nat
  | .hbm => 295
  | .vmem => 0
  | .smem => 0
  | _ => 0

abbrev hbmTy0_0 (i : Nat) : BufTy := match i % 128 with
  | 0 => ⟨S2048x1024, .f32⟩
  | 1 => ⟨S2048x256, .f32⟩
  | 2 => ⟨S2048x1024, .f32⟩
  | 3 => ⟨S8x1024x512, .bf16⟩
  | 4 => ⟨S4096x1024, .bf16⟩
  | 5 => ⟨S1024x1024, .bf16⟩
  | 6 => ⟨S8x256x128, .bf16⟩
  | 7 => ⟨S8x1024, .f32⟩
  | 8 => ⟨S1x1024, .f32⟩
  | 9 => ⟨S1024, .f32⟩
  | 10 => ⟨S1x1024, .f32⟩
  | 11 => ⟨S1024, .f32⟩
  | 12 => ⟨S1x1024, .f32⟩
  | 13 => ⟨S1024, .f32⟩
  | 14 => ⟨S1x1024, .f32⟩
  | 15 => ⟨S1024, .f32⟩
  | 16 => ⟨S1x1024, .f32⟩
  | 17 => ⟨S1024, .f32⟩
  | 18 => ⟨S8x1024x512, .f32⟩
  | 19 => ⟨S1024x8x512, .f32⟩
  | 20 => ⟨S1024x4096, .f32⟩
  | 21 => ⟨S8x256x128, .f32⟩
  | 22 => ⟨S256x8x128, .f32⟩
  | 23 => ⟨S256x1024, .f32⟩
  | 24 => ⟨S4096x1024, .f32⟩
  | 25 => ⟨S1024x1024, .f32⟩
  | 26 => ⟨S_, .f32⟩
  | 27 => ⟨S2048, .f32⟩
  | 28 => ⟨S2048x1, .f32⟩
  | 29 => ⟨S_, .f32⟩
  | 30 => ⟨S2048x1, .f32⟩
  | 31 => ⟨S2048x1, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S_, .f32⟩
  | 47 => ⟨S2048x1, .f32⟩
  | 48 => ⟨S2048x1, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1024, .f32⟩
  | 55 => ⟨S2048x1024, .f32⟩
  | 56 => ⟨S1x1024, .f32⟩
  | 57 => ⟨S2048x1024, .f32⟩
  | 58 => ⟨S2048x1024, .f32⟩
  | 59 => ⟨S1x1024, .f32⟩
  | 60 => ⟨S2048x1024, .f32⟩
  | 61 => ⟨S2048x1024, .f32⟩
  | 62 => ⟨S2048x4096, .f32⟩
  | 63 => ⟨S2048x1024, .f32⟩
  | 64 => ⟨S1x1024, .f32⟩
  | 65 => ⟨S2048x1024, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S_, .f32⟩
  | 72 => ⟨S2048x4096, .f32⟩
  | 73 => ⟨S2048x4096, .f32⟩
  | 74 => ⟨S_, .f32⟩
  | 75 => ⟨S2048x4096, .f32⟩
  | 76 => ⟨S2048x4096, .i1⟩
  | 77 => ⟨S_, .f32⟩
  | 78 => ⟨S2048x4096, .f32⟩
  | 79 => ⟨S2048x4096, .i1⟩
  | 80 => ⟨S_, .f32⟩
  | 81 => ⟨S2048x4096, .f32⟩
  | 82 => ⟨S_, .f32⟩
  | 83 => ⟨S2048x4096, .f32⟩
  | 84 => ⟨S_, .f32⟩
  | 85 => ⟨S2048x4096, .f32⟩
  | 86 => ⟨S2048x4096, .f32⟩
  | 87 => ⟨S2048x4096, .f32⟩
  | 88 => ⟨S2048x4096, .f32⟩
  | 89 => ⟨S_, .f32⟩
  | 90 => ⟨S2048x4096, .f32⟩
  | 91 => ⟨S2048x4096, .f32⟩
  | 92 => ⟨S2048x1024, .f32⟩
  | 93 => ⟨S2048x1024, .f32⟩
  | 94 => ⟨S2048x1024, .f32⟩
  | 95 => ⟨S2048x1024, .f32⟩
  | 96 => ⟨S_, .f32⟩
  | 97 => ⟨S2048x1024, .f32⟩
  | 98 => ⟨S2048x1024, .f32⟩
  | 99 => ⟨S_, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S_, .f32⟩
  | 109 => ⟨S2048, .f32⟩
  | 110 => ⟨S2048x1, .f32⟩
  | 111 => ⟨S_, .f32⟩
  | 112 => ⟨S2048x1, .f32⟩
  | 113 => ⟨S2048x1, .f32⟩
  | 114 => ⟨S2048x1024, .f32⟩
  | 115 => ⟨S2048x1024, .f32⟩
  | 116 => ⟨S2048x1024, .f32⟩
  | 117 => ⟨S_, .f32⟩
  | 118 => ⟨S2048x1024, .f32⟩
  | 119 => ⟨S2048x1024, .f32⟩
  | 120 => ⟨S_, .f32⟩
  | 121 => ⟨S2048, .f32⟩
  | 122 => ⟨S2048x1, .f32⟩
  | 123 => ⟨S_, .f32⟩
  | 124 => ⟨S2048x1, .f32⟩
  | 125 => ⟨S2048x1, .f32⟩
  | 126 => ⟨S2048x1024, .f32⟩
  | 127 => ⟨S2048x1024, .f32⟩
  | _ => ⟨S2048x1024, .f32⟩

abbrev hbmTy0_1 (i : Nat) : BufTy := match i % 128 with
  | 0 => ⟨S_, .f32⟩
  | 1 => ⟨S2048x1, .f32⟩
  | 2 => ⟨S2048x1, .f32⟩
  | 3 => ⟨S2048x1, .f32⟩
  | 4 => ⟨S2048x1, .f32⟩
  | 5 => ⟨S_, .f32⟩
  | 6 => ⟨S2048x1, .f32⟩
  | 7 => ⟨S2048x1, .f32⟩
  | 8 => ⟨S2048x1024, .f32⟩
  | 9 => ⟨S2048x1024, .f32⟩
  | 10 => ⟨S1x1024, .f32⟩
  | 11 => ⟨S2048x1024, .f32⟩
  | 12 => ⟨S2048x1024, .f32⟩
  | 13 => ⟨S1x1024, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S1024, .f32⟩
  | 23 => ⟨S_, .f32⟩
  | 24 => ⟨S1024, .f32⟩
  | 25 => ⟨S1024, .f32⟩
  | 26 => ⟨S_, .f32⟩
  | 27 => ⟨S1024, .f32⟩
  | 28 => ⟨S1024, .f32⟩
  | 29 => ⟨S_, .f32⟩
  | 30 => ⟨S1024, .f32⟩
  | 31 => ⟨S_, .f32⟩
  | 32 => ⟨S1024, .f32⟩
  | 33 => ⟨S1024, .f32⟩
  | 34 => ⟨S_, .f32⟩
  | 35 => ⟨S1024, .f32⟩
  | 36 => ⟨S1024, .f32⟩
  | 37 => ⟨S2048x1024, .f32⟩
  | 38 => ⟨S2048x1024, .f32⟩
  | 39 => ⟨S_, .f32⟩
  | 40 => ⟨S1024, .f32⟩
  | 41 => ⟨S1x1024, .f32⟩
  | 42 => ⟨S_, .f32⟩
  | 43 => ⟨S1024, .f32⟩
  | 44 => ⟨S2048x1024, .f32⟩
  | 45 => ⟨S_, .f32⟩
  | 46 => ⟨S1024, .f32⟩
  | 47 => ⟨S1x1024, .f32⟩
  | 48 => ⟨S2048x1024, .f32⟩
  | 49 => ⟨S2048x1024, .f32⟩
  | 50 => ⟨S_, .f32⟩
  | 51 => ⟨S1024, .f32⟩
  | 52 => ⟨S2048x1024, .f32⟩
  | 53 => ⟨S_, .f32⟩
  | 54 => ⟨S2048, .f32⟩
  | 55 => ⟨S2048x1, .f32⟩
  | 56 => ⟨S2048x1024, .f32⟩
  | 57 => ⟨S2048x1024, .f32⟩
  | 58 => ⟨S2048x1, .f32⟩
  | 59 => ⟨S2048x1024, .f32⟩
  | 60 => ⟨S_, .f32⟩
  | 61 => ⟨S2048, .f32⟩
  | 62 => ⟨S2048x1, .f32⟩
  | 63 => ⟨S_, .f32⟩
  | 64 => ⟨S2048x1, .f32⟩
  | 65 => ⟨S2048x1, .f32⟩
  | 66 => ⟨S_, .f32⟩
  | 67 => ⟨S2048, .f32⟩
  | 68 => ⟨S2048x1024, .f32⟩
  | 69 => ⟨S2048x1024, .f32⟩
  | 70 => ⟨S2048x1024, .f32⟩
  | 71 => ⟨S_, .f32⟩
  | 72 => ⟨S2048, .f32⟩
  | 73 => ⟨S2048x1, .f32⟩
  | 74 => ⟨S2048x1024, .f32⟩
  | 75 => ⟨S2048x1, .f32⟩
  | 76 => ⟨S_, .f32⟩
  | 77 => ⟨S2048x1, .f32⟩
  | 78 => ⟨S2048x1, .f32⟩
  | 79 => ⟨S_, .f32⟩
  | 80 => ⟨S2048, .f32⟩
  | 81 => ⟨S2048x1024, .f32⟩
  | 82 => ⟨S2048x1024, .f32⟩
  | 83 => ⟨S2048x1024, .f32⟩
  | 84 => ⟨S2048x1024, .f32⟩
  | 85 => ⟨S2048x1024, .f32⟩
  | 86 => ⟨S2048x4096, .f32⟩
  | 87 => ⟨S2048x4096, .f32⟩
  | 88 => ⟨S2048x4096, .f32⟩
  | 89 => ⟨S_, .f32⟩
  | 90 => ⟨S2048x1024, .f32⟩
  | 91 => ⟨S2048x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S2048x1024, .f32⟩
  | 98 => ⟨S2048x1024, .f32⟩
  | 99 => ⟨S2048x1024, .f32⟩
  | 100 => ⟨S2048x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S2048x1024, .f32⟩
  | 107 => ⟨S_, .f32⟩
  | 108 => ⟨S1024, .f32⟩
  | 109 => ⟨S1x1024, .f32⟩
  | 110 => ⟨S2048x1024, .f32⟩
  | 111 => ⟨S2048x1024, .f32⟩
  | 112 => ⟨S_, .f32⟩
  | 113 => ⟨S1024, .f32⟩
  | 114 => ⟨S2048x1024, .f32⟩
  | 115 => ⟨S_, .f32⟩
  | 116 => ⟨S2048, .f32⟩
  | 117 => ⟨S2048x1, .f32⟩
  | 118 => ⟨S2048x1024, .f32⟩
  | 119 => ⟨S2048x1024, .f32⟩
  | 120 => ⟨S2048x1, .f32⟩
  | 121 => ⟨S2048x1024, .f32⟩
  | 122 => ⟨S_, .f32⟩
  | 123 => ⟨S2048, .f32⟩
  | 124 => ⟨S2048x1, .f32⟩
  | 125 => ⟨S_, .f32⟩
  | 126 => ⟨S2048x1, .f32⟩
  | 127 => ⟨S2048x1, .f32⟩
  | _ => ⟨S2048x1024, .f32⟩

abbrev hbmTy0_2 (i : Nat) : BufTy := match i % 128 with
  | 0 => ⟨S_, .f32⟩
  | 1 => ⟨S2048, .f32⟩
  | 2 => ⟨S2048x1024, .f32⟩
  | 3 => ⟨S2048x1024, .f32⟩
  | 4 => ⟨S2048x1024, .f32⟩
  | 5 => ⟨S_, .f32⟩
  | 6 => ⟨S2048, .f32⟩
  | 7 => ⟨S2048x1, .f32⟩
  | 8 => ⟨S2048x1024, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048, .f32⟩
  | 15 => ⟨S2048x1024, .f32⟩
  | 16 => ⟨S2048x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S6x1024, .f32⟩
  | 24 => ⟨S_, .f32⟩
  | 25 => ⟨S2x1024, .f32⟩
  | 26 => ⟨S8x1024, .f32⟩
  | 27 => ⟨S2048x1024, .bf16⟩
  | 28 => ⟨S2048x1024, .bf16⟩
  | 29 => ⟨S2048x4096, .bf16⟩
  | 30 => ⟨S_, .f32⟩
  | 31 => ⟨S2048x4096, .f32⟩
  | 32 => ⟨S2048x4096, .f32⟩
  | 33 => ⟨S2048x4096, .f32⟩
  | 34 => ⟨S2048x4096, .bf16⟩
  | 35 => ⟨S2048x1024, .bf16⟩
  | 36 => ⟨S2048x1024, .bf16⟩
  | 37 => ⟨S2048x1024, .bf16⟩
  | 38 => ⟨S2048x256, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_19 : Ref sig .tc := ⟨.hbm, 117, rfl⟩
abbrev main_v89 : Ref sig .tc := ⟨.hbm, 118, rfl⟩
abbrev main_v90 : Ref sig .tc := ⟨.hbm, 119, rfl⟩
abbrev main_cst_20 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_22 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_23 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_24 : Ref sig .tc := ⟨.hbm, 146, rfl⟩
abbrev main_v113 : Ref sig .tc := ⟨.hbm, 147, rfl⟩
abbrev main_v114 : Ref sig .tc := ⟨.hbm, 148, rfl⟩
abbrev main_cst_25 : Ref sig .tc := ⟨.hbm, 149, rfl⟩
abbrev main_v115 : Ref sig .tc := ⟨.hbm, 150, rfl⟩
abbrev main_cst_26 : Ref sig .tc := ⟨.hbm, 151, rfl⟩
abbrev main_v116 : Ref sig .tc := ⟨.hbm, 152, rfl⟩
abbrev main_v117 : Ref sig .tc := ⟨.hbm, 153, rfl⟩
abbrev main_cst_27 : Ref sig .tc := ⟨.hbm, 154, rfl⟩
abbrev main_v118 : Ref sig .tc := ⟨.hbm, 155, rfl⟩
abbrev main_v119 : Ref sig .tc := ⟨.hbm, 156, rfl⟩
abbrev main_cst_28 : Ref sig .tc := ⟨.hbm, 157, rfl⟩
abbrev main_v120 : Ref sig .tc := ⟨.hbm, 158, rfl⟩
abbrev main_cst_29 : Ref sig .tc := ⟨.hbm, 159, rfl⟩
abbrev main_v121 : Ref sig .tc := ⟨.hbm, 160, rfl⟩
abbrev main_v122 : Ref sig .tc := ⟨.hbm, 161, rfl⟩
abbrev main_cst_30 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_31 : Ref sig .tc := ⟨.hbm, 167, rfl⟩
abbrev main_v127 : Ref sig .tc := ⟨.hbm, 168, rfl⟩
abbrev main_v128 : Ref sig .tc := ⟨.hbm, 169, rfl⟩
abbrev main_cst_32 : Ref sig .tc := ⟨.hbm, 170, rfl⟩
abbrev main_v129 : Ref sig .tc := ⟨.hbm, 171, rfl⟩
abbrev main_v130 : Ref sig .tc := ⟨.hbm, 172, rfl⟩
abbrev main_cst_33 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_34 : Ref sig .tc := ⟨.hbm, 178, rfl⟩
abbrev main_v135 : Ref sig .tc := ⟨.hbm, 179, rfl⟩
abbrev main_v136 : Ref sig .tc := ⟨.hbm, 180, rfl⟩
abbrev main_cst_35 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_36 : Ref sig .tc := ⟨.hbm, 188, rfl⟩
abbrev main_v143 : Ref sig .tc := ⟨.hbm, 189, rfl⟩
abbrev main_v144 : Ref sig .tc := ⟨.hbm, 190, rfl⟩
abbrev main_cst_37 : Ref sig .tc := ⟨.hbm, 191, rfl⟩
abbrev main_v145 : Ref sig .tc := ⟨.hbm, 192, rfl⟩
abbrev main_v146 : Ref sig .tc := ⟨.hbm, 193, rfl⟩
abbrev main_cst_38 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_39 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_40 : Ref sig .tc := ⟨.hbm, 204, rfl⟩
abbrev main_v155 : Ref sig .tc := ⟨.hbm, 205, rfl⟩
abbrev main_v156 : Ref sig .tc := ⟨.hbm, 206, rfl⟩
abbrev main_cst_41 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_42 : Ref sig .tc := ⟨.hbm, 217, rfl⟩
abbrev main_v166 : Ref sig .tc := ⟨.hbm, 218, rfl⟩
abbrev main_v167 : Ref sig .tc := ⟨.hbm, 219, rfl⟩
abbrev main_cst_43 : Ref sig .tc := ⟨.hbm, 220, rfl⟩
abbrev main_v168 : Ref sig .tc := ⟨.hbm, 221, rfl⟩
abbrev main_v169 : Ref sig .tc := ⟨.hbm, 222, rfl⟩
abbrev main_cst_44 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_cst_45 : Ref sig .tc := ⟨.hbm, 229, rfl⟩
abbrev main_v175 : Ref sig .tc := ⟨.hbm, 230, rfl⟩
abbrev main_v176 : Ref sig .tc := ⟨.hbm, 231, rfl⟩
abbrev main_cst_46 : Ref sig .tc := ⟨.hbm, 232, rfl⟩
abbrev main_v177 : Ref sig .tc := ⟨.hbm, 233, rfl⟩
abbrev main_v178 : Ref sig .tc := ⟨.hbm, 234, rfl⟩
abbrev main_cst_47 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_48 : Ref sig .tc := ⟨.hbm, 240, rfl⟩
abbrev main_v183 : Ref sig .tc := ⟨.hbm, 241, rfl⟩
abbrev main_v184 : Ref sig .tc := ⟨.hbm, 242, rfl⟩
abbrev main_cst_49 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_cst_50 : Ref sig .tc := ⟨.hbm, 250, rfl⟩
abbrev main_v191 : Ref sig .tc := ⟨.hbm, 251, rfl⟩
abbrev main_v192 : Ref sig .tc := ⟨.hbm, 252, rfl⟩
abbrev main_cst_51 : Ref sig .tc := ⟨.hbm, 253, rfl⟩
abbrev main_v193 : Ref sig .tc := ⟨.hbm, 254, rfl⟩
abbrev main_v194 : Ref sig .tc := ⟨.hbm, 255, rfl⟩
abbrev main_cst_52 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_53 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_cst_54 : Ref sig .tc := ⟨.hbm, 266, rfl⟩
abbrev main_v203 : Ref sig .tc := ⟨.hbm, 267, rfl⟩
abbrev main_v204 : Ref sig .tc := ⟨.hbm, 268, rfl⟩
abbrev main_cst_55 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_cst_56 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_cst_57 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x3712 : Shape := ⟨2, ![1024, 3712]⟩
abbrev S8x128 : Shape := ⟨2, ![8, 128]⟩
abbrev S2048x3712 : Shape := ⟨2, ![2048, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x3712, .bf16⟩
  | .hbm, ⟨4, _⟩ => ⟨S8x128, .f32⟩
  | .hbm, ⟨5, _⟩ => ⟨S2048x1024, .f32⟩
  | .hbm, ⟨6, _⟩ => ⟨S2048x1024, .bf16⟩
  | .hbm, ⟨7, _⟩ => ⟨S2048x3712, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x3712, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x3712, .f32⟩
  | .local _ .vmem, ⟨10, _⟩ => ⟨S512x3712, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3712 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2048x1024 : Shape := ⟨2, ![2048, 1024]⟩
abbrev S1x1024 : Shape := ⟨2, ![1, 1024]⟩
abbrev S1024x3712 : Shape := ⟨2, ![1024, 3712]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S2048x3712 : Shape := ⟨2, ![2048, 3712]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x3712, .bf16⟩
  | .hbm, ⟨4, _⟩ => ⟨S8x128, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | .hbm, ⟨33, _⟩ => ⟨S1024x3712, .f32⟩
  | .hbm, ⟨34, _⟩ => ⟨S2048x3712, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S1024x512 : Shape := ⟨2, ![1024, 512]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x256 : Shape := ⟨2, ![2048, 256]⟩
abbrev S2048x1024 : Shape := ⟨2, ![2048, 1024]⟩
abbrev S8x256x128 : Shape := ⟨3, ![8, 256, 128]⟩
abbrev S2048x128 : Shape := ⟨2, ![2048, 128]⟩
abbrev S1x256x128 : Shape := ⟨3, ![1, 256, 128]⟩
abbrev S256x2048 : Shape := ⟨2, ![256, 2048]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S8x256x128, .bf16⟩
  | .local _ .vmem, ⟨0, _⟩ => ⟨S2048x256, .bf16⟩
  | .local _ .vmem, ⟨1, _⟩ => ⟨S2048x128, .bf16⟩
  | .local _ .vmem, ⟨2, _⟩ => ⟨S2048x128, .bf16⟩
  | .local _ .vmem, ⟨3, _⟩ => ⟨S1x256x128, .bf16⟩
  | .local _ .vmem, ⟨4, _⟩ => ⟨S1x256x128, .bf16⟩
  | .local _ .vmem, ⟨5, _⟩ => ⟨S256x2048, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x256, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S256x8x128, .bf16⟩
  | .hbm, ⟨11, _⟩ => ⟨S8x256x128, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x1024 : Shape := ⟨2, ![2048, 1024]⟩
abbrev S2048x3712 : Shape := ⟨2, ![2048, 3712]⟩
abbrev S8x128 : Shape := ⟨2, ![8, 128]⟩
abbrev S512x3712 : Shape := ⟨2, ![512, 3712]⟩
abbrev S2048x256 : Shape := ⟨2, ![2048, 256]⟩
abbrev S256x3712 : Shape := ⟨2, ![256, 3712]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3712, .bf16⟩
  | .hbm, ⟨2, _⟩ => ⟨S8x128, .f32⟩
  | .hbm, ⟨3, _⟩ => ⟨S512x3712, .bf16⟩
  | .local _ .vmem, ⟨0, _⟩ => ⟨S2048x256, .bf16⟩
  | .local _ .vmem, ⟨1, _⟩ => ⟨S2048x256, .bf16⟩
  | .local _ .vmem, ⟨2, _⟩ => ⟨S2048x3712, .bf16⟩
  | .local _ .vmem, ⟨3, _⟩ => ⟨S256x3712, .bf16⟩
  | .local _ .vmem, ⟨4, _⟩ => ⟨S256x3712, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3712 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2048x1024 : Shape := ⟨2, ![2048, 1024]⟩
abbrev S2048x3712 : Shape := ⟨2, ![2048, 3712]⟩
abbrev S8x128 : Shape := ⟨2, ![8, 128]⟩
abbrev S_ : Shape := ⟨0, ![]⟩
abbrev S1024x3712 : Shape := ⟨2, ![1024, 3712]⟩
abbrev S3712x1024 : Shape := ⟨2, ![3712, 1024]⟩
abbrev S512x3712 : Shape := ⟨2, ![512, 3712]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3712, .bf16⟩
  | .hbm, ⟨2, _⟩ => ⟨S8x128, .f32⟩
  | .hbm, ⟨3, _⟩ => ⟨S_, .f32⟩
  | .hbm, ⟨4, _⟩ => ⟨S1024x3712, .f32⟩
  | .hbm, ⟨5, _⟩ => ⟨S2048x1024, .f32⟩
  | .hbm, ⟨6, _⟩ => ⟨S2048x3712, .f32⟩
  | .hbm, ⟨7, _⟩ => ⟨S2048x3712, .f32⟩
  | .hbm, ⟨8, _⟩ => ⟨S3712x1024, .f32⟩
  | .hbm, ⟨9, _⟩ => ⟨S1024x3712, .f32⟩
  | .hbm, ⟨10, _⟩ => ⟨S1024x3712, .bf16⟩
  | .hbm, ⟨11, _⟩ => ⟨S512x3712, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel9.lean ====
abbrev S2048x1024 : Shape := ⟨2, ![2048, 1024]⟩
abbrev S2048x3712 : Shape := ⟨2, ![2048, 3712]⟩
abbrev S8x128 : Shape := ⟨2, ![8, 128]⟩
abbrev S512x3712 : Shape := ⟨2, ![512, 3712]⟩
abbrev S2048x256 : Shape := ⟨2, ![2048, 256]⟩
abbrev S256x3712 : Shape := ⟨2, ![256, 3712]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3712, .bf16⟩
  | .hbm, ⟨2, _⟩ => ⟨S8x128, .f32⟩
  | .hbm, ⟨3, _⟩ => ⟨S512x3712, .bf16⟩
  | .local _ .vmem, ⟨0, _⟩ => ⟨S2048x256, .bf16⟩
  | .local _ .vmem, ⟨1, _⟩ => ⟨S2048x256, .bf16⟩
  | .local _ .vmem, ⟨2, _⟩ => ⟨S2048x3712, .bf16⟩
  | .local _ .vmem, ⟨3, _⟩ => ⟨S256x3712, .bf16⟩
  | .local _ .vmem, ⟨4, _⟩ => ⟨S256x3712, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3712 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2048x1024 : Shape := ⟨2, ![2048, 1024]⟩
abbrev S2048x3712 : Shape := ⟨2, ![2048, 3712]⟩
abbrev S8x128 : Shape := ⟨2, ![8, 128]⟩
abbrev S_ : Shape := ⟨0, ![]⟩
abbrev S1024x3712 : Shape := ⟨2, ![1024, 3712]⟩
abbrev S3712x1024 : Shape := ⟨2, ![3712, 1024]⟩
abbrev S512x3712 : Shape := ⟨2, ![512, 3712]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3712, .bf16⟩
  | .hbm, ⟨2, _⟩ => ⟨S8x128, .f32⟩
  | .hbm, ⟨3, _⟩ => ⟨S_, .f32⟩
  | .hbm, ⟨4, _⟩ => ⟨S1024x3712, .f32⟩
  | .hbm, ⟨5, _⟩ => ⟨S2048x1024, .f32⟩
  | .hbm, ⟨6, _⟩ => ⟨S2048x3712, .f32⟩
  | .hbm, ⟨7, _⟩ => ⟨S2048x3712, .f32⟩
  | .hbm, ⟨8, _⟩ => ⟨S3712x1024, .f32⟩
  | .hbm, ⟨9, _⟩ => ⟨S1024x3712, .f32⟩
  | .hbm, ⟨10, _⟩ => ⟨S1024x3712, .bf16⟩
  | .hbm, ⟨11, _⟩ => ⟨S512x3712, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S2048x3712 : Shape := ⟨2, ![2048, 3712]⟩
abbrev S1024x3712 : Shape := ⟨2, ![1024, 3712]⟩
abbrev S2048x1024 : Shape := ⟨2, ![2048, 1024]⟩
abbrev S1x1024 : Shape := ⟨2, ![1, 1024]⟩
abbrev S8x128 : Shape := ⟨2, ![8, 128]⟩
abbrev S8x1024 : Shape := ⟨2, ![8, 1024]⟩
abbrev S512x3712 : Shape := ⟨2, ![512, 3712]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x3712, .bf16⟩
  | .hbm, ⟨1, _⟩ => ⟨S1024x3712, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S8x128, .f32⟩
  | .hbm, ⟨6, _⟩ => ⟨S2048x1024, .f32⟩
  | .hbm, ⟨7, _⟩ => ⟨S8x1024, .f32⟩
  | .local _ .vmem, ⟨0, _⟩ => ⟨S512x3712, .bf16⟩
  | .local _ .vmem, ⟨1, _⟩ => ⟨S512x3712, .bf16⟩
  | .local _ .vmem, ⟨2, _⟩ => ⟨S1024x3712, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S2048x3712 : Shape := ⟨2, ![2048, 3712]⟩
abbrev S1024x3712 : Shape := ⟨2, ![1024, 3712]⟩
abbrev S2048x1024 : Shape := ⟨2, ![2048, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2048x3712, .bf16⟩
  | .hbm, ⟨1, _⟩ => ⟨S1024x3712, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S8x128, .f32⟩
  | .hbm, ⟨6, _⟩ => ⟨S1024x3712, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x3712, .f32⟩
  | .hbm, ⟨50, _⟩ => ⟨S2048x3712, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S2048x1024, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S2048x1024, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S_, .f32⟩
  | .hbm, ⟨97, _⟩ => ⟨S2048, .f32⟩
  | .hbm, ⟨98, _⟩ => ⟨S2048x1024, .f32⟩
  | .hbm, ⟨99, _⟩ => ⟨S2048x1024, .f32⟩
  | .hbm, ⟨100, _⟩ => ⟨S1x1024, .f32⟩
  | .hbm, ⟨101, _⟩ => ⟨S1x1024, .f32⟩
  | .hbm, ⟨102, _⟩ => ⟨S2x1024, .f32⟩
  | .hbm, ⟨103, _⟩ => ⟨S_, .f32⟩
  | .hbm, ⟨104, _⟩ => ⟨S6x1024, .f32⟩
  | .hbm, ⟨105, _⟩ => ⟨S8x1024, .f32⟩
  | _, _ => ⟨S2048x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_20 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Kernel11.lean ====
abbrev S2048x512 : Shape := ⟨2, ![2048, 512]⟩
abbrev S2048x3712 : Shape := ⟨2, ![2048, 3712]⟩
abbrev S2048x1024 : Shape := ⟨2, ![2048, 1024]⟩
abbrev S1x512 : Shape := ⟨2, ![1, 512]⟩
abbrev S1024x1024 : Shape := ⟨2, ![1024, 1024]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x3712, .f32⟩
  | .hbm, ⟨2, _⟩ => ⟨S2048x512, .f32⟩
  | .hbm, ⟨3, _⟩ => ⟨S2048x1024, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S2048x1024, .f32⟩
  | .hbm, ⟨8, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S2048x512 : Shape := ⟨2, ![2048, 512]⟩
abbrev S2048x3712 : Shape := ⟨2, ![2048, 3712]⟩
abbrev S2048x1024 : Shape := ⟨2, ![2048, 1024]⟩
abbrev S1x512 : Shape := ⟨2, ![1, 512]⟩
abbrev S1024x1024 : Shape := ⟨2, ![1024, 1024]⟩
abbrev S4x128 : Shape := ⟨2, ![4, 128]⟩
abbrev S8x64 : Shape := ⟨2, ![8, 64]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩
abbrev S2048x8x64 : Shape := ⟨3, ![2048, 8, 64]⟩
abbrev S2048x8 : Shape := ⟨2, ![2048, 8]⟩
abbrev S2048x8x1 : Shape := ⟨3, ![2048, 8, 1]⟩
abbrev S1x8x64 : Shape := ⟨3, ![1, 8, 64]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x3712, .f32⟩
  | .hbm, ⟨2, _⟩ => ⟨S2048x512, .f32⟩
  | .hbm, ⟨3, _⟩ => ⟨S2048x1024, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S2048x512, .f32⟩
  | .hbm, ⟨8, _⟩ => ⟨S4x128, .f32⟩
  | .hbm, ⟨9, _⟩ => ⟨S8x64, .f32⟩
  | .hbm, ⟨10, _⟩ => ⟨S2048x4x128, .f32⟩
  | .hbm, ⟨11, _⟩ => ⟨S2048x4x128, .f32⟩
  | .hbm, ⟨12, _⟩ => ⟨S_, .f32⟩
  | .hbm, ⟨13, _⟩ => ⟨S2048x4, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S_, .f32⟩
  | .hbm, ⟨19, _⟩ => ⟨S2048x4x1, .f32⟩
  | .hbm, ⟨20, _⟩ => ⟨S2048x4x1, .f32⟩
  | .hbm, ⟨21, _⟩ => ⟨S2048x4x1, .f32⟩
  | .hbm, ⟨22, _⟩ => ⟨S2048x4x128, .f32⟩
  | .hbm, ⟨23, _⟩ => ⟨S2048x4x128, .f32⟩
  | .hbm, ⟨24, _⟩ => ⟨S1x4x128, .f32⟩
  | .hbm, ⟨25, _⟩ => ⟨S2048x4x128, .f32⟩
  | .hbm, ⟨26, _⟩ => ⟨S2048x4x128, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x4x128, .f32⟩
  | .hbm, ⟨37, _⟩ => ⟨S2048x4x128, .f32⟩
  | .hbm, ⟨38, _⟩ => ⟨S2048x8x64, .f32⟩
  | .hbm, ⟨39, _⟩ => ⟨S2048x8x64, .f32⟩
  | .hbm, ⟨40, _⟩ => ⟨S_, .f32⟩
  | .hbm, ⟨41, _⟩ => ⟨S2048x8, .f32⟩
  | .hbm, ⟨42, _⟩ => ⟨S2048x8x1, .f32⟩
  | .hbm, ⟨43, _⟩ => ⟨S_, .f32⟩
  | .hbm, ⟨44, _⟩ => ⟨S2048x8x1, .f32⟩
  | .hbm, ⟨45, _⟩ => ⟨S2048x8x1, .f32⟩
  | .hbm, ⟨46, _⟩ => ⟨S_, .f32⟩
  | .hbm, ⟨47, _⟩ => ⟨S2048x8x1, .f32⟩
  | .hbm, ⟨48, _⟩ => ⟨S2048x8x1, .f32⟩
  | .hbm, ⟨49, _⟩ => ⟨S2048x8x1, .f32⟩
  | .hbm, ⟨50, _⟩ => ⟨S2048x8x64, .f32⟩
  | .hbm, ⟨51, _⟩ => ⟨S2048x8x64, .f32⟩
  | .hbm, ⟨52, _⟩ => ⟨S1x8x64, .f32⟩
  | .hbm, ⟨53, _⟩ => ⟨S2048x8x64, .f32⟩
  | .hbm, ⟨54, _⟩ => ⟨S2048x8x64, .f32⟩
  | .hbm, ⟨55, _⟩ => ⟨S2048x512, .f32⟩
  | .hbm, ⟨56, _⟩ => ⟨S2048x512, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S1024x1024, .f32⟩
  | .hbm, ⟨62, _⟩ => ⟨S2048x1024, .f32⟩
  | .hbm, ⟨63, _⟩ => ⟨S2048x1024, .f32⟩
  | .hbm, ⟨64, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel12.lean ====
abbrev S2048x1024 : Shape := ⟨2, ![2048, 1024]⟩
abbrev S2048x512 : Shape := ⟨2, ![2048, 512]⟩
abbrev S2048x3712 : Shape := ⟨2, ![2048, 3712]⟩
abbrev S1x512 : Shape := ⟨2, ![1, 512]⟩
abbrev S1024x1024 : Shape := ⟨2, ![1024, 1024]⟩
abbrev S8x128 : Shape := ⟨2, ![8, 128]⟩
abbrev S512x128 : Shape := ⟨2, ![512, 128]⟩
abbrev S512x1024 : Shape := ⟨2, ![512, 1024]⟩
abbrev S512x512 : Shape := ⟨2, ![512, 512]⟩
abbrev S8x512 : Shape := ⟨2, ![8, 512]⟩
abbrev S512 : Shape := ⟨1, ![512]⟩
abbrev S512x1 : Shape := ⟨2, ![512, 1]⟩

abbrev nBuf : Space → Nat
  | .hbm => 15
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S2048x3712, .f32⟩
  | .hbm, ⟨3, _⟩ => ⟨S2048x512, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S8x128, .f32⟩
  | .hbm, ⟨8, _⟩ => ⟨S512x128, .f32⟩
  | .hbm, ⟨9, _⟩ => ⟨S512x128, .f32⟩
  | .hbm, ⟨10, _⟩ => ⟨S2048x512, .f32⟩
  | .hbm, ⟨11, _⟩ => ⟨S2048x512, .bf16⟩
  | .hbm, ⟨12, _⟩ => ⟨S2048x512, .f32⟩
  | .hbm, ⟨13, _⟩ => ⟨S2048x512, .f32⟩
  | .hbm, ⟨14, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S1024x1024, .bf16⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S8x128, .f32⟩
  | .local _ .vmem, ⟨22, _⟩ => ⟨S8x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v368 : BitVec 1 := Scalar.cmpi .eq arg0 c3_i32
  let v369 : BitVec 32 := Scalar.extui v368
  let c0_i32_128 : BitVec 32 := 0#32
  let v370 : BitVec 1 := Scalar.cmpi .ne v369 c0_i32_128
  v370

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference12Ideal.lean ====
abbrev S2048x1024 : Shape := ⟨2, ![2048, 1024]⟩
abbrev S2048x512 : Shape := ⟨2, ![2048, 512]⟩
abbrev S2048x3712 : Shape := ⟨2, ![2048, 3712]⟩
abbrev S1x512 : Shape := ⟨2, ![1, 512]⟩
abbrev S1024x1024 : Shape := ⟨2, ![1024, 1024]⟩
abbrev S8x128 : Shape := ⟨2, ![8, 128]⟩
abbrev S4x128 : Shape := ⟨2, ![4, 128]⟩
abbrev S8x64 : Shape := ⟨2, ![8, 64]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩
abbrev S2048x8x64 : Shape := ⟨3, ![2048, 8, 64]⟩
abbrev S2048x8 : Shape := ⟨2, ![2048, 8]⟩
abbrev S2048x8x1 : Shape := ⟨3, ![2048, 8, 1]⟩
abbrev S1x8x64 : Shape := ⟨3, ![1, 8, 64]⟩
abbrev S128 : Shape := ⟨1, ![128]⟩
abbrev S64 : Shape := ⟨1, ![64]⟩
abbrev S1x128 : Shape := ⟨2, ![1, 128]⟩
abbrev S2x128 : Shape := ⟨2, ![2, 128]⟩
abbrev S6x128 : Shape := ⟨2, ![6, 128]⟩

abbrev nBuf : Space → Nat
  | .hbm => 159
  | .vmem => 0
  | .smem => 0
  | _ => 0

abbrev hbmTy0_0 (i : Nat) : BufTy := match i % 128 with
  | 0 => ⟨S2048x1024, .bf16⟩
  | 1 => ⟨S2048x512, .f32⟩
  | 2 => ⟨S2048x3712, .f32⟩
  | 3 => ⟨S2048x512, .f32⟩
  | 4 => ⟨S1x512, .f32⟩
  | 5 => ⟨S1x512, .f32⟩
  | 6 => ⟨S1024x1024, .bf16⟩
  | 7 => ⟨S8x128, .f32⟩
  | 8 => ⟨S1024x1024, .f32⟩
  | 9 => ⟨S2048x512, .f32⟩
  | 10 => ⟨S4x128, .f32⟩
  | 11 => ⟨S8x64, .f32⟩
  | 12 => ⟨S2048x4x128, .f32⟩
  | 13 => ⟨S2048x4x128, .f32⟩
  | 14 => ⟨S_, .f32⟩
  | 15 => ⟨S2048x4, .f32⟩
  | 16 => ⟨S2048x4x1, .f32⟩
  | 17 => ⟨S_, .f32⟩
  | 18 => ⟨S2048x4x1, .f32⟩
  | 19 => ⟨S2048x4x1, .f32⟩
  | 20 => ⟨S_, .f32⟩
  | 21 => ⟨S2048x4x1, .f32⟩
  | 22 => ⟨S2048x4x1, .f32⟩
  | 23 => ⟨S2048x4x1, .f32⟩
  | 24 => ⟨S2048x4x1, .f32⟩
  | 25 => ⟨S_, .f32⟩
  | 26 => ⟨S2048x4x1, .f32⟩
  | 27 => ⟨S2048x4x1, .f32⟩
  | 28 => ⟨S2048x4x128, .f32⟩
  | 29 => ⟨S2048x4x128, .f32⟩
  | 30 => ⟨S1x4x128, .f32⟩
  | 31 => ⟨S2048x4x128, .f32⟩
  | 32 => ⟨S2048x4x128, .f32⟩
  | 33 => ⟨S2048x512, .f32⟩
  | 34 => ⟨S2048x512, .f32⟩
  | 35 => ⟨S_, .f32⟩
  | 36 => ⟨S2048x512, .f32⟩
  | 37 => ⟨S2048x512, .f32⟩
  | 38 => ⟨S_, .f32⟩
  | 39 => ⟨S2048x512, .f32⟩
  | 40 => ⟨S2048x512, .f32⟩
  | 41 => ⟨S_, .f32⟩
  | 42 => ⟨S2048x512, .f32⟩
  | 43 => ⟨S2048x512, .f32⟩
  | 44 => ⟨S2048x512, .f32⟩
  | 45 => ⟨S2048x512, .f32⟩
  | 46 => ⟨S2048x4x128, .f32⟩
  | 47 => ⟨S2048x4x128, .f32⟩
  | 48 => ⟨S2048x8x64, .f32⟩
  | 49 => ⟨S2048x8x64, .f32⟩
  | 50 => ⟨S_, .f32⟩
  | 51 => ⟨S2048x8, .f32⟩
  | 52 => ⟨S2048x8x1, .f32⟩
  | 53 => ⟨S_, .f32⟩
  | 54 => ⟨S2048x8x1, .f32⟩
  | 55 => ⟨S2048x8x1, .f32⟩
  | 56 => ⟨S_, .f32⟩
  | 57 => ⟨S2048x8x1, .f32⟩
  | 58 => ⟨S2048x8x1, .f32⟩
  | 59 => ⟨S2048x8x1, .f32⟩
  | 60 => ⟨S2048x8x1, .f32⟩
  | 61 => ⟨S_, .f32⟩
  | 62 => ⟨S2048x8x1, .f32⟩
  | 63 => ⟨S2048x8x1, .f32⟩
  | 64 => ⟨S2048x8x64, .f32⟩
  | 65 => ⟨S2048x8x64, .f32⟩
  | 66 => ⟨S1x8x64, .f32⟩
  | 67 => ⟨S2048x8x64, .f32⟩
  | 68 => ⟨S2048x8x64, .f32⟩
  | 69 => ⟨S2048x512, .f32⟩
  | 70 => ⟨S2048x512, .f32⟩
  | 71 => ⟨S2048x1024, .f32⟩
  | 72 => ⟨S2048x1024, .f32⟩
  | 73 => ⟨S2048x1024, .f32⟩
  | 74 => ⟨S2048x1024, .f32⟩
  | 75 => ⟨S2048x512, .f32⟩
  | 76 => ⟨S2048x512, .f32⟩
  | 77 => ⟨S2048x8x64, .f32⟩
  | 78 => ⟨S2048x4x128, .f32⟩
  | 79 => ⟨S2048x8x64, .f32⟩
  | 80 => ⟨S_, .f32⟩
  | 81 => ⟨S8x64, .f32⟩
  | 82 => ⟨S1x8x64, .f32⟩
  | 83 => ⟨S2048x8x64, .f32⟩
  | 84 => ⟨S2048x8x64, .f32⟩
  | 85 => ⟨S_, .f32⟩
  | 86 => ⟨S8x64, .f32⟩
  | 87 => ⟨S2048x8x64, .f32⟩
  | 88 => ⟨S_, .f32⟩
  | 89 => ⟨S2048x8, .f32⟩
  | 90 => ⟨S2048x8x1, .f32⟩
  | 91 => ⟨S2048x8x64, .f32⟩
  | 92 => ⟨S2048x8x64, .f32⟩
  | 93 => ⟨S2048x8x1, .f32⟩
  | 94 => ⟨S_, .f32⟩
  | 95 => ⟨S2048x8x1, .f32⟩
  | 96 => ⟨S2048x8x1, .f32⟩
  | 97 => ⟨S_, .f32⟩
  | 98 => ⟨S2048x8, .f32⟩
  | 99 => ⟨S2048x8x64, .f32⟩
  | 100 => ⟨S2048x8x64, .f32⟩
  | 101 => ⟨S2048x8x64, .f32⟩
  | 102 => ⟨S2048x8x64, .f32⟩
  | 103 => ⟨S2048x8x64, .f32⟩
  | 104 => ⟨S2048x512, .f32⟩
  | 105 => ⟨S2048x4x128, .f32⟩
  | 106 => ⟨S2048x4x128, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x4x128, .f32⟩
  | 113 => ⟨S_, .f32⟩
  | 114 => ⟨S4x128, .f32⟩
  | 115 => ⟨S1x4x128, .f32⟩
  | 116 => ⟨S2048x4x128, .f32⟩
  | 117 => ⟨S2048x4x128, .f32⟩
  | 118 => ⟨S_, .f32⟩
  | 119 => ⟨S4x128, .f32⟩
  | 120 => ⟨S2048x4x128, .f32⟩
  | 121 => ⟨S_, .f32⟩
  | 122 => ⟨S2048x4, .f32⟩
  | 123 => ⟨S2048x4x1, .f32⟩
  | 124 => ⟨S2048x4x128, .f32⟩
  | 125 => ⟨S2048x4x128, .f32⟩
  | 126 => ⟨S2048x4x1, .f32⟩
  | 127 => ⟨S_, .f32⟩
  | _ => ⟨S2048x1024, .bf16⟩

abbrev hbmTy0_1 (i : Nat) : BufTy := match i % 128 with
  | 0 => ⟨S2048x4x1, .f32⟩
  | 1 => ⟨S2048x4x1, .f32⟩
  | 2 => ⟨S_, .f32⟩
  | 3 => ⟨S2048x4, .f32⟩
  | 4 => ⟨S2048x4x128, .f32⟩
  | 5 => ⟨S2048x4x128, .f32⟩
  | 6 => ⟨S2048x4x128, .f32⟩
  | 7 => ⟨S2048x4x128, .f32⟩
  | 8 => ⟨S2048x4x128, .f32⟩
  | 9 => ⟨S2048x512, .f32⟩
  | 10 => ⟨S2048x512, .f32⟩
  | 11 => ⟨S2048x8x64, .f32⟩
  | 12 => ⟨S_, .f32⟩
  | 13 => ⟨S2048x8, .f32⟩
  | 14 => ⟨S2048x8x1, .f32⟩
  | 15 => ⟨S2048x8x64, .f32⟩
  | 16 => ⟨S2048x512, .f32⟩
  | 17 => ⟨S_, .f32⟩
  | 18 => ⟨S128, .f32⟩
  | 19 => ⟨S_, .f32⟩
  | 20 => ⟨S64, .f32⟩
  | 21 => ⟨S_, .f32⟩
  | 22 => ⟨S64, .f32⟩
  | 23 => ⟨S128, .f32⟩
  | 24 => ⟨S1x128, .f32⟩
  | 25 => ⟨S1x128, .f32⟩
  | 26 => ⟨S2x128, .f32⟩
  | 27 => ⟨S2048x512, .bf16⟩
  | 28 => ⟨S_, .f32⟩
  | 29 => ⟨S6x128, .f32⟩
  | 30 => ⟨S8x128, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_15 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_16 : Ref sig .tc := ⟨.hbm, 118, rfl⟩
abbrev main_v93 : Ref sig .tc := ⟨.hbm, 119, rfl⟩
abbrev main_v94 : Ref sig .tc := ⟨.hbm, 120, rfl⟩
abbrev main_cst_17 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_18 : Ref sig .tc := ⟨.hbm, 127, rfl⟩
abbrev main_v100 : Ref sig .tc := ⟨.hbm, 128, rfl⟩
abbrev main_v101 : Ref sig .tc := ⟨.hbm, 129, rfl⟩
abbrev main_cst_19 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_20 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_21 : Ref sig .tc := ⟨.hbm, 145, rfl⟩
abbrev main_v115 : Ref sig .tc := ⟨.hbm, 146, rfl⟩
abbrev main_cst_22 : Ref sig .tc := ⟨.hbm, 147, rfl⟩
abbrev main_v116 : Ref sig .tc := ⟨.hbm, 148, rfl⟩
abbrev main_cst_23 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_24 : Ref sig .tc := ⟨.hbm, 156, rfl⟩
abbrev main_v123 : Ref sig .tc := ⟨.hbm, 157, rfl⟩
abbrev main_v124 : Ref sig .tc := ⟨.hbm, 158, rfl⟩

abbrev nD : Nat := 1
abbrev τ : Topo := Topo.v7x

variable {F : FTy → Type} [FloatOps F]
-- ==== Kernel13.lean ====
abbrev S2048x3712 : Shape := ⟨2, ![2048, 3712]⟩
abbrev S4x1536 : Shape := ⟨2, ![4, 1536]⟩
abbrev S8x128 : Shape := ⟨2, ![8, 128]⟩
abbrev S2048x1536 : Shape := ⟨2, ![2048, 1536]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S8 : Shape := ⟨1, ![8]⟩
abbrev S8x1 : Shape := ⟨2, ![8, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x3712, .f32⟩
  | .hbm, ⟨1, _⟩ => ⟨S4x1536, .f32⟩
  | .hbm, ⟨2, _⟩ => ⟨S8x128, .f32⟩
  | .hbm, ⟨3, _⟩ => ⟨S2048x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S2048x3712 : Shape := ⟨2, ![2048, 3712]⟩
abbrev S4x1536 : Shape := ⟨2, ![4, 1536]⟩
abbrev S8x128 : Shape := ⟨2, ![8, 128]⟩
abbrev S2048x1536 : Shape := ⟨2, ![2048, 1536]⟩
abbrev S_ : Shape := ⟨0, ![]⟩
abbrev S3x1536 : Shape := ⟨2, ![3, 1536]⟩
abbrev S2045x1536 : Shape := ⟨2, ![2045, 1536]⟩
abbrev S1x1536 : Shape := ⟨2, ![1, 1536]⟩
abbrev S1536 : Shape := ⟨1, ![1536]⟩
abbrev S2x1536 : Shape := ⟨2, ![2, 1536]⟩
abbrev S2046x1536 : Shape := ⟨2, ![2046, 1536]⟩
abbrev S2047x1536 : Shape := ⟨2, ![2047, 1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x3712, .f32⟩
  | .hbm, ⟨1, _⟩ => ⟨S4x1536, .f32⟩
  | .hbm, ⟨2, _⟩ => ⟨S8x128, .f32⟩
  | .hbm, ⟨3, _⟩ => ⟨S2048x1536, .f32⟩
  | .hbm, ⟨4, _⟩ => ⟨S_, .f32⟩
  | .hbm, ⟨5, _⟩ => ⟨S3x1536, .f32⟩
  | .hbm, ⟨6, _⟩ => ⟨S2045x1536, .f32⟩
  | .hbm, ⟨7, _⟩ => ⟨S2048x1536, .f32⟩
  | .hbm, ⟨8, _⟩ => ⟨S1x1536, .f32⟩
  | .hbm, ⟨9, _⟩ => ⟨S1536, .f32⟩
  | .hbm, ⟨10, _⟩ => ⟨S1x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S_, .f32⟩
  | .hbm, ⟨17, _⟩ => ⟨S2x1536, .f32⟩
  | .hbm, ⟨18, _⟩ => ⟨S2046x1536, .f32⟩
  | .hbm, ⟨19, _⟩ => ⟨S2048x1536, .f32⟩
  | .hbm, ⟨20, _⟩ => ⟨S1x1536, .f32⟩
  | .hbm, ⟨21, _⟩ => ⟨S1536, .f32⟩
  | .hbm, ⟨22, _⟩ => ⟨S1x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S1x1536, .f32⟩
  | .hbm, ⟨28, _⟩ => ⟨S2047x1536, .f32⟩
  | .hbm, ⟨29, _⟩ => ⟨S2048x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S1x1536, .f32⟩
  | .hbm, ⟨37, _⟩ => ⟨S1536, .f32⟩
  | .hbm, ⟨38, _⟩ => ⟨S1x1536, .f32⟩
  | .hbm, ⟨39, _⟩ => ⟨S2048x1536, .f32⟩
  | .hbm, ⟨40, _⟩ => ⟨S2048x1536, .f32⟩
  | .hbm, ⟨41, _⟩ => ⟨S2048x1536, .f32⟩
  | .hbm, ⟨42, _⟩ => ⟨S2048x1536, .f32⟩
  | .hbm, ⟨43, _⟩ => ⟨S2048x1536, .f32⟩
  | .hbm, ⟨44, _⟩ => ⟨S_, .f32⟩
  | .hbm, ⟨45, _⟩ => ⟨S2048x1536, .f32⟩
  | .hbm, ⟨46, _⟩ => ⟨S2048x1536, .f32⟩
  | .hbm, ⟨47, _⟩ => ⟨S_, .f32⟩
  | .hbm, ⟨48, _⟩ => ⟨S2048x1536, .f32⟩
  | .hbm, ⟨49, _⟩ => ⟨S2048x1536, .f32⟩
  | .hbm, ⟨50, _⟩ => ⟨S2048x1536, .f32⟩
  | .hbm, ⟨51, _⟩ => ⟨S2048x512, .f32⟩
  | .hbm, ⟨52, _⟩ => ⟨S2048x4x128, .f32⟩
  | .hbm, ⟨53, _⟩ => ⟨S2048x4x128, .f32⟩
  | .hbm, ⟨54, _⟩ => ⟨S_, .f32⟩
  | .hbm, ⟨55, _⟩ => ⟨S2048x4, .f32⟩
  | .hbm, ⟨56, _⟩ => ⟨S2048x4x1, .f32⟩
  | .hbm, ⟨57, _⟩ => ⟨S_, .f32⟩
  | .hbm, ⟨58, _⟩ => ⟨S2048x4x1, .f32⟩
  | .hbm, ⟨59, _⟩ => ⟨S2048x4x1, .f32⟩
  | .hbm, ⟨60, _⟩ => ⟨S2048x4x1, .f32⟩
  | .hbm, ⟨61, _⟩ => ⟨S2048x4x128, .f32⟩
  | .hbm, ⟨62, _⟩ => ⟨S2048x4x128, .f32⟩
  | .hbm, ⟨63, _⟩ => ⟨S2048x512, .f32⟩
  | .hbm, ⟨64, _⟩ => ⟨S2048x4x128, .f32⟩
  | .hbm, ⟨65, _⟩ => ⟨S2048x4x128, .f32⟩
  | .hbm, ⟨66, _⟩ => ⟨S_, .f32⟩
  | .hbm, ⟨67, _⟩ => ⟨S2048x4, .f32⟩
  | .hbm, ⟨68, _⟩ => ⟨S2048x4x1, .f32⟩
  | .hbm, ⟨69, _⟩ => ⟨S_, .f32⟩
  | .hbm, ⟨70, _⟩ => ⟨S2048x4x1, .f32⟩
  | .hbm, ⟨71, _⟩ => ⟨S2048x4x1, .f32⟩
  | .hbm, ⟨72, _⟩ => ⟨S2048x4x1, .f32⟩
  | .hbm, ⟨73, _⟩ => ⟨S2048x4x128, .f32⟩
  | .hbm, ⟨74, _⟩ => ⟨S2048x4x128, .f32⟩
  | .hbm, ⟨75, _⟩ => ⟨S2048x512, .f32⟩
  | .hbm, ⟨76, _⟩ => ⟨S2048x4x128, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S2048x1536, .f32⟩
  | _, _ => ⟨S2048x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Kernel14.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x1024x512 : Shape := ⟨3, ![8, 1024, 512]⟩
abbrev S1x1024x512 : Shape := ⟨3, ![1, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x1024x512 : Shape := ⟨3, ![8, 1024, 512]⟩
abbrev S1x1024x512 : Shape := ⟨3, ![1, 1024, 512]⟩
abbrev S_ : Shape := ⟨0, ![]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x512x1024 : Shape := ⟨3, ![8, 512, 1024]⟩
abbrev S1x512x1024 : Shape := ⟨3, ![1, 512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x512x1024 : Shape := ⟨3, ![8, 512, 1024]⟩
abbrev S1x512x1024 : Shape := ⟨3, ![1, 512, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x256x128 : Shape := ⟨3, ![8, 256, 128]⟩
abbrev S1x256x128 : Shape := ⟨3, ![1, 256, 128]⟩
abbrev S_ : Shape := ⟨0, ![]⟩
abbrev S256x128 : Shape := ⟨2, ![256, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S1x256x128, .f32⟩
  | .hbm, ⟨8, _⟩ => ⟨S_, .f32⟩
  | .hbm, ⟨9, _⟩ => ⟨S1x256x128, .f32⟩
  | .hbm, ⟨10, _⟩ => ⟨S1x256x128, .f32⟩
  | .hbm, ⟨11, _⟩ => ⟨S_, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S_, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S_, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S_, .f32⟩
  | .hbm, ⟨24, _⟩ => ⟨S1x256x128, .f32⟩
  | .hbm, ⟨25, _⟩ => ⟨S1x256x128, .f32⟩
  | .hbm, ⟨26, _⟩ => ⟨S_, .f32⟩
  | .hbm, ⟨27, _⟩ => ⟨S1x256x128, .f32⟩
  | .hbm, ⟨28, _⟩ => ⟨S1x256x128, .f32⟩
  | .hbm, ⟨29, _⟩ => ⟨S1x256x128, .f32⟩
  | .hbm, ⟨30, _⟩ => ⟨S_, .f32⟩
  | .hbm, ⟨31, _⟩ => ⟨S1x256x128, .f32⟩
  | .hbm, ⟨32, _⟩ => ⟨S1x256x128, .f32⟩
  | .hbm, ⟨33, _⟩ => ⟨S1x256x128, .f32⟩
  | .hbm, ⟨34, _⟩ => ⟨S_, .f32⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S_, .f32⟩
  | .hbm, ⟨39, _⟩ => ⟨S1x256x128, .f32⟩
  | .hbm, ⟨40, _⟩ => ⟨S1x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S8x8x128 : Shape := ⟨3, ![8, 8, 128]⟩
abbrev S1x8x128 : Shape := ⟨3, ![1, 8, 128]⟩
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .local _ .vmem, ⟨0, _⟩ => ⟨S8x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x8x128 : Shape := ⟨3, ![8, 8, 128]⟩
abbrev S1x8x128 : Shape := ⟨3, ![1, 8, 128]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S8x128, .f32⟩
  | .hbm, ⟨6, _⟩ => ⟨S1x8x128, .f32⟩
  | .hbm, ⟨7, _⟩ => ⟨S_, .f32⟩
  | .hbm, ⟨8, _⟩ => ⟨S1x8x128, .f32⟩
  | .hbm, ⟨9, _⟩ => ⟨S1x8x128, .f32⟩
  | .hbm, ⟨10, _⟩ => ⟨S_, .f32⟩
  | .hbm, ⟨11, _⟩ => ⟨S1x8x128, .f32⟩
  | .hbm, ⟨12, _⟩ => ⟨S1x8x128, .f32⟩
  | .hbm, ⟨13, _⟩ => ⟨S1x8x128, .f32⟩
  | .hbm, ⟨14, _⟩ => ⟨S_, .f32⟩
  | .hbm, ⟨15, _⟩ => ⟨S1x8x128, .f32⟩
  | .hbm, ⟨16, _⟩ => ⟨S1x8x128, .f32⟩
  | .hbm, ⟨17, _⟩ => ⟨S1x8x128, .f32⟩
  | .hbm, ⟨18, _⟩ => ⟨S_, .f32⟩
  | .hbm, ⟨19, _⟩ => ⟨S1x8x128, .f32⟩
  | .hbm, ⟨20, _⟩ => ⟨S1x8x128, .f32⟩
  | .hbm, ⟨21, _⟩ => ⟨S1x8x128, .f32⟩
  | .hbm, ⟨22, _⟩ => ⟨S_, .f32⟩
  | .hbm, ⟨23, _⟩ => ⟨S1x8x128, .f32⟩
  | .hbm, ⟨24, _⟩ => ⟨S1x8x128, .f32⟩
  | .hbm, ⟨25, _⟩ => ⟨S_, .f32⟩
  | .hbm, ⟨26, _⟩ => ⟨S1x8x128, .f32⟩
  | .hbm, ⟨27, _⟩ => ⟨S1x8x128, .f32⟩
  | .hbm, ⟨28, _⟩ => ⟨S1x8x128, .f32⟩
  | .hbm, ⟨29, _⟩ => ⟨S_, .f32⟩
  | .hbm, ⟨30, _⟩ => ⟨S1x8x128, .f32⟩
  | .hbm, ⟨31, _⟩ => ⟨S1x8x128, .f32⟩
  | .hbm, ⟨32, _⟩ => ⟨S1x8x128, .f32⟩
  | .hbm, ⟨33, _⟩ => ⟨S_, .f32⟩
  | .hbm, ⟨34, _⟩ => ⟨S1x8x128, .f32⟩
  | .hbm, ⟨35, _⟩ => ⟨S1x8x128, .f32⟩
  | .hbm, ⟨36, _⟩ => ⟨S1x8x128, .f32⟩
  | .hbm, ⟨37, _⟩ => ⟨S_, .f32⟩
  | .hbm, ⟨38, _⟩ => ⟨S1x8x128, .f32⟩
  | .hbm, ⟨39, _⟩ => ⟨S1x8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x512x450 : Shape := ⟨3, ![8, 512, 450]⟩
abbrev S1x1024x450 : Shape := ⟨3, ![1, 1024, 450]⟩
abbrev S8x256x450 : Shape := ⟨3, ![8, 256, 450]⟩
abbrev S1x256x450 : Shape := ⟨3, ![1, 256, 450]⟩
abbrev S256x450 : Shape := ⟨2, ![256, 450]⟩

abbrev nBuf : Space → Nat
  | .hbm => 9
  | .vmem => 18
  | .smem => 0
  | _ => 0

abbrev bufTy : (tb : Table) → Fin (tcTables nBuf tb) → BufTy
  | .hbm, ⟨0, _⟩ => ⟨S8x512x450, .bf16⟩
  | .hbm, ⟨1, _⟩ => ⟨S8x512x450, .bf16⟩
  | .hbm, ⟨2, _⟩ => ⟨S1x1024x450, .f32⟩
  | .hbm, ⟨3, _⟩ => ⟨S1x1024x450, .f32⟩
  | .hbm, ⟨4, _⟩ => ⟨S1x1024x450, .f32⟩
  | .hbm, ⟨5, _⟩ => ⟨S1x1024x450, .f32⟩
  | .hbm, ⟨6, _⟩ => ⟨S1x1024x450, .f32⟩
  | .hbm, ⟨7, _⟩ => ⟨S1x1024x450, .f32⟩
  | .hbm, ⟨8, _⟩ => ⟨S1x1024x450, .f32⟩
  | .local _ .vmem, ⟨0, _⟩ => ⟨S8x256x450, .bf16⟩
  | .local _ .vmem, ⟨1, _⟩ => ⟨S8x256x450, .bf16⟩
  | .local _ .vmem, ⟨2, _⟩ => ⟨S8x256x450, .bf16⟩
  | .local _ .vmem, ⟨3, _⟩ => ⟨S8x256x450, .bf16⟩
  | .local _ .vmem, ⟨4, _⟩ => ⟨S1x256x450, .f32⟩
  | .local _ .vmem, ⟨5, _⟩ => ⟨S1x256x450, .f32⟩
  | .local _ .vmem, ⟨6, _⟩ => ⟨S1x256x450, .f32⟩
  | .local _ .vmem, ⟨7, _⟩ => ⟨S1x256x450, .f32⟩
  | .local _ .vmem, ⟨8, _⟩ => ⟨S1x256x450, .f32⟩
  | .local _ .vmem, ⟨9, _⟩ => ⟨S1x256x450, .f32⟩
  | .local _ .vmem, ⟨10, _⟩ => ⟨S1x256x450, .f32⟩
  | .local _ .vmem, ⟨11, _⟩ => ⟨S1x256x450, .f32⟩
  | .local _ .vmem, ⟨12, _⟩ => ⟨S1x256x450, .f32⟩
  | .local _ .vmem, ⟨13, _⟩ => ⟨S1x256x450, .f32⟩
  | .local _ .vmem, ⟨14, _⟩ => ⟨S1x256x450, .f32⟩
  | .local _ .vmem, ⟨15, _⟩ => ⟨S1x256x450, .f32⟩
  | .local _ .vmem, ⟨16, _⟩ => ⟨S1x256x450, .f32⟩
  | .local _ .vmem, ⟨17, _⟩ => ⟨S1x256x450, .f32⟩
  | _, _ => ⟨S8x512x450, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x450 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x450 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x450 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x450 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x450 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x450 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x450 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x450 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x450 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8x512x450 : Shape := ⟨3, ![8, 512, 450]⟩
abbrev S1x1024x450 : Shape := ⟨3, ![1, 1024, 450]⟩
abbrev S8x1024x450 : Shape := ⟨3, ![8, 1024, 450]⟩
abbrev S_ : Shape := ⟨0, ![]⟩
abbrev S1024x450 : Shape := ⟨2, ![1024, 450]⟩

abbrev nBuf : Space → Nat
  | .hbm => 43
  | .vmem => 0
  | .smem => 0
  | _ => 0

abbrev bufTy : (tb : Table) → Fin (tcTables nBuf tb) → BufTy
  | .hbm, ⟨0, _⟩ => ⟨S8x512x450, .bf16⟩
  | .hbm, ⟨1, _⟩ => ⟨S8x512x450, .bf16⟩
  | .hbm, ⟨2, _⟩ => ⟨S1x1024x450, .f32⟩
  | .hbm, ⟨3, _⟩ => ⟨S1x1024x450, .f32⟩
  | .hbm, ⟨4, _⟩ => ⟨S1x1024x450, .f32⟩
  | .hbm, ⟨5, _⟩ => ⟨S8x1024x450, .bf16⟩
  | .hbm, ⟨6, _⟩ => ⟨S8x1024x450, .f32⟩
  | .hbm, ⟨7, _⟩ => ⟨S_, .f32⟩
  | .hbm, ⟨8, _⟩ => ⟨S1024x450, .f32⟩
  | .hbm, ⟨9, _⟩ => ⟨S1x1024x450, .f32⟩
  | .hbm, ⟨10, _⟩ => ⟨S_, .f32⟩
  | .hbm, ⟨11, _⟩ => ⟨S1x1024x450, .f32⟩
  | .hbm, ⟨12, _⟩ => ⟨S1x1024x450, .f32⟩
  | .hbm, ⟨13, _⟩ => ⟨S_, .f32⟩
  | .hbm, ⟨14, _⟩ => ⟨S1x1024x450, .f32⟩
  | .hbm, ⟨15, _⟩ => ⟨S1x1024x450, .f32⟩
  | .hbm, ⟨16, _⟩ => ⟨S1x1024x450, .f32⟩
  | .hbm, ⟨17, _⟩ => ⟨S_, .f32⟩
  | .hbm, ⟨18, _⟩ => ⟨S1x1024x450, .f32⟩
  | .hbm, ⟨19, _⟩ => ⟨S1x1024x450, .f32⟩
  | .hbm, ⟨20, _⟩ => ⟨S1x1024x450, .f32⟩
  | .hbm, ⟨21, _⟩ => ⟨S_, .f32⟩
  | .hbm, ⟨22, _⟩ => ⟨S1x1024x450, .f32⟩
  | .hbm, ⟨23, _⟩ => ⟨S1x1024x450, .f32⟩
  | .hbm, ⟨24, _⟩ => ⟨S1x1024x450, .f32⟩
  | .hbm, ⟨25, _⟩ => ⟨S_, .f32⟩
  | .hbm, ⟨26, _⟩ => ⟨S1x1024x450, .f32⟩
  | .hbm, ⟨27, _⟩ => ⟨S1x1024x450, .f32⟩
  | .hbm, ⟨28, _⟩ => ⟨S_, .f32⟩
  | .hbm, ⟨29, _⟩ => ⟨S1x1024x450, .f32⟩
  | .hbm, ⟨30, _⟩ => ⟨S1x1024x450, .f32⟩
  | .hbm, ⟨31, _⟩ => ⟨S1x1024x450, .f32⟩
  | .hbm, ⟨32, _⟩ => ⟨S_, .f32⟩
  | .hbm, ⟨33, _⟩ => ⟨S1x1024x450, .f32⟩
  | .hbm, ⟨34, _⟩ => ⟨S1x1024x450, .f32⟩
  | .hbm, ⟨35, _⟩ => ⟨S1x1024x450, .f32⟩
  | .hbm, ⟨36, _⟩ => ⟨S_, .f32⟩
  | .hbm, ⟨37, _⟩ => ⟨S1x1024x450, .f32⟩
  | .hbm, ⟨38, _⟩ => ⟨S1x1024x450, .f32⟩
  | .hbm, ⟨39, _⟩ => ⟨S1x1024x450, .f32⟩
  | .hbm, ⟨40, _⟩ => ⟨S_, .f32⟩
  | .hbm, ⟨41, _⟩ => ⟨S1x1024x450, .f32⟩
  | .hbm, ⟨42, _⟩ => ⟨S1x1024x450, .f32⟩
  | _, _ => ⟨S8x512x450, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Reals.lean ====
/- Finite values as reals: how the operations of the programs act on extended reals that are real numbers. -/
module

public import Idealize.ShloMosaic.Lib.Pointwise
public import Idealize.ShloMosaic.Lib.ReduceAll

@[expose] public section

namespace Cert.Reals

open Idealize.ShloMosaic

/-- An array of real numbers as an array of extended reals. -/
abbrev up {s : Shape} (X : s.Idx → ℝ) : s.Idx → EReal := fun i => (X i : EReal)

theorem up_apply {s : Shape} (X : s.Idx → ℝ) (i : s.Idx) : up X i = (X i : EReal) := rfl

/-- A finite sum of real numbers is a real number. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The exponential of a real number. -/
theorem exp_coe (r : ℝ) : Ideal.exp (r : EReal) = ((Real.exp r : ℝ) : EReal) := rfl

/-- A quotient of real numbers by one that is not zero. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The reciprocal root of a positive real number. -/
theorem rsqrt_coe {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (by linarith), if_neg (by linarith)]

/-- The logistic function. -/
noncomputable def sg (y : ℝ) : ℝ := 1 / (1 + Real.exp (-y))

/-- The kernels' spelling of the logistic function. -/
theorem sg_sub (y : ℝ) : Ideal.div 1 (1 + Ideal.exp (0 - (y : EReal))) = ((sg y : ℝ) : EReal) := by
  have h : (1 : ℝ) + Real.exp (-y) ≠ 0 := by positivity
  rw [sg, ← div_coe h, ← EReal.coe_zero, ← EReal.coe_sub, exp_coe, ← EReal.coe_one, ← EReal.coe_add, zero_sub]

/-- The host's spelling of the logistic function. -/
theorem sg_neg (y : ℝ) : Ideal.div 1 (1 + Ideal.exp (-(y : EReal))) = ((sg y : ℝ) : EReal) := by
  rw [← sg_sub, zero_sub]

/-- The 32-bit pattern of the constant `1e-6`, read as a real number. -/
noncomputable def eps : ℝ := (2 ^ 23 + 407485 : ℕ) * (2 : ℝ) ^ (-43 : ℤ)

theorem eps_pos : 0 < eps := by unfold eps; positivity

theorem ofBits_eps : Ideal.ofBits .f32 897988541#32 = ((eps : ℝ) : EReal) := by
  simp [Ideal.ofBits, Ideal.ieee, eps]

/-- Read back from `jnp.all(jnp.abs(x) < jnp.inf)`: an array whose entries are finite is an array of real numbers. -/
theorem exists_real {s : Shape} (x : s.Idx → EReal) (h : ∀ i, x i ≠ ⊤ ∧ x i ≠ ⊥) : ∃ X : s.Idx → ℝ, x = up X :=
  ⟨fun i => (x i).toReal, funext fun i => (EReal.coe_toReal (h i).1 (h i).2).symm⟩

/-- An extended real whose magnitude is below the infinity is neither infinity. -/
theorem finite_of_olt (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  constructor
  · rintro rfl; simp at h
  · rintro rfl; simp at h

/-- A number below `2 ^ 31` as a signed 32-bit word. -/
theorem toInt_ofNat (t : ℕ) (ht : t < 2 ^ 31) : (BitVec.ofNat 32 t).toInt = (t : ℤ) := by
  rw [BitVec.toInt_ofNat', Int.bmod_eq_of_le] <;> omega

/-- A select by a bit that is 1 exactly when `p`. -/
theorem select_of_iff {α : Type} (c : BitVec 1) (p : Prop) [Decidable p] (h : c = 1#1 ↔ p) (a b : α) :
    Scalar.select c a b = if p then a else b := by
  unfold Scalar.select
  by_cases hp : p
  · rw [if_pos hp]; exact if_pos (h.2 hp)
  · rw [if_neg hp]; exact if_neg fun e => hp (h.1 e)

/-- A select by the comparison of a row number with a constant. -/
theorem select_sge {α : Type} (t k : ℕ) (ht : t < 2 ^ 31) (hk : k < 2 ^ 31) (a b : α) :
    Scalar.select (IntOp.cmpi CmpIPredicate.sge (BitVec.ofNat 32 t) (BitVec.ofNat 32 k)) a b = if k ≤ t then a else b :=
  select_of_iff _ _ (by rw [IntOp.cmpi_sge, toInt_ofNat t ht, toInt_ofNat k hk, Nat.cast_le]) a b

/-- A select by the comparison of a row number with a constant. -/
theorem select_slt {α : Type} (t k : ℕ) (ht : t < 2 ^ 31) (hk : k < 2 ^ 31) (a b : α) :
    Scalar.select (IntOp.cmpi CmpIPredicate.slt (BitVec.ofNat 32 t) (BitVec.ofNat 32 k)) a b = if t < k then a else b :=
  select_of_iff _ _ (by rw [IntOp.cmpi_slt, toInt_ofNat t ht, toInt_ofNat k hk, Nat.cast_lt]) a b

end Cert.Reals
-- ==== Proof.GdnPrepSpec.lean ====
/- The gradient of one head's section (128 channels) of the short convolution, its gate and its norm, over the reals. -/
module

public import proofs.«01_k».proof.Proof.Reals

@[expose] public section

namespace Cert.GdnPrep

open Idealize.ShloMosaic Cert.Reals

variable (c : Fin 2048 → Fin 128 → ℝ) (w : Fin 4 → Fin 128 → ℝ) (d : Fin 2048 → Fin 128 → ℝ)

/-- The rows moved down by `s`: row `t` holds row `t - s`, the first `s` rows zero. -/
noncomputable def back (s : ℕ) (a : Fin 2048 → Fin 128 → ℝ) (t : Fin 2048) (l : Fin 128) : ℝ :=
  if s ≤ t.val then a ⟨t.val - s, by omega⟩ l else 0

/-- The rows moved up by `s`: row `t` holds row `t + s`, the last `s` rows zero. -/
noncomputable def ahead (s : ℕ) (a : Fin 2048 → Fin 128 → ℝ) (t : Fin 2048) (l : Fin 128) : ℝ :=
  if h : t.val + s < 2048 then a ⟨t.val + s, h⟩ l else 0

/-- The convolution of four taps. -/
noncomputable def y (t : Fin 2048) (l : Fin 128) : ℝ :=
  c t l * w 3 l + back 1 c t l * w 2 l + back 2 c t l * w 1 l + back 3 c t l * w 0 l

/-- The gated value. -/
noncomputable def sw (t : Fin 2048) (l : Fin 128) : ℝ := y c w t l * sg (y c w t l)

/-- The sum of squares of a token's head, and the small constant. -/
noncomputable def ss (t : Fin 2048) : ℝ := ∑ l, sw c w t l * sw c w t l + eps

/-- The reciprocal of the token's norm. -/
noncomputable def rn (t : Fin 2048) : ℝ := (Real.sqrt (ss c w t))⁻¹

/-- The gradient of the gated value, through the norm when `b`. -/
noncomputable def ds (b : Prop) [Decidable b] (t : Fin 2048) (l : Fin 128) : ℝ :=
  if b then rn c w t * (d t l - sw c w t l * rn c w t * ∑ k, d t k * (sw c w t k * rn c w t)) else d t l

/-- The gradient of the convolution's result. -/
noncomputable def dy (b : Prop) [Decidable b] (t : Fin 2048) (l : Fin 128) : ℝ :=
  ds c w d b t l * (sg (y c w t l) * (1 + y c w t l * (1 - sg (y c w t l))))

/-- The gradient of the convolution's input. -/
noncomputable def dc (b : Prop) [Decidable b] (t : Fin 2048) (l : Fin 128) : ℝ :=
  dy c w d b t l * w 3 l + ahead 1 (dy c w d b) t l * w 2 l + ahead 2 (dy c w d b) t l * w 1 l + ahead 3 (dy c w d b) t l * w 0 l

/-- The gradient of the tap that reads `s` rows back. -/
noncomputable def dw (b : Prop) [Decidable b] (s : ℕ) (l : Fin 128) : ℝ := ∑ t, dy c w d b t l * back s c t l

theorem ss_pos (t : Fin 2048) : 0 < ss c w t :=
  add_pos_of_nonneg_of_pos (Finset.sum_nonneg fun l _ => mul_self_nonneg _) eps_pos

theorem rn_sq (t : Fin 2048) : rn c w t * rn c w t * ss c w t = 1 := by
  have h := ss_pos c w t
  have h2 : Real.sqrt (ss c w t) ≠ 0 := (Real.sqrt_pos.2 h).ne'
  unfold rn
  have e : ss c w t = Real.sqrt (ss c w t) * Real.sqrt (ss c w t) := (Real.mul_self_sqrt h.le).symm
  calc (√(ss c w t))⁻¹ * (√(ss c w t))⁻¹ * ss c w t = (√(ss c w t))⁻¹ * (√(ss c w t))⁻¹ * (√(ss c w t) * √(ss c w t)) := by rw [← e]
    _ = 1 := by field_simp

/-- The gradient of a head scaled by its reciprocal norm, in the form that differentiating the sum of squares gives. -/
theorem ds_norm (t : Fin 2048) (l : Fin 128) (b : Prop) [Decidable b] (hb : b) :
    d t l * rn c w t + (sw c w t l * ((∑ k, sw c w t k * d t k) * (-(1 / 2) * (rn c w t / ss c w t)))
      + ((∑ k, sw c w t k * d t k) * (-(1 / 2) * (rn c w t / ss c w t))) * sw c w t l) = ds c w d b t l := by
  have h := ss_pos c w t
  have e : rn c w t / ss c w t = rn c w t * rn c w t * rn c w t := by
    rw [div_eq_iff h.ne', mul_assoc (_ * _), mul_comm (rn c w t) (ss c w t), ← mul_assoc, rn_sq, one_mul]
  have e2 : ∑ k, d t k * (sw c w t k * rn c w t) = (∑ k, sw c w t k * d t k) * rn c w t := by
    rw [Finset.sum_mul]; exact Finset.sum_congr rfl fun k _ => by ring
  rw [ds, if_pos hb, e, e2]
  ring

end Cert.GdnPrep
-- ==== Proof.GdnPrepBlock.lean ====
/- What the kernel's body leaves in its two blocks at a grid point, entry by entry, over the reals. -/
module

public import proofs.«01_k».proof.Proof.GdnPrepSpec
public import proofs.«01_k».proof.Proof.Gen.KernelIdeal.Value
public import Idealize.ShloMosaic.Lib.Pipeline.ValueKit.Basic

@[expose] public section

namespace Cert.GdnPrep

open Idealize.ShloMosaic Cert.KernelIdeal Cert.KernelIdeal.Gen Cert.Reals

/-- A 2048 × 128 array by row and column. -/
abbrev m2 {a b : ℕ} (X : (⟨2, ![a, b]⟩ : Shape).Idx → ℝ) (t : Fin a) (l : Fin b) : ℝ := X (ix2 t l)

variable (X : S2048x128.Idx → ℝ) (W : S4x128.Idx → ℝ) (D : S2048x128.Idx → ℝ)

theorem back_of_rot (s : ℕ) (hs : s < 2048) (t : Fin 2048) (l : Fin 128) (a : ℝ) (h : (t.val + 2048 - s) % 2048 < 2048) :
    (if s ≤ t.val then ((X (ix2 ⟨(t.val + 2048 - s) % 2048, h⟩ l) : ℝ) : EReal) * (a : EReal) else 0) = ((back s (m2 X) t l * a : ℝ) : EReal) := by
  unfold back
  split_ifs with h1
  · have e : (⟨(t.val + 2048 - s) % 2048, h⟩ : Fin 2048) = ⟨t.val - s, by omega⟩ := by
      apply Fin.ext; show (t.val + 2048 - s) % 2048 = t.val - s; omega
    rw [e, EReal.coe_mul]
  · simp

theorem ahead_of_rot (f : Fin 2048 → Fin 128 → ℝ) (s : ℕ) (hs : 0 < s) (hs' : s < 2048) (t : Fin 2048) (l : Fin 128) (a : ℝ) (h : (t.val + 2048 - (2048 - s)) % 2048 < 2048) :
    (if t.val < 2048 - s then ((f ⟨(t.val + 2048 - (2048 - s)) % 2048, h⟩ l : ℝ) : EReal) * (a : EReal) else 0) = ((ahead s f t l * a : ℝ) : EReal) := by
  unfold ahead
  by_cases h1 : t.val < 2048 - s
  · rw [if_pos h1, dif_pos (by omega)]
    have e : (⟨(t.val + 2048 - (2048 - s)) % 2048, h⟩ : Fin 2048) = ⟨t.val + s, by omega⟩ := by
      apply Fin.ext; show (t.val + 2048 - (2048 - s)) % 2048 = t.val + s; omega
    rw [e, EReal.coe_mul]
  · rw [if_neg h1, dif_neg (by omega)]; simp

theorem pay4 (t : Fin 2048) (l : Fin 128) :
    k0_pay4 (F := Ideal) (up X) (up W) (ix2 t l)
      = ((X (ix2 t l) * W (ix2 3 l) + back 1 (m2 X) t l * W (ix2 2 l) + back 2 (m2 X) t l * W (ix2 1 l) : ℝ) : EReal) := by
  pointwise [k0_pay4]
  rw [select_sge _ 1 (by omega) (by omega), select_sge _ 2 (by omega) (by omega), back_of_rot X 1 (by omega), back_of_rot X 2 (by omega)]
  norm_cast

theorem pay5 (t : Fin 2048) (l : Fin 128) : k0_pay5 (F := Ideal) (up X) (ix2 t l) = ((back 3 (m2 X) t l : ℝ) : EReal) := by
  pointwise [k0_pay5]
  rw [select_sge _ 3 (by omega) (by omega)]
  have := back_of_rot X 3 (by omega) t l 1 (by omega)
  simpa using this

theorem pay6 (t : Fin 2048) (l : Fin 128) : k0_pay6 (F := Ideal) (up W) (ix2 t l) = ((W (ix2 0 l) : ℝ) : EReal) := by
  pointwise [k0_pay6]

/-- The gradient of the convolution's result, at every entry. -/
theorem pay7 (j : ℕ) (hj : j < 12) (t : Fin 2048) (l : Fin 128) :
    k0_pay7 (F := Ideal) (BitVec.ofNat 32 j) (up D) (k0_pay4 (F := Ideal) (up X) (up W)) (k0_pay5 (F := Ideal) (up X)) (k0_pay6 (F := Ideal) (up W)) (ix2 t l)
      = ((dy (m2 X) (m2 W) (m2 D) (j < 8) t l : ℝ) : EReal) := by
  have hy : ∀ (t : Fin 2048) (l : Fin 128), k0_pay4 (F := Ideal) (up X) (up W) (ix2 t l) + k0_pay5 (F := Ideal) (up X) (ix2 t l) * k0_pay6 (F := Ideal) (up W) (ix2 t l)
      = ((y (m2 X) (m2 W) t l : ℝ) : EReal) := by
    intro t l
    rw [pay4, pay5, pay6, ← EReal.coe_mul, ← EReal.coe_add, y]
  generalize k0_pay4 (F := Ideal) (up X) (up W) = A4 at *
  generalize k0_pay5 (F := Ideal) (up X) = A5 at *
  generalize k0_pay6 (F := Ideal) (up W) = A6 at *
  pointwise [k0_pay7]
  have hr : Ideal.rsqrt (((∑ k, sw (m2 X) (m2 W) t k * sw (m2 X) (m2 W) t k + eps : ℝ)) : EReal) = ((rn (m2 X) (m2 W) t : ℝ) : EReal) :=
    rsqrt_coe (ss_pos (m2 X) (m2 W) t)
  have hw : ∀ k, y (m2 X) (m2 W) t k * sg (y (m2 X) (m2 W) t k) = sw (m2 X) (m2 W) t k := fun _ => rfl
  simp only [hy, sg_sub, up_apply]
  simp only [← EReal.coe_mul, coe_sum, ofBits_eps, ← EReal.coe_add, hw, hr, ← EReal.coe_sub, ← EReal.coe_one]
  have hs := select_slt (α := EReal) j 8 (by omega) (by omega)
  unfold Scalar.cmpi
  rw [hs, dy, ds]
  split_ifs <;> rfl

theorem row_sum (A : S2048x128.Idx → EReal) (s : ℕ) (hs : s < 2048) (b : Prop) [Decidable b] (l : Fin 128)
    (h7 : ∀ (t : Fin 2048) (l : Fin 128), A (ix2 t l) = ((dy (m2 X) (m2 W) (m2 D) b t l : ℝ) : EReal))
    (h : ∀ t : Fin 2048, (t.val + 2048 - s) % 2048 < 2048) :
    (∑ t : Fin 2048, if s ≤ t.val then A (ix2 t l) * ((X (ix2 ⟨(t.val + 2048 - s) % 2048, h t⟩ l) : ℝ) : EReal) else 0)
      = ((dw (m2 X) (m2 W) (m2 D) b s l : ℝ) : EReal) := by
  rw [dw, ← coe_sum]
  refine Finset.sum_congr rfl fun t _ => ?_
  have e := back_of_rot X s hs t l (dy (m2 X) (m2 W) (m2 D) b t l) (h t)
  rw [h7, mul_comm (dy _ _ _ _ _ _), ← e]
  simp only [mul_comm]

theorem pay1 (A : S2048x128.Idx → EReal) (b : Prop) [Decidable b] (x : S1x128.Idx)
    (h7 : ∀ (t : Fin 2048) (l : Fin 128), A (ix2 t l) = ((dy (m2 X) (m2 W) (m2 D) b t l : ℝ) : EReal)) :
    k0_pay1 (F := Ideal) (up X) A (iota Kind.tc S2048x128 32 [0] iota_S2048x128_d0_w32) x = ((dw (m2 X) (m2 W) (m2 D) b 3 (x 1) : ℝ) : EReal) := by
  idx_vars x
  pointwise [k0_pay1]
  rw [← row_sum X W D A 3 (by omega) b x1 h7 (fun t => by omega)]
  exact Finset.sum_congr rfl fun t _ => select_sge t.val 3 (by omega) (by omega) _ _

theorem pay13 (A : S2048x128.Idx → EReal) (b : Prop) [Decidable b] (x : S1x128.Idx)
    (h7 : ∀ (t : Fin 2048) (l : Fin 128), A (ix2 t l) = ((dy (m2 X) (m2 W) (m2 D) b t l : ℝ) : EReal)) :
    k0_pay13 (F := Ideal) (up X) A (iota Kind.tc S2048x128 32 [0] iota_S2048x128_d0_w32) x = ((dw (m2 X) (m2 W) (m2 D) b 2 (x 1) : ℝ) : EReal) := by
  idx_vars x
  pointwise [k0_pay13]
  rw [← row_sum X W D A 2 (by omega) b x1 h7 (fun t => by omega)]
  exact Finset.sum_congr rfl fun t _ => select_sge t.val 2 (by omega) (by omega) _ _

theorem pay11 (A : S2048x128.Idx → EReal) (b : Prop) [Decidable b] (x : S1x128.Idx)
    (h7 : ∀ (t : Fin 2048) (l : Fin 128), A (ix2 t l) = ((dy (m2 X) (m2 W) (m2 D) b t l : ℝ) : EReal)) :
    k0_pay11 (F := Ideal) (up X) A (iota Kind.tc S2048x128 32 [0] iota_S2048x128_d0_w32) x = ((dw (m2 X) (m2 W) (m2 D) b 1 (x 1) : ℝ) : EReal) := by
  idx_vars x
  pointwise [k0_pay11]
  rw [← row_sum X W D A 1 (by omega) b x1 h7 (fun t => by omega)]
  exact Finset.sum_congr rfl fun t _ => select_sge t.val 1 (by omega) (by omega) _ _

theorem pay9 (A : S2048x128.Idx → EReal) (b : Prop) [Decidable b] (l : Fin 128)
    (h7 : ∀ (t : Fin 2048) (l : Fin 128), A (ix2 t l) = ((dy (m2 X) (m2 W) (m2 D) b t l : ℝ) : EReal)) :
    ∑ t : Fin 2048, A (ix2 t l) * ((X (ix2 t l) : ℝ) : EReal) = ((dw (m2 X) (m2 W) (m2 D) b 0 l : ℝ) : EReal) := by
  rw [dw, ← coe_sum]
  refine Finset.sum_congr rfl fun t _ => ?_
  rw [h7, ← EReal.coe_mul]
  rfl

theorem ld0 (x : S2048x128.Idx → EReal) : View.ld (Val := Elt Ideal) (e' := .f32) x r0_0 = x :=
  View.ld_unit_lit (Val := Elt Ideal) (S := S2048x128) (e := .f32) _ x (by decide)

theorem ld1 (x : S4x128.Idx → EReal) : View.ld (Val := Elt Ideal) (e' := .f32) x r0_1 = x :=
  View.ld_unit_lit (Val := Elt Ideal) (S := S4x128) (e := .f32) _ x (by decide)

set_option maxRecDepth 20000 in
/-- The gradient of the convolution's input, at every entry of the block. -/
theorem out5 (i : grid0.Coords) (j : ℕ) (hj : j < 12) (hi : (i 0).val = j) (x2 x3 x4 : S2048x128.Idx → EReal)
    (hD : k0_pay3 (F := Ideal) i x2 x3 x4 = up D) (t : Fin 2048) (l : Fin 128) :
    out0_5 (F := Ideal) i (up X) (up W) x2 x3 x4 (ix2 t l) = ((dc (m2 X) (m2 W) (m2 D) (j < 8) t l : ℝ) : EReal) := by
  have h7 := pay7 X W D j hj
  unfold_out out0_5
  rw [View.canon_cons_unit_lit _ _ _ (by decide), ld0, ld0, ld0, ld0, ld1, hD, hi]
  unfold k0_pay8
  generalize k0_pay7 (F := Ideal) (BitVec.ofNat 32 j) (up D) (k0_pay4 (F := Ideal) (up X) (up W)) (k0_pay5 (F := Ideal) (up X)) (k0_pay6 (F := Ideal) (up W)) = A7 at *
  pointwise [k0_pay2, k0_pay12, k0_pay10, k0_pay14]
  rw [select_slt _ 2047 (by omega) (by omega), select_slt _ 2046 (by omega) (by omega), select_slt _ 2045 (by omega) (by omega)]
  rw [h7, h7, h7, h7, ahead_of_rot _ 1 (by omega) (by omega), ahead_of_rot _ 2 (by omega) (by omega), ahead_of_rot _ 3 (by omega) (by omega), dc]
  norm_cast

/-- The gradient of the taps, at every entry of the block. -/
theorem out6 (i : grid0.Coords) (j : ℕ) (hj : j < 12) (hi : (i 0).val = j) (x2 x3 x4 : S2048x128.Idx → EReal)
    (hD : k0_pay3 (F := Ideal) i x2 x3 x4 = up D) (k : S4x128.Idx) :
    out0_6 (F := Ideal) i (up X) (up W) x2 x3 x4 k = ((dw (m2 X) (m2 W) (m2 D) (j < 8) (3 - (k 0).val) (k 1) : ℝ) : EReal) := by
  have h7 := pay7 X W D j hj
  unfold_out out0_6
  rw [ld0, ld0, ld0, ld0, ld1, hD, hi]
  unfold k0_pay9
  generalize k0_pay7 (F := Ideal) (BitVec.ofNat 32 j) (up D) (k0_pay4 (F := Ideal) (up X) (up W)) (k0_pay5 (F := Ideal) (up X)) (k0_pay6 (F := Ideal) (up W)) = A7 at *
  refine View.canon_apply_of_pieces (Val := Elt Ideal) (S := S4x128) (e := .f32)
    (fun k : S4x128.Idx => ((dw (m2 X) (m2 W) (m2 D) (j < 8) (3 - (k 0).val) (k 1) : ℝ) : EReal)) _ ?_ k (cover0_6 _ _ _ _ k)
  have hk : ∀ (x : S1x128.Idx) (k : S4x128.Idx) (n s : ℕ) (h : 3 - n = s) (h0 : (k 0).val = n + 1 * (x 0).val) (h1 : (k 1).val = 0 + 1 * (x 1).val),
      ((dw (m2 X) (m2 W) (m2 D) (j < 8) s (x 1) : ℝ) : EReal) = ((dw (m2 X) (m2 W) (m2 D) (j < 8) (3 - (k 0).val) (k 1) : ℝ) : EReal) := by
    intro x k n s h h0 h1
    have hx : (x 0).val < 1 := (x 0).isLt
    rw [show 3 - (k 0).val = s by omega, show k 1 = x 1 from Fin.ext (by omega)]
  intro p hp
  simp only [List.mem_cons, List.not_mem_nil, or_false] at hp
  rcases hp with rfl | rfl | rfl | rfl <;> intro x
  · exact (pay1 X W D A7 _ x h7).trans (hk x (r0_5.emb x) 0 3 rfl rfl rfl)
  · exact (pay13 X W D A7 _ x h7).trans (hk x (r0_4.emb x) 1 2 rfl rfl rfl)
  · exact (pay11 X W D A7 _ x h7).trans (hk x (r0_3.emb x) 2 1 rfl rfl rfl)
  · refine Eq.trans ?_ (hk x (r0_2.emb x) 3 0 rfl rfl rfl)
    idx_vars x
    pointwise
    exact pay9 X W D A7 _ x1 h7

end Cert.GdnPrep
-- ==== Proof.GdnPrepRef.lean ====
/- The reference's gradients of the short convolution, its gate and its norm, entry by entry, over the reals. -/
module

public import proofs.«01_k».proof.Proof.GdnPrepSpec
public import proofs.«01_k».proof.Proof.Gen.ReferenceIdeal.Read

@[expose] public section

namespace Cert.GdnPrep

open Idealize.ShloMosaic Cert.ReferenceIdeal Cert.ReferenceIdeal.Gen Cert.ReferenceIdeal.Read Cert.Reals

/-- The column of channel `l` of head section `j`. -/
def col (j : Fin 12) (l : Fin 128) : Fin 1536 := ⟨128 * j.val + l.val, by omega⟩

variable (X : S2048x3712.Idx → ℝ) (W : S4x1536.Idx → ℝ) (Q K V : S2048x512.Idx → ℝ)

/-- Head section `j` of the convolution's input. -/
noncomputable def secX (j : Fin 12) (t : Fin 2048) (l : Fin 128) : ℝ := X (ix2 t ⟨128 * j.val + l.val, by omega⟩)

/-- Head section `j` of the taps. -/
noncomputable def secW (j : Fin 12) (k : Fin 4) (l : Fin 128) : ℝ := W (ix2 k (col j l))

/-- Head section `j` of the three gradients side by side. -/
noncomputable def secD (j : Fin 12) (t : Fin 2048) (l : Fin 128) : ℝ :=
  if h : j.val < 4 then Q (ix2 t ⟨128 * j.val + l.val, by omega⟩)
  else if h' : j.val < 8 then K (ix2 t ⟨128 * (j.val - 4) + l.val, by omega⟩)
  else V (ix2 t ⟨128 * (j.val - 8) + l.val, by omega⟩)

theorem r0 (j : Fin 12) (t : Fin 2048) (l : Fin 128) :
    val_main_v0 (F := Ideal) (up X) (ix2 t (col j l)) = ((secX X j t l : ℝ) : EReal) := by
  pointwise [val_main_v0]
  rfl

theorem r24 (j : Fin 12) (t : Fin 2048) (l : Fin 128) :
    val_main_v24 (F := Ideal) (up X) (ix2 t (col j l)) = ((back 1 (secX X j) t l : ℝ) : EReal) := by
  pointwise [val_main_v24, val_main_v22, val_main_cst_4, val_main_v23, val_main_v0]
  unfold back
  by_cases h : 1 ≤ t.val
  · rw [dif_neg (by omega), if_pos h]
    rfl
  · rw [dif_pos (by omega), if_neg h]
    rfl

theorem r14 (j : Fin 12) (t : Fin 2048) (l : Fin 128) :
    val_main_v14 (F := Ideal) (up X) (ix2 t (col j l)) = ((back 2 (secX X j) t l : ℝ) : EReal) := by
  pointwise [val_main_v14, val_main_v12, val_main_cst_2, val_main_v13, val_main_v0]
  unfold back
  by_cases h : 2 ≤ t.val
  · rw [dif_neg (by omega), if_pos h]
    rfl
  · rw [dif_pos (by omega), if_neg h]
    rfl

theorem r3 (j : Fin 12) (t : Fin 2048) (l : Fin 128) :
    val_main_v3 (F := Ideal) (up X) (ix2 t (col j l)) = ((back 3 (secX X j) t l : ℝ) : EReal) := by
  pointwise [val_main_v3, val_main_v1, val_main_cst, val_main_v2, val_main_v0]
  unfold back
  by_cases h : 3 ≤ t.val
  · rw [dif_neg (by omega), if_pos h]
    rfl
  · rw [dif_pos (by omega), if_neg h]
    rfl

theorem r37 (j : Fin 12) (t : Fin 2048) (l : Fin 128) :
    val_main_v37 (F := Ideal) (up X) (up W) (ix2 t (col j l)) = ((y (secX X j) (secW W j) t l : ℝ) : EReal) := by
  have e0 := r0 X j t l
  have e1 := r24 X j t l
  have e2 := r14 X j t l
  have e3 := r3 X j t l
  pointwise [val_main_v37, val_main_v31, val_main_v21, val_main_v11, val_main_v10, val_main_cst_1, val_main_v9, val_main_v8, val_main_v7, val_main_v6, val_main_v5, val_main_v20, val_main_v19, val_main_v18, val_main_v17, val_main_v16, val_main_v30, val_main_v29, val_main_v28, val_main_v27, val_main_v26, val_main_v36, val_main_v35, val_main_v34, val_main_v33, val_main_v32]
  rw [e0, e1, e2, e3, y]
  unfold secW
  norm_cast
  ring_nf

theorem r43 (j : Fin 12) (t : Fin 2048) (l : Fin 128) :
    val_main_v43 (F := Ideal) (up X) (up W) (ix2 t (col j l)) = ((sg (y (secX X j) (secW W j) t l) : ℝ) : EReal) := by
  pointwise [val_main_v43, val_main_v42, val_main_cst_7, val_main_v41, val_main_v40, val_main_cst_6, val_main_v39, val_main_v38]
  rw [r37, sg_neg]

theorem r47 (j : Fin 12) (t : Fin 2048) (l : Fin 128) :
    val_main_v47 (F := Ideal) (up X) (up W) (ix2 t (col j l)) = ((sw (secX X j) (secW W j) t l : ℝ) : EReal) := by
  pointwise [val_main_v47]
  rw [r37, r43, ← EReal.coe_mul, sw]

theorem ofBits_neg_half : Ideal.ofBits .f32 3204448256#32 = ((-(1 / 2) : ℝ) : EReal) := by
  simp [Ideal.ofBits, Ideal.ieee]
  rw [← EReal.coe_mul]
  norm_num

theorem r49 (h : Fin 4) (j : Fin 12) (hj : j.val = 0 + h.val) (t : Fin 2048) (l : Fin 128) :
    val_main_v49 (F := Ideal) (up X) (up W) (ix3 t h l) = ((sw (secX X j) (secW W j) t l : ℝ) : EReal) := by
  rw [← r47]
  pointwise [val_main_v49, val_main_v48]
  exact congrArg (fun n => val_main_v47 (F := Ideal) (up X) (up W) (ix2 t n)) (Fin.ext (by simp only [col]; omega))

theorem r54 (h : Fin 4) (j : Fin 12) (hj : j.val = 0 + h.val) (t : Fin 2048) (z : Fin 1) :
    val_main_v54 (F := Ideal) (up X) (up W) (ix3 t h z) = ((ss (secX X j) (secW W j) t : ℝ) : EReal) := by
  pointwise [val_main_v54, val_main_v52, val_main_v51, val_main_v50, val_main_cst_9, val_main_v53, val_main_cst_10]
  simp only [r49 X W h j hj, ← EReal.coe_mul, coe_sum, ofBits_eps, ← EReal.coe_add]
  rfl

theorem secQ (h : Fin 4) (j : Fin 12) (hj : j.val = 0 + h.val) (t : Fin 2048) (k : Fin 128) (hk : h.val * 128 + k.val < 512) :
    Q (ix2 t ⟨h.val * 128 + k.val, hk⟩) = secD Q K V j t k := by
  unfold secD
  split_ifs <;> first | omega | exact congrArg (fun n => Q (ix2 t n)) (Fin.ext (by show h.val * 128 + k.val = _; simp only; omega))

theorem r107 (h : Fin 4) (j : Fin 12) (hj : j.val = 0 + h.val) (t : Fin 2048) (l : Fin 128) :
    val_main_v107 (F := Ideal) (up X) (up W) (up Q) (ix3 t h l)
      = ((ds (secX X j) (secW W j) (secD Q K V j) (j.val < 8) t l : ℝ) : EReal) := by
  have hr : Ideal.rsqrt ((ss (secX X j) (secW W j) t : ℝ) : EReal) = ((rn (secX X j) (secW W j) t : ℝ) : EReal) := rsqrt_coe (ss_pos _ _ t)
  pointwise [val_main_v107, val_main_v105, val_main_v100, val_main_v76, val_main_v99, val_main_v55, val_main_v104, val_main_v103, val_main_v102, val_main_v101, val_main_v98, val_main_v97, val_main_v96, val_main_cst_19, val_main_v58, val_main_v57, val_main_cst_11, val_main_v56, val_main_cst_20, val_main_v106]
  simp only [r49 X W h j hj, r54 X W h j hj, hr, div_coe (ss_pos _ _ _).ne', ofBits_neg_half, up_apply, secQ Q K V h j hj, ← EReal.coe_mul, coe_sum, ← EReal.coe_add]
  rw [← ds_norm _ _ _ t l _ (by omega)]
  simp only [Finset.univ_unique, Finset.sum_singleton]
  congr 1
  ring

theorem r62 (h : Fin 4) (j : Fin 12) (hj : j.val = 4 + h.val) (t : Fin 2048) (l : Fin 128) :
    val_main_v62 (F := Ideal) (up X) (up W) (ix3 t h l) = ((sw (secX X j) (secW W j) t l : ℝ) : EReal) := by
  rw [← r47]
  pointwise [val_main_v62, val_main_v61]
  exact congrArg (fun n => val_main_v47 (F := Ideal) (up X) (up W) (ix2 t n)) (Fin.ext (by simp only [col]; omega))

theorem r67 (h : Fin 4) (j : Fin 12) (hj : j.val = 4 + h.val) (t : Fin 2048) (z : Fin 1) :
    val_main_v67 (F := Ideal) (up X) (up W) (ix3 t h z) = ((ss (secX X j) (secW W j) t : ℝ) : EReal) := by
  pointwise [val_main_v67, val_main_v65, val_main_v64, val_main_v63, val_main_cst_12, val_main_v66, val_main_cst_13]
  simp only [r62 X W h j hj, ← EReal.coe_mul, coe_sum, ofBits_eps, ← EReal.coe_add]
  rfl

theorem secK (h : Fin 4) (j : Fin 12) (hj : j.val = 4 + h.val) (t : Fin 2048) (k : Fin 128) (hk : h.val * 128 + k.val < 512) :
    K (ix2 t ⟨h.val * 128 + k.val, hk⟩) = secD Q K V j t k := by
  unfold secD
  split_ifs <;> first | omega | exact congrArg (fun n => K (ix2 t n)) (Fin.ext (by show h.val * 128 + k.val = _; simp only; omega))

theorem r92 (h : Fin 4) (j : Fin 12) (hj : j.val = 4 + h.val) (t : Fin 2048) (l : Fin 128) :
    val_main_v92 (F := Ideal) (up X) (up W) (up K) (ix3 t h l)
      = ((ds (secX X j) (secW W j) (secD Q K V j) (j.val < 8) t l : ℝ) : EReal) := by
  have hr : Ideal.rsqrt ((ss (secX X j) (secW W j) t : ℝ) : EReal) = ((rn (secX X j) (secW W j) t : ℝ) : EReal) := rsqrt_coe (ss_pos _ _ t)
  pointwise [val_main_v92, val_main_v90, val_main_v85, val_main_v77, val_main_v84, val_main_v68, val_main_v89, val_main_v88, val_main_v87, val_main_v86, val_main_v83, val_main_v82, val_main_v81, val_main_cst_16, val_main_v71, val_main_v70, val_main_cst_14, val_main_v69, val_main_cst_17, val_main_v91]
  simp only [r62 X W h j hj, r67 X W h j hj, hr, div_coe (ss_pos _ _ _).ne', ofBits_neg_half, up_apply, secK Q K V h j hj, ← EReal.coe_mul, coe_sum, ← EReal.coe_add]
  rw [← ds_norm _ _ _ t l _ (by omega)]
  simp only [Finset.univ_unique, Finset.sum_singleton]
  congr 1
  ring

theorem secV (h : Fin 4) (j : Fin 12) (hj : j.val = 8 + h.val) (t : Fin 2048) (k : Fin 128) (hk : h.val * 128 + k.val < 512) :
    V (ix2 t ⟨h.val * 128 + k.val, hk⟩) = secD Q K V j t k := by
  unfold secD
  split_ifs <;> first | omega | exact congrArg (fun n => V (ix2 t n)) (Fin.ext (by show h.val * 128 + k.val = _; simp only; omega))

/-- The gradient of the gated value, the three head groups side by side. -/
theorem r110 (j : Fin 12) (t : Fin 2048) (l : Fin 128) :
    val_main_v110 (F := Ideal) (up X) (up W) (up Q) (up K) (up V) (ix2 t (col j l))
      = ((ds (secX X j) (secW W j) (secD Q K V j) (j.val < 8) t l : ℝ) : EReal) := by
  pointwise [val_main_v110, val_main_v95, val_main_v80, val_main_v79, val_main_v78, val_main_cst_15, val_main_v94, val_main_v93, val_main_cst_18, val_main_v109, val_main_v108, val_main_cst_21]
  have hc : (col j l).val = 128 * j.val + l.val := rfl
  generalize col j l = n at *
  have hj := j.isLt
  have hl := l.isLt
  have hq : ∀ (a b : ℕ) (ha : a < 4) (hb : b < 128), a = j.val → b = l.val →
      val_main_v107 (F := Ideal) (up X) (up W) (up Q) (ix3 t ⟨a, ha⟩ ⟨b, hb⟩) = ((ds (secX X j) (secW W j) (secD Q K V j) (j.val < 8) t l : ℝ) : EReal) := by
    rintro a b ha hb h1 rfl
    exact r107 X W Q K V ⟨a, ha⟩ j (by show j.val = 0 + a; omega) t l
  have hk : ∀ (a b : ℕ) (ha : a < 4) (hb : b < 128), 4 + a = j.val → b = l.val →
      val_main_v92 (F := Ideal) (up X) (up W) (up K) (ix3 t ⟨a, ha⟩ ⟨b, hb⟩) = ((ds (secX X j) (secW W j) (secD Q K V j) (j.val < 8) t l : ℝ) : EReal) := by
    rintro a b ha hb h1 rfl
    exact r92 X W Q K V ⟨a, ha⟩ j h1.symm t l
  by_cases h4 : j.val < 4
  · rw [dif_neg (by omega), dif_neg (by omega), dif_pos (by omega), hq _ _ _ _ (by omega) (by omega), zero_add, zero_add]
  · by_cases h8 : j.val < 8
    · rw [dif_neg (by omega), dif_pos (by omega), dif_neg (by omega), hk _ _ _ _ (by omega) (by omega), zero_add, add_zero]
    · rw [dif_pos (by omega), dif_neg (by omega), dif_neg (by omega), add_zero, add_zero, ds, if_neg h8,
        ← secV Q K V ⟨j.val - 8, by omega⟩ j (by show j.val = 8 + (j.val - 8); omega) t l (by show (j.val - 8) * 128 + l.val < 512; omega)]
      exact congrArg (fun n => ((V (ix2 t n) : ℝ) : EReal)) (Fin.ext (by show n.val - 1024 = (j.val - 8) * 128 + l.val; omega))

theorem r114 (j : Fin 12) (t : Fin 2048) (l : Fin 128) :
    val_main_v114 (F := Ideal) (up X) (up W) (up Q) (up K) (up V) (ix2 t (col j l))
      = ((dy (secX X j) (secW W j) (secD Q K V j) (j.val < 8) t l : ℝ) : EReal) := by
  pointwise [val_main_v114, val_main_v112, val_main_v113, val_main_v111, val_main_v46, val_main_v45, val_main_v44, val_main_cst_8]
  simp only [r110, r37, r43, ← EReal.coe_mul, ← EReal.coe_add, ← EReal.coe_one, ← EReal.coe_sub]
  rw [dy]
  congr 1
  ring

/-- The gradient of the convolution's input. -/
theorem r162 (j : Fin 12) (t : Fin 2048) (l : Fin 128) :
    val_main_v162 (F := Ideal) (up X) (up W) (up Q) (up K) (up V) (ix2 t (col j l))
      = ((dc (secX X j) (secW W j) (secD Q K V j) (j.val < 8) t l : ℝ) : EReal) := by
  have e := r114 X W Q K V j
  have hs : ∀ (s m : ℕ) (a : ℝ) (hm : m = 2048 - s) (h2 : ∀ h : t.val < m, s + t.val < 2048),
      (if h : t.val < m then val_main_v114 (F := Ideal) (up X) (up W) (up Q) (up K) (up V) (ix2 ⟨s + t.val, h2 h⟩ (col j l)) * (a : EReal) else 0)
        = ((ahead s (dy (secX X j) (secW W j) (secD Q K V j) (j.val < 8)) t l * a : ℝ) : EReal) := by
    intro s m a hm h2
    unfold ahead
    by_cases h : t.val < m
    · rw [dif_pos h, dif_pos (by omega), e, ← EReal.coe_mul]
      exact congrArg (fun n => ((dy (secX X j) (secW W j) (secD Q K V j) (j.val < 8) n l * a : ℝ) : EReal)) (Fin.ext (by show s + t.val = t.val + s; omega))
    · rw [dif_neg h, dif_neg (by omega), zero_mul]
      rfl
  pointwise [val_main_v162, val_main_v161, val_main_v148, val_main_v135, val_main_v119, val_main_v118, val_main_v34, val_main_v33, val_main_v32, val_main_v134, val_main_v133, val_main_v127, val_main_v126, val_main_v28, val_main_v27, val_main_v26, val_main_cst_28, val_main_v147, val_main_v146, val_main_v140, val_main_v139, val_main_v18, val_main_v17, val_main_v16, val_main_cst_32, val_main_v160, val_main_v159, val_main_v153, val_main_v152, val_main_v7, val_main_v6, val_main_v5, val_main_cst_36]
  rw [hs 1 2047 _ rfl, hs 2 2046 _ rfl, hs 3 2045 _ rfl, e, dc]
  unfold secW
  norm_cast

/-- The gradient of the taps. -/
theorem r157 (j : Fin 12) (k : Fin 4) (l : Fin 128) :
    val_main_v157 (F := Ideal) (up X) (up W) (up Q) (up K) (up V) (ix2 k (col j l))
      = ((dw (secX X j) (secW W j) (secD Q K V j) (j.val < 8) (3 - k.val) l : ℝ) : EReal) := by
  pointwise [val_main_v157, val_main_v144, val_main_v131, val_main_v122, val_main_v121, val_main_v120, val_main_v117, val_main_v116, val_main_v115, val_main_cst_22, val_main_cst_23, val_main_cst_24, val_main_v130, val_main_v129, val_main_v128, val_main_v125, val_main_v124, val_main_v123, val_main_cst_25, val_main_cst_26, val_main_cst_27, val_main_v143, val_main_v142, val_main_v141, val_main_v138, val_main_v137, val_main_v136, val_main_cst_29, val_main_cst_30, val_main_cst_31, val_main_v156, val_main_v155, val_main_v154, val_main_v151, val_main_v150, val_main_v149, val_main_cst_33, val_main_cst_34, val_main_cst_35]
  simp only [r0, r3, r14, r24, r114, ← EReal.coe_mul, coe_sum, Finset.univ_unique, Finset.sum_singleton]
  have hb : secX X j = back 0 (secX X j) := rfl
  have hc : ∀ s, (∑ t, back s (secX X j) t l * dy (secX X j) (secW W j) (secD Q K V j) (j.val < 8) t l)
      = dw (secX X j) (secW W j) (secD Q K V j) (j.val < 8) s l := fun s => by
    rw [dw]; exact Finset.sum_congr rfl fun t _ => mul_comm _ _
  have h0 : (∑ t, secX X j t l * dy (secX X j) (secW W j) (secD Q K V j) (j.val < 8) t l)
      = dw (secX X j) (secW W j) (secD Q K V j) (j.val < 8) 0 l := hc 0
  simp only [hc, h0]
  fin_cases k <;> simp

end Cert.GdnPrep
-- ==== Proof.GdnPrepFinal.lean ====
/- The arrays the kernel leaves: every grid point handles one head section of 128 columns, its input blocks are that
   section of the arguments, and the twelve blocks written back are the reference's two results. -/
module

public import proofs.«01_k».proof.Proof.GdnPrepBlock
public import proofs.«01_k».proof.Proof.GdnPrepRef
public import proofs.«01_k».proof.Proof.Gen.KernelIdeal.Value
public import Idealize.ShloMosaic.Lib.Pipeline.ValueKit

@[expose] public section

noncomputable section

namespace Cert.GdnPrep

open Idealize.ShloMosaic Idealize.ShloMosaic.TcCoe Cert.Reals
open Cert.KernelIdeal Cert.KernelIdeal.Gen

variable (m : (ℓ : Loc nD τ sig) → Buf (Elt Ideal) ℓ) (c : Dev nD)

theorem idx : ∀ t : Fin cfg0.N, win0_0.index t = ![0, (grid0.coords t 0).val] ∧ win0_1.index t = ![0, (grid0.coords t 0).val]
    ∧ win0_2.index t = ![0, min (grid0.coords t 0).val 3] ∧ win0_3.index t = ![0, min ((grid0.coords t 0).val - 4) 3]
    ∧ win0_4.index t = ![0, min ((grid0.coords t 0).val - 8) 3]
    ∧ win0_5.index t = ![0, (grid0.coords t 0).val] ∧ win0_6.index t = ![0, (grid0.coords t 0).val]
    ∧ (grid0.coords t 0).val = t.val :=
  (by decide +kernel : ∀ t : Fin grid0.N, _)

section
variable (X : S2048x3712.Idx → ℝ) (W : S4x1536.Idx → ℝ) (Q K V : S2048x512.Idx → ℝ)

/-- Head section `j` of the projections as the block a grid point is handed. -/
def bX (j : Fin 12) : S2048x128.Idx → ℝ := fun i => secX X j (i 0) (i 1)
/-- The same of the taps. -/
def bW (j : Fin 12) : S4x128.Idx → ℝ := fun i => secW W j (i 0) (i 1)
/-- The same of the three gradients. -/
def bD (j : Fin 12) : S2048x128.Idx → ℝ := fun i => secD Q K V j (i 0) (i 1)

theorem iblk0 (hX : m ((c : Thread nD τ).loc main_arg0) = up X) (t : Fin cfg0.N) (j : Fin 12) (hj : j.val = t.val) :
    iblk m c 0 t = up (bX X j) := by
  funext y
  obtain ⟨e, -, -, -, -, -, -, ht⟩ := idx t
  blk_simp [iblk, e]
  rw [V_main_arg0, hX, up_apply, up_apply]
  unfold bX secX
  congr 2
  blk_ext [e, ht, hj]

theorem iblk1 (hW : m ((c : Thread nD τ).loc main_arg1) = up W) (t : Fin cfg0.N) (j : Fin 12) (hj : j.val = t.val) :
    iblk m c 1 t = up (bW W j) := by
  funext y
  obtain ⟨-, e, -, -, -, -, -, ht⟩ := idx t
  blk_simp [iblk, e]
  rw [V_main_arg1, hW, up_apply, up_apply]
  unfold bW secW col
  congr 2
  blk_ext [e, ht, hj]

theorem iblkD (hQ : m ((c : Thread nD τ).loc main_arg2) = up Q) (hK : m ((c : Thread nD τ).loc main_arg3) = up K)
    (hV : m ((c : Thread nD τ).loc main_arg4) = up V) (t : Fin cfg0.N) (j : Fin 12) (hj : j.val = t.val) :
    k0_pay3 (F := Ideal) (grid0.coords t) (iblk m c 2 t) (iblk m c 3 t) (iblk m c 4 t)
      = up (bD Q K V j) := by
  funext y
  obtain ⟨-, -, e2, e3, e4, -, -, ht⟩ := idx t
  have hl := j.isLt
  idx_vars y
  pointwise [k0_pay3]
  rw [show (↑(grid0.coords t 0) : ℕ) = j.val from ht.trans hj.symm] at e2 e3 e4 ⊢
  refine (select_slt j.val 4 (by omega) (by norm_num) _ _).trans ?_
  refine (if_congr Iff.rfl rfl (select_slt j.val 8 (by omega) (by norm_num) _ _)).trans ?_
  rw [up_apply]
  unfold bD secD
  by_cases h : j.val < 4
  · rw [if_pos h, dif_pos h]
    blk_simp [iblk, e2]
    rw [V_main_arg2, hQ, up_apply]
    congr 2
    blk_ext [e2, min_eq_left (show j.val ≤ 3 by omega)]
  · rw [if_neg h, dif_neg h]
    by_cases h' : j.val < 8
    · rw [if_pos h', dif_pos h']
      blk_simp [iblk, e3]
      rw [V_main_arg3, hK, up_apply]
      congr 2
      blk_ext [e3, min_eq_left (show j.val - 4 ≤ 3 by omega)]
    · rw [if_neg h', dif_neg h']
      blk_simp [iblk, e4]
      rw [V_main_arg4, hV, up_apply]
      congr 2
      blk_ext [e4, min_eq_left (show j.val - 8 ≤ 3 by omega)]

theorem final5 (hX : m ((c : Thread nD τ).loc main_arg0) = up X) (hW : m ((c : Thread nD τ).loc main_arg1) = up W)
    (hQ : m ((c : Thread nD τ).loc main_arg2) = up Q) (hK : m ((c : Thread nD τ).loc main_arg3) = up K)
    (hV : m ((c : Thread nD τ).loc main_arg4) = up V) :
    (dats m 0 c).arrAt 5 cfg0.N = Cert.ReferenceIdeal.Read.val_main_v162 (F := Ideal) (up X) (up W) (up Q) (up K) (up V) := by
  refine (dats m 0 c).arrAt_eq_of_covers 5 _ (by decide +kernel) fun t hf y => ?_
  obtain ⟨-, -, -, -, -, e, -, ht⟩ := idx t
  have hN : t.val < 12 := t.isLt
  blk_simp [e]
  rw [after0_5, iblk0 m c X hX t ⟨t.val, hN⟩ rfl, iblk1 m c W hW t ⟨t.val, hN⟩ rfl]
  have h2 : (win0_5.blk t).view.emb y = ix2 (y 0) (col ⟨t.val, hN⟩ (y 1)) := by
    unfold col
    blk_ext [e, ht]
  refine Eq.trans ?_ ((congrArg _ h2).trans (r162 X W Q K V ⟨t.val, hN⟩ (y 0) (y 1))).symm
  have hy : y = ix2 (y 0) (y 1) := by blk_ext
  refine (congrArg _ hy).trans ?_
  exact out5 _ _ _ _ _ hN ht _ _ _ (iblkD m c Q K V hQ hK hV t ⟨t.val, hN⟩ rfl) (y 0) (y 1)

theorem final6 (hX : m ((c : Thread nD τ).loc main_arg0) = up X) (hW : m ((c : Thread nD τ).loc main_arg1) = up W)
    (hQ : m ((c : Thread nD τ).loc main_arg2) = up Q) (hK : m ((c : Thread nD τ).loc main_arg3) = up K)
    (hV : m ((c : Thread nD τ).loc main_arg4) = up V) :
    (dats m 0 c).arrAt 6 cfg0.N = Cert.ReferenceIdeal.Read.val_main_v157 (F := Ideal) (up X) (up W) (up Q) (up K) (up V) := by
  refine (dats m 0 c).arrAt_eq_of_covers 6 _ (by decide +kernel) fun t hf y => ?_
  obtain ⟨-, -, -, -, -, -, e, ht⟩ := idx t
  have hN : t.val < 12 := t.isLt
  blk_simp [e]
  rw [after0_6, iblk0 m c X hX t ⟨t.val, hN⟩ rfl, iblk1 m c W hW t ⟨t.val, hN⟩ rfl]
  have h2 : (win0_6.blk t).view.emb y = ix2 (y 0) (col ⟨t.val, hN⟩ (y 1)) := by
    unfold col
    blk_ext [e, ht]
  refine Eq.trans ?_ ((congrArg _ h2).trans (r157 X W Q K V ⟨t.val, hN⟩ (y 0) (y 1))).symm
  exact out6 _ _ _ _ _ hN ht _ _ _ (iblkD m c Q K V hQ hK hV t ⟨t.val, hN⟩ rfl) y

end

end Cert.GdnPrep
-- ==== Proof.GdnPrep.lean ====
/- The claims about the gradient of the short convolution, sigmoid gate and head normalisation. -/
module

public import proofs.«01_k».proof.Defs
public import proofs.«01_k».proof.Proof.GdnPrepFinal
public import proofs.«01_k».proof.Proof.Gen.ReferenceIdeal.Run
public import proofs.«01_k».proof.Proof.Gen.Pre_finite
public import Idealize.ShloMosaic.Lib.Claim
public import Idealize.ShloMosaic.Lib.ReduceAll

@[expose] public section

noncomputable section

namespace Cert.GdnPrep

open Idealize.ShloMosaic Idealize.ShloMosaic.TcCoe Idealize.SL.Sem Cert.Reals

local instance : Cert.KernelIdeal.Facts := Cert.KernelIdeal.Gen.facts
local instance : Cert.ReferenceIdeal.Facts := Cert.ReferenceIdeal.Gen.facts
local instance : Cert.Pre_finite.Facts := Cert.Pre_finite.Gen.facts

/-- The precondition says that the five arrays hold reals. -/
theorem reals (x : (⟨Cert.Pre_finite.S2048x3712, .f32⟩ : BufTy).Contents (Elt Ideal))
    (w : (⟨Cert.Pre_finite.S4x1536, .f32⟩ : BufTy).Contents (Elt Ideal))
    (q k v : (⟨Cert.Pre_finite.S2048x512, .f32⟩ : BufTy).Contents (Elt Ideal))
    (h : Cert.Pre_finite.fn (F := Ideal) x w q k v = fun _ => 1#1) :
    (∃ X, x = up X) ∧ (∃ W, w = up W) ∧ (∃ Q, q = up Q) ∧ (∃ K, k = up K) ∧ ∃ V, v = up V := by
  have e := congrFun h (fun a => a.elim0)
  dsimp only [Cert.Pre_finite.fn, Cert.Pre_finite.fn_part1] at e
  obtain ⟨e, hv⟩ := IntOp.andi_eq_one.1 e
  obtain ⟨e, hk⟩ := IntOp.andi_eq_one.1 e
  obtain ⟨e, hq⟩ := IntOp.andi_eq_one.1 e
  obtain ⟨hx, hw⟩ := IntOp.andi_eq_one.1 e
  exact ⟨exists_real _ fun i => finite_of_olt _ (Host.reduce_andi_all _ _ _ _ _ hx i),
    exists_real _ fun i => finite_of_olt _ (Host.reduce_andi_all _ _ _ _ _ hw i),
    exists_real _ fun i => finite_of_olt _ (Host.reduce_andi_all _ _ _ _ _ hq i),
    exists_real _ fun i => finite_of_olt _ (Host.reduce_andi_all _ _ _ _ _ hk i),
    exists_real _ fun i => finite_of_olt _ (Host.reduce_andi_all _ _ _ _ _ hv i)⟩

theorem algebraic : Cert.algebraic_KernelIdeal_ReferenceIdeal_pre_finite := by
  pair_intro
  · run_from Cert.KernelIdeal.Value.run_blocks m g
  · refine (θ_run Cert.ReferenceIdeal.defs _ _).mono (fun r h c => ?_) (Cert.ReferenceIdeal.Value.run (F := Ideal) m' g')
    obtain ⟨h0, h1, h2⟩ := h c
    obtain ⟨a0, a1, a2, a3, a4⟩ := hagree c
    obtain ⟨⟨X, hX⟩, ⟨W, hW⟩, ⟨Q, hQ⟩, ⟨K, hK⟩, ⟨V, hV⟩⟩ := reals _ _ _ _ _ (hpre c)
    refine ⟨h0.trans ?_, h1.trans ?_, h2⟩
    · refine (Cert.ReferenceIdeal.Read.val_main_v162_eq _).trans (Eq.trans ?_ (final5 m c X W Q K V hX hW hQ hK hV).symm)
      rw [← hX, ← hW, ← hQ, ← hK, ← hV, ← a0, ← a1, ← a2, ← a3, ← a4]
    · refine (Cert.ReferenceIdeal.Read.val_main_v157_eq _).trans (Eq.trans ?_ (final6 m c X W Q K V hX hW hQ hK hV).symm)
      rw [← hX, ← hW, ← hQ, ← hK, ← hV, ← a0, ← a1, ← a2, ← a3, ← a4]

theorem frame_ref : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

end Cert.GdnPrep
-- ==== Proof.MlpSpec.lean ====
/- The feed-forward layer, its gated embedding and the two layer norms, forward and backward, for one token over the
   reals: what the kernel and the reference both compute. -/
module

public import proofs.«01_k».proof.Proof.Reals

@[expose] public section

noncomputable section

namespace Cert.Mlp

open Idealize.ShloMosaic Cert.Reals

/-- The 32-bit pattern of the constant `1e-5`, read as a real number. -/
def eps5 : ℝ := (2 ^ 23 + 2606508 : ℕ) * (2 : ℝ) ^ (-40 : ℤ)
/-- The 32-bit pattern of the residual scale, read as a real number. -/
def al : ℝ := (2 ^ 23 + 1587184 : ℕ) * (2 : ℝ) ^ (-23 : ℤ)

theorem eps5_pos : 0 < eps5 := by unfold eps5; positivity

theorem ofBits_eps5 : Ideal.ofBits .f32 0x3727C5AC#32 = ((eps5 : ℝ) : EReal) := by
  simp [Ideal.ofBits, Ideal.ieee, eps5]
theorem ofBits_al : Ideal.ofBits .f32 0x3F9837F0#32 = ((al : ℝ) : EReal) := by
  simp [Ideal.ofBits, Ideal.ieee, al]
theorem ofBits_1024 : Ideal.ofBits .f32 0x44800000#32 = ((1024 : ℝ) : EReal) := by
  simp [Ideal.ofBits, Ideal.ieee]
  rw [← EReal.coe_mul]
  norm_num
theorem ofBits_inv : Ideal.ofBits .f32 0x3A800000#32 = ((1 / 1024 : ℝ) : EReal) := by
  simp [Ideal.ofBits, Ideal.ieee]
  rw [← EReal.coe_mul]
  norm_num
theorem ofBits_two : Ideal.ofBits .f32 0x40000000#32 = ((2 : ℝ) : EReal) := by
  simp [Ideal.ofBits, Ideal.ieee]
  rw [← EReal.coe_mul]
  norm_num
theorem ofBits_half : Ideal.ofBits .f32 0x3F000000#32 = ((1 / 2 : ℝ) : EReal) := by
  simp [Ideal.ofBits, Ideal.ieee]
  rw [← EReal.coe_mul]
  norm_num
theorem ofBits_neg_half : Ideal.ofBits .f32 0xBF000000#32 = ((-(1 / 2) : ℝ) : EReal) := by
  simp [Ideal.ofBits, Ideal.ieee]
  rw [← EReal.coe_mul]
  norm_num

/-! ## The layer norm of one token -/

/-- The deviation from the mean. -/
def xc (f : Fin 1024 → ℝ) (i : Fin 1024) : ℝ := f i - (∑ k, f k) / 1024
/-- The variance, shifted. -/
def ve (f : Fin 1024 → ℝ) : ℝ := (∑ k, xc f k * xc f k) / 1024 + eps5
/-- The reciprocal deviation. -/
def rs (f : Fin 1024 → ℝ) : ℝ := (Real.sqrt (ve f))⁻¹
/-- The normalised token. -/
def xh (f : Fin 1024 → ℝ) (i : Fin 1024) : ℝ := xc f i * rs f
/-- The gradient of the token from the gradient of its normalised form. -/
def lnb (d f : Fin 1024 → ℝ) (i : Fin 1024) : ℝ :=
  rs f * (d i - (∑ k, d k) / 1024 - xh f i * ((∑ k, d k * xh f k) / 1024))

theorem ve_pos (f : Fin 1024 → ℝ) : 0 < ve f := by
  have h : 0 ≤ ∑ k, xc f k * xc f k := Finset.sum_nonneg fun k _ => mul_self_nonneg _
  have := eps5_pos
  unfold ve
  positivity

theorem rsqrt_ve (f : Fin 1024 → ℝ) : Ideal.rsqrt ((ve f : ℝ) : EReal) = ((rs f : ℝ) : EReal) := rsqrt_coe (ve_pos f)

theorem rs_sq (f : Fin 1024 → ℝ) : rs f / ve f = rs f * (rs f * rs f) := by
  have h := ve_pos f
  have h2 : rs f * rs f = (ve f)⁻¹ := by
    unfold rs
    rw [← mul_inv, Real.mul_self_sqrt h.le]
  rw [h2, div_eq_mul_inv]

theorem sum_xc (f : Fin 1024 → ℝ) : ∑ k, xc f k = 0 := by
  unfold xc
  rw [Finset.sum_sub_distrib, Finset.sum_const, Finset.card_univ, Fintype.card_fin, nsmul_eq_mul]
  push_cast
  ring

/-- The chain rule through mean, variance and root, step by step, is the closed form. -/
theorem ln_back (f d : Fin 1024 → ℝ) (i : Fin 1024) :
    d i * rs f + (∑ k, xc f k * d k) * (-(1 / 2) * (rs f / ve f)) / 1024 * (2 * xc f i)
        + ((∑ k, -(d k * rs f)) + ∑ k, -((∑ k, xc f k * d k) * (-(1 / 2) * (rs f / ve f)) / 1024 * (2 * xc f k))) / 1024
      = lnb d f i := by
  have e1 : ∑ k, -(d k * rs f) = -((∑ k, d k) * rs f) := by rw [Finset.sum_neg_distrib, Finset.sum_mul]
  have e2 : ∑ k, -((∑ k, xc f k * d k) * (-(1 / 2) * (rs f / ve f)) / 1024 * (2 * xc f k)) = 0 := by
    rw [Finset.sum_neg_distrib, ← Finset.mul_sum, ← Finset.mul_sum, sum_xc]
    ring
  have e3 : ∑ k, d k * xh f k = (∑ k, xc f k * d k) * rs f := by
    rw [Finset.sum_mul]
    refine Finset.sum_congr rfl fun k _ => ?_
    unfold xh
    ring
  rw [e1, e2, rs_sq]
  unfold lnb
  rw [e3]
  unfold xh
  ring

/-! ## The block for one token -/

/-- The weights: up and down projections, gate, embedding and the vectors. -/
structure Wts where
  U : Fin 1024 → Fin 4096 → ℝ
  D : Fin 4096 → Fin 1024 → ℝ
  G : Fin 1024 → Fin 1024 → ℝ
  P : Fin 256 → Fin 1024 → ℝ
  v : Fin 8 → Fin 1024 → ℝ

variable (w : Wts) (z : Fin 1024 → ℝ) (p : Fin 256 → ℝ) (tg : Fin 1024 → ℝ)

/-- The normalised input of the layer. -/
def h (i : Fin 1024) : ℝ := xh z i * w.v 0 i + w.v 1 i
/-- The rectified up projection. -/
def r (n : Fin 4096) : ℝ := max (∑ k, h w z k * w.U k n) 0
/-- The down projection of its square. -/
def ff (i : Fin 1024) : ℝ := ∑ n, r w z n * r w z n * w.D n i
/-- The gate's logits. -/
def gl (i : Fin 1024) : ℝ := ∑ k, h w z k * w.G k i + w.v 2 i
/-- The gate. -/
def gate (i : Fin 1024) : ℝ := sg (gl w z i)
/-- The embedding's projection. -/
def pw (i : Fin 1024) : ℝ := ∑ k, p k * w.P k i
/-- The input of the second norm. -/
def z2 (i : Fin 1024) : ℝ := al * h w z i + ff w z i + pw w p i * gate w z i
/-- The result less the target. -/
def err (i : Fin 1024) : ℝ := xh (z2 w z p) i * w.v 3 i + w.v 4 i - tg i
/-- The gradient of the result. -/
def dy (i : Fin 1024) : ℝ := err w z p tg i * (1 / 1024)
/-- The gradient of the second norm's input. -/
def dz2 (i : Fin 1024) : ℝ := lnb (fun k => dy w z p tg k * w.v 3 k) (z2 w z p) i
/-- The gradient of the embedding's projection. -/
def dpw (i : Fin 1024) : ℝ := dz2 w z p tg i * gate w z i
/-- The gradient of the gate's logits. -/
def dgl (i : Fin 1024) : ℝ := dz2 w z p tg i * pw w p i * gate w z i * (1 - gate w z i)
/-- The gradient of the up projection. -/
def du (n : Fin 4096) : ℝ := (∑ i, dz2 w z p tg i * w.D n i) * (2 * r w z n)
/-- The gradient of the layer's normalised input. -/
def dh (i : Fin 1024) : ℝ := al * dz2 w z p tg i + ∑ j, dgl w z p tg j * w.G i j + ∑ n, du w z p tg n * w.U i n
/-- The gradient of the layer's input. -/
def dz1 (i : Fin 1024) : ℝ := lnb (fun k => dh w z p tg k * w.v 0 k) z i
/-- What one token adds to the six rows of column sums. -/
def acc (a : ℕ) (i : Fin 1024) : ℝ :=
  match a with
  | 0 => dy w z p tg i * xh (z2 w z p) i
  | 1 => dy w z p tg i
  | 2 => dgl w z p tg i
  | 3 => dh w z p tg i * xh z i
  | 4 => dh w z p tg i
  | 5 => 1 / 2 * err w z p tg i * dy w z p tg i
  | _ => 0

end Cert.Mlp
-- ==== Proof.MlpPay.lean ====
/- The kernel's stored values over the reals, each from the values it is computed from. -/
module

public import proofs.«01_k».proof.Proof.MlpSpec
public import proofs.«01_k».proof.Proof.Gen.Kernel2Ideal.Skeleton

@[expose] public section

noncomputable section

namespace Cert.Mlp

open Idealize.ShloMosaic Cert.Kernel2Ideal Cert.Kernel2Ideal.Gen Cert.Reals

/-- A real matrix as an array. -/
def arr {a b : ℕ} (f : Fin a → Fin b → ℝ) : (⟨2, ![a, b]⟩ : Shape).Idx → EReal := fun i => ((f (i 0) (i 1) : ℝ) : EReal)
/-- A real vector as an array of one row. -/
def row {b : ℕ} (f : Fin b → ℝ) : (⟨2, ![1, b]⟩ : Shape).Idx → EReal := fun i => ((f (i 1) : ℝ) : EReal)
/-- A real matrix as a stack of one array. -/
def ch {a b : ℕ} (f : Fin a → Fin b → ℝ) : (⟨3, ![1, a, b]⟩ : Shape).Idx → EReal := fun i => ((f (i 1) (i 2) : ℝ) : EReal)

theorem arr_apply {a b : ℕ} (f : Fin a → Fin b → ℝ) (t : Fin a) (i : Fin b) : arr f (ix2 t i) = ((f t i : ℝ) : EReal) := rfl
theorem row_apply {b : ℕ} (f : Fin b → ℝ) (t : Fin 1) (i : Fin b) : row f (ix2 t i) = ((f i : ℝ) : EReal) := rfl
theorem ch_apply {a b : ℕ} (f : Fin a → Fin b → ℝ) (s : Fin 1) (t : Fin a) (i : Fin b) : ch f (ix3 s t i) = ((f t i : ℝ) : EReal) := rfl

theorem max_coe (a : ℝ) : max (a : EReal) 0 = ((max a 0 : ℝ) : EReal) := by
  rw [← EReal.coe_zero]
  exact (EReal.coe_strictMono.monotone.map_max).symm

theorem div_1024 (a : ℝ) : Ideal.div (a : EReal) ((1024 : ℝ) : EReal) = ((a / 1024 : ℝ) : EReal) := div_coe (by norm_num)

/-- Column `j` of chunk `c` of the wide axis. -/
def cj (c : Fin 8) (j : Fin 512) : Fin 4096 := ⟨c.val * 512 + j.val, by omega⟩
/-- Column `j` of chunk `c` of the embedding's axis. -/
def cl (c : Fin 8) (j : Fin 128) : Fin 1024 := ⟨c.val * 128 + j.val, by omega⟩

theorem sum_cj (f : Fin 4096 → ℝ) : ∑ n, f n = ∑ c : Fin 8, ∑ j : Fin 512, f (cj c j) := by
  rw [← Fintype.sum_prod_type', ← (finProdFinEquiv (m := 8) (n := 512)).sum_comp]
  refine Finset.sum_congr rfl fun x _ => congrArg f (Fin.ext ?_)
  show x.2.val + 512 * x.1.val = x.1.val * 512 + x.2.val
  omega

variable (w : Wts) (Z : Fin 256 → Fin 1024 → ℝ) (P : Fin 256 → Fin 256 → ℝ) (T : Fin 256 → Fin 1024 → ℝ)

/-- The gradient of the layer's normalised input without the wide projection. -/
def dh0 (t : Fin 256) (i : Fin 1024) : ℝ := al * dz2 w (Z t) (P t) (T t) i + ∑ j, dgl w (Z t) (P t) (T t) j * w.G i j
/-- What one chunk of the wide projection adds to it. -/
def sc (c : Fin 8) (t : Fin 256) (i : Fin 1024) : ℝ := ∑ j, du w (Z t) (P t) (T t) (cj c j) * w.U i (cj c j)
/-- After three chunks. -/
def dh3 (t : Fin 256) (i : Fin 1024) : ℝ := dh0 w Z P T t i + sc w Z P T 0 t i + sc w Z P T 1 t i + sc w Z P T 2 t i
/-- After five chunks. -/
def dh5 (t : Fin 256) (i : Fin 1024) : ℝ := dh3 w Z P T t i + sc w Z P T 3 t i + sc w Z P T 4 t i
/-- After seven chunks. -/
def dh7 (t : Fin 256) (i : Fin 1024) : ℝ := dh5 w Z P T t i + sc w Z P T 5 t i + sc w Z P T 6 t i

theorem dh_eq (t : Fin 256) (i : Fin 1024) : dh7 w Z P T t i + sc w Z P T 7 t i = dh w (Z t) (P t) (T t) i := by
  unfold dh
  rw [sum_cj, Fin.sum_univ_eight]
  unfold dh7 dh5 dh3 dh0 sc
  ring

theorem pay2 : k0_pay2 (F := Ideal) (arr Z) = arr fun t => xc (Z t) := by
  funext x
  idx_vars x
  pointwise [k0_pay2]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay3 : k0_pay3 (F := Ideal) (arr Z) = arr fun t (_ : Fin 1) => rs (Z t) := by
  unfold k0_pay3
  rw [pay2]
  funext x
  idx_vars x
  pointwise
  simp only [arr_apply, ← EReal.coe_mul, coe_sum, ofBits_1024, ofBits_eps5, div_1024, ← EReal.coe_add]
  exact rsqrt_ve (Z x0)

theorem pay4 : k0_pay4 (F := Ideal) (arr Z) = arr fun t => xh (Z t) := by
  unfold k0_pay4; rw [pay2, pay3]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay5 : k0_pay5 (F := Ideal) (row (w.v 0)) (row (w.v 1)) (arr Z) = arr fun t => h w (Z t) := by
  unfold k0_pay5; rw [pay4]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay6 : k0_pay6 (F := Ideal) (row (w.v 0)) (row (w.v 1)) (arr Z) = arr fun t => h w (Z t) := pay5 w Z

theorem pay7 : k0_pay7 (F := Ideal) (arr P) = arr P := rfl

theorem pay8 (c : Fin 8) : k0_pay8 (F := Ideal) (arr fun t => h w (Z t)) (ch fun k j => w.U k (cj c j)) = arr fun t j => r w (Z t) (cj c j) := by
  funext x
  idx_vars x
  pointwise [k0_pay8]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay9 (c : Fin 8) : k0_pay9 (F := Ideal) (arr fun t => h w (Z t)) (ch fun k j => w.U k (cj c j)) = arr fun t j => r w (Z t) (cj c j) := by
  unfold k0_pay9
  rw [pay8]
  funext x
  idx_vars x
  pointwise

theorem pay10 (c : Fin 8) : k0_pay10 (F := Ideal) (arr fun t => h w (Z t)) (ch fun k j => w.U k (cj c j)) = arr fun t j => r w (Z t) (cj c j) * r w (Z t) (cj c j) := by
  unfold k0_pay10; rw [pay8]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]

theorem pay12 (u : S256x1024.Idx → EReal) (v : S1x1024x512.Idx → EReal) : k0_pay12 (F := Ideal) u v = k0_pay8 (F := Ideal) u v := rfl

theorem pay16 (u : S256x1024.Idx → EReal) (v : S1x1024x512.Idx → EReal) : k0_pay16 (F := Ideal) u v = k0_pay8 (F := Ideal) u v := rfl

theorem pay20 (u : S256x1024.Idx → EReal) (v : S1x1024x512.Idx → EReal) : k0_pay20 (F := Ideal) u v = k0_pay8 (F := Ideal) u v := rfl

theorem pay24 (u : S256x1024.Idx → EReal) (v : S1x1024x512.Idx → EReal) : k0_pay24 (F := Ideal) u v = k0_pay8 (F := Ideal) u v := rfl

theorem pay28 (u : S256x1024.Idx → EReal) (v : S1x1024x512.Idx → EReal) : k0_pay28 (F := Ideal) u v = k0_pay8 (F := Ideal) u v := rfl

theorem pay32 (u : S256x1024.Idx → EReal) (v : S1x1024x512.Idx → EReal) : k0_pay32 (F := Ideal) u v = k0_pay8 (F := Ideal) u v := rfl

theorem pay37 (u : S256x1024.Idx → EReal) (v : S1x1024x512.Idx → EReal) : k0_pay37 (F := Ideal) u v = k0_pay8 (F := Ideal) u v := rfl

theorem pay13 (u : S256x1024.Idx → EReal) (v : S1x1024x512.Idx → EReal) : k0_pay13 (F := Ideal) u v = k0_pay9 (F := Ideal) u v := rfl

theorem pay17 (u : S256x1024.Idx → EReal) (v : S1x1024x512.Idx → EReal) : k0_pay17 (F := Ideal) u v = k0_pay9 (F := Ideal) u v := rfl

theorem pay25 (u : S256x1024.Idx → EReal) (v : S1x1024x512.Idx → EReal) : k0_pay25 (F := Ideal) u v = k0_pay9 (F := Ideal) u v := rfl

theorem pay29 (u : S256x1024.Idx → EReal) (v : S1x1024x512.Idx → EReal) : k0_pay29 (F := Ideal) u v = k0_pay9 (F := Ideal) u v := rfl

theorem pay33 (u : S256x1024.Idx → EReal) (v : S1x1024x512.Idx → EReal) : k0_pay33 (F := Ideal) u v = k0_pay9 (F := Ideal) u v := rfl

theorem pay38 (u : S256x1024.Idx → EReal) (v : S1x1024x512.Idx → EReal) : k0_pay38 (F := Ideal) u v = k0_pay9 (F := Ideal) u v := rfl

theorem pay14 (u : S256x1024.Idx → EReal) (v : S1x1024x512.Idx → EReal) : k0_pay14 (F := Ideal) u v = k0_pay10 (F := Ideal) u v := rfl

theorem pay18 (u : S256x1024.Idx → EReal) (v : S1x1024x512.Idx → EReal) : k0_pay18 (F := Ideal) u v = k0_pay10 (F := Ideal) u v := rfl

theorem pay26 (u : S256x1024.Idx → EReal) (v : S1x1024x512.Idx → EReal) : k0_pay26 (F := Ideal) u v = k0_pay10 (F := Ideal) u v := rfl

theorem pay30 (u : S256x1024.Idx → EReal) (v : S1x1024x512.Idx → EReal) : k0_pay30 (F := Ideal) u v = k0_pay10 (F := Ideal) u v := rfl

theorem pay34 (u : S256x1024.Idx → EReal) (v : S1x1024x512.Idx → EReal) : k0_pay34 (F := Ideal) u v = k0_pay10 (F := Ideal) u v := rfl

theorem pay39 (u : S256x1024.Idx → EReal) (v : S1x1024x512.Idx → EReal) : k0_pay39 (F := Ideal) u v = k0_pay10 (F := Ideal) u v := rfl

theorem pay21 (v : S256x512.Idx → EReal) : k0_pay21 (F := Ideal) v = v := by
  funext x
  idx_vars x
  pointwise [k0_pay21]

theorem pay22 (c : Fin 8) : k0_pay22 (F := Ideal) (arr fun t j => r w (Z t) (cj c j)) = arr fun t j => r w (Z t) (cj c j) * r w (Z t) (cj c j) := by
  funext x
  idx_vars x
  pointwise [k0_pay22]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]

theorem pay11 (c : Fin 8) : k0_pay11 (F := Ideal) (arr P) (ch fun k j => w.P k (cl c j)) = arr fun t j => pw w (P t) (cl c j) := by
  funext x
  idx_vars x
  pointwise [k0_pay11]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay15 (u : S256x256.Idx → EReal) (v : S1x256x128.Idx → EReal) : k0_pay15 (F := Ideal) u v = k0_pay11 (F := Ideal) u v := rfl

theorem pay19 (u : S256x256.Idx → EReal) (v : S1x256x128.Idx → EReal) : k0_pay19 (F := Ideal) u v = k0_pay11 (F := Ideal) u v := rfl

theorem pay23 (u : S256x256.Idx → EReal) (v : S1x256x128.Idx → EReal) : k0_pay23 (F := Ideal) u v = k0_pay11 (F := Ideal) u v := rfl

theorem pay27 (u : S256x256.Idx → EReal) (v : S1x256x128.Idx → EReal) : k0_pay27 (F := Ideal) u v = k0_pay11 (F := Ideal) u v := rfl

theorem pay31 (u : S256x256.Idx → EReal) (v : S1x256x128.Idx → EReal) : k0_pay31 (F := Ideal) u v = k0_pay11 (F := Ideal) u v := rfl

theorem pay40 (u : S256x256.Idx → EReal) (v : S1x256x128.Idx → EReal) : k0_pay40 (F := Ideal) u v = k0_pay11 (F := Ideal) u v := rfl

theorem pay36 (u : S256x256.Idx → EReal) (v : S1x256x128.Idx → EReal) : k0_pay36 (F := Ideal) u (k0_pay35 (F := Ideal) v) = k0_pay11 (F := Ideal) u v := rfl

theorem pay41 : k0_pay41 (F := Ideal) (arr fun t n => r w (Z t) n * r w (Z t) n) (arr w.D) = arr fun t => ff w (Z t) := by
  funext x
  idx_vars x
  pointwise [k0_pay41]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay42 : k0_pay42 (F := Ideal) (row (w.v 2)) (arr fun t => h w (Z t)) (arr w.G) = arr fun t => gl w (Z t) := by
  funext x
  idx_vars x
  pointwise [k0_pay42]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay43 : k0_pay43 (F := Ideal) (arr fun t => gl w (Z t)) (FloatOps.ofBits (F := Ideal) .f32 0#32) = arr fun t => gate w (Z t) := by
  funext x
  idx_vars x
  pointwise [k0_pay43]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024]
  rfl

theorem pay44 : k0_pay44 (F := Ideal) (arr fun t => h w (Z t)) (arr fun t => ff w (Z t)) (arr fun t => gl w (Z t)) (FloatOps.ofBits (F := Ideal) .f32 0#32) (arr fun t => pw w (P t)) = arr fun t => xc (z2 w (Z t) (P t)) := by
  unfold k0_pay44; rw [pay43]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay45 : k0_pay45 (F := Ideal) (arr fun t => h w (Z t)) (arr fun t => ff w (Z t)) (arr fun t => gl w (Z t)) (FloatOps.ofBits (F := Ideal) .f32 0#32) (arr fun t => pw w (P t)) = arr fun t (_ : Fin 1) => rs (z2 w (Z t) (P t)) := by
  unfold k0_pay45
  rw [pay44]
  funext x
  idx_vars x
  pointwise
  simp only [arr_apply, ← EReal.coe_mul, coe_sum, ofBits_1024, ofBits_eps5, div_1024, ← EReal.coe_add]
  exact rsqrt_ve (z2 w (Z x0) (P x0))

theorem pay46 : k0_pay46 (F := Ideal) (arr fun t => h w (Z t)) (arr fun t => ff w (Z t)) (arr fun t => gl w (Z t)) (FloatOps.ofBits (F := Ideal) .f32 0#32) (arr fun t => pw w (P t)) = arr fun t => xh (z2 w (Z t) (P t)) := by
  unfold k0_pay46; rw [pay44, pay45]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay47 : k0_pay47 (F := Ideal) (row (w.v 3)) (row (w.v 4)) (arr fun t => h w (Z t)) (arr fun t => ff w (Z t)) (arr fun t => gl w (Z t)) (FloatOps.ofBits (F := Ideal) .f32 0#32) (arr fun t => pw w (P t)) (arr T) = arr fun t => err w (Z t) (P t) (T t) := by
  unfold k0_pay47; rw [pay46]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay48 : k0_pay48 (F := Ideal) (row (w.v 3)) (row (w.v 4)) (arr fun t => h w (Z t)) (arr fun t => ff w (Z t)) (arr fun t => gl w (Z t)) (FloatOps.ofBits (F := Ideal) .f32 0#32) (arr fun t => pw w (P t)) (arr T) = arr fun t => dy w (Z t) (P t) (T t) := by
  unfold k0_pay48; rw [pay47]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay49 : k0_pay49 (F := Ideal) (row (w.v 3)) (row (w.v 4)) (arr fun t => h w (Z t)) (arr fun t => ff w (Z t)) (arr fun t => gl w (Z t)) (FloatOps.ofBits (F := Ideal) .f32 0#32) (arr fun t => pw w (P t)) (arr T) = arr fun t k => dy w (Z t) (P t) (T t) k * w.v 3 k := by
  unfold k0_pay49; rw [pay48]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]

theorem pay50 : k0_pay50 (F := Ideal) (row (w.v 3)) (row (w.v 4)) (arr fun t => h w (Z t)) (arr fun t => ff w (Z t)) (arr fun t => gl w (Z t)) (FloatOps.ofBits (F := Ideal) .f32 0#32) (arr fun t => pw w (P t)) (arr T) = arr fun t i => dy w (Z t) (P t) (T t) i * w.v 3 i - (∑ k, dy w (Z t) (P t) (T t) k * w.v 3 k) / 1024 := by
  unfold k0_pay50; rw [pay49]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]

theorem pay51 : k0_pay51 (F := Ideal) (arr fun t (_ : Fin 1) => rs (z2 w (Z t) (P t))) (arr fun t => xh (z2 w (Z t) (P t))) (arr fun t k => dy w (Z t) (P t) (T t) k * w.v 3 k) (arr fun t i => dy w (Z t) (P t) (T t) i * w.v 3 i - (∑ k, dy w (Z t) (P t) (T t) k * w.v 3 k) / 1024) = arr fun t => dz2 w (Z t) (P t) (T t) := by
  funext x
  idx_vars x
  pointwise [k0_pay51]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay52 : k0_pay52 (F := Ideal) (arr fun t (_ : Fin 1) => rs (z2 w (Z t) (P t))) (arr fun t => xh (z2 w (Z t) (P t))) (arr fun t k => dy w (Z t) (P t) (T t) k * w.v 3 k) (arr fun t i => dy w (Z t) (P t) (T t) i * w.v 3 i - (∑ k, dy w (Z t) (P t) (T t) k * w.v 3 k) / 1024) = arr fun t => dz2 w (Z t) (P t) (T t) := pay51 w Z P T

theorem pay53 : k0_pay53 (F := Ideal) (arr fun t => gate w (Z t)) (arr fun t (_ : Fin 1) => rs (z2 w (Z t) (P t))) (arr fun t => xh (z2 w (Z t) (P t))) (arr fun t k => dy w (Z t) (P t) (T t) k * w.v 3 k) (arr fun t i => dy w (Z t) (P t) (T t) i * w.v 3 i - (∑ k, dy w (Z t) (P t) (T t) k * w.v 3 k) / 1024) = arr fun t => dpw w (Z t) (P t) (T t) := by
  unfold k0_pay53; rw [pay51]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay54 : k0_pay54 (F := Ideal) (arr fun t => gate w (Z t)) (arr fun t => pw w (P t)) (arr fun t (_ : Fin 1) => rs (z2 w (Z t) (P t))) (arr fun t => xh (z2 w (Z t) (P t))) (arr fun t k => dy w (Z t) (P t) (T t) k * w.v 3 k) (arr fun t i => dy w (Z t) (P t) (T t) i * w.v 3 i - (∑ k, dy w (Z t) (P t) (T t) k * w.v 3 k) / 1024) = arr fun t => dgl w (Z t) (P t) (T t) := by
  unfold k0_pay54; rw [pay51]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay55 : k0_pay55 (F := Ideal) (arr fun t => gate w (Z t)) (arr fun t => pw w (P t)) (arr fun t (_ : Fin 1) => rs (z2 w (Z t) (P t))) (arr fun t => xh (z2 w (Z t) (P t))) (arr fun t k => dy w (Z t) (P t) (T t) k * w.v 3 k) (arr fun t i => dy w (Z t) (P t) (T t) i * w.v 3 i - (∑ k, dy w (Z t) (P t) (T t) k * w.v 3 k) / 1024) = arr fun t => dgl w (Z t) (P t) (T t) := pay54 w Z P T

theorem pay56 : k0_pay56 (F := Ideal) (arr fun t => gate w (Z t)) (arr fun t => pw w (P t)) (arr fun t (_ : Fin 1) => rs (z2 w (Z t) (P t))) (arr fun t => xh (z2 w (Z t) (P t))) (arr fun t k => dy w (Z t) (P t) (T t) k * w.v 3 k) (arr fun t i => dy w (Z t) (P t) (T t) i * w.v 3 i - (∑ k, dy w (Z t) (P t) (T t) k * w.v 3 k) / 1024) (arr w.G) = arr (dh0 w Z P T) := by
  unfold k0_pay56; rw [pay51, pay55]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay58 (c : Fin 8) : k0_pay58 (F := Ideal) (arr fun t => dz2 w (Z t) (P t) (T t)) (arr fun j i => w.D (cj c j) i) (arr fun t j => r w (Z t) (cj c j)) = arr fun t j => du w (Z t) (P t) (T t) (cj c j) := by
  funext x
  idx_vars x
  pointwise [k0_pay58]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay57 (c : Fin 8) : k0_pay57 (F := Ideal) (arr fun t (_ : Fin 1) => rs (z2 w (Z t) (P t))) (arr fun t => xh (z2 w (Z t) (P t))) (arr fun t k => dy w (Z t) (P t) (T t) k * w.v 3 k) (arr fun t i => dy w (Z t) (P t) (T t) i * w.v 3 i - (∑ k, dy w (Z t) (P t) (T t) k * w.v 3 k) / 1024) (arr fun j i => w.D (cj c j) i) (arr fun t j => r w (Z t) (cj c j)) = arr fun t j => du w (Z t) (P t) (T t) (cj c j) := by
  rw [← pay58, ← pay52]
  rfl

theorem pay59 (u : S256x1024.Idx → EReal) (v : S512x1024.Idx → EReal) (x : S256x512.Idx → EReal) : k0_pay59 (F := Ideal) u v x = k0_pay58 (F := Ideal) u v x := rfl

theorem pay61 (u : S256x1024.Idx → EReal) (v : S512x1024.Idx → EReal) (x : S256x512.Idx → EReal) : k0_pay61 (F := Ideal) u v x = k0_pay58 (F := Ideal) u v x := rfl

theorem pay62 (u : S256x1024.Idx → EReal) (v : S512x1024.Idx → EReal) (x : S256x512.Idx → EReal) : k0_pay62 (F := Ideal) u v x = k0_pay58 (F := Ideal) u v x := rfl

theorem pay66 (u : S256x1024.Idx → EReal) (v : S512x1024.Idx → EReal) (x : S256x512.Idx → EReal) : k0_pay66 (F := Ideal) u v x = k0_pay58 (F := Ideal) u v x := rfl

theorem pay68 (u : S256x1024.Idx → EReal) (v : S512x1024.Idx → EReal) (x : S256x512.Idx → EReal) : k0_pay68 (F := Ideal) u v x = k0_pay58 (F := Ideal) u v x := rfl

theorem pay64 (c : Fin 8) : k0_pay64 (F := Ideal) (arr fun t => dz2 w (Z t) (P t) (T t)) (arr fun j i => w.D (cj c j) i) (arr fun t j => r w (Z t) (cj c j)) = arr fun t j => du w (Z t) (P t) (T t) (cj c j) := pay58 w Z P T c

theorem pay65 (v : S256x512.Idx → EReal) : k0_pay65 (F := Ideal) v = v := rfl

theorem pay60 : k0_pay60 (F := Ideal) (arr fun t => dz2 w (Z t) (P t) (T t)) (arr (dh0 w Z P T)) (arr fun t j => du w (Z t) (P t) (T t) (cj 0 j)) (ch fun k j => w.U k (cj 0 j)) (arr fun j i => w.D (cj 1 j) i) (arr fun t j => r w (Z t) (cj 1 j)) (ch fun k j => w.U k (cj 1 j)) (arr fun j i => w.D (cj 2 j) i) (arr fun t j => r w (Z t) (cj 2 j)) (ch fun k j => w.U k (cj 2 j)) = arr (dh3 w Z P T) := by
  unfold k0_pay60; rw [pay59, pay58, pay58]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay63 : k0_pay63 (F := Ideal) (arr fun t => dz2 w (Z t) (P t) (T t)) (arr (dh3 w Z P T)) (arr fun j i => w.D (cj 3 j) i) (arr fun t j => r w (Z t) (cj 3 j)) (ch fun k j => w.U k (cj 3 j)) (arr fun j i => w.D (cj 4 j) i) (arr fun t j => r w (Z t) (cj 4 j)) (ch fun k j => w.U k (cj 4 j)) = arr (dh5 w Z P T) := by
  unfold k0_pay63; rw [pay61, pay62, pay58, pay58]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay67 : k0_pay67 (F := Ideal) (arr fun t => dz2 w (Z t) (P t) (T t)) (arr (dh5 w Z P T)) (arr fun t j => du w (Z t) (P t) (T t) (cj 5 j)) (ch fun k j => w.U k (cj 5 j)) (arr fun j i => w.D (cj 6 j) i) (arr fun t j => r w (Z t) (cj 6 j)) (ch fun k j => w.U k (cj 6 j)) = arr (dh7 w Z P T) := by
  unfold k0_pay67; rw [pay66, pay58, pay65]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay70 : k0_pay70 (F := Ideal) (arr (dh7 w Z P T)) (arr fun t j => du w (Z t) (P t) (T t) (cj 7 j)) (k0_pay69 (F := Ideal) (ch fun k j => w.U k (cj 7 j))) = arr fun t => dh w (Z t) (P t) (T t) := by
  unfold k0_pay70
  funext x
  idx_vars x
  pointwise [k0_pay69]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  exact congrArg _ (dh_eq w Z P T x0 x1)

theorem pay71 : k0_pay71 (F := Ideal) (row (w.v 0)) (arr fun t (_ : Fin 1) => rs (Z t)) (arr fun t => xh (Z t)) (arr (dh7 w Z P T)) (arr fun t j => du w (Z t) (P t) (T t) (cj 7 j)) (k0_pay69 (F := Ideal) (ch fun k j => w.U k (cj 7 j))) = arr fun t => dz1 w (Z t) (P t) (T t) := by
  unfold k0_pay71; rw [pay70]
  funext x
  idx_vars x
  pointwise
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay72 : k0_pay72 (F := Ideal) (row (w.v 0)) (arr fun t (_ : Fin 1) => rs (Z t)) (arr fun t => xh (Z t)) (arr (dh7 w Z P T)) (arr fun t j => du w (Z t) (P t) (T t) (cj 7 j)) (k0_pay69 (F := Ideal) (ch fun k j => w.U k (cj 7 j))) = arr fun t => dz1 w (Z t) (P t) (T t) := pay71 w Z P T

theorem pay73 (a : Fin 1024 → ℝ) : k0_pay73 (F := Ideal) (arr fun t => xh (z2 w (Z t) (P t))) (arr fun t => dy w (Z t) (P t) (T t)) (row a) = row fun i => a i + ∑ t, acc w (Z t) (P t) (T t) 0 i := by
  funext x
  idx_vars x
  pointwise [k0_pay73]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay74 (a : Fin 1024 → ℝ) : k0_pay74 (F := Ideal) (arr fun t => dy w (Z t) (P t) (T t)) (row a) = row fun i => a i + ∑ t, acc w (Z t) (P t) (T t) 1 i := by
  funext x
  idx_vars x
  pointwise [k0_pay74]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay75 (a : Fin 1024 → ℝ) : k0_pay75 (F := Ideal) (arr fun t => dgl w (Z t) (P t) (T t)) (row a) = row fun i => a i + ∑ t, acc w (Z t) (P t) (T t) 2 i := by
  funext x
  idx_vars x
  pointwise [k0_pay75]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay76 (a : Fin 1024 → ℝ) : k0_pay76 (F := Ideal) (arr fun t => xh (Z t)) (arr fun t => dh w (Z t) (P t) (T t)) (row a) = row fun i => a i + ∑ t, acc w (Z t) (P t) (T t) 3 i := by
  funext x
  idx_vars x
  pointwise [k0_pay76]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay77 (a : Fin 1024 → ℝ) : k0_pay77 (F := Ideal) (arr fun t => dh w (Z t) (P t) (T t)) (row a) = row fun i => a i + ∑ t, acc w (Z t) (P t) (T t) 4 i := by
  funext x
  idx_vars x
  pointwise [k0_pay77]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

theorem pay78 (a : Fin 1024 → ℝ) : k0_pay78 (F := Ideal) (arr fun t => err w (Z t) (P t) (T t)) (arr fun t => dy w (Z t) (P t) (T t)) (row a) = row fun i => a i + ∑ t, acc w (Z t) (P t) (T t) 5 i := by
  funext x
  idx_vars x
  pointwise [k0_pay78]
  simp only [arr_apply, row_apply, ch_apply, ← EReal.coe_mul, coe_sum, ← EReal.coe_add, ← EReal.coe_sub, max_coe, sg_sub, ofBits_1024, ofBits_eps5, ofBits_al, ofBits_inv, ofBits_two, ofBits_half, div_1024, ← EReal.coe_one]
  rfl

end Cert.Mlp
-- ==== Proof.MlpStack.lean ====
/- The two weights the layer keeps as stacks of chunks. -/
module

public import proofs.«01_k».proof.Proof.MlpPay

@[expose] public section

noncomputable section

namespace Cert.Mlp

open Idealize.ShloMosaic

/-- The up projection as the stack of its chunks. -/
def stU (w : Wts) : (⟨3, ![8, 1024, 512]⟩ : Shape).Idx → EReal := fun i => ((w.U (i 1) (cj (i 0) (i 2)) : ℝ) : EReal)
/-- The embedding's projection as the stack of its chunks. -/
def stP (w : Wts) : (⟨3, ![8, 256, 128]⟩ : Shape).Idx → EReal := fun i => ((w.P (i 1) (cl (i 0) (i 2)) : ℝ) : EReal)

end Cert.Mlp
-- ==== Proof.MlpBlock.lean ====
/- What the kernel's body leaves in its ten blocks at a grid point, over the reals. -/
module

public import proofs.«01_k».proof.Proof.MlpPay
public import proofs.«01_k».proof.Proof.MlpStack
public import proofs.«01_k».proof.Proof.Gen.Kernel2Ideal.Value
public import Idealize.ShloMosaic.Lib.Pipeline.ValueKit
public import Idealize.ShloMosaic.Lib.Pipeline.ReadBack
public import Idealize.ShloMosaic.Lib.WritesUnit

@[expose] public section

noncomputable section

namespace Cert.Mlp

open Idealize.ShloMosaic Cert.Kernel2Ideal Cert.Kernel2Ideal.Gen Cert.Reals

/-- Eight stores side by side. -/
abbrev wide (f : Fin 256 → Fin 4096 → ℝ) : List (View.Piece (Elt Ideal) S256x4096 .bf16) :=
  [⟨Rect.unit ![0, 3584] ![256, 512] inb_S256x4096_S256x512_0_3584, (arr fun t j => f t (cj 7 j))⟩,
    ⟨Rect.unit ![0, 3072] ![256, 512] inb_S256x4096_S256x512_0_3072, (arr fun t j => f t (cj 6 j))⟩,
    ⟨Rect.unit ![0, 2560] ![256, 512] inb_S256x4096_S256x512_0_2560, (arr fun t j => f t (cj 5 j))⟩,
    ⟨Rect.unit ![0, 2048] ![256, 512] inb_S256x4096_S256x512_0_2048, (arr fun t j => f t (cj 4 j))⟩,
    ⟨Rect.unit ![0, 1536] ![256, 512] inb_S256x4096_S256x512_0_1536, (arr fun t j => f t (cj 3 j))⟩,
    ⟨Rect.unit ![0, 1024] ![256, 512] inb_S256x4096_S256x512_0_1024, (arr fun t j => f t (cj 2 j))⟩,
    ⟨Rect.unit ![0, 512] ![256, 512] inb_S256x4096_S256x512_0_512, (arr fun t j => f t (cj 1 j))⟩,
    ⟨Rect.unit ![0, 0] ![256, 512] inb_S256x4096_S256x512_0_0, (arr fun t j => f t (cj 0 j))⟩]
/-- Eight stores side by side. -/
abbrev lanes (f : Fin 256 → Fin 1024 → ℝ) : List (View.Piece (Elt Ideal) S256x1024 .f32) :=
  [⟨Rect.unit ![0, 896] ![256, 128] inb_S256x1024_S256x128_0_896, (arr fun t j => f t (cl 7 j))⟩,
    ⟨Rect.unit ![0, 768] ![256, 128] inb_S256x1024_S256x128_0_768, (arr fun t j => f t (cl 6 j))⟩,
    ⟨Rect.unit ![0, 640] ![256, 128] inb_S256x1024_S256x128_0_640, (arr fun t j => f t (cl 5 j))⟩,
    ⟨Rect.unit ![0, 512] ![256, 128] inb_S256x1024_S256x128_0_512, (arr fun t j => f t (cl 4 j))⟩,
    ⟨Rect.unit ![0, 384] ![256, 128] inb_S256x1024_S256x128_0_384, (arr fun t j => f t (cl 3 j))⟩,
    ⟨Rect.unit ![0, 256] ![256, 128] inb_S256x1024_S256x128_0_256, (arr fun t j => f t (cl 2 j))⟩,
    ⟨Rect.unit ![0, 128] ![256, 128] inb_S256x1024_S256x128_0_128, (arr fun t j => f t (cl 1 j))⟩,
    ⟨Rect.unit ![0, 0] ![256, 128] inb_S256x1024_S256x128_0_0, (arr fun t j => f t (cl 0 j))⟩]

theorem canon_wide (f : Fin 256 → Fin 4096 → ℝ) : View.canon (wide f) = arr f := by
  funext y
  canon_tiles x h
  all_goals
    show ((f _ _ : ℝ) : EReal) = ((f _ _ : ℝ) : EReal)
    congr 2
    · apply Fin.ext
      show ((x 0 : ℕ)) = (y 0 : ℕ)
      omega
    · apply Fin.ext
      show _ * 512 + (x 1 : ℕ) = (y 1 : ℕ)
      simp
      omega

theorem canon_lanes (f : Fin 256 → Fin 1024 → ℝ) : View.canon (lanes f) = arr f := by
  funext y
  canon_tiles x h
  all_goals
    show ((f _ _ : ℝ) : EReal) = ((f _ _ : ℝ) : EReal)
    congr 2
    · apply Fin.ext
      show ((x 0 : ℕ)) = (y 0 : ℕ)
      omega
    · apply Fin.ext
      show _ * 128 + (x 1 : ℕ) = (y 1 : ℕ)
      simp
      omega

theorem read_wide (v : View sig .tc .vmem S256x4096 .bf16) (f : Fin 256 → Fin 4096 → ℝ) :
    v.readCov (wide f) (Rect.unit ![0, 0] ![256, 4096] inb_S256x4096_S256x4096_0_0).toLoadRect = arr f := by
  rw [View.readCov_eq_canon', canon_wide]
  exact View.ld_unit_lit (Val := Elt Ideal) (S := S256x4096) (e := .bf16) _ (arr f) (by decide)

theorem read_lanes (v : View sig .tc .vmem S256x1024 .f32) (f : Fin 256 → Fin 1024 → ℝ) :
    v.readCov (lanes f) (Rect.unit ![0, 0] ![256, 1024] inb_S256x1024_S256x1024_0_0).toLoadRect = arr f := by
  rw [View.readCov_eq_canon', canon_lanes]
  exact View.ld_unit_lit (Val := Elt Ideal) (S := S256x1024) (e := .f32) _ (arr f) (by decide)

variable (w : Wts)

theorem ldv0 (V : Fin 8 → Fin 1024 → ℝ) : View.ld (Val := Elt Ideal) (e' := .f32) (arr V) (Rect.unit ![0, 0] ![1, 1024] inb_S8x1024_S1x1024_0_0) = row (V 0) := by
  rw [View.ld_unit]
  funext x
  idx_vars x
  show ((V _ _ : ℝ) : EReal) = ((V _ _ : ℝ) : EReal)
  congr 2 <;> (apply Fin.ext; simp [extractStridedSlice, ix2]) <;> omega

theorem ldv1 (V : Fin 8 → Fin 1024 → ℝ) : View.ld (Val := Elt Ideal) (e' := .f32) (arr V) (Rect.unit ![1, 0] ![1, 1024] inb_S8x1024_S1x1024_1_0) = row (V 1) := by
  rw [View.ld_unit]
  funext x
  idx_vars x
  show ((V _ _ : ℝ) : EReal) = ((V _ _ : ℝ) : EReal)
  congr 2 <;> (apply Fin.ext; simp [extractStridedSlice, ix2]) <;> omega

theorem ldv2 (V : Fin 8 → Fin 1024 → ℝ) : View.ld (Val := Elt Ideal) (e' := .f32) (arr V) (Rect.unit ![2, 0] ![1, 1024] inb_S8x1024_S1x1024_2_0) = row (V 2) := by
  rw [View.ld_unit]
  funext x
  idx_vars x
  show ((V _ _ : ℝ) : EReal) = ((V _ _ : ℝ) : EReal)
  congr 2 <;> (apply Fin.ext; simp [extractStridedSlice, ix2]) <;> omega

theorem ldv3 (V : Fin 8 → Fin 1024 → ℝ) : View.ld (Val := Elt Ideal) (e' := .f32) (arr V) (Rect.unit ![3, 0] ![1, 1024] inb_S8x1024_S1x1024_3_0) = row (V 3) := by
  rw [View.ld_unit]
  funext x
  idx_vars x
  show ((V _ _ : ℝ) : EReal) = ((V _ _ : ℝ) : EReal)
  congr 2 <;> (apply Fin.ext; simp [extractStridedSlice, ix2]) <;> omega

theorem ldv4 (V : Fin 8 → Fin 1024 → ℝ) : View.ld (Val := Elt Ideal) (e' := .f32) (arr V) (Rect.unit ![4, 0] ![1, 1024] inb_S8x1024_S1x1024_4_0) = row (V 4) := by
  rw [View.ld_unit]
  funext x
  idx_vars x
  show ((V _ _ : ℝ) : EReal) = ((V _ _ : ℝ) : EReal)
  congr 2 <;> (apply Fin.ext; simp [extractStridedSlice, ix2]) <;> omega

theorem ldv5 (V : Fin 8 → Fin 1024 → ℝ) : View.ld (Val := Elt Ideal) (e' := .f32) (arr V) (Rect.unit ![5, 0] ![1, 1024] inb_S8x1024_S1x1024_5_0) = row (V 5) := by
  rw [View.ld_unit]
  funext x
  idx_vars x
  show ((V _ _ : ℝ) : EReal) = ((V _ _ : ℝ) : EReal)
  congr 2 <;> (apply Fin.ext; simp [extractStridedSlice, ix2]) <;> omega

theorem ldU0 : View.ld (Val := Elt Ideal) (e' := .bf16) (stU w) (Rect.unit ![0, 0, 0] ![1, 1024, 512] inb_S8x1024x512_S1x1024x512_0_0_0) = ch fun k j => w.U k (cj 0 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP0 : View.ld (Val := Elt Ideal) (e' := .bf16) (stP w) (Rect.unit ![0, 0, 0] ![1, 256, 128] inb_S8x256x128_S1x256x128_0_0_0) = ch fun k j => w.P k (cl 0 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD0 : View.ld (Val := Elt Ideal) (e' := .bf16) (arr w.D) (Rect.unit ![0, 0] ![512, 1024] inb_S4096x1024_S512x1024_0_0) = arr fun j i => w.D (cj 0 j) i := by
  rw [View.ld_unit]
  funext x
  idx_vars x
  show ((w.D _ _ : ℝ) : EReal) = ((w.D _ _ : ℝ) : EReal)
  congr 2 <;> (apply Fin.ext; simp [ix2, cj])

theorem ldU1 : View.ld (Val := Elt Ideal) (e' := .bf16) (stU w) (Rect.unit ![1, 0, 0] ![1, 1024, 512] inb_S8x1024x512_S1x1024x512_1_0_0) = ch fun k j => w.U k (cj 1 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP1 : View.ld (Val := Elt Ideal) (e' := .bf16) (stP w) (Rect.unit ![1, 0, 0] ![1, 256, 128] inb_S8x256x128_S1x256x128_1_0_0) = ch fun k j => w.P k (cl 1 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD1 : View.ld (Val := Elt Ideal) (e' := .bf16) (arr w.D) (Rect.unit ![512, 0] ![512, 1024] inb_S4096x1024_S512x1024_512_0) = arr fun j i => w.D (cj 1 j) i := by
  rw [View.ld_unit]
  funext x
  idx_vars x
  show ((w.D _ _ : ℝ) : EReal) = ((w.D _ _ : ℝ) : EReal)
  congr 2 <;> (apply Fin.ext; simp [ix2, cj])

theorem ldU2 : View.ld (Val := Elt Ideal) (e' := .bf16) (stU w) (Rect.unit ![2, 0, 0] ![1, 1024, 512] inb_S8x1024x512_S1x1024x512_2_0_0) = ch fun k j => w.U k (cj 2 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP2 : View.ld (Val := Elt Ideal) (e' := .bf16) (stP w) (Rect.unit ![2, 0, 0] ![1, 256, 128] inb_S8x256x128_S1x256x128_2_0_0) = ch fun k j => w.P k (cl 2 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD2 : View.ld (Val := Elt Ideal) (e' := .bf16) (arr w.D) (Rect.unit ![1024, 0] ![512, 1024] inb_S4096x1024_S512x1024_1024_0) = arr fun j i => w.D (cj 2 j) i := by
  rw [View.ld_unit]
  funext x
  idx_vars x
  show ((w.D _ _ : ℝ) : EReal) = ((w.D _ _ : ℝ) : EReal)
  congr 2 <;> (apply Fin.ext; simp [ix2, cj])

theorem ldU3 : View.ld (Val := Elt Ideal) (e' := .bf16) (stU w) (Rect.unit ![3, 0, 0] ![1, 1024, 512] inb_S8x1024x512_S1x1024x512_3_0_0) = ch fun k j => w.U k (cj 3 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP3 : View.ld (Val := Elt Ideal) (e' := .bf16) (stP w) (Rect.unit ![3, 0, 0] ![1, 256, 128] inb_S8x256x128_S1x256x128_3_0_0) = ch fun k j => w.P k (cl 3 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD3 : View.ld (Val := Elt Ideal) (e' := .bf16) (arr w.D) (Rect.unit ![1536, 0] ![512, 1024] inb_S4096x1024_S512x1024_1536_0) = arr fun j i => w.D (cj 3 j) i := by
  rw [View.ld_unit]
  funext x
  idx_vars x
  show ((w.D _ _ : ℝ) : EReal) = ((w.D _ _ : ℝ) : EReal)
  congr 2 <;> (apply Fin.ext; simp [ix2, cj])

theorem ldU4 : View.ld (Val := Elt Ideal) (e' := .bf16) (stU w) (Rect.unit ![4, 0, 0] ![1, 1024, 512] inb_S8x1024x512_S1x1024x512_4_0_0) = ch fun k j => w.U k (cj 4 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP4 : View.ld (Val := Elt Ideal) (e' := .bf16) (stP w) (Rect.unit ![4, 0, 0] ![1, 256, 128] inb_S8x256x128_S1x256x128_4_0_0) = ch fun k j => w.P k (cl 4 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD4 : View.ld (Val := Elt Ideal) (e' := .bf16) (arr w.D) (Rect.unit ![2048, 0] ![512, 1024] inb_S4096x1024_S512x1024_2048_0) = arr fun j i => w.D (cj 4 j) i := by
  rw [View.ld_unit]
  funext x
  idx_vars x
  show ((w.D _ _ : ℝ) : EReal) = ((w.D _ _ : ℝ) : EReal)
  congr 2 <;> (apply Fin.ext; simp [ix2, cj])

theorem ldU5 : View.ld (Val := Elt Ideal) (e' := .bf16) (stU w) (Rect.unit ![5, 0, 0] ![1, 1024, 512] inb_S8x1024x512_S1x1024x512_5_0_0) = ch fun k j => w.U k (cj 5 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP5 : View.ld (Val := Elt Ideal) (e' := .bf16) (stP w) (Rect.unit ![5, 0, 0] ![1, 256, 128] inb_S8x256x128_S1x256x128_5_0_0) = ch fun k j => w.P k (cl 5 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD5 : View.ld (Val := Elt Ideal) (e' := .bf16) (arr w.D) (Rect.unit ![2560, 0] ![512, 1024] inb_S4096x1024_S512x1024_2560_0) = arr fun j i => w.D (cj 5 j) i := by
  rw [View.ld_unit]
  funext x
  idx_vars x
  show ((w.D _ _ : ℝ) : EReal) = ((w.D _ _ : ℝ) : EReal)
  congr 2 <;> (apply Fin.ext; simp [ix2, cj])

theorem ldU6 : View.ld (Val := Elt Ideal) (e' := .bf16) (stU w) (Rect.unit ![6, 0, 0] ![1, 1024, 512] inb_S8x1024x512_S1x1024x512_6_0_0) = ch fun k j => w.U k (cj 6 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP6 : View.ld (Val := Elt Ideal) (e' := .bf16) (stP w) (Rect.unit ![6, 0, 0] ![1, 256, 128] inb_S8x256x128_S1x256x128_6_0_0) = ch fun k j => w.P k (cl 6 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD6 : View.ld (Val := Elt Ideal) (e' := .bf16) (arr w.D) (Rect.unit ![3072, 0] ![512, 1024] inb_S4096x1024_S512x1024_3072_0) = arr fun j i => w.D (cj 6 j) i := by
  rw [View.ld_unit]
  funext x
  idx_vars x
  show ((w.D _ _ : ℝ) : EReal) = ((w.D _ _ : ℝ) : EReal)
  congr 2 <;> (apply Fin.ext; simp [ix2, cj])

theorem ldU7 : View.ld (Val := Elt Ideal) (e' := .bf16) (stU w) (Rect.unit ![7, 0, 0] ![1, 1024, 512] inb_S8x1024x512_S1x1024x512_7_0_0) = ch fun k j => w.U k (cj 7 j) := by
  rw [View.ld_unit]
  funext x
  idx_vars x
  show ((w.U _ (cj _ _) : ℝ) : EReal) = ((w.U _ (cj _ _) : ℝ) : EReal)
  congr 3 <;> (apply Fin.ext; simp [ix3]) <;> omega

theorem ldP7 : View.ld (Val := Elt Ideal) (e' := .bf16) (stP w) (Rect.unit ![7, 0, 0] ![1, 256, 128] inb_S8x256x128_S1x256x128_7_0_0) = ch fun k j => w.P k (cl 7 j) := by
  rw [View.ld_unit]
  funext x
  idx_vars x
  show ((w.P _ (cl _ _) : ℝ) : EReal) = ((w.P _ (cl _ _) : ℝ) : EReal)
  congr 3 <;> (apply Fin.ext; simp [ix3]) <;> omega

theorem ldD7 : View.ld (Val := Elt Ideal) (e' := .bf16) (arr w.D) (Rect.unit ![3584, 0] ![512, 1024] inb_S4096x1024_S512x1024_3584_0) = arr fun j i => w.D (cj 7 j) i := by
  rw [View.ld_unit]
  funext x
  idx_vars x
  show ((w.D _ _ : ℝ) : EReal) = ((w.D _ _ : ℝ) : EReal)
  congr 2 <;> (apply Fin.ext; simp [ix2, cj])

theorem rows6 (v : View sig .tc .vmem S8x1024 .f32) (f : v.ty.Contents (Elt Ideal)) (p0 p1 p2 p3 p4 p5 : S1x1024.Idx → EReal)
    (L : List (View.Piece (Elt Ideal) S8x1024 .f32)) (a : Fin 8) (i : Fin 1024) :
    v.read (Elt Ideal) (v.writes (Elt Ideal) f
      (⟨Rect.unit ![5, 0] ![1, 1024] inb_S8x1024_S1x1024_5_0, p5⟩ :: ⟨Rect.unit ![4, 0] ![1, 1024] inb_S8x1024_S1x1024_4_0, p4⟩ ::
       ⟨Rect.unit ![3, 0] ![1, 1024] inb_S8x1024_S1x1024_3_0, p3⟩ :: ⟨Rect.unit ![2, 0] ![1, 1024] inb_S8x1024_S1x1024_2_0, p2⟩ ::
       ⟨Rect.unit ![1, 0] ![1, 1024] inb_S8x1024_S1x1024_1_0, p1⟩ :: ⟨Rect.unit ![0, 0] ![1, 1024] inb_S8x1024_S1x1024_0_0, p0⟩ :: L)) (ix2 a i)
    = if a.val = 5 then p5 (ix2 0 i) else if a.val = 4 then p4 (ix2 0 i) else if a.val = 3 then p3 (ix2 0 i)
      else if a.val = 2 then p2 (ix2 0 i) else if a.val = 1 then p1 (ix2 0 i) else if a.val = 0 then p0 (ix2 0 i)
      else v.read (Elt Ideal) (v.writes (Elt Ideal) f L) (ix2 a i) := by
  by_cases h5 : a.val = 5
  · rw [if_pos h5]
    exact View.read_writes_cons_unit_of_mem v f _ _ _ _ (ix2 0 i) rfl (fun b => by fin_cases b <;> simp [ix2, h5])
  rw [if_neg h5, View.read_writes_cons_unit_of_not_mem v f _ _ _ _ rfl 0 (by show a.val < 5 ∨ 5 + 1 ≤ a.val; omega)]
  by_cases h4 : a.val = 4
  · rw [if_pos h4]
    exact View.read_writes_cons_unit_of_mem v f _ _ _ _ (ix2 0 i) rfl (fun b => by fin_cases b <;> simp [ix2, h4])
  rw [if_neg h4, View.read_writes_cons_unit_of_not_mem v f _ _ _ _ rfl 0 (by show a.val < 4 ∨ 4 + 1 ≤ a.val; omega)]
  by_cases h3 : a.val = 3
  · rw [if_pos h3]
    exact View.read_writes_cons_unit_of_mem v f _ _ _ _ (ix2 0 i) rfl (fun b => by fin_cases b <;> simp [ix2, h3])
  rw [if_neg h3, View.read_writes_cons_unit_of_not_mem v f _ _ _ _ rfl 0 (by show a.val < 3 ∨ 3 + 1 ≤ a.val; omega)]
  by_cases h2 : a.val = 2
  · rw [if_pos h2]
    exact View.read_writes_cons_unit_of_mem v f _ _ _ _ (ix2 0 i) rfl (fun b => by fin_cases b <;> simp [ix2, h2])
  rw [if_neg h2, View.read_writes_cons_unit_of_not_mem v f _ _ _ _ rfl 0 (by show a.val < 2 ∨ 2 + 1 ≤ a.val; omega)]
  by_cases h1 : a.val = 1
  · rw [if_pos h1]
    exact View.read_writes_cons_unit_of_mem v f _ _ _ _ (ix2 0 i) rfl (fun b => by fin_cases b <;> simp [ix2, h1])
  rw [if_neg h1, View.read_writes_cons_unit_of_not_mem v f _ _ _ _ rfl 0 (by show a.val < 1 ∨ 1 + 1 ≤ a.val; omega)]
  by_cases h0 : a.val = 0
  · rw [if_pos h0]
    exact View.read_writes_cons_unit_of_mem v f _ _ _ _ (ix2 0 i) rfl (fun b => by fin_cases b <;> simp [ix2, h0])
  rw [if_neg h0, View.read_writes_cons_unit_of_not_mem v f _ _ _ _ rfl 0 (by show a.val < 0 ∨ 0 + 1 ≤ a.val; omega)]

end Cert.Mlp
-- ==== Proof.MlpOut.lean ====
/- What the kernel's body leaves in its ten blocks at a grid point, from the point's input blocks, over the reals. -/
module

public import proofs.«01_k».proof.Proof.MlpBlock

@[expose] public section

noncomputable section

namespace Cert.Mlp

open Idealize.ShloMosaic Cert.Kernel2Ideal Cert.Kernel2Ideal.Gen Cert.Reals

variable (m : (ℓ : Loc nD τ sig) → Buf (Elt Ideal) ℓ) (c : Dev nD)

/-- The input blocks of a point are the given rows and weights. -/
structure Ins (t : Fin cfg0.N) (w : Wts) (Z : Fin 256 → Fin 1024 → ℝ) (P : Fin 256 → Fin 256 → ℝ) (T : Fin 256 → Fin 1024 → ℝ) : Prop where
  h0 : (iblk m c 0 t : S256x1024.Idx → EReal) = arr Z
  h1 : (iblk m c 1 t : S256x256.Idx → EReal) = arr P
  h2 : (iblk m c 2 t : S256x1024.Idx → EReal) = arr T
  h3 : (iblk m c 3 t : S8x1024x512.Idx → EReal) = stU w
  h4 : (iblk m c 4 t : S4096x1024.Idx → EReal) = arr w.D
  h5 : (iblk m c 5 t : S1024x1024.Idx → EReal) = arr w.G
  h6 : (iblk m c 6 t : S8x256x128.Idx → EReal) = stP w
  h7 : (iblk m c 7 t : S8x1024.Idx → EReal) = arr w.v

variable (t : Fin cfg0.N) (w : Wts) (Z : Fin 256 → Fin 1024 → ℝ) (P : Fin 256 → Fin 256 → ℝ) (T : Fin 256 → Fin 1024 → ℝ)

theorem out8_A (I : Ins m c t w Z P T) (h : t.val % 8 = 0) : (outsAt0 (F := Ideal) m c t.val t.isLt).1 = arr fun t => dz1 w (Z t) (P t) (T t) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out8_B (I : Ins m c t w Z P T) (h : ¬t.val % 8 = 0) : (outsAt0 (F := Ideal) m c t.val t.isLt).1 = arr fun t => dz1 w (Z t) (P t) (T t) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out8 (I : Ins m c t w Z P T) : (outsAt0 (F := Ideal) m c t.val t.isLt).1 = arr fun t => dz1 w (Z t) (P t) (T t) := by
  by_cases h : t.val % 8 = 0
  · exact out8_A m c t w Z P T I h
  · exact out8_B m c t w Z P T I h

theorem out9_A (I : Ins m c t w Z P T) (h : t.val % 8 = 0) : (outsAt0 (F := Ideal) m c t.val t.isLt).2.1 = arr fun t => dz1 w (Z t) (P t) (T t) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out9_B (I : Ins m c t w Z P T) (h : ¬t.val % 8 = 0) : (outsAt0 (F := Ideal) m c t.val t.isLt).2.1 = arr fun t => dz1 w (Z t) (P t) (T t) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out9 (I : Ins m c t w Z P T) : (outsAt0 (F := Ideal) m c t.val t.isLt).2.1 = arr fun t => dz1 w (Z t) (P t) (T t) := by
  by_cases h : t.val % 8 = 0
  · exact out9_A m c t w Z P T I h
  · exact out9_B m c t w Z P T I h

theorem out10_A (I : Ins m c t w Z P T) (h : t.val % 8 = 0) : (outsAt0 (F := Ideal) m c t.val t.isLt).2.2.1 = arr fun t => Mlp.h w (Z t) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]

theorem out10_B (I : Ins m c t w Z P T) (h : ¬t.val % 8 = 0) : (outsAt0 (F := Ideal) m c t.val t.isLt).2.2.1 = arr fun t => Mlp.h w (Z t) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]

theorem out10 (I : Ins m c t w Z P T) : (outsAt0 (F := Ideal) m c t.val t.isLt).2.2.1 = arr fun t => Mlp.h w (Z t) := by
  by_cases h : t.val % 8 = 0
  · exact out10_A m c t w Z P T I h
  · exact out10_B m c t w Z P T I h

theorem out11_A (I : Ins m c t w Z P T) (h : t.val % 8 = 0) : (outsAt0 (F := Ideal) m c t.val t.isLt).2.2.2.1 = arr fun t => du w (Z t) (P t) (T t) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]
  exact canon_wide (fun t => du w (Z t) (P t) (T t))

theorem out11_B (I : Ins m c t w Z P T) (h : ¬t.val % 8 = 0) : (outsAt0 (F := Ideal) m c t.val t.isLt).2.2.2.1 = arr fun t => du w (Z t) (P t) (T t) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]
  exact canon_wide (fun t => du w (Z t) (P t) (T t))

theorem out11 (I : Ins m c t w Z P T) : (outsAt0 (F := Ideal) m c t.val t.isLt).2.2.2.1 = arr fun t => du w (Z t) (P t) (T t) := by
  by_cases h : t.val % 8 = 0
  · exact out11_A m c t w Z P T I h
  · exact out11_B m c t w Z P T I h

theorem out12_A (I : Ins m c t w Z P T) (h : t.val % 8 = 0) : (outsAt0 (F := Ideal) m c t.val t.isLt).2.2.2.2.1 = arr fun t n => r w (Z t) n * r w (Z t) n := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  exact canon_wide (fun t n => r w (Z t) n * r w (Z t) n)

theorem out12_B (I : Ins m c t w Z P T) (h : ¬t.val % 8 = 0) : (outsAt0 (F := Ideal) m c t.val t.isLt).2.2.2.2.1 = arr fun t n => r w (Z t) n * r w (Z t) n := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  exact canon_wide (fun t n => r w (Z t) n * r w (Z t) n)

theorem out12 (I : Ins m c t w Z P T) : (outsAt0 (F := Ideal) m c t.val t.isLt).2.2.2.2.1 = arr fun t n => r w (Z t) n * r w (Z t) n := by
  by_cases h : t.val % 8 = 0
  · exact out12_A m c t w Z P T I h
  · exact out12_B m c t w Z P T I h

theorem out13_A (I : Ins m c t w Z P T) (h : t.val % 8 = 0) : (outsAt0 (F := Ideal) m c t.val t.isLt).2.2.2.2.2.1 = arr fun t => dz2 w (Z t) (P t) (T t) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out13_B (I : Ins m c t w Z P T) (h : ¬t.val % 8 = 0) : (outsAt0 (F := Ideal) m c t.val t.isLt).2.2.2.2.2.1 = arr fun t => dz2 w (Z t) (P t) (T t) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out13 (I : Ins m c t w Z P T) : (outsAt0 (F := Ideal) m c t.val t.isLt).2.2.2.2.2.1 = arr fun t => dz2 w (Z t) (P t) (T t) := by
  by_cases h : t.val % 8 = 0
  · exact out13_A m c t w Z P T I h
  · exact out13_B m c t w Z P T I h

theorem out14_A (I : Ins m c t w Z P T) (h : t.val % 8 = 0) : (outsAt0 (F := Ideal) m c t.val t.isLt).2.2.2.2.2.2.1 = arr fun t => dpw w (Z t) (P t) (T t) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out14_B (I : Ins m c t w Z P T) (h : ¬t.val % 8 = 0) : (outsAt0 (F := Ideal) m c t.val t.isLt).2.2.2.2.2.2.1 = arr fun t => dpw w (Z t) (P t) (T t) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out14 (I : Ins m c t w Z P T) : (outsAt0 (F := Ideal) m c t.val t.isLt).2.2.2.2.2.2.1 = arr fun t => dpw w (Z t) (P t) (T t) := by
  by_cases h : t.val % 8 = 0
  · exact out14_A m c t w Z P T I h
  · exact out14_B m c t w Z P T I h

theorem out15_A (I : Ins m c t w Z P T) (h : t.val % 8 = 0) : (outsAt0 (F := Ideal) m c t.val t.isLt).2.2.2.2.2.2.2.1 = arr fun t => dgl w (Z t) (P t) (T t) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out15_B (I : Ins m c t w Z P T) (h : ¬t.val % 8 = 0) : (outsAt0 (F := Ideal) m c t.val t.isLt).2.2.2.2.2.2.2.1 = arr fun t => dgl w (Z t) (P t) (T t) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]

theorem out15 (I : Ins m c t w Z P T) : (outsAt0 (F := Ideal) m c t.val t.isLt).2.2.2.2.2.2.2.1 = arr fun t => dgl w (Z t) (P t) (T t) := by
  by_cases h : t.val % 8 = 0
  · exact out15_A m c t w Z P T I h
  · exact out15_B m c t w Z P T I h

theorem out16_A (I : Ins m c t w Z P T) (h : t.val % 8 = 0) : (outsAt0 (F := Ideal) m c t.val t.isLt).2.2.2.2.2.2.2.2.1 = arr P := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]

theorem out16_B (I : Ins m c t w Z P T) (h : ¬t.val % 8 = 0) : (outsAt0 (F := Ideal) m c t.val t.isLt).2.2.2.2.2.2.2.2.1 = arr P := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]

theorem out16 (I : Ins m c t w Z P T) : (outsAt0 (F := Ideal) m c t.val t.isLt).2.2.2.2.2.2.2.2.1 = arr P := by
  by_cases h : t.val % 8 = 0
  · exact out16_A m c t w Z P T I h
  · exact out16_B m c t w Z P T I h

/-- The column sums after one more point. -/
def addAcc (Y : Fin 8 → Fin 1024 → ℝ) (a : Fin 8) (i : Fin 1024) : ℝ := Y a i + ∑ t, acc w (Z t) (P t) (T t) a.val i

theorem pay1 : k0_pay1 (F := Ideal) = arr fun (_ : Fin 8) (_ : Fin 1024) => 0 := by
  funext x
  idx_vars x
  pointwise [k0_pay1]
  rfl

theorem out17_A (I : Ins m c t w Z P T) (h : t.val % 8 = 0) :
    (outsAt0 (F := Ideal) m c t.val t.isLt).2.2.2.2.2.2.2.2.2 = arr (addAcc w Z P T (fun _ _ => 0)) := by
  rw [outsAt0_A m c t h]
  frame_open
  simp (disch := decide) only [↓ View.readCov_skip, ↓ View.readCov_cons_toLoadRect, ↓ View.readCov_fill]
  frame_out
  simp only [I.h0, I.h1, I.h2, I.h3, I.h4, I.h5, I.h6, I.h7, pay1, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]
  rw [← View.read_writes_junk_eq_canon (ms0_17 t).view]
  funext y
  idx_vars y
  rw [rows6]
  simp only [pay73 w Z P T, pay74 w Z P T, pay75 w Z P T, pay76 w Z P T, pay77 w Z P T, pay78 w Z P T]
  rw [View.read_writes_cons_unit_of_mem _ _ _ _ _ _ (ix2 y0 y1) rfl (fun b => by fin_cases b <;> simp [ix2])]
  match y0 with
  | 0 => rfl
  | 1 => rfl
  | 2 => rfl
  | 3 => rfl
  | 4 => rfl
  | 5 => rfl
  | 6 => simp [arr, acc, ix2, addAcc]
  | 7 => simp [arr, acc, ix2, addAcc]

theorem out17_B (I : Ins m c t w Z P T) (h : ¬t.val % 8 = 0) (Y : Fin 8 → Fin 1024 → ℝ) (hY : (outsAt0 (F := Ideal) m c (t.val - 1) (Nat.lt_of_le_of_lt (Nat.sub_le _ _) t.isLt)).2.2.2.2.2.2.2.2.2 = arr Y) :
    (outsAt0 (F := Ideal) m c t.val t.isLt).2.2.2.2.2.2.2.2.2 = arr (addAcc w Z P T Y) := by
  rw [outsAt0_B m c t h]
  frame_open
  simp (disch := decide) only [↓ View.readCov_skip, ↓ View.readCov_cons_toLoadRect, ↓ View.readCov_fill]
  frame_out
  simp only [I.h0, I.h1, I.h2, I.h3, I.h4, I.h5, I.h6, I.h7, hY, ldv0, ldv1, ldv2, ldv3, ldv4, ldv5, ldU0, ldU1, ldU2, ldU3, ldU4, ldU5, ldU6, ldU7, ldP0, ldP1, ldP2, ldP3, ldP4, ldP5, ldP6, ldP7, ldD0, ldD1, ldD2, ldD3, ldD4, ldD5, ldD6, ldD7]
  simp only [pay5, pay6, pay7, pay8, pay9, pay10, pay11, pay12, pay13, pay14, pay15, pay16, pay17, pay18, pay19, pay20, pay21, pay22, pay23, pay24, pay25, pay26, pay27, pay28, pay29, pay30, pay31, pay32, pay33, pay34, pay36, pay37, pay38, pay39, pay40]
  rw [read_wide _ (fun t n => r w (Z t) n * r w (Z t) n), read_lanes _ (fun t => pw w (P t))]
  simp only [pay3, pay4, pay41, pay42, pay43, pay45, pay46, pay47, pay48, pay49, pay50, pay51, pay52, pay53, pay54, pay55, pay56, pay57, pay58, pay59, pay60, pay61, pay62, pay63, pay64, pay65, pay66, pay67, pay68, pay70, pay71, pay72]
  funext y
  idx_vars y
  rw [rows6]
  simp only [pay73 w Z P T, pay74 w Z P T, pay75 w Z P T, pay76 w Z P T, pay77 w Z P T, pay78 w Z P T]
  rw [View.writes_nil, Memref.IsWhole.read_unread]
  match y0 with
  | 0 => rfl
  | 1 => rfl
  | 2 => rfl
  | 3 => rfl
  | 4 => rfl
  | 5 => rfl
  | 6 => simp [arr, acc, ix2, addAcc]
  | 7 => simp [arr, acc, ix2, addAcc]

end Cert.Mlp
-- ==== Proof.MlpFinal.lean ====
/- The arrays the kernel leaves: every grid point handles 256 tokens, its input blocks are those rows of the arguments and
   the whole weights, and the blocks written back are the layer's results; the last point's sums are those of all tokens. -/
module

public import proofs.«01_k».proof.Proof.MlpOut
public import proofs.«01_k».proof.Proof.Gen.Kernel2Ideal.Value
public import Idealize.ShloMosaic.Lib.Pipeline.ValueKit

@[expose] public section

noncomputable section

namespace Cert.Mlp

open Idealize.ShloMosaic Idealize.ShloMosaic.TcCoe Cert.Reals
open Cert.Kernel2Ideal Cert.Kernel2Ideal.Gen

variable (m : (ℓ : Loc nD τ sig) → Buf (Elt Ideal) ℓ) (c : Dev nD)

theorem mlpIdx : ∀ t : Fin cfg0.N, win0_0.index t = ![t.val, 0]
    ∧ win0_1.index t = ![t.val, 0]
    ∧ win0_2.index t = ![t.val, 0]
    ∧ win0_3.index t = ![0, 0, 0]
    ∧ win0_4.index t = ![0, 0]
    ∧ win0_5.index t = ![0, 0]
    ∧ win0_6.index t = ![0, 0, 0]
    ∧ win0_7.index t = ![0, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0] :=
  (by decide +kernel : ∀ t : Fin grid0.N, _)

/-- Token `s` of the block a grid point handles. -/
def tk (t : Fin cfg0.N) (s : Fin 256) : Fin 2048 := ⟨256 * t.val + s.val, by have h : t.val < 8 := t.isLt; omega⟩
/-- The rows a grid point handles. -/
abbrev rows {b : ℕ} (f : Fin 2048 → Fin b → ℝ) (t : Fin cfg0.N) (s : Fin 256) : Fin b → ℝ := f (tk t s)

theorem arr_tk {b : ℕ} (f : Fin 2048 → Fin b → ℝ) (t : Fin cfg0.N) (y : (⟨2, ![256, b]⟩ : Shape).Idx) :
    arr (fun s => f (tk t s)) y = arr f (ix2 (tk t (y 0)) (y 1)) := rfl

variable (w : Wts) (Z : Fin 2048 → Fin 1024 → ℝ) (P : Fin 2048 → Fin 256 → ℝ) (T : Fin 2048 → Fin 1024 → ℝ)

/-- The launch's arguments hold these reals. -/
structure Args : Prop where
  a0 : m ((c : Thread nD τ).loc main_arg0) = arr Z
  a1 : m ((c : Thread nD τ).loc main_arg1) = arr P
  a2 : m ((c : Thread nD τ).loc main_arg2) = arr T
  a3 : m ((c : Thread nD τ).loc main_arg3) = stU w
  a4 : m ((c : Thread nD τ).loc main_arg4) = arr w.D
  a5 : m ((c : Thread nD τ).loc main_arg5) = arr w.G
  a6 : m ((c : Thread nD τ).loc main_arg6) = stP w
  a7 : m ((c : Thread nD τ).loc main_arg7) = arr w.v

variable (A : Args m c w Z P T)

include A in
theorem in0 (t : Fin cfg0.N) : (iblk m c 0 t : S256x1024.Idx → EReal) = arr (rows Z t) := by
  funext y
  obtain ⟨e, -, -, -, -, -, -, -, -, -, -, -, -, -, -, -, -⟩ := mlpIdx t
  blk_simp [iblk, e]
  rw [V_main_arg0, A.a0]
  have h2 : (win0_0.blk t).view.emb y = ix2 (tk t (y 0)) (y 1) := by
    unfold tk
    blk_ext [e]
  exact (congrArg (arr Z) h2).trans (arr_tk Z t y).symm

include A in
theorem in1 (t : Fin cfg0.N) : (iblk m c 1 t : S256x256.Idx → EReal) = arr (rows P t) := by
  funext y
  obtain ⟨-, e, -, -, -, -, -, -, -, -, -, -, -, -, -, -, -⟩ := mlpIdx t
  blk_simp [iblk, e]
  rw [V_main_arg1, A.a1]
  have h2 : (win0_1.blk t).view.emb y = ix2 (tk t (y 0)) (y 1) := by
    unfold tk
    blk_ext [e]
  exact (congrArg (arr P) h2).trans (arr_tk P t y).symm

include A in
theorem in2 (t : Fin cfg0.N) : (iblk m c 2 t : S256x1024.Idx → EReal) = arr (rows T t) := by
  funext y
  obtain ⟨-, -, e, -, -, -, -, -, -, -, -, -, -, -, -, -, -⟩ := mlpIdx t
  blk_simp [iblk, e]
  rw [V_main_arg2, A.a2]
  have h2 : (win0_2.blk t).view.emb y = ix2 (tk t (y 0)) (y 1) := by
    unfold tk
    blk_ext [e]
  exact (congrArg (arr T) h2).trans (arr_tk T t y).symm

include A in
theorem in3 (t : Fin cfg0.N) : (iblk m c 3 t : S8x1024x512.Idx → EReal) = stU w := by
  funext y
  obtain ⟨-, -, -, e, -, -, -, -, -, -, -, -, -, -, -, -, -⟩ := mlpIdx t
  blk_simp [iblk, e]
  rw [V_main_arg3, A.a3]
  congr 1
  blk_ext [e]

include A in
theorem in4 (t : Fin cfg0.N) : (iblk m c 4 t : S4096x1024.Idx → EReal) = arr w.D := by
  funext y
  obtain ⟨-, -, -, -, e, -, -, -, -, -, -, -, -, -, -, -, -⟩ := mlpIdx t
  blk_simp [iblk, e]
  rw [V_main_arg4, A.a4]
  congr 1
  blk_ext [e]

include A in
theorem in5 (t : Fin cfg0.N) : (iblk m c 5 t : S1024x1024.Idx → EReal) = arr w.G := by
  funext y
  obtain ⟨-, -, -, -, -, e, -, -, -, -, -, -, -, -, -, -, -⟩ := mlpIdx t
  blk_simp [iblk, e]
  rw [V_main_arg5, A.a5]
  congr 1
  blk_ext [e]

include A in
theorem in6 (t : Fin cfg0.N) : (iblk m c 6 t : S8x256x128.Idx → EReal) = stP w := by
  funext y
  obtain ⟨-, -, -, -, -, -, e, -, -, -, -, -, -, -, -, -, -⟩ := mlpIdx t
  blk_simp [iblk, e]
  rw [V_main_arg6, A.a6]
  congr 1
  blk_ext [e]

include A in
theorem in7 (t : Fin cfg0.N) : (iblk m c 7 t : S8x1024.Idx → EReal) = arr w.v := by
  funext y
  obtain ⟨-, -, -, -, -, -, -, e, -, -, -, -, -, -, -, -, -⟩ := mlpIdx t
  blk_simp [iblk, e]
  rw [V_main_arg7, A.a7]
  congr 1
  blk_ext [e]

include A in
theorem ins (t : Fin cfg0.N) : Ins m c t w (rows Z t) (rows P t) (rows T t) :=
  ⟨in0 m c w Z P T A t, in1 m c w Z P T A t, in2 m c w Z P T A t, in3 m c w Z P T A t, in4 m c w Z P T A t, in5 m c w Z P T A t, in6 m c w Z P T A t, in7 m c w Z P T A t⟩

include A in
theorem final8 : (dats m 0 c).arrAt 8 cfg0.N = arr (fun t => dz1 w (Z t) (P t) (T t)) := by
  refine (dats m 0 c).arrAt_eq_of_covers 8 _ (by decide +kernel) fun t hf y => ?_
  obtain ⟨-, -, -, -, -, -, -, -, e, -, -, -, -, -, -, -, -⟩ := mlpIdx t
  blk_simp [e]
  rw [after0_8]
  have h2 : (win0_8.blk t).view.emb y = ix2 (tk t (y 0)) (y 1) := by
    unfold tk
    blk_ext [e]
  refine Eq.trans ?_ (congrArg (arr (fun t => dz1 w (Z t) (P t) (T t))) h2).symm
  refine (congrFun (out8 m c t w _ _ _ (ins m c w Z P T A t)) y).trans ?_
  exact arr_tk (fun t => dz1 w (Z t) (P t) (T t)) t y

include A in
theorem final9 : (dats m 0 c).arrAt 9 cfg0.N = arr (fun t => dz1 w (Z t) (P t) (T t)) := by
  refine (dats m 0 c).arrAt_eq_of_covers 9 _ (by decide +kernel) fun t hf y => ?_
  obtain ⟨-, -, -, -, -, -, -, -, -, e, -, -, -, -, -, -, -⟩ := mlpIdx t
  blk_simp [e]
  rw [after0_9]
  have h2 : (win0_9.blk t).view.emb y = ix2 (tk t (y 0)) (y 1) := by
    unfold tk
    blk_ext [e]
  refine Eq.trans ?_ (congrArg (arr (fun t => dz1 w (Z t) (P t) (T t))) h2).symm
  refine (congrFun (out9 m c t w _ _ _ (ins m c w Z P T A t)) y).trans ?_
  exact arr_tk (fun t => dz1 w (Z t) (P t) (T t)) t y

include A in
theorem final10 : (dats m 0 c).arrAt 10 cfg0.N = arr (fun t => Mlp.h w (Z t)) := by
  refine (dats m 0 c).arrAt_eq_of_covers 10 _ (by decide +kernel) fun t hf y => ?_
  obtain ⟨-, -, -, -, -, -, -, -, -, -, e, -, -, -, -, -, -⟩ := mlpIdx t
  blk_simp [e]
  rw [after0_10]
  have h2 : (win0_10.blk t).view.emb y = ix2 (tk t (y 0)) (y 1) := by
    unfold tk
    blk_ext [e]
  refine Eq.trans ?_ (congrArg (arr (fun t => Mlp.h w (Z t))) h2).symm
  refine (congrFun (out10 m c t w _ _ _ (ins m c w Z P T A t)) y).trans ?_
  exact arr_tk (fun t => Mlp.h w (Z t)) t y

include A in
theorem final11 : (dats m 0 c).arrAt 11 cfg0.N = arr (fun t => du w (Z t) (P t) (T t)) := by
  refine (dats m 0 c).arrAt_eq_of_covers 11 _ (by decide +kernel) fun t hf y => ?_
  obtain ⟨-, -, -, -, -, -, -, -, -, -, -, e, -, -, -, -, -⟩ := mlpIdx t
  blk_simp [e]
  rw [after0_11]
  have h2 : (win0_11.blk t).view.emb y = ix2 (tk t (y 0)) (y 1) := by
    unfold tk
    blk_ext [e]
  refine Eq.trans ?_ (congrArg (arr (fun t => du w (Z t) (P t) (T t))) h2).symm
  refine (congrFun (out11 m c t w _ _ _ (ins m c w Z P T A t)) y).trans ?_
  exact arr_tk (fun t => du w (Z t) (P t) (T t)) t y

include A in
theorem final12 : (dats m 0 c).arrAt 12 cfg0.N = arr (fun t n => r w (Z t) n * r w (Z t) n) := by
  refine (dats m 0 c).arrAt_eq_of_covers 12 _ (by decide +kernel) fun t hf y => ?_
  obtain ⟨-, -, -, -, -, -, -, -, -, -, -, -, e, -, -, -, -⟩ := mlpIdx t
  blk_simp [e]
  rw [after0_12]
  have h2 : (win0_12.blk t).view.emb y = ix2 (tk t (y 0)) (y 1) := by
    unfold tk
    blk_ext [e]
  refine Eq.trans ?_ (congrArg (arr (fun t n => r w (Z t) n * r w (Z t) n)) h2).symm
  refine (congrFun (out12 m c t w _ _ _ (ins m c w Z P T A t)) y).trans ?_
  exact arr_tk (fun t n => r w (Z t) n * r w (Z t) n) t y

include A in
theorem final13 : (dats m 0 c).arrAt 13 cfg0.N = arr (fun t => dz2 w (Z t) (P t) (T t)) := by
  refine (dats m 0 c).arrAt_eq_of_covers 13 _ (by decide +kernel) fun t hf y => ?_
  obtain ⟨-, -, -, -, -, -, -, -, -, -, -, -, -, e, -, -, -⟩ := mlpIdx t
  blk_simp [e]
  rw [after0_13]
  have h2 : (win0_13.blk t).view.emb y = ix2 (tk t (y 0)) (y 1) := by
    unfold tk
    blk_ext [e]
  refine Eq.trans ?_ (congrArg (arr (fun t => dz2 w (Z t) (P t) (T t))) h2).symm
  refine (congrFun (out13 m c t w _ _ _ (ins m c w Z P T A t)) y).trans ?_
  exact arr_tk (fun t => dz2 w (Z t) (P t) (T t)) t y

include A in
theorem final14 : (dats m 0 c).arrAt 14 cfg0.N = arr (fun t => dpw w (Z t) (P t) (T t)) := by
  refine (dats m 0 c).arrAt_eq_of_covers 14 _ (by decide +kernel) fun t hf y => ?_
  obtain ⟨-, -, -, -, -, -, -, -, -, -, -, -, -, -, e, -, -⟩ := mlpIdx t
  blk_simp [e]
  rw [after0_14]
  have h2 : (win0_14.blk t).view.emb y = ix2 (tk t (y 0)) (y 1) := by
    unfold tk
    blk_ext [e]
  refine Eq.trans ?_ (congrArg (arr (fun t => dpw w (Z t) (P t) (T t))) h2).symm
  refine (congrFun (out14 m c t w _ _ _ (ins m c w Z P T A t)) y).trans ?_
  exact arr_tk (fun t => dpw w (Z t) (P t) (T t)) t y

include A in
theorem final15 : (dats m 0 c).arrAt 15 cfg0.N = arr (fun t => dgl w (Z t) (P t) (T t)) := by
  refine (dats m 0 c).arrAt_eq_of_covers 15 _ (by decide +kernel) fun t hf y => ?_
  obtain ⟨-, -, -, -, -, -, -, -, -, -, -, -, -, -, -, e, -⟩ := mlpIdx t
  blk_simp [e]
  rw [after0_15]
  have h2 : (win0_15.blk t).view.emb y = ix2 (tk t (y 0)) (y 1) := by
    unfold tk
    blk_ext [e]
  refine Eq.trans ?_ (congrArg (arr (fun t => dgl w (Z t) (P t) (T t))) h2).symm
  refine (congrFun (out15 m c t w _ _ _ (ins m c w Z P T A t)) y).trans ?_
  exact arr_tk (fun t => dgl w (Z t) (P t) (T t)) t y

include A in
theorem final16 : (dats m 0 c).arrAt 16 cfg0.N = arr (P) := by
  refine (dats m 0 c).arrAt_eq_of_covers 16 _ (by decide +kernel) fun t hf y => ?_
  obtain ⟨-, -, -, -, -, -, -, -, -, -, -, -, -, -, -, -, e⟩ := mlpIdx t
  blk_simp [e]
  rw [after0_16]
  have h2 : (win0_16.blk t).view.emb y = ix2 (tk t (y 0)) (y 1) := by
    unfold tk
    blk_ext [e]
  refine Eq.trans ?_ (congrArg (arr (P)) h2).symm
  refine (congrFun (out16 m c t w _ _ _ (ins m c w Z P T A t)) y).trans ?_
  exact arr_tk (P) t y

/-- What a token adds to a row of sums, zero past the last token. -/
def tokAcc (a : Fin 8) (i : Fin 1024) (k : ℕ) : ℝ :=
  if h : k < 2048 then acc w (Z ⟨k, h⟩) (P ⟨k, h⟩) (T ⟨k, h⟩) a.val i else 0
/-- The sums over the first `n` tokens. -/
def upTo (n : ℕ) (a : Fin 8) (i : Fin 1024) : ℝ := ∑ k ∈ Finset.range n, tokAcc w Z P T a i k

theorem upTo_all : upTo w Z P T 2048 = fun a i => ∑ t, acc w (Z t) (P t) (T t) a.val i := by
  funext a i
  unfold upTo
  rw [Finset.sum_range]
  exact Finset.sum_congr rfl fun t _ => dif_pos t.isLt

theorem upTo_block (t : Fin cfg0.N) :
    addAcc w (rows Z t) (rows P t) (rows T t) (upTo w Z P T (256 * t.val)) = upTo w Z P T (256 * t.val + 256) := by
  have h8 : t.val < 8 := t.isLt
  funext a i
  unfold addAcc upTo
  rw [Finset.sum_range_add]
  congr 1
  rw [Finset.sum_range]
  refine Finset.sum_congr rfl fun s _ => ?_
  unfold tokAcc
  rw [dif_pos (show 256 * t.val + s.val < 2048 by omega)]
  rfl

include A in
theorem sums : ∀ (n : ℕ) (hn : n < cfg0.N), (outsAt0 (F := Ideal) m c n hn).2.2.2.2.2.2.2.2.2 = arr (upTo w Z P T (256 * n + 256))
  | 0, hn => by
    have e : upTo w Z P T (256 * 0) = fun _ _ => 0 := by
      funext a i
      unfold upTo
      simp
    have q := upTo_block w Z P T ⟨0, hn⟩
    rw [e] at q
    exact (out17_A m c ⟨0, hn⟩ w _ _ _ (ins m c w Z P T A ⟨0, hn⟩) rfl).trans (congrArg arr q)
  | n + 1, hn => by
    have h8 : n + 1 < 8 := hn
    have q := upTo_block w Z P T ⟨n + 1, hn⟩
    refine (out17_B m c ⟨n + 1, hn⟩ w _ _ _ (ins m c w Z P T A ⟨n + 1, hn⟩) ?_ _ (sums n (Nat.lt_of_succ_lt hn))).trans (congrArg arr q)
    show ¬(n + 1) % 8 = 0
    omega

include A in
theorem final17 : (dats m 0 c).arrAt 17 cfg0.N = arr (fun a i => ∑ t, acc w (Z t) (P t) (T t) a.val i) := by
  refine (dats m 0 c).arrAt_eq_of_after_last 17 t0_7 (by decide +kernel) _ fun j => ?_
  rw [after0_17, ← upTo_all]
  exact congrFun (sums m c w Z P T A 7 (by decide)) j

end Cert.Mlp
-- ==== Proof.MlpRef.lean ====
/- The reference's layer, forward and backward, entry by entry, over the reals. -/
module

public import proofs.«01_k».proof.Proof.MlpPay
public import proofs.«01_k».proof.Proof.MlpStack
public import proofs.«01_k».proof.Proof.Gen.Reference2Ideal.Read

@[expose] public section

noncomputable section

namespace Cert.Mlp

open Idealize.ShloMosaic Cert.Reference2Ideal Cert.Reference2Ideal.Gen Cert.Reference2Ideal.Read Cert.Reals

variable (w : Wts) (Z : Fin 2048 → Fin 1024 → ℝ) (P : Fin 2048 → Fin 256 → ℝ) (T : Fin 2048 → Fin 1024 → ℝ)

/-- The slope the reference selects at the kink is multiplied by the rectified value, which is zero there. -/
theorem relu_back (a u : ℝ) : ((a * (2 * max u 0) : ℝ) : EReal)
      * (if (0 : EReal) < (u : EReal) then 1 else if (u : EReal) = 0 then ((1 / 2 : ℝ) : EReal) else 0)
    = ((a * (2 * max u 0) : ℝ) : EReal) := by
  split_ifs with h h2
  · rw [mul_one]
  all_goals
    have hu : u ≤ 0 := by
      rw [← EReal.coe_zero, EReal.coe_lt_coe_iff] at h
      exact not_lt.1 h
    rw [max_eq_right hu]
    simp

theorem r12 (t : Fin 1024) (i : Fin 4096) : val_main_v12 (F := Ideal) (stU w) (ix2 t i) = ((w.U t i : ℝ) : EReal) := by
  pointwise [val_main_v12, val_main_v11, val_main_v10]
  show ((w.U _ _ : ℝ) : EReal) = _
  congr 2
  apply Fin.ext
  simp [cj]
  omega

theorem r15 (t : Fin 256) (i : Fin 1024) : val_main_v15 (F := Ideal) (stP w) (ix2 t i) = ((w.P t i : ℝ) : EReal) := by
  pointwise [val_main_v15, val_main_v14, val_main_v13]
  show ((w.P _ _ : ℝ) : EReal) = _
  congr 2
  apply Fin.ext
  simp [cl]
  omega

theorem r23 (t : Fin 2048) (i : Fin 1024) : val_main_v23 (F := Ideal) (arr Z) (ix2 t i) = ((xc (Z t) i : ℝ) : EReal) := by
  pointwise [val_main_v23, val_main_v22, val_main_v21, val_main_v19, val_main_v18, val_main_cst, val_main_v20, val_main_cst_0]
  simp only [arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r32 (t : Fin 2048) (i : Fin 1024) : val_main_v32 (F := Ideal) (arr Z) (ix2 t i) = ((xc (Z t) i : ℝ) : EReal) := by
  pointwise [val_main_v32, val_main_v31, val_main_v21, val_main_v19, val_main_v18, val_main_cst, val_main_v20, val_main_cst_0]
  simp only [arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r34 (t : Fin 2048) (s : Fin 1) : val_main_v34 (F := Ideal) (arr Z) (ix2 t s) = ((ve (Z t) : ℝ) : EReal) := by
  pointwise [val_main_v34, val_main_v30, val_main_v28, val_main_v27, val_main_v24, val_main_cst_2, val_main_v29, val_main_cst_3, val_main_v33, val_main_cst_4]
  simp only [r23, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r35 (t : Fin 2048) (s : Fin 1) : val_main_v35 (F := Ideal) (arr Z) (ix2 t s) = ((rs (Z t) : ℝ) : EReal) := by
  pointwise [val_main_v35]
  simp only [r34, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  exact rsqrt_ve _

theorem r38 (t : Fin 2048) (s : Fin 1) : val_main_v38 (F := Ideal) (arr Z) (ix2 t s) = ((-(1 / 2) * (rs (Z t) / ve (Z t)) : ℝ) : EReal) := by
  pointwise [val_main_v38, val_main_v37, val_main_cst_5, val_main_v36]
  simp only [r35, r34, div_coe (ve_pos (Z t)).ne', arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]

theorem r40 (t : Fin 2048) (i : Fin 1024) : val_main_v40 (F := Ideal) (arr Z) (ix2 t i) = ((xh (Z t) i : ℝ) : EReal) := by
  pointwise [val_main_v40, val_main_v39]
  simp only [r32, r35, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r46 (t : Fin 2048) (i : Fin 1024) : val_main_v46 (F := Ideal) (arr Z) (arr w.v) (ix2 t i) = ((Mlp.h w (Z t) i : ℝ) : EReal) := by
  pointwise [val_main_v46, val_main_v43, val_main_v42, val_main_v41, val_main_v1, val_main_v0, val_main_v45, val_main_v44, val_main_v3, val_main_v2]
  simp only [r40, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r51 (t : Fin 2048) (i : Fin 1024) : val_main_v51 (F := Ideal) (arr Z) (arr w.G) (arr w.v) (ix2 t i) = ((gl w (Z t) i : ℝ) : EReal) := by
  pointwise [val_main_v51, val_main_v48, val_main_v17, val_main_v50, val_main_v49, val_main_v5, val_main_v4]
  simp only [r46, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r52 (t : Fin 2048) (i : Fin 1024) : val_main_v52 (F := Ideal) (arr P) (stP w) (ix2 t i) = ((pw w (P t) i : ℝ) : EReal) := by
  pointwise [val_main_v52]
  simp only [r15, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r56 (t : Fin 2048) (i : Fin 4096) : val_main_v56 (F := Ideal) (arr Z) (stU w) (arr w.v) (ix2 t i) = ((r w (Z t) i : ℝ) : EReal) := by
  pointwise [val_main_v56, val_main_v47, val_main_v55, val_main_cst_7]
  simp only [r46, r12, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r76 (t : Fin 2048) (i : Fin 1024) : val_main_v76 (F := Ideal) (arr Z) (arr w.G) (arr w.v) (ix2 t i) = ((gate w (Z t) i : ℝ) : EReal) := by
  pointwise [val_main_v76, val_main_v75, val_main_cst_15, val_main_v74, val_main_v73, val_main_cst_14, val_main_v72, val_main_v71]
  rw [r51]
  exact sg_neg _

theorem r69 (t : Fin 2048) (i : Fin 1024) : val_main_v69 (F := Ideal) (arr Z) (stU w) (arr w.D) (arr w.v) (ix2 t i) = ((ff w (Z t) i : ℝ) : EReal) := by
  pointwise [val_main_v69, val_main_v66, val_main_v16]
  simp only [r56, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r81 (t : Fin 2048) (i : Fin 1024) : val_main_v81 (F := Ideal) (arr Z) (arr P) (stU w) (arr w.D) (arr w.G) (stP w) (arr w.v) (ix2 t i) = ((z2 w (Z t) (P t) i : ℝ) : EReal) := by
  pointwise [val_main_v81, val_main_v70, val_main_v54, val_main_v53, val_main_cst_6, val_main_v80]
  simp only [r46, r69, r52, r76, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r87 (t : Fin 2048) (i : Fin 1024) : val_main_v87 (F := Ideal) (arr Z) (arr P) (stU w) (arr w.D) (arr w.G) (stP w) (arr w.v) (ix2 t i) = ((xc (z2 w (Z t) (P t)) i : ℝ) : EReal) := by
  pointwise [val_main_v87, val_main_v86, val_main_v85, val_main_v83, val_main_v82, val_main_cst_17, val_main_v84, val_main_cst_18]
  simp only [r81, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r96 (t : Fin 2048) (i : Fin 1024) : val_main_v96 (F := Ideal) (arr Z) (arr P) (stU w) (arr w.D) (arr w.G) (stP w) (arr w.v) (ix2 t i) = ((xc (z2 w (Z t) (P t)) i : ℝ) : EReal) := by
  pointwise [val_main_v96, val_main_v95, val_main_v85, val_main_v83, val_main_v82, val_main_cst_17, val_main_v84, val_main_cst_18]
  simp only [r81, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r98 (t : Fin 2048) (s : Fin 1) : val_main_v98 (F := Ideal) (arr Z) (arr P) (stU w) (arr w.D) (arr w.G) (stP w) (arr w.v) (ix2 t s) = ((ve (z2 w (Z t) (P t)) : ℝ) : EReal) := by
  pointwise [val_main_v98, val_main_v94, val_main_v92, val_main_v91, val_main_v88, val_main_cst_20, val_main_v93, val_main_cst_21, val_main_v97, val_main_cst_22]
  simp only [r87, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r99 (t : Fin 2048) (s : Fin 1) : val_main_v99 (F := Ideal) (arr Z) (arr P) (stU w) (arr w.D) (arr w.G) (stP w) (arr w.v) (ix2 t s) = ((rs (z2 w (Z t) (P t)) : ℝ) : EReal) := by
  pointwise [val_main_v99]
  simp only [r98, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  exact rsqrt_ve _

theorem r102 (t : Fin 2048) (s : Fin 1) : val_main_v102 (F := Ideal) (arr Z) (arr P) (stU w) (arr w.D) (arr w.G) (stP w) (arr w.v) (ix2 t s) = ((-(1 / 2) * (rs (z2 w (Z t) (P t)) / ve (z2 w (Z t) (P t))) : ℝ) : EReal) := by
  pointwise [val_main_v102, val_main_v101, val_main_cst_23, val_main_v100]
  simp only [r99, r98, div_coe (ve_pos (z2 w (Z t) (P t))).ne', arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]

theorem r104 (t : Fin 2048) (i : Fin 1024) : val_main_v104 (F := Ideal) (arr Z) (arr P) (stU w) (arr w.D) (arr w.G) (stP w) (arr w.v) (ix2 t i) = ((xh (z2 w (Z t) (P t)) i : ℝ) : EReal) := by
  pointwise [val_main_v104, val_main_v103]
  simp only [r96, r99, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r111 (t : Fin 2048) (i : Fin 1024) : val_main_v111 (F := Ideal) (arr Z) (arr P) (arr T) (stU w) (arr w.D) (arr w.G) (stP w) (arr w.v) (ix2 t i) = ((err w (Z t) (P t) (T t) i : ℝ) : EReal) := by
  pointwise [val_main_v111, val_main_v110, val_main_v107, val_main_v106, val_main_v105, val_main_v7, val_main_v6, val_main_v109, val_main_v108, val_main_v9, val_main_v8]
  simp only [r104, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r126 (t : Fin 2048) (i : Fin 1024) : val_main_v126 (F := Ideal) (arr Z) (arr P) (arr T) (stU w) (arr w.D) (arr w.G) (stP w) (arr w.v) (ix2 t i) = ((dy w (Z t) (P t) (T t) i : ℝ) : EReal) := by
  pointwise [val_main_v126, val_main_v125, val_main_v124, val_main_v122, val_main_v121, val_main_cst_29, val_main_v120, val_main_cst_28, val_main_v123, val_main_cst_30, val_main_v114, val_main_v113, val_main_cst_24]
  simp only [r111, ← EReal.coe_one, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  congr 1
  unfold dy
  ring

theorem r134 (t : Fin 2048) (i : Fin 1024) : val_main_v134 (F := Ideal) (arr Z) (arr P) (arr T) (stU w) (arr w.D) (arr w.G) (stP w) (arr w.v) (ix2 t i) = ((dy w (Z t) (P t) (T t) i * w.v 3 i : ℝ) : EReal) := by
  pointwise [val_main_v134, val_main_v133, val_main_v105, val_main_v7, val_main_v6]
  simp only [r126, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]

theorem r159 (t : Fin 2048) (i : Fin 1024) : val_main_v159 (F := Ideal) (arr Z) (arr P) (arr T) (stU w) (arr w.D) (arr w.G) (stP w) (arr w.v) (ix2 t i) = ((dz2 w (Z t) (P t) (T t) i : ℝ) : EReal) := by
  pointwise [val_main_v159, val_main_v153, val_main_v140, val_main_v139, val_main_v149, val_main_v148, val_main_v147, val_main_v146, val_main_v141, val_main_v138, val_main_v137, val_main_v136, val_main_cst_35, val_main_v145, val_main_cst_37, val_main_cst_38, val_main_v90, val_main_v89, val_main_cst_19, val_main_v158, val_main_v157, val_main_v156, val_main_v154, val_main_v144, val_main_v143, val_main_v142, val_main_cst_36, val_main_v152, val_main_v151, val_main_v150, val_main_cst_39, val_main_v155, val_main_cst_40, val_main_cst_41]
  simp only [r134, r99, r96, r102, r87, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  exact congrArg _ (ln_back (z2 w (Z t) (P t)) (fun k => dy w (Z t) (P t) (T t) k * w.v 3 k) i)

theorem r161 (t : Fin 2048) (i : Fin 1024) : val_main_v161 (F := Ideal) (arr Z) (arr P) (arr T) (stU w) (arr w.D) (arr w.G) (stP w) (arr w.v) (ix2 t i) = ((dpw w (Z t) (P t) (T t) i : ℝ) : EReal) := by
  pointwise [val_main_v161]
  simp only [r159, r76, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r162 (t : Fin 2048) (i : Fin 1024) : val_main_v162 (F := Ideal) (arr Z) (arr P) (arr T) (stU w) (arr w.D) (arr w.G) (stP w) (arr w.v) (ix2 t i) = ((dgl w (Z t) (P t) (T t) i : ℝ) : EReal) := by
  pointwise [val_main_v162, val_main_v160, val_main_v79, val_main_v78, val_main_v77, val_main_cst_16]
  simp only [r52, r159, r76, ← EReal.coe_one, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  congr 1
  unfold dgl
  ring

theorem r165 (t : Fin 2048) (i : Fin 4096) : val_main_v165 (F := Ideal) (arr Z) (arr P) (arr T) (stU w) (arr w.D) (arr w.G) (stP w) (arr w.v) (ix2 t i) = ((du w (Z t) (P t) (T t) i : ℝ) : EReal) := by
  pointwise [val_main_v165, val_main_v164, val_main_v163, val_main_v16, val_main_v68, val_main_v67, val_main_cst_13, val_main_v65, val_main_v58, val_main_v47, val_main_v57, val_main_cst_8, val_main_v61, val_main_cst_10, val_main_v64, val_main_v60, val_main_v59, val_main_cst_9, val_main_v63, val_main_cst_12, val_main_v62, val_main_cst_11]
  simp only [r159, r56, r46, r12, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  exact relu_back _ _

theorem r174 (t : Fin 2048) (i : Fin 1024) : val_main_v174 (F := Ideal) (arr Z) (arr P) (arr T) (stU w) (arr w.D) (arr w.G) (stP w) (arr w.v) (ix2 t i) = ((dh w (Z t) (P t) (T t) i : ℝ) : EReal) := by
  pointwise [val_main_v174, val_main_v167, val_main_v166, val_main_cst_42, val_main_v173, val_main_v171, val_main_v17, val_main_v172]
  simp only [r159, r162, r165, r12, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rw [← add_assoc]
  rfl

theorem r182 (t : Fin 2048) (i : Fin 1024) : val_main_v182 (F := Ideal) (arr Z) (arr P) (arr T) (stU w) (arr w.D) (arr w.G) (stP w) (arr w.v) (ix2 t i) = ((dh w (Z t) (P t) (T t) i * w.v 0 i : ℝ) : EReal) := by
  pointwise [val_main_v182, val_main_v181, val_main_v41, val_main_v1, val_main_v0]
  simp only [r174, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]

theorem r207 (t : Fin 2048) (i : Fin 1024) : val_main_v207 (F := Ideal) (arr Z) (arr P) (arr T) (stU w) (arr w.D) (arr w.G) (stP w) (arr w.v) (ix2 t i) = ((dz1 w (Z t) (P t) (T t) i : ℝ) : EReal) := by
  pointwise [val_main_v207, val_main_v201, val_main_v188, val_main_v187, val_main_v197, val_main_v196, val_main_v195, val_main_v194, val_main_v189, val_main_v186, val_main_v185, val_main_v184, val_main_cst_49, val_main_v193, val_main_cst_51, val_main_cst_52, val_main_v26, val_main_v25, val_main_cst_1, val_main_v206, val_main_v205, val_main_v204, val_main_v202, val_main_v192, val_main_v191, val_main_v190, val_main_cst_50, val_main_v200, val_main_v199, val_main_v198, val_main_cst_53, val_main_v203, val_main_cst_54, val_main_cst_55]
  simp only [r182, r35, r32, r38, r23, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  exact congrArg _ (ln_back (Z t) (fun k => dh w (Z t) (P t) (T t) k * w.v 0 k) i)

theorem r135 (i : Fin 1024) : val_main_v135 (F := Ideal) (arr Z) (arr P) (arr T) (stU w) (arr w.D) (arr w.G) (stP w) (arr w.v) (ix1 i) = ((∑ t, acc w (Z t) (P t) (T t) 0 i : ℝ) : EReal) := by
  pointwise [val_main_v135, val_main_v132, val_main_v131, val_main_v130, val_main_cst_33, val_main_cst_34]
  simp only [r104, r126, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  exact congrArg _ (Finset.sum_congr rfl fun t _ => mul_comm _ _)

theorem r129 (i : Fin 1024) : val_main_v129 (F := Ideal) (arr Z) (arr P) (arr T) (stU w) (arr w.D) (arr w.G) (stP w) (arr w.v) (ix1 i) = ((∑ t, acc w (Z t) (P t) (T t) 1 i : ℝ) : EReal) := by
  pointwise [val_main_v129, val_main_v128, val_main_v127, val_main_cst_31, val_main_cst_32]
  simp only [r126, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r170 (i : Fin 1024) : val_main_v170 (F := Ideal) (arr Z) (arr P) (arr T) (stU w) (arr w.D) (arr w.G) (stP w) (arr w.v) (ix1 i) = ((∑ t, acc w (Z t) (P t) (T t) 2 i : ℝ) : EReal) := by
  pointwise [val_main_v170, val_main_v169, val_main_v168, val_main_cst_43, val_main_cst_44]
  simp only [r162, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r183 (i : Fin 1024) : val_main_v183 (F := Ideal) (arr Z) (arr P) (arr T) (stU w) (arr w.D) (arr w.G) (stP w) (arr w.v) (ix1 i) = ((∑ t, acc w (Z t) (P t) (T t) 3 i : ℝ) : EReal) := by
  pointwise [val_main_v183, val_main_v180, val_main_v179, val_main_v178, val_main_cst_47, val_main_cst_48]
  simp only [r40, r174, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  exact congrArg _ (Finset.sum_congr rfl fun t _ => mul_comm _ _)

theorem r177 (i : Fin 1024) : val_main_v177 (F := Ideal) (arr Z) (arr P) (arr T) (stU w) (arr w.D) (arr w.G) (stP w) (arr w.v) (ix1 i) = ((∑ t, acc w (Z t) (P t) (T t) 4 i : ℝ) : EReal) := by
  pointwise [val_main_v177, val_main_v176, val_main_v175, val_main_cst_45, val_main_cst_46]
  simp only [r174, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  rfl

theorem r119 (i : Fin 1024) : val_main_v119 (F := Ideal) (arr Z) (arr P) (arr T) (stU w) (arr w.D) (arr w.G) (stP w) (arr w.v) (ix1 i) = ((∑ t, acc w (Z t) (P t) (T t) 5 i : ℝ) : EReal) := by
  pointwise [val_main_v119, val_main_v118, val_main_cst_27, val_main_v117, val_main_v115, val_main_v112, val_main_cst_25, val_main_v116, val_main_cst_26]
  simp only [r111, arr_apply, ← EReal.coe_mul, coe_sum, ← EReal.coe_add, ← EReal.coe_sub, ← EReal.coe_neg, max_coe, ofBits_1024, ofBits_eps5, ofBits_al, ofBits_two, ofBits_half, ofBits_neg_half, div_1024, zero_add, Fin.sum_univ_one]
  congr 1
  rw [Finset.sum_div, Finset.mul_sum]
  refine Finset.sum_congr rfl fun t _ => ?_
  show _ = 1 / 2 * err w (Z t) (P t) (T t) i * dy w (Z t) (P t) (T t) i
  unfold dy
  ring

theorem res207 : val_main_v207 (F := Ideal) (arr Z) (arr P) (arr T) (stU w) (arr w.D) (arr w.G) (stP w) (arr w.v) = arr (fun t => dz1 w (Z t) (P t) (T t)) := by
  funext x
  idx_vars x
  exact r207 w Z P T x0 x1

theorem res217 : val_main_v217 (F := Ideal) (arr Z) (arr P) (arr T) (stU w) (arr w.D) (arr w.G) (stP w) (arr w.v) = arr (fun t => dz1 w (Z t) (P t) (T t)) := by
  funext x
  idx_vars x
  exact r207 w Z P T x0 x1

theorem res218 : val_main_v218 (F := Ideal) (arr Z) (arr w.v) = arr (fun t => Mlp.h w (Z t)) := by
  funext x
  idx_vars x
  exact r46 w Z x0 x1

theorem res219 : val_main_v219 (F := Ideal) (arr Z) (arr P) (arr T) (stU w) (arr w.D) (arr w.G) (stP w) (arr w.v) = arr (fun t => du w (Z t) (P t) (T t)) := by
  funext x
  idx_vars x
  exact r165 w Z P T x0 x1

theorem res223 : val_main_v223 (F := Ideal) (arr Z) (stU w) (arr w.v) = arr (fun t n => r w (Z t) n * r w (Z t) n) := by
  funext x
  idx_vars x
  have e : val_main_v221 (F := Ideal) (arr Z) (stU w) (arr w.v) (ix2 x0 x1) = ((r w (Z x0) x1 : ℝ) : EReal) := r56 w Z x0 x1
  pointwise [val_main_v223, val_main_v222]
  rw [e, arr_apply, EReal.coe_mul]

theorem res224 : val_main_v224 (F := Ideal) (arr Z) (arr P) (arr T) (stU w) (arr w.D) (arr w.G) (stP w) (arr w.v) = arr (fun t => dz2 w (Z t) (P t) (T t)) := by
  funext x
  idx_vars x
  exact r159 w Z P T x0 x1

theorem res225 : val_main_v225 (F := Ideal) (arr Z) (arr P) (arr T) (stU w) (arr w.D) (arr w.G) (stP w) (arr w.v) = arr (fun t => dpw w (Z t) (P t) (T t)) := by
  funext x
  idx_vars x
  exact r161 w Z P T x0 x1

theorem res226 : val_main_v226 (F := Ideal) (arr Z) (arr P) (arr T) (stU w) (arr w.D) (arr w.G) (stP w) (arr w.v) = arr (fun t => dgl w (Z t) (P t) (T t)) := by
  funext x
  idx_vars x
  exact r162 w Z P T x0 x1

theorem res227 : val_main_v227 (F := Ideal) (arr P) = arr P := rfl

theorem r216 (a : Fin 8) (i : Fin 1024) : val_main_v216 (F := Ideal) (arr Z) (arr P) (arr T) (stU w) (arr w.D) (arr w.G) (stP w) (arr w.v) (ix2 a i)
    = ((∑ t, acc w (Z t) (P t) (T t) a.val i : ℝ) : EReal) := by
  have e0 := r135 w Z P T i
  have e1 := r129 w Z P T i
  have e2 := r170 w Z P T i
  have e3 := r183 w Z P T i
  have e4 := r177 w Z P T i
  have e5 := r119 w Z P T i
  pointwise [val_main_v216, val_main_v214, val_main_v208, val_main_v209, val_main_v210, val_main_v211, val_main_v212, val_main_v213, val_main_v215, val_main_cst_56]
  fin_cases a
  · simp [e0]
  · simp [e1]
  · simp [e2]
  · simp [e3]
  · simp [e4]
  · simp [e5]
  · simp [acc]
  · simp [acc]

theorem res216 : val_main_v216 (F := Ideal) (arr Z) (arr P) (arr T) (stU w) (arr w.D) (arr w.G) (stP w) (arr w.v) = arr (fun a i => ∑ t, acc w (Z t) (P t) (T t) a.val i) := by
  funext x
  idx_vars x
  exact r216 w Z P T x0 x1

end Cert.Mlp
-- ==== Proof.Mlp.lean ====
/- The claims about the feed-forward layer with its gated embedding and its two layer norms, forward and backward. -/
module

public import proofs.«01_k».proof.Defs
public import proofs.«01_k».proof.Proof.MlpFinal
public import proofs.«01_k».proof.Proof.MlpRef
public import proofs.«01_k».proof.Proof.Gen.Reference2Ideal.Run
public import proofs.«01_k».proof.Proof.Gen.Pre_mlp_finite
public import Idealize.ShloMosaic.Lib.Claim
public import Idealize.ShloMosaic.Lib.ReduceAll

@[expose] public section

noncomputable section

namespace Cert.Mlp

open Idealize.ShloMosaic Idealize.ShloMosaic.TcCoe Idealize.SL.Sem Cert.Reals

local instance : Cert.Kernel2Ideal.Facts := Cert.Kernel2Ideal.Gen.facts
local instance : Cert.Reference2Ideal.Facts := Cert.Reference2Ideal.Gen.facts
local instance : Cert.Pre_mlp_finite.Facts := Cert.Pre_mlp_finite.Gen.facts

theorem arr_of {a b : ℕ} {x : (⟨2, ![a, b]⟩ : Shape).Idx → EReal} (h : ∃ f, x = up f) : ∃ f : Fin a → Fin b → ℝ, x = arr f := by
  obtain ⟨f, rfl⟩ := h
  refine ⟨fun t i => f (ix2 t i), ?_⟩
  funext y
  exact congrArg (up f) (show y = ix2 (y 0) (y 1) by funext k; fin_cases k <;> rfl)

theorem stU_of {x : (⟨3, ![8, 1024, 512]⟩ : Shape).Idx → EReal} (h : ∃ f, x = up f) :
    ∃ U : Fin 1024 → Fin 4096 → ℝ, ∀ D G P v, x = stU ⟨U, D, G, P, v⟩ := by
  obtain ⟨f, rfl⟩ := h
  refine ⟨fun k n => f (ix3 ⟨n.val / 512, by omega⟩ k ⟨n.val % 512, by omega⟩), fun _ _ _ _ => ?_⟩
  funext y
  idx_vars y
  show ((f _ : ℝ) : EReal) = ((f _ : ℝ) : EReal)
  congr 2
  unfold cj
  congr 1 <;> (apply Fin.ext; simp; omega)

theorem stP_of {x : (⟨3, ![8, 256, 128]⟩ : Shape).Idx → EReal} (h : ∃ f, x = up f) :
    ∃ P : Fin 256 → Fin 1024 → ℝ, ∀ U D G v, x = stP ⟨U, D, G, P, v⟩ := by
  obtain ⟨f, rfl⟩ := h
  refine ⟨fun k n => f (ix3 ⟨n.val / 128, by omega⟩ k ⟨n.val % 128, by omega⟩), fun _ _ _ _ => ?_⟩
  funext y
  idx_vars y
  show ((f _ : ℝ) : EReal) = ((f _ : ℝ) : EReal)
  congr 2
  unfold cl
  congr 1 <;> (apply Fin.ext; simp; omega)

/-- The precondition says that the eight arrays hold reals. -/
theorem reals (x0 : (⟨Cert.Pre_mlp_finite.S2048x1024, .f32⟩ : BufTy).Contents (Elt Ideal))
    (x1 : (⟨Cert.Pre_mlp_finite.S2048x256, .f32⟩ : BufTy).Contents (Elt Ideal))
    (x2 : (⟨Cert.Pre_mlp_finite.S2048x1024, .f32⟩ : BufTy).Contents (Elt Ideal))
    (x3 : (⟨Cert.Pre_mlp_finite.S8x1024x512, .bf16⟩ : BufTy).Contents (Elt Ideal))
    (x4 : (⟨Cert.Pre_mlp_finite.S4096x1024, .bf16⟩ : BufTy).Contents (Elt Ideal))
    (x5 : (⟨Cert.Pre_mlp_finite.S1024x1024, .bf16⟩ : BufTy).Contents (Elt Ideal))
    (x6 : (⟨Cert.Pre_mlp_finite.S8x256x128, .bf16⟩ : BufTy).Contents (Elt Ideal))
    (x7 : (⟨Cert.Pre_mlp_finite.S8x1024, .f32⟩ : BufTy).Contents (Elt Ideal))
    (h : Cert.Pre_mlp_finite.fn (F := Ideal) x0 x1 x2 x3 x4 x5 x6 x7 = fun _ => 1#1) :
    ∃ (w : Wts) (Z : Fin 2048 → Fin 1024 → ℝ) (P : Fin 2048 → Fin 256 → ℝ) (T : Fin 2048 → Fin 1024 → ℝ),
      x0 = arr Z ∧ x1 = arr P ∧ x2 = arr T ∧ x3 = stU w ∧ x4 = arr w.D ∧ x5 = arr w.G ∧ x6 = stP w ∧ x7 = arr w.v := by
  have e := congrFun h (fun a => a.elim0)
  dsimp only [Cert.Pre_mlp_finite.fn, Cert.Pre_mlp_finite.fn_part1, Cert.Pre_mlp_finite.fn_part2] at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨Z, hZ⟩ := arr_of (exists_real x0 fun i => finite_of_olt _ (Host.reduce_andi_all _ _ _ _ _ h0 i))
  obtain ⟨P, hP⟩ := arr_of (exists_real x1 fun i => finite_of_olt _ (Host.reduce_andi_all _ _ _ _ _ h1 i))
  obtain ⟨T, hT⟩ := arr_of (exists_real x2 fun i => finite_of_olt _ (Host.reduce_andi_all _ _ _ _ _ h2 i))
  obtain ⟨U, hU⟩ := stU_of (exists_real x3 fun i => finite_of_olt _ (Host.reduce_andi_all _ _ _ _ _ h3 i))
  obtain ⟨D, hD⟩ := arr_of (exists_real x4 fun i => finite_of_olt _ (Host.reduce_andi_all _ _ _ _ _ h4 i))
  obtain ⟨G, hG⟩ := arr_of (exists_real x5 fun i => finite_of_olt _ (Host.reduce_andi_all _ _ _ _ _ h5 i))
  obtain ⟨E, hE⟩ := stP_of (exists_real x6 fun i => finite_of_olt _ (Host.reduce_andi_all _ _ _ _ _ h6 i))
  obtain ⟨v, hv⟩ := arr_of (exists_real x7 fun i => finite_of_olt _ (Host.reduce_andi_all _ _ _ _ _ h7 i))
  exact ⟨⟨U, D, G, E, v⟩, Z, P, T, hZ, hP, hT, hU _ _ _ _, hD, hG, hE _ _ _ _, hv⟩

section
open Cert.Reference2Ideal Cert.Reference2Ideal.Read

variable {x0 x2 : S2048x1024.Idx → EReal} {x1 : S2048x256.Idx → EReal} {x3 : S8x1024x512.Idx → EReal} {x4 : S4096x1024.Idx → EReal}
  {x5 : S1024x1024.Idx → EReal} {x6 : S8x256x128.Idx → EReal} {x7 : S8x1024.Idx → EReal}
  {w : Wts} {Z : Fin 2048 → Fin 1024 → ℝ} {P : Fin 2048 → Fin 256 → ℝ} {T : Fin 2048 → Fin 1024 → ℝ}

theorem of207 (b0 : x0 = arr Z) (b1 : x1 = arr P) (b2 : x2 = arr T) (b3 : x3 = stU w) (b4 : x4 = arr w.D) (b5 : x5 = arr w.G) (b6 : x6 = stP w) (b7 : x7 = arr w.v) :
    val_main_v207 (F := Ideal) x0 x1 x2 x3 x4 x5 x6 x7 = arr (fun t => dz1 w (Z t) (P t) (T t)) := by
  rw [b0, b1, b2, b3, b4, b5, b6, b7]
  exact res207 w Z P T

theorem of217 (b0 : x0 = arr Z) (b1 : x1 = arr P) (b2 : x2 = arr T) (b3 : x3 = stU w) (b4 : x4 = arr w.D) (b5 : x5 = arr w.G) (b6 : x6 = stP w) (b7 : x7 = arr w.v) :
    val_main_v217 (F := Ideal) x0 x1 x2 x3 x4 x5 x6 x7 = arr (fun t => dz1 w (Z t) (P t) (T t)) := by
  rw [b0, b1, b2, b3, b4, b5, b6, b7]
  exact res217 w Z P T

theorem of218 (b0 : x0 = arr Z) (b7 : x7 = arr w.v) :
    val_main_v218 (F := Ideal) x0 x7 = arr (fun t => Mlp.h w (Z t)) := by
  rw [b0, b7]
  exact res218 w Z

theorem of219 (b0 : x0 = arr Z) (b1 : x1 = arr P) (b2 : x2 = arr T) (b3 : x3 = stU w) (b4 : x4 = arr w.D) (b5 : x5 = arr w.G) (b6 : x6 = stP w) (b7 : x7 = arr w.v) :
    val_main_v219 (F := Ideal) x0 x1 x2 x3 x4 x5 x6 x7 = arr (fun t => du w (Z t) (P t) (T t)) := by
  rw [b0, b1, b2, b3, b4, b5, b6, b7]
  exact res219 w Z P T

theorem of223 (b0 : x0 = arr Z) (b3 : x3 = stU w) (b7 : x7 = arr w.v) :
    val_main_v223 (F := Ideal) x0 x3 x7 = arr (fun t n => r w (Z t) n * r w (Z t) n) := by
  rw [b0, b3, b7]
  exact res223 w Z

theorem of224 (b0 : x0 = arr Z) (b1 : x1 = arr P) (b2 : x2 = arr T) (b3 : x3 = stU w) (b4 : x4 = arr w.D) (b5 : x5 = arr w.G) (b6 : x6 = stP w) (b7 : x7 = arr w.v) :
    val_main_v224 (F := Ideal) x0 x1 x2 x3 x4 x5 x6 x7 = arr (fun t => dz2 w (Z t) (P t) (T t)) := by
  rw [b0, b1, b2, b3, b4, b5, b6, b7]
  exact res224 w Z P T

theorem of225 (b0 : x0 = arr Z) (b1 : x1 = arr P) (b2 : x2 = arr T) (b3 : x3 = stU w) (b4 : x4 = arr w.D) (b5 : x5 = arr w.G) (b6 : x6 = stP w) (b7 : x7 = arr w.v) :
    val_main_v225 (F := Ideal) x0 x1 x2 x3 x4 x5 x6 x7 = arr (fun t => dpw w (Z t) (P t) (T t)) := by
  rw [b0, b1, b2, b3, b4, b5, b6, b7]
  exact res225 w Z P T

theorem of226 (b0 : x0 = arr Z) (b1 : x1 = arr P) (b2 : x2 = arr T) (b3 : x3 = stU w) (b4 : x4 = arr w.D) (b5 : x5 = arr w.G) (b6 : x6 = stP w) (b7 : x7 = arr w.v) :
    val_main_v226 (F := Ideal) x0 x1 x2 x3 x4 x5 x6 x7 = arr (fun t => dgl w (Z t) (P t) (T t)) := by
  rw [b0, b1, b2, b3, b4, b5, b6, b7]
  exact res226 w Z P T

theorem of227 (b1 : x1 = arr P) :
    val_main_v227 (F := Ideal) x1 = arr P := by
  rw [b1]
  exact res227 P

theorem of216 (b0 : x0 = arr Z) (b1 : x1 = arr P) (b2 : x2 = arr T) (b3 : x3 = stU w) (b4 : x4 = arr w.D) (b5 : x5 = arr w.G) (b6 : x6 = stP w) (b7 : x7 = arr w.v) :
    val_main_v216 (F := Ideal) x0 x1 x2 x3 x4 x5 x6 x7 = arr (fun a i => ∑ t, acc w (Z t) (P t) (T t) a.val i) := by
  rw [b0, b1, b2, b3, b4, b5, b6, b7]
  exact res216 w Z P T

end

theorem algebraic : Cert.algebraic_Kernel2Ideal_Reference2Ideal_pre_mlp_finite := by
  pair_intro
  · run_from Cert.Kernel2Ideal.Value.run_blocks m g
  · refine (θ_run Cert.Reference2Ideal.defs _ _).mono (fun r h c => ?_) (Cert.Reference2Ideal.Value.run (F := Ideal) m' g')
    obtain ⟨r0, r1, r2, r3, r4, r5, r6, r7, r8, r9, rest⟩ := h c
    obtain ⟨a0, a1, a2, a3, a4, a5, a6, a7⟩ := hagree c
    obtain ⟨w, Z, P, T, h0, h1, h2, h3, h4, h5, h6, h7⟩ := reals _ _ _ _ _ _ _ _ (hpre c)
    have A : Args m c w Z P T := ⟨h0, h1, h2, h3, h4, h5, h6, h7⟩
    have b0 := a0.trans h0
    have b1 := a1.trans h1
    have b2 := a2.trans h2
    have b3 := a3.trans h3
    have b4 := a4.trans h4
    have b5 := a5.trans h5
    have b6 := a6.trans h6
    have b7 := a7.trans h7
    refine ⟨r0.trans ?_, r1.trans ?_, r2.trans ?_, r3.trans ?_, r4.trans ?_, r5.trans ?_, r6.trans ?_, r7.trans ?_, r8.trans ?_,
      r9.trans ?_, rest⟩
    · exact (Cert.Reference2Ideal.Read.val_main_v207_eq _).trans ((of207 b0 b1 b2 b3 b4 b5 b6 b7).trans (final8 m c w Z P T A).symm)
    · exact (Cert.Reference2Ideal.Read.val_main_v217_eq _).trans ((of217 b0 b1 b2 b3 b4 b5 b6 b7).trans (final9 m c w Z P T A).symm)
    · exact (Cert.Reference2Ideal.Read.val_main_v218_eq _).trans ((of218 b0 b7).trans (final10 m c w Z P T A).symm)
    · exact (Cert.Reference2Ideal.Read.val_main_v219_eq _).trans ((of219 b0 b1 b2 b3 b4 b5 b6 b7).trans (final11 m c w Z P T A).symm)
    · exact (Cert.Reference2Ideal.Read.val_main_v223_eq _).trans ((of223 b0 b3 b7).trans (final12 m c w Z P T A).symm)
    · exact (Cert.Reference2Ideal.Read.val_main_v224_eq _).trans ((of224 b0 b1 b2 b3 b4 b5 b6 b7).trans (final13 m c w Z P T A).symm)
    · exact (Cert.Reference2Ideal.Read.val_main_v225_eq _).trans ((of225 b0 b1 b2 b3 b4 b5 b6 b7).trans (final14 m c w Z P T A).symm)
    · exact (Cert.Reference2Ideal.Read.val_main_v226_eq _).trans ((of226 b0 b1 b2 b3 b4 b5 b6 b7).trans (final15 m c w Z P T A).symm)
    · exact (Cert.Reference2Ideal.Read.val_main_v227_eq _).trans ((of227 b1).trans (final16 m c w Z P T A).symm)
    · exact (Cert.Reference2Ideal.Read.val_main_v216_eq _).trans ((of216 b0 b1 b2 b3 b4 b5 b6 b7).trans (final17 m c w Z P T A).symm)

theorem frame_ref : Cert.quiescent_Reference2Ideal := fun m g _ =>
  (θ_run Cert.Reference2Ideal.defs _ _).mono
    (fun r h => ⟨fun c => (h c).2.2.2.2.2.2.2.2.2.2, sem_eq_zero_of_no_sems (by decide) r.2⟩)
    (Cert.Reference2Ideal.Value.run (F := Ideal) m g)

end Cert.Mlp
-- ==== Proof.InProj.lean ====
/- The claims about the entry norm and the input projection: both programs normalise a token by the same formula and
   multiply the normalised token by the same weights. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.InProj

open Idealize.ShloMosaic Idealize.ShloMosaic.TcCoe Idealize.SL.Sem

local instance : Cert.Kernel3Ideal.Facts := Cert.Kernel3Ideal.Gen.facts
local instance : Cert.Reference3Ideal.Facts := Cert.Reference3Ideal.Gen.facts

/-- A token less its mean. -/
def dev (f : Fin 1024 → EReal) (i : Fin 1024) : EReal := f i - Ideal.div (∑ k, f k) (Ideal.ofBits .f32 0x44800000#32)
/-- The layer norm of one token. -/
def nrm (f g b : Fin 1024 → EReal) (i : Fin 1024) : EReal :=
  dev f i * Ideal.rsqrt (Ideal.div (∑ k, dev f k * dev f k) (Ideal.ofBits .f32 0x44800000#32) + Ideal.ofBits .f32 0x3727C5AC#32) * g i + b i

section
open Cert.Kernel3Ideal Cert.Kernel3Ideal.Gen

theorem pay1 (x : S512x1024.Idx → EReal) (g b : S1x1024.Idx → EReal) (s : Fin 512) (i : Fin 1024) :
    k0_pay1 (F := Ideal) x g b (ix2 s i) = nrm (fun k => x (ix2 s k)) (fun k => g (ix2 0 k)) (fun k => b (ix2 0 k)) i := by
  pointwise [k0_pay1]
  rfl

theorem pay2 (x : S512x1024.Idx → EReal) (g b : S1x1024.Idx → EReal) (s : Fin 512) (i : Fin 1024) :
    k0_pay2 (F := Ideal) x g b (ix2 s i) = nrm (fun k => x (ix2 s k)) (fun k => g (ix2 0 k)) (fun k => b (ix2 0 k)) i :=
  pay1 x g b s i

theorem pay3 (a : S512x1024.Idx → EReal) (b : S1024x3712.Idx → EReal) (s : Fin 512) (n : Fin 3712) :
    k0_pay3 (F := Ideal) a b (ix2 s n) = ∑ k : Fin 1024, a (ix2 s k) * b (ix2 k n) := by
  pointwise [k0_pay3]

section
open Cert.Reference3Ideal.Read

theorem ref21 (x : S2048x1024.Idx → EReal) (g b : S1x1024.Idx → EReal) (s : Fin 2048) (i : Fin 1024) :
    val_main_v21 (F := Ideal) x g b (ix2 s i) = nrm (fun k => x (ix2 s k)) (fun k => g (ix2 0 k)) (fun k => b (ix2 0 k)) i := by
  pointwise [val_main_v21, val_main_v20, val_main_v19, val_main_v18, val_main_v17, val_main_v16, val_main_v15, val_main_v14, val_main_v13,
    val_main_cst_3, val_main_v12, val_main_v11, val_main_v10, val_main_v9, val_main_cst_2, val_main_v8, val_main_v7, val_main_cst_1,
    val_main_v6, val_main_v5, val_main_v4, val_main_v3, val_main_v2, val_main_cst_0, val_main_v1, val_main_v0, val_main_cst]
  rfl

theorem ref22 (x : S2048x1024.Idx → EReal) (g b : S1x1024.Idx → EReal) (s : Fin 2048) (i : Fin 1024) :
    val_main_v22 (F := Ideal) x g b (ix2 s i) = nrm (fun k => x (ix2 s k)) (fun k => g (ix2 0 k)) (fun k => b (ix2 0 k)) i :=
  ref21 x g b s i

theorem ref24 (x : S2048x1024.Idx → EReal) (g b : S1x1024.Idx → EReal) (w : S1024x3712.Idx → EReal) (s : Fin 2048) (n : Fin 3712) :
    val_main_v24 (F := Ideal) x g b w (ix2 s n)
      = ∑ i : Fin 1024, nrm (fun k => x (ix2 s k)) (fun k => g (ix2 0 k)) (fun k => b (ix2 0 k)) i * w (ix2 i n) := by
  pointwise [val_main_v24, val_main_v23]
  simp only [ref21]

end

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- Token `s` of the block a grid point handles. -/
def tk (t : Fin cfg0.N) (s : Fin 512) : Fin 2048 := ⟨512 * t.val + s.val, by have h : t.val < 4 := t.isLt; omega⟩

theorem in0 (t : Fin cfg0.N) (s : Fin 512) (k : Fin 1024) : (iblk m c 0 t : S512x1024.Idx → EReal) (ix2 s k)
    = (m ((c : Thread nD τ).loc main_arg0) : S2048x1024.Idx → EReal) (ix2 (tk t s) k) := by
  obtain ⟨e, -, -, -, -, -, -⟩ := idx t
  blk_simp [iblk, e]
  rw [V_main_arg0]
  have h2 : (win0_0.blk t).view.emb (ix2 s k) = ix2 (tk t s) k := by
    unfold tk
    blk_ext [e]
  exact congrArg (m ((c : Thread nD τ).loc main_arg0) : S2048x1024.Idx → EReal) h2

theorem in1 (t : Fin cfg0.N) : (iblk m c 1 t : S1x1024.Idx → EReal) = m ((c : Thread nD τ).loc main_arg1) := by
  funext y
  obtain ⟨-, e, -, -, -, -, -⟩ := idx t
  blk_simp [iblk, e]
  rw [V_main_arg1]
  have h2 : (win0_1.blk t).view.emb y = y := by blk_ext [e]
  exact congrArg (m ((c : Thread nD τ).loc main_arg1) : S1x1024.Idx → EReal) h2

theorem in2 (t : Fin cfg0.N) : (iblk m c 2 t : S1x1024.Idx → EReal) = m ((c : Thread nD τ).loc main_arg2) := by
  funext y
  obtain ⟨-, -, e, -, -, -, -⟩ := idx t
  blk_simp [iblk, e]
  rw [V_main_arg2]
  have h2 : (win0_2.blk t).view.emb y = y := by blk_ext [e]
  exact congrArg (m ((c : Thread nD τ).loc main_arg2) : S1x1024.Idx → EReal) h2

theorem in3 (t : Fin cfg0.N) : (iblk m c 3 t : S1024x3712.Idx → EReal) = m ((c : Thread nD τ).loc main_arg3) := by
  funext y
  obtain ⟨-, -, -, e, -, -, -⟩ := idx t
  blk_simp [iblk, e]
  rw [V_main_arg3]
  have h2 : (win0_3.blk t).view.emb y = y := by blk_ext [e]
  exact congrArg (m ((c : Thread nD τ).loc main_arg3) : S1024x3712.Idx → EReal) h2

/-- The norm of a token of the block is the norm of that token. -/
theorem nrm_in (t : Fin cfg0.N) (s : Fin 512) (i : Fin 1024) :
    k0_pay1 (F := Ideal) (iblk m c 0 t) (iblk m c 1 t) (iblk m c 2 t) (ix2 s i)
      = Cert.Reference3Ideal.Read.val_main_v21 (F := Ideal) (m ((c : Thread nD τ).loc main_arg0)) (m ((c : Thread nD τ).loc main_arg1))
          (m ((c : Thread nD τ).loc main_arg2)) (ix2 (tk t s) i) := by
  refine (pay1 _ _ _ s i).trans (Eq.trans ?_ (ref21 _ _ _ (tk t s) i).symm)
  rw [in1, in2]
  exact congrArg (fun f => nrm f _ _ i) (funext fun k => in0 m c t s k)

theorem out4 (t : Fin cfg0.N) : (outsAt0 (F := Ideal) m c t).1 = k0_pay1 (F := Ideal) (iblk m c 0 t) (iblk m c 1 t) (iblk m c 2 t) := by
  unfold outsAt0
  frame_open
  frame_out

theorem out5 (t : Fin cfg0.N) : (outsAt0 (F := Ideal) m c t).2.1 = k0_pay1 (F := Ideal) (iblk m c 0 t) (iblk m c 1 t) (iblk m c 2 t) := by
  refine Eq.trans (b := k0_pay2 (F := Ideal) (iblk m c 0 t) (iblk m c 1 t) (iblk m c 2 t)) ?_ rfl
  unfold outsAt0
  frame_open
  frame_out

theorem out6 (t : Fin cfg0.N) : (outsAt0 (F := Ideal) m c t).2.2
    = k0_pay3 (F := Ideal) (k0_pay1 (F := Ideal) (iblk m c 0 t) (iblk m c 1 t) (iblk m c 2 t)) (iblk m c 3 t) := by
  refine Eq.trans (b := k0_pay3 (F := Ideal) (k0_pay2 (F := Ideal) (iblk m c 0 t) (iblk m c 1 t) (iblk m c 2 t)) (iblk m c 3 t)) ?_ rfl
  unfold outsAt0
  frame_open
  simp (disch := decide) only [↓ View.readCov_skip, ↓ View.readCov_cons_toLoadRect, ↓ View.readCov_fill]
  frame_out

theorem final4 : (dats m 0 c).arrAt 4 cfg0.N = Cert.Reference3Ideal.Read.val_main_v21 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨-, -, -, -, e, -, -⟩ := idx t
  blk_simp [e]
  rw [after0_4, out4]
  have h2 : (win0_4.blk t).view.emb y = ix2 (tk t (y 0)) (y 1) := by
    unfold tk
    blk_ext [e]
  have hy : y = ix2 (y 0) (y 1) := by blk_ext
  exact (congrArg _ hy).trans ((nrm_in m c t (y 0) (y 1)).trans (congrArg _ h2).symm)

theorem final5 : (dats m 0 c).arrAt 5 cfg0.N = Cert.Reference3Ideal.Read.val_main_v22 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨-, -, -, -, -, e, -⟩ := idx t
  blk_simp [e]
  rw [after0_5, out5]
  have h2 : (win0_5.blk t).view.emb y = ix2 (tk t (y 0)) (y 1) := by
    unfold tk
    blk_ext [e]
  have hy : y = ix2 (y 0) (y 1) := by blk_ext
  exact (congrArg _ hy).trans ((nrm_in m c t (y 0) (y 1)).trans (congrArg _ h2).symm)

theorem final6 : (dats m 0 c).arrAt 6 cfg0.N = Cert.Reference3Ideal.Read.val_main_v24 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 6 _ (by decide +kernel) fun t hf y => ?_
  obtain ⟨-, -, -, -, -, -, e⟩ := idx t
  blk_simp [e]
  rw [after0_6, out6, in3]
  have h2 : (win0_6.blk t).view.emb y = ix2 (tk t (y 0)) (y 1) := by
    unfold tk
    blk_ext [e]
  have hy : y = ix2 (y 0) (y 1) := by blk_ext
  refine Eq.trans ?_ ((congrArg _ h2).trans (ref24 _ _ _ _ (tk t (y 0)) (y 1))).symm
  refine (congrArg _ hy).trans ((pay3 _ _ (y 0) (y 1)).trans ?_)
  exact Finset.sum_congr rfl fun k _ => congrArg₂ (· * ·) ((nrm_in m c t (y 0) k).trans (ref21 _ _ _ (tk t (y 0)) k)) rfl

end

theorem algebraic : Cert.algebraic_Kernel3Ideal_Reference3Ideal := by
  pair_intro
  · run_from Cert.Kernel3Ideal.Value.run_blocks m g
  · refine (θ_run Cert.Reference3Ideal.defs _ _).mono (fun r h c => ?_) (Cert.Reference3Ideal.Value.run (F := Ideal) m' g')
    obtain ⟨r0, r1, r2, rest⟩ := h c
    obtain ⟨a0, a1, a2, a3, a4⟩ := hagree c
    refine ⟨r0.trans ?_, r1.trans ?_, r2.trans ?_, rest⟩
    · refine (Cert.Reference3Ideal.Read.val_main_v21_eq _ _ _).trans ?_
      rw [a0, a1, a2]
      exact (final4 m c).symm
    · refine (Cert.Reference3Ideal.Read.val_main_v22_eq _ _ _).trans ?_
      rw [a0, a1, a2]
      exact (final5 m c).symm
    · refine (Cert.Reference3Ideal.Read.val_main_v24_eq _ _ _ _).trans ?_
      rw [a0, a1, a2, a3]
      exact (final6 m c).symm

theorem frame_ref : Cert.quiescent_Reference3Ideal := fun m g _ =>
  (θ_run Cert.Reference3Ideal.defs _ _).mono
    (fun r h => ⟨fun c => (h c).2.2.2, sem_eq_zero_of_no_sems (by decide) r.2⟩)
    (Cert.Reference3Ideal.Value.run (F := Ideal) m g)

end Cert.InProj
-- ==== Proof.WgradUp.lean ====
/- The claims about the weight gradient of the up projection: the product of the transposed
   stream with the gradient, tile by tile, the transposed tile kept between the tiles of one row. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.WgradUp

open Idealize.ShloMosaic Idealize.ShloMosaic.TcCoe Idealize.SL.Sem

local instance : Cert.Kernel4Ideal.Facts := Cert.Kernel4Ideal.Gen.facts
local instance : Cert.Reference4Ideal.Facts := Cert.Reference4Ideal.Gen.facts

section
open Cert.Kernel4Ideal Cert.Kernel4Ideal.Gen

/-- The kept tile is the transposed input block. -/
theorem tr (x : S2048x1024.Idx → EReal) : k0_pay1 (F := Ideal) x = fun y => x (ix2 (y 1) (y 0)) := by
  funext y
  idx_vars y
  pointwise [k0_pay1]

/-- One stored tile: the product over all tokens. -/
theorem pay (a : S1024x2048.Idx → EReal) (b : S2048x512.Idx → EReal) (q : Fin 1) (s : Fin 1024) (n : Fin 512) :
    k0_pay2 (F := Ideal) a b (ix3 q s n) = ∑ k : Fin 2048, a (ix2 s k) * b (ix2 k n) := by
  pointwise [k0_pay2]

/-- The reference's entry. -/
theorem ref (x0 : S2048x1024.Idx → EReal) (x1 : S2048x4096.Idx → EReal) (j : Fin 8) (i : Fin 1024) (n : Fin 512) :
    Cert.Reference4Ideal.Read.val_main_v8 (F := Ideal) x0 x1 (ix3 j i n)
      = ∑ k : Fin 2048, x0 (ix2 k i) * x1 (ix2 k ⟨j.val * 512 + n.val, by omega⟩) := by
  open Cert.Reference4Ideal.Read in
  pointwise [val_main_v8, val_main_v7, val_main_v6, val_main_v5, val_main_v4, val_main_v3, val_main_v1]
  exact Finset.sum_congr rfl fun k _ => mul_comm _ _

theorem idx : ∀ t : Fin cfg0.N, win0_0.index t = ![0, t.val / 8] ∧ win0_1.index t = ![0, t.val % 8] ∧ win0_2.index t = ![t.val % 8, t.val / 8, 0] :=
  (by decide +kernel : ∀ t : Fin grid0.N, _)

variable (m : (ℓ : Loc nD τ sig) → Buf (Elt Ideal) ℓ) (c : Dev nD)

/-- Row `s` of the tiles of point `n`. -/
def ro (n : ℕ) (h : n < 8) (s : Fin 1024) : Fin 1024 := ⟨1024 * (n / 8) + s.val, by omega⟩
/-- Column `s` of the tiles of point `n`. -/
def co (n : ℕ) (h : n < 8) (s : Fin 512) : Fin 4096 := ⟨n % 8 * 512 + s.val, by omega⟩

theorem in0 (t : Fin cfg0.N) (k : Fin 2048) (s : Fin 1024) : (iblk m c 0 t : S2048x1024.Idx → EReal) (ix2 k s)
    = (m ((c : Thread nD τ).loc main_arg0) : S2048x1024.Idx → EReal) (ix2 k (ro t.val t.isLt s)) := by
  obtain ⟨e, -, -⟩ := idx t
  blk_simp [iblk, e]
  rw [V_main_arg0]
  have h2 : (win0_0.blk t).view.emb (ix2 k s) = ix2 k (ro t.val t.isLt s) := by
    unfold ro
    blk_ext [e]
  exact congrArg (m ((c : Thread nD τ).loc main_arg0) : S2048x1024.Idx → EReal) h2

theorem in1 (t : Fin cfg0.N) (k : Fin 2048) (s : Fin 512) : (iblk m c 1 t : S2048x512.Idx → EReal) (ix2 k s)
    = (m ((c : Thread nD τ).loc main_arg1) : S2048x4096.Idx → EReal) (ix2 k (co t.val t.isLt s)) := by
  obtain ⟨-, e, -⟩ := idx t
  blk_simp [iblk, e]
  rw [V_main_arg1]
  have h2 : (win0_1.blk t).view.emb (ix2 k s) = ix2 k (co t.val t.isLt s) := by
    unfold co
    blk_ext [e]
  exact congrArg (m ((c : Thread nD τ).loc main_arg1) : S2048x4096.Idx → EReal) h2

/-- The kept tile after point `n`. -/
def kept (n : ℕ) (h : n < 8) : S1024x2048.Idx → EReal :=
  fun y => (m ((c : Thread nD τ).loc main_arg0) : S2048x1024.Idx → EReal) (ix2 (y 1) (ro n h (y 0)))

theorem tr_in0 (t : Fin cfg0.N) : k0_pay1 (F := Ideal) (iblk m c 0 t) = kept m c t.val t.isLt :=
  (tr _).trans (funext fun y => in0 m c t (y 1) (y 0))

theorem kept_step (n : ℕ) (h : n + 1 < cfg0.N) (h0 : ¬(n + 1) % 8 = 0) :
    (outsAt0 (F := Ideal) m c (n + 1) h).2 = (outsAt0 (F := Ideal) m c n (Nat.lt_of_succ_lt h)).2 := by
  have e := congrArg Prod.snd (outsAt0_B m c ⟨n + 1, h⟩ h0)
  dsimp only [sout0_B_0] at e
  exact e

theorem kept_eq (n : ℕ) (h : n < cfg0.N) : (outsAt0 (F := Ideal) m c n h).2 = kept m c n h := by
  induction n with
  | zero =>
    refine (congrArg Prod.snd (outsAt0_A m c ⟨0, h⟩ (Nat.zero_mod _))).trans ?_
    refine Eq.trans ?_ (tr_in0 m c ⟨0, h⟩)
    frame_open
    frame_out
  | succ n ih =>
    by_cases h0 : (n + 1) % 8 = 0
    · refine (congrArg Prod.snd (outsAt0_A m c ⟨n + 1, h⟩ h0)).trans ?_
      refine Eq.trans ?_ (tr_in0 m c ⟨n + 1, h⟩)
      frame_open
      frame_out
    · rw [kept_step m c n h h0, ih (Nat.lt_of_succ_lt h)]
      funext y
      have e : ro n (Nat.lt_of_succ_lt h) (y 0) = ro (n + 1) h (y 0) := by
        unfold ro
        apply Fin.ext
        show 1024 * (n / 8) + (y 0).val = 1024 * ((n + 1) / 8) + (y 0).val
        omega
      exact congrArg (fun r => (m ((c : Thread nD τ).loc main_arg0) : S2048x1024.Idx → EReal) (ix2 (y 1) r)) e

theorem out (t : Fin cfg0.N) : (outsAt0 (F := Ideal) m c t.val t.isLt).1 = k0_pay2 (F := Ideal) (kept m c t.val t.isLt) (iblk m c 1 t) := by
  by_cases h0 : t.val % 8 = 0
  · rw [← tr_in0, outsAt0_A m c t h0]
    frame_open
    simp (disch := decide) only [↓ View.readCov_skip, ↓ View.readCov_cons_toLoadRect, ↓ View.readCov_fill]
    frame_out
  · have k := (congrArg Prod.snd (outsAt0_B m c t h0)).symm.trans (kept_eq m c t.val t.isLt)
    dsimp only [sout0_B_0] at k
    rw [outsAt0_B m c t h0]
    refine Eq.trans ?_ (congrArg (fun a => k0_pay2 (F := Ideal) a (iblk m c 1 t)) k)
    frame_open
    simp (disch := decide) only [↓ View.readCov_skip, ↓ View.readCov_cons_toLoadRect, ↓ View.readCov_fill]
    frame_out
    rw [read_unread_whole]

theorem final : (dats m 0 c).arrAt 2 cfg0.N = Cert.Reference4Ideal.Read.val_main_v8 (F := Ideal)
    (m ((c : Thread nD τ).loc main_arg0)) (m ((c : Thread nD τ).loc main_arg1)) := by
  refine (dats m 0 c).arrAt_eq_of_covers 2 _ (by decide +kernel) fun t hf y => ?_
  obtain ⟨-, -, e⟩ := idx t
  blk_simp [e]
  rw [after0_2, out]
  have h2 : (win0_2.blk t).view.emb y = ix3 (⟨t.val % 8, Nat.mod_lt _ (by norm_num)⟩ : Fin 8) (ro t.val t.isLt (y 1)) (y 2) := by
    unfold ro
    blk_ext [e]
  refine Eq.trans ?_ ((congrArg _ h2).trans (ref _ _ _ _ _)).symm
  have hy : y = ix3 (y 0) (y 1) (y 2) := by blk_ext
  refine (congrArg _ hy).trans ((pay _ _ (y 0) (y 1) (y 2)).trans ?_)
  exact Finset.sum_congr rfl fun k _ => congrArg₂ (· * ·) rfl (in1 m c t k (y 2))

end

theorem algebraic : Cert.algebraic_Kernel4Ideal_Reference4Ideal := by
  pair_intro
  · run_from Cert.Kernel4Ideal.Value.run_blocks m g
  · refine (θ_run Cert.Reference4Ideal.defs _ _).mono (fun r h c => ?_) (Cert.Reference4Ideal.Value.run (F := Ideal) m' g')
    obtain ⟨r0, rest⟩ := h c
    obtain ⟨a0, a1⟩ := hagree c
    refine ⟨r0.trans ?_, rest⟩
    refine (Cert.Reference4Ideal.Read.val_main_v8_eq _ _).trans ?_
    rw [a0, a1]
    exact (final m c).symm

theorem frame_ref : Cert.quiescent_Reference4Ideal := fun m g _ =>
  (θ_run Cert.Reference4Ideal.defs _ _).mono
    (fun r h => ⟨fun c => (h c).2, sem_eq_zero_of_no_sems (by decide) r.2⟩)
    (Cert.Reference4Ideal.Value.run (F := Ideal) m g)

end Cert.WgradUp
-- ==== Proof.WgradDown.lean ====
/- The claims about the weight gradient of the down projection: the product of the transposed
   stream with the gradient, tile by tile, the transposed tile kept between the tiles of one row. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.WgradDown

open Idealize.ShloMosaic Idealize.ShloMosaic.TcCoe Idealize.SL.Sem

local instance : Cert.Kernel5Ideal.Facts := Cert.Kernel5Ideal.Gen.facts
local instance : Cert.Reference5Ideal.Facts := Cert.Reference5Ideal.Gen.facts

section
open Cert.Kernel5Ideal Cert.Kernel5Ideal.Gen

/-- The kept tile is the transposed input block. -/
theorem tr (x : S2048x1024.Idx → EReal) : k0_pay1 (F := Ideal) x = fun y => x (ix2 (y 1) (y 0)) := by
  funext y
  idx_vars y
  pointwise [k0_pay1]

/-- One stored tile: the product over all tokens. -/
theorem pay (a : S1024x2048.Idx → EReal) (b : S2048x512.Idx → EReal) (s : Fin 1024) (n : Fin 512) :
    k0_pay2 (F := Ideal) a b (ix2 s n) = ∑ k : Fin 2048, a (ix2 s k) * b (ix2 k n) := by
  pointwise [k0_pay2]

/-- The reference's entry. -/
theorem ref (x0 : S2048x4096.Idx → EReal) (x1 : S2048x1024.Idx → EReal) (i : Fin 4096) (n : Fin 1024) :
    Cert.Reference5Ideal.Read.val_main_v6 (F := Ideal) x0 x1 (ix2 i n)
      = ∑ k : Fin 2048, x0 (ix2 k i) * x1 (ix2 k n) := by
  open Cert.Reference5Ideal.Read in
  pointwise [val_main_v6, val_main_v5, val_main_v4, val_main_v3, val_main_v1]
  exact Finset.sum_congr rfl fun k _ => mul_comm _ _

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- Row `s` of the tiles of point `n`. -/
def ro (n : ℕ) (h : n < 8) (s : Fin 1024) : Fin 4096 := ⟨1024 * (n / 2) + s.val, by omega⟩
/-- Column `s` of the tiles of point `n`. -/
def co (n : ℕ) (h : n < 8) (s : Fin 512) : Fin 1024 := ⟨n % 2 * 512 + s.val, by omega⟩

theorem in0 (t : Fin cfg0.N) (k : Fin 2048) (s : Fin 1024) : (iblk m c 0 t : S2048x1024.Idx → EReal) (ix2 k s)
    = (m ((c : Thread nD τ).loc main_arg0) : S2048x4096.Idx → EReal) (ix2 k (ro t.val t.isLt s)) := by
  obtain ⟨e, -, -⟩ := idx t
  blk_simp [iblk, e]
  rw [V_main_arg0]
  have h2 : (win0_0.blk t).view.emb (ix2 k s) = ix2 k (ro t.val t.isLt s) := by
    unfold ro
    blk_ext [e]
  exact congrArg (m ((c : Thread nD τ).loc main_arg0) : S2048x4096.Idx → EReal) h2

theorem in1 (t : Fin cfg0.N) (k : Fin 2048) (s : Fin 512) : (iblk m c 1 t : S2048x512.Idx → EReal) (ix2 k s)
    = (m ((c : Thread nD τ).loc main_arg1) : S2048x1024.Idx → EReal) (ix2 k (co t.val t.isLt s)) := by
  obtain ⟨-, e, -⟩ := idx t
  blk_simp [iblk, e]
  rw [V_main_arg1]
  have h2 : (win0_1.blk t).view.emb (ix2 k s) = ix2 k (co t.val t.isLt s) := by
    unfold co
    blk_ext [e]
  exact congrArg (m ((c : Thread nD τ).loc main_arg1) : S2048x1024.Idx → EReal) h2

/-- The kept tile after point `n`. -/
def kept (n : ℕ) (h : n < 8) : S1024x2048.Idx → EReal :=
  fun y => (m ((c : Thread nD τ).loc main_arg0) : S2048x4096.Idx → EReal) (ix2 (y 1) (ro n h (y 0)))

theorem tr_in0 (t : Fin cfg0.N) : k0_pay1 (F := Ideal) (iblk m c 0 t) = kept m c t.val t.isLt :=
  (tr _).trans (funext fun y => in0 m c t (y 1) (y 0))

theorem kept_step (n : ℕ) (h : n + 1 < cfg0.N) (h0 : ¬(n + 1) % 2 = 0) :
    (outsAt0 (F := Ideal) m c (n + 1) h).2 = (outsAt0 (F := Ideal) m c n (Nat.lt_of_succ_lt h)).2 := by
  have e := congrArg Prod.snd (outsAt0_B m c ⟨n + 1, h⟩ h0)
  dsimp only [sout0_B_0] at e
  exact e

theorem kept_eq (n : ℕ) (h : n < cfg0.N) : (outsAt0 (F := Ideal) m c n h).2 = kept m c n h := by
  induction n with
  | zero =>
    refine (congrArg Prod.snd (outsAt0_A m c ⟨0, h⟩ (Nat.zero_mod _))).trans ?_
    refine Eq.trans ?_ (tr_in0 m c ⟨0, h⟩)
    frame_open
    frame_out
  | succ n ih =>
    by_cases h0 : (n + 1) % 2 = 0
    · refine (congrArg Prod.snd (outsAt0_A m c ⟨n + 1, h⟩ h0)).trans ?_
      refine Eq.trans ?_ (tr_in0 m c ⟨n + 1, h⟩)
      frame_open
      frame_out
    · rw [kept_step m c n h h0, ih (Nat.lt_of_succ_lt h)]
      funext y
      have e : ro n (Nat.lt_of_succ_lt h) (y 0) = ro (n + 1) h (y 0) := by
        unfold ro
        apply Fin.ext
        show 1024 * (n / 2) + (y 0).val = 1024 * ((n + 1) / 2) + (y 0).val
        omega
      exact congrArg (fun r => (m ((c : Thread nD τ).loc main_arg0) : S2048x4096.Idx → EReal) (ix2 (y 1) r)) e

theorem out (t : Fin cfg0.N) : (outsAt0 (F := Ideal) m c t.val t.isLt).1 = k0_pay2 (F := Ideal) (kept m c t.val t.isLt) (iblk m c 1 t) := by
  by_cases h0 : t.val % 2 = 0
  · rw [← tr_in0, outsAt0_A m c t h0]
    frame_open
    simp (disch := decide) only [↓ View.readCov_skip, ↓ View.readCov_cons_toLoadRect, ↓ View.readCov_fill]
    frame_out
  · have k := (congrArg Prod.snd (outsAt0_B m c t h0)).symm.trans (kept_eq m c t.val t.isLt)
    dsimp only [sout0_B_0] at k
    rw [outsAt0_B m c t h0]
    refine Eq.trans ?_ (congrArg (fun a => k0_pay2 (F := Ideal) a (iblk m c 1 t)) k)
    frame_open
    simp (disch := decide) only [↓ View.readCov_skip, ↓ View.readCov_cons_toLoadRect, ↓ View.readCov_fill]
    frame_out
    rw [read_unread_whole]

theorem final : (dats m 0 c).arrAt 2 cfg0.N = Cert.Reference5Ideal.Read.val_main_v6 (F := Ideal)
    (m ((c : Thread nD τ).loc main_arg0)) (m ((c : Thread nD τ).loc main_arg1)) := by
  refine (dats m 0 c).arrAt_eq_of_covers 2 _ (by decide +kernel) fun t hf y => ?_
  obtain ⟨-, -, e⟩ := idx t
  blk_simp [e]
  rw [after0_2, out]
  have h2 : (win0_2.blk t).view.emb y = ix2 (ro t.val t.isLt (y 0)) (co t.val t.isLt (y 1)) := by
    unfold ro co
    blk_ext [e]
  refine Eq.trans ?_ ((congrArg _ h2).trans (ref _ _ _ _)).symm
  have hy : y = ix2 (y 0) (y 1) := by blk_ext
  refine (congrArg _ hy).trans ((pay _ _ (y 0) (y 1)).trans ?_)
  exact Finset.sum_congr rfl fun k _ => congrArg₂ (· * ·) rfl (in1 m c t k (y 1))

end

theorem algebraic : Cert.algebraic_Kernel5Ideal_Reference5Ideal := by
  pair_intro
  · run_from Cert.Kernel5Ideal.Value.run_blocks m g
  · refine (θ_run Cert.Reference5Ideal.defs _ _).mono (fun r h c => ?_) (Cert.Reference5Ideal.Value.run (F := Ideal) m' g')
    obtain ⟨r0, rest⟩ := h c
    obtain ⟨a0, a1⟩ := hagree c
    refine ⟨r0.trans ?_, rest⟩
    refine (Cert.Reference5Ideal.Read.val_main_v6_eq _ _).trans ?_
    rw [a0, a1]
    exact (final m c).symm

theorem frame_ref : Cert.quiescent_Reference5Ideal := fun m g _ =>
  (θ_run Cert.Reference5Ideal.defs _ _).mono
    (fun r h => ⟨fun c => (h c).2, sem_eq_zero_of_no_sems (by decide) r.2⟩)
    (Cert.Reference5Ideal.Value.run (F := Ideal) m g)

end Cert.WgradDown
-- ==== Proof.WgradSquare.lean ====
/- The claims about the weight gradient of the output projection and of the gate: the product of the transposed
   stream with the gradient, tile by tile, the transposed tile kept between the tiles of one row. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.WgradSquare

open Idealize.ShloMosaic Idealize.ShloMosaic.TcCoe Idealize.SL.Sem

local instance : Cert.Kernel6Ideal.Facts := Cert.Kernel6Ideal.Gen.facts
local instance : Cert.Reference6Ideal.Facts := Cert.Reference6Ideal.Gen.facts

section
open Cert.Kernel6Ideal Cert.Kernel6Ideal.Gen

/-- The kept tile is the transposed input block. -/
theorem tr (x : S2048x1024.Idx → EReal) : k0_pay1 (F := Ideal) x = fun y => x (ix2 (y 1) (y 0)) := by
  funext y
  idx_vars y
  pointwise [k0_pay1]

/-- One stored tile: the product over all tokens. -/
theorem pay (a : S1024x2048.Idx → EReal) (b : S2048x512.Idx → EReal) (s : Fin 1024) (n : Fin 512) :
    k0_pay2 (F := Ideal) a b (ix2 s n) = ∑ k : Fin 2048, a (ix2 s k) * b (ix2 k n) := by
  pointwise [k0_pay2]

/-- The reference's entry. -/
theorem ref (x0 : S2048x1024.Idx → EReal) (x1 : S2048x1024.Idx → EReal) (i : Fin 1024) (n : Fin 1024) :
    Cert.Reference6Ideal.Read.val_main_v6 (F := Ideal) x0 x1 (ix2 i n)
      = ∑ k : Fin 2048, x0 (ix2 k i) * x1 (ix2 k n) := by
  open Cert.Reference6Ideal.Read in
  pointwise [val_main_v6, val_main_v5, val_main_v4, val_main_v3, val_main_v1]
  exact Finset.sum_congr rfl fun k _ => mul_comm _ _

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- Row `s` of the tiles of point `n`. -/
def ro (n : ℕ) (h : n < 2) (s : Fin 1024) : Fin 1024 := ⟨1024 * (n / 2) + s.val, by omega⟩
/-- Column `s` of the tiles of point `n`. -/
def co (n : ℕ) (h : n < 2) (s : Fin 512) : Fin 1024 := ⟨n % 2 * 512 + s.val, by omega⟩

theorem in0 (t : Fin cfg0.N) (k : Fin 2048) (s : Fin 1024) : (iblk m c 0 t : S2048x1024.Idx → EReal) (ix2 k s)
    = (m ((c : Thread nD τ).loc main_arg0) : S2048x1024.Idx → EReal) (ix2 k (ro t.val t.isLt s)) := by
  obtain ⟨e, -, -⟩ := idx t
  blk_simp [iblk, e]
  rw [V_main_arg0]
  have h2 : (win0_0.blk t).view.emb (ix2 k s) = ix2 k (ro t.val t.isLt s) := by
    unfold ro
    blk_ext [e]
  exact congrArg (m ((c : Thread nD τ).loc main_arg0) : S2048x1024.Idx → EReal) h2

theorem in1 (t : Fin cfg0.N) (k : Fin 2048) (s : Fin 512) : (iblk m c 1 t : S2048x512.Idx → EReal) (ix2 k s)
    = (m ((c : Thread nD τ).loc main_arg1) : S2048x1024.Idx → EReal) (ix2 k (co t.val t.isLt s)) := by
  obtain ⟨-, e, -⟩ := idx t
  blk_simp [iblk, e]
  rw [V_main_arg1]
  have h2 : (win0_1.blk t).view.emb (ix2 k s) = ix2 k (co t.val t.isLt s) := by
    unfold co
    blk_ext [e]
  exact congrArg (m ((c : Thread nD τ).loc main_arg1) : S2048x1024.Idx → EReal) h2

/-- The kept tile after point `n`. -/
def kept (n : ℕ) (h : n < 2) : S1024x2048.Idx → EReal :=
  fun y => (m ((c : Thread nD τ).loc main_arg0) : S2048x1024.Idx → EReal) (ix2 (y 1) (ro n h (y 0)))

theorem tr_in0 (t : Fin cfg0.N) : k0_pay1 (F := Ideal) (iblk m c 0 t) = kept m c t.val t.isLt :=
  (tr _).trans (funext fun y => in0 m c t (y 1) (y 0))

theorem kept_step (n : ℕ) (h : n + 1 < cfg0.N) (h0 : ¬(n + 1) % 2 = 0) :
    (outsAt0 (F := Ideal) m c (n + 1) h).2 = (outsAt0 (F := Ideal) m c n (Nat.lt_of_succ_lt h)).2 := by
  have e := congrArg Prod.snd (outsAt0_B m c ⟨n + 1, h⟩ h0)
  dsimp only [sout0_B_0] at e
  exact e

theorem kept_eq (n : ℕ) (h : n < cfg0.N) : (outsAt0 (F := Ideal) m c n h).2 = kept m c n h := by
  induction n with
  | zero =>
    refine (congrArg Prod.snd (outsAt0_A m c ⟨0, h⟩ (Nat.zero_mod _))).trans ?_
    refine Eq.trans ?_ (tr_in0 m c ⟨0, h⟩)
    frame_open
    frame_out
  | succ n ih =>
    by_cases h0 : (n + 1) % 2 = 0
    · refine (congrArg Prod.snd (outsAt0_A m c ⟨n + 1, h⟩ h0)).trans ?_
      refine Eq.trans ?_ (tr_in0 m c ⟨n + 1, h⟩)
      frame_open
      frame_out
    · rw [kept_step m c n h h0, ih (Nat.lt_of_succ_lt h)]
      funext y
      have e : ro n (Nat.lt_of_succ_lt h) (y 0) = ro (n + 1) h (y 0) := by
        unfold ro
        apply Fin.ext
        show 1024 * (n / 2) + (y 0).val = 1024 * ((n + 1) / 2) + (y 0).val
        omega
      exact congrArg (fun r => (m ((c : Thread nD τ).loc main_arg0) : S2048x1024.Idx → EReal) (ix2 (y 1) r)) e

theorem out (t : Fin cfg0.N) : (outsAt0 (F := Ideal) m c t.val t.isLt).1 = k0_pay2 (F := Ideal) (kept m c t.val t.isLt) (iblk m c 1 t) := by
  by_cases h0 : t.val % 2 = 0
  · rw [← tr_in0, outsAt0_A m c t h0]
    frame_open
    simp (disch := decide) only [↓ View.readCov_skip, ↓ View.readCov_cons_toLoadRect, ↓ View.readCov_fill]
    frame_out
  · have k := (congrArg Prod.snd (outsAt0_B m c t h0)).symm.trans (kept_eq m c t.val t.isLt)
    dsimp only [sout0_B_0] at k
    rw [outsAt0_B m c t h0]
    refine Eq.trans ?_ (congrArg (fun a => k0_pay2 (F := Ideal) a (iblk m c 1 t)) k)
    frame_open
    simp (disch := decide) only [↓ View.readCov_skip, ↓ View.readCov_cons_toLoadRect, ↓ View.readCov_fill]
    frame_out
    rw [read_unread_whole]

theorem final : (dats m 0 c).arrAt 2 cfg0.N = Cert.Reference6Ideal.Read.val_main_v6 (F := Ideal)
    (m ((c : Thread nD τ).loc main_arg0)) (m ((c : Thread nD τ).loc main_arg1)) := by
  refine (dats m 0 c).arrAt_eq_of_covers 2 _ (by decide +kernel) fun t hf y => ?_
  obtain ⟨-, -, e⟩ := idx t
  blk_simp [e]
  rw [after0_2, out]
  have h2 : (win0_2.blk t).view.emb y = ix2 (ro t.val t.isLt (y 0)) (co t.val t.isLt (y 1)) := by
    unfold ro co
    blk_ext [e]
  refine Eq.trans ?_ ((congrArg _ h2).trans (ref _ _ _ _)).symm
  have hy : y = ix2 (y 0) (y 1) := by blk_ext
  refine (congrArg _ hy).trans ((pay _ _ (y 0) (y 1)).trans ?_)
  exact Finset.sum_congr rfl fun k _ => congrArg₂ (· * ·) rfl (in1 m c t k (y 1))

end

theorem algebraic : Cert.algebraic_Kernel6Ideal_Reference6Ideal := by
  pair_intro
  · run_from Cert.Kernel6Ideal.Value.run_blocks m g
  · refine (θ_run Cert.Reference6Ideal.defs _ _).mono (fun r h c => ?_) (Cert.Reference6Ideal.Value.run (F := Ideal) m' g')
    obtain ⟨r0, rest⟩ := h c
    obtain ⟨a0, a1⟩ := hagree c
    refine ⟨r0.trans ?_, rest⟩
    refine (Cert.Reference6Ideal.Read.val_main_v6_eq _ _).trans ?_
    rw [a0, a1]
    exact (final m c).symm

theorem frame_ref : Cert.quiescent_Reference6Ideal := fun m g _ =>
  (θ_run Cert.Reference6Ideal.defs _ _).mono
    (fun r h => ⟨fun c => (h c).2, sem_eq_zero_of_no_sems (by decide) r.2⟩)
    (Cert.Reference6Ideal.Value.run (F := Ideal) m g)

end Cert.WgradSquare
-- ==== Proof.WgradPle.lean ====
/- The claims about the weight gradient of the embedding's projection: the product of the transposed
   stream with the gradient, tile by tile, the transposed tile kept between the tiles of one row. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.WgradPle

open Idealize.ShloMosaic Idealize.ShloMosaic.TcCoe Idealize.SL.Sem

local instance : Cert.Kernel7Ideal.Facts := Cert.Kernel7Ideal.Gen.facts
local instance : Cert.Reference7Ideal.Facts := Cert.Reference7Ideal.Gen.facts

section
open Cert.Kernel7Ideal Cert.Kernel7Ideal.Gen

/-- The kept tile is the transposed input block. -/
theorem tr (x : S2048x256.Idx → EReal) : k0_pay1 (F := Ideal) x = fun y => x (ix2 (y 1) (y 0)) := by
  funext y
  idx_vars y
  pointwise [k0_pay1]

/-- One stored tile: the product over all tokens. -/
theorem pay (a : S256x2048.Idx → EReal) (b : S2048x128.Idx → EReal) (q : Fin 1) (s : Fin 256) (n : Fin 128) :
    k0_pay2 (F := Ideal) a b (ix3 q s n) = ∑ k : Fin 2048, a (ix2 s k) * b (ix2 k n) := by
  pointwise [k0_pay2]

/-- The reference's entry. -/
theorem ref (x0 : S2048x256.Idx → EReal) (x1 : S2048x1024.Idx → EReal) (j : Fin 8) (i : Fin 256) (n : Fin 128) :
    Cert.Reference7Ideal.Read.val_main_v8 (F := Ideal) x0 x1 (ix3 j i n)
      = ∑ k : Fin 2048, x0 (ix2 k i) * x1 (ix2 k ⟨j.val * 128 + n.val, by omega⟩) := by
  open Cert.Reference7Ideal.Read in
  pointwise [val_main_v8, val_main_v7, val_main_v6, val_main_v5, val_main_v4, val_main_v3, val_main_v1]
  exact Finset.sum_congr rfl fun k _ => mul_comm _ _

theorem idx : ∀ t : Fin cfg0.N, win0_0.index t = ![0, t.val / 8] ∧ win0_1.index t = ![0, t.val % 8] ∧ win0_2.index t = ![t.val % 8, t.val / 8, 0] :=
  (by decide +kernel : ∀ t : Fin grid0.N, _)

variable (m : (ℓ : Loc nD τ sig) → Buf (Elt Ideal) ℓ) (c : Dev nD)

/-- Row `s` of the tiles of point `n`. -/
def ro (n : ℕ) (h : n < 8) (s : Fin 256) : Fin 256 := ⟨256 * (n / 8) + s.val, by omega⟩
/-- Column `s` of the tiles of point `n`. -/
def co (n : ℕ) (h : n < 8) (s : Fin 128) : Fin 1024 := ⟨n % 8 * 128 + s.val, by omega⟩

theorem in0 (t : Fin cfg0.N) (k : Fin 2048) (s : Fin 256) : (iblk m c 0 t : S2048x256.Idx → EReal) (ix2 k s)
    = (m ((c : Thread nD τ).loc main_arg0) : S2048x256.Idx → EReal) (ix2 k (ro t.val t.isLt s)) := by
  obtain ⟨e, -, -⟩ := idx t
  blk_simp [iblk, e]
  rw [V_main_arg0]
  have h2 : (win0_0.blk t).view.emb (ix2 k s) = ix2 k (ro t.val t.isLt s) := by
    unfold ro
    blk_ext [e]
  exact congrArg (m ((c : Thread nD τ).loc main_arg0) : S2048x256.Idx → EReal) h2

theorem in1 (t : Fin cfg0.N) (k : Fin 2048) (s : Fin 128) : (iblk m c 1 t : S2048x128.Idx → EReal) (ix2 k s)
    = (m ((c : Thread nD τ).loc main_arg1) : S2048x1024.Idx → EReal) (ix2 k (co t.val t.isLt s)) := by
  obtain ⟨-, e, -⟩ := idx t
  blk_simp [iblk, e]
  rw [V_main_arg1]
  have h2 : (win0_1.blk t).view.emb (ix2 k s) = ix2 k (co t.val t.isLt s) := by
    unfold co
    blk_ext [e]
  exact congrArg (m ((c : Thread nD τ).loc main_arg1) : S2048x1024.Idx → EReal) h2

/-- The kept tile after point `n`. -/
def kept (n : ℕ) (h : n < 8) : S256x2048.Idx → EReal :=
  fun y => (m ((c : Thread nD τ).loc main_arg0) : S2048x256.Idx → EReal) (ix2 (y 1) (ro n h (y 0)))

theorem tr_in0 (t : Fin cfg0.N) : k0_pay1 (F := Ideal) (iblk m c 0 t) = kept m c t.val t.isLt :=
  (tr _).trans (funext fun y => in0 m c t (y 1) (y 0))

theorem kept_step (n : ℕ) (h : n + 1 < cfg0.N) (h0 : ¬(n + 1) % 8 = 0) :
    (outsAt0 (F := Ideal) m c (n + 1) h).2 = (outsAt0 (F := Ideal) m c n (Nat.lt_of_succ_lt h)).2 := by
  have e := congrArg Prod.snd (outsAt0_B m c ⟨n + 1, h⟩ h0)
  dsimp only [sout0_B_0] at e
  exact e

theorem kept_eq (n : ℕ) (h : n < cfg0.N) : (outsAt0 (F := Ideal) m c n h).2 = kept m c n h := by
  induction n with
  | zero =>
    refine (congrArg Prod.snd (outsAt0_A m c ⟨0, h⟩ (Nat.zero_mod _))).trans ?_
    refine Eq.trans ?_ (tr_in0 m c ⟨0, h⟩)
    frame_open
    frame_out
  | succ n ih =>
    by_cases h0 : (n + 1) % 8 = 0
    · refine (congrArg Prod.snd (outsAt0_A m c ⟨n + 1, h⟩ h0)).trans ?_
      refine Eq.trans ?_ (tr_in0 m c ⟨n + 1, h⟩)
      frame_open
      frame_out
    · rw [kept_step m c n h h0, ih (Nat.lt_of_succ_lt h)]
      funext y
      have e : ro n (Nat.lt_of_succ_lt h) (y 0) = ro (n + 1) h (y 0) := by
        unfold ro
        apply Fin.ext
        show 256 * (n / 8) + (y 0).val = 256 * ((n + 1) / 8) + (y 0).val
        omega
      exact congrArg (fun r => (m ((c : Thread nD τ).loc main_arg0) : S2048x256.Idx → EReal) (ix2 (y 1) r)) e

theorem out (t : Fin cfg0.N) : (outsAt0 (F := Ideal) m c t.val t.isLt).1 = k0_pay2 (F := Ideal) (kept m c t.val t.isLt) (iblk m c 1 t) := by
  by_cases h0 : t.val % 8 = 0
  · rw [← tr_in0, outsAt0_A m c t h0]
    frame_open
    simp (disch := decide) only [↓ View.readCov_skip, ↓ View.readCov_cons_toLoadRect, ↓ View.readCov_fill]
    frame_out
  · have k := (congrArg Prod.snd (outsAt0_B m c t h0)).symm.trans (kept_eq m c t.val t.isLt)
    dsimp only [sout0_B_0] at k
    rw [outsAt0_B m c t h0]
    refine Eq.trans ?_ (congrArg (fun a => k0_pay2 (F := Ideal) a (iblk m c 1 t)) k)
    frame_open
    simp (disch := decide) only [↓ View.readCov_skip, ↓ View.readCov_cons_toLoadRect, ↓ View.readCov_fill]
    frame_out
    rw [read_unread_whole]

theorem final : (dats m 0 c).arrAt 2 cfg0.N = Cert.Reference7Ideal.Read.val_main_v8 (F := Ideal)
    (m ((c : Thread nD τ).loc main_arg0)) (m ((c : Thread nD τ).loc main_arg1)) := by
  refine (dats m 0 c).arrAt_eq_of_covers 2 _ (by decide +kernel) fun t hf y => ?_
  obtain ⟨-, -, e⟩ := idx t
  blk_simp [e]
  rw [after0_2, out]
  have h2 : (win0_2.blk t).view.emb y = ix3 (⟨t.val % 8, Nat.mod_lt _ (by norm_num)⟩ : Fin 8) (ro t.val t.isLt (y 1)) (y 2) := by
    unfold ro
    blk_ext [e]
  refine Eq.trans ?_ ((congrArg _ h2).trans (ref _ _ _ _ _)).symm
  have hy : y = ix3 (y 0) (y 1) (y 2) := by blk_ext
  refine (congrArg _ hy).trans ((pay _ _ (y 0) (y 1) (y 2)).trans ?_)
  exact Finset.sum_congr rfl fun k _ => congrArg₂ (· * ·) rfl (in1 m c t k (y 2))

end

theorem algebraic : Cert.algebraic_Kernel7Ideal_Reference7Ideal := by
  pair_intro
  · run_from Cert.Kernel7Ideal.Value.run_blocks m g
  · refine (θ_run Cert.Reference7Ideal.defs _ _).mono (fun r h c => ?_) (Cert.Reference7Ideal.Value.run (F := Ideal) m' g')
    obtain ⟨r0, rest⟩ := h c
    obtain ⟨a0, a1⟩ := hagree c
    refine ⟨r0.trans ?_, rest⟩
    refine (Cert.Reference7Ideal.Read.val_main_v8_eq _ _).trans ?_
    rw [a0, a1]
    exact (final m c).symm

theorem frame_ref : Cert.quiescent_Reference7Ideal := fun m g _ =>
  (θ_run Cert.Reference7Ideal.defs _ _).mono
    (fun r h => ⟨fun c => (h c).2, sem_eq_zero_of_no_sems (by decide) r.2⟩)
    (Cert.Reference7Ideal.Value.run (F := Ideal) m g)

end Cert.WgradPle
-- ==== Proof.WgradInA.lean ====
/- The claims about one half of the input projection's weight gradient: rows 0 to 511 of the product of the
   transposed stream with the gradient of the projection. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Claim
public import Idealize.ShloMosaic.Lib.Pointwise
public import Idealize.ShloMosaic.Lib.Pipeline.ValueKit

@[expose] public section

noncomputable section

namespace Cert.WgradInA

open Idealize.ShloMosaic Idealize.ShloMosaic.TcCoe Idealize.SL.Sem

local instance : Cert.Kernel8Ideal.Facts := Cert.Kernel8Ideal.Gen.facts
local instance : Cert.Reference8Ideal.Facts := Cert.Reference8Ideal.Gen.facts

section
open Cert.Kernel8Ideal Cert.Kernel8Ideal.Gen

/-- One stored block: the product over all tokens. -/
theorem pay (a : S2048x256.Idx → EReal) (b : S2048x3712.Idx → EReal) (s : Fin 256) (n : Fin 3712) :
    k0_pay1 (F := Ideal) a b (ix2 s n) = ∑ k : Fin 2048, a (ix2 k s) * b (ix2 k n) := by
  pointwise [k0_pay1]

/-- The reference's entry. -/
theorem ref (x0 : S2048x1024.Idx → EReal) (x1 : S2048x3712.Idx → EReal) (i : Fin 512) (n : Fin 3712) :
    Cert.Reference8Ideal.Read.val_main_v7 (F := Ideal) x0 x1 (ix2 i n)
      = ∑ k : Fin 2048, x0 (ix2 k ⟨i.val, by omega⟩) * x1 (ix2 k n) := by
  open Cert.Reference8Ideal.Read in
  pointwise [val_main_v7, val_main_v6, val_main_v5, val_main_v4, val_main_v3, val_main_v1]
  exact Finset.sum_congr rfl fun k _ => mul_comm _ _

theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- Row `s` of the block a grid point writes. -/
def rw_ (t : Fin cfg0.N) (s : Fin 256) : Fin 512 := ⟨256 * t.val + s.val, by have h : t.val < 2 := t.isLt; omega⟩

theorem in0 (t : Fin cfg0.N) (k : Fin 2048) (s : Fin 256) : (iblk m c 0 t : S2048x256.Idx → EReal) (ix2 k s)
    = (m ((c : Thread nD τ).loc main_arg0) : S2048x1024.Idx → EReal) (ix2 k ⟨(rw_ t s).val, by omega⟩) := by
  obtain ⟨e, -, -⟩ := idx t
  blk_simp [iblk, e]
  rw [V_main_arg0]
  have h2 : (win0_0.blk t).view.emb (ix2 k s) = ix2 k ⟨(rw_ t s).val, by omega⟩ := by
    unfold rw_
    blk_ext [e]
  exact congrArg (m ((c : Thread nD τ).loc main_arg0) : S2048x1024.Idx → EReal) h2

theorem in1 (t : Fin cfg0.N) (y : S2048x3712.Idx) : (iblk m c 1 t : S2048x3712.Idx → EReal) y
    = (m ((c : Thread nD τ).loc main_arg1) : S2048x3712.Idx → EReal) y := by
  obtain ⟨-, e, -⟩ := idx t
  blk_simp [iblk, e]
  rw [V_main_arg1]
  have h2 : (win0_1.blk t).view.emb y = y := by
    blk_ext [e]
  exact congrArg (m ((c : Thread nD τ).loc main_arg1) : S2048x3712.Idx → EReal) h2

theorem out (t : Fin cfg0.N) : outsAt0 (F := Ideal) m c t = k0_pay1 (F := Ideal) (iblk m c 0 t) (iblk m c 1 t) := by
  unfold outsAt0
  frame_open
  frame_out

theorem final : (dats m 0 c).arrAt 2 cfg0.N = Cert.Reference8Ideal.Read.val_main_v7 (F := Ideal)
    (m ((c : Thread nD τ).loc main_arg0)) (m ((c : Thread nD τ).loc main_arg1)) := by
  refine (dats m 0 c).arrAt_eq_of_covers 2 _ (by decide +kernel) fun t hf y => ?_
  obtain ⟨-, -, e⟩ := idx t
  blk_simp [e]
  rw [after0_2, out]
  have h2 : (win0_2.blk t).view.emb y = ix2 (rw_ t (y 0)) (y 1) := by
    unfold rw_
    blk_ext [e]
  refine Eq.trans ?_ ((congrArg _ h2).trans (ref _ _ _ _)).symm
  have hy : y = ix2 (y 0) (y 1) := by blk_ext
  refine (congrArg _ hy).trans ((pay _ _ (y 0) (y 1)).trans ?_)
  exact Finset.sum_congr rfl fun k _ => congrArg₂ (· * ·) (in0 m c t k (y 0)) (in1 m c t (ix2 k (y 1)))

end

theorem algebraic : Cert.algebraic_Kernel8Ideal_Reference8Ideal := by
  pair_intro
  · run_from Cert.Kernel8Ideal.Value.run_blocks m g
  · refine (θ_run Cert.Reference8Ideal.defs _ _).mono (fun r h c => ?_) (Cert.Reference8Ideal.Value.run (F := Ideal) m' g')
    obtain ⟨r0, rest⟩ := h c
    obtain ⟨a0, a1, a2⟩ := hagree c
    refine ⟨r0.trans ?_, rest⟩
    refine (Cert.Reference8Ideal.Read.val_main_v7_eq _ _).trans ?_
    rw [a0, a1]
    exact (final m c).symm

theorem frame_ref : Cert.quiescent_Reference8Ideal := fun m g _ =>
  (θ_run Cert.Reference8Ideal.defs _ _).mono
    (fun r h => ⟨fun c => (h c).2, sem_eq_zero_of_no_sems (by decide) r.2⟩)
    (Cert.Reference8Ideal.Value.run (F := Ideal) m g)

end Cert.WgradInA
-- ==== Proof.WgradInB.lean ====
/- The claims about one half of the input projection's weight gradient: rows 512 to 1023 of the product of the
   transposed stream with the gradient of the projection. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim
public import Idealize.ShloMosaic.Lib.Pointwise
public import Idealize.ShloMosaic.Lib.Pipeline.ValueKit

@[expose] public section

noncomputable section

namespace Cert.WgradInB

open Idealize.ShloMosaic Idealize.ShloMosaic.TcCoe Idealize.SL.Sem

local instance : Cert.Kernel9Ideal.Facts := Cert.Kernel9Ideal.Gen.facts
local instance : Cert.Reference9Ideal.Facts := Cert.Reference9Ideal.Gen.facts

section
open Cert.Kernel9Ideal Cert.Kernel9Ideal.Gen

/-- One stored block: the product over all tokens. -/
theorem pay (a : S2048x256.Idx → EReal) (b : S2048x3712.Idx → EReal) (s : Fin 256) (n : Fin 3712) :
    k0_pay1 (F := Ideal) a b (ix2 s n) = ∑ k : Fin 2048, a (ix2 k s) * b (ix2 k n) := by
  pointwise [k0_pay1]

/-- The reference's entry. -/
theorem ref (x0 : S2048x1024.Idx → EReal) (x1 : S2048x3712.Idx → EReal) (i : Fin 512) (n : Fin 3712) :
    Cert.Reference9Ideal.Read.val_main_v7 (F := Ideal) x0 x1 (ix2 i n)
      = ∑ k : Fin 2048, x0 (ix2 k ⟨512 + i.val, by omega⟩) * x1 (ix2 k n) := by
  open Cert.Reference9Ideal.Read in
  pointwise [val_main_v7, val_main_v6, val_main_v5, val_main_v4, val_main_v3, val_main_v1]
  exact Finset.sum_congr rfl fun k _ => mul_comm _ _

theorem idx : ∀ t : Fin cfg0.N, win0_0.index t = ![0, 2 + t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- Row `s` of the block a grid point writes. -/
def rw_ (t : Fin cfg0.N) (s : Fin 256) : Fin 512 := ⟨256 * t.val + s.val, by have h : t.val < 2 := t.isLt; omega⟩

theorem in0 (t : Fin cfg0.N) (k : Fin 2048) (s : Fin 256) : (iblk m c 0 t : S2048x256.Idx → EReal) (ix2 k s)
    = (m ((c : Thread nD τ).loc main_arg0) : S2048x1024.Idx → EReal) (ix2 k ⟨512 + (rw_ t s).val, by omega⟩) := by
  obtain ⟨e, -, -⟩ := idx t
  blk_simp [iblk, e]
  rw [V_main_arg0]
  have h2 : (win0_0.blk t).view.emb (ix2 k s) = ix2 k ⟨512 + (rw_ t s).val, by omega⟩ := by
    unfold rw_
    blk_ext [e]
  exact congrArg (m ((c : Thread nD τ).loc main_arg0) : S2048x1024.Idx → EReal) h2

theorem in1 (t : Fin cfg0.N) (y : S2048x3712.Idx) : (iblk m c 1 t : S2048x3712.Idx → EReal) y
    = (m ((c : Thread nD τ).loc main_arg1) : S2048x3712.Idx → EReal) y := by
  obtain ⟨-, e, -⟩ := idx t
  blk_simp [iblk, e]
  rw [V_main_arg1]
  have h2 : (win0_1.blk t).view.emb y = y := by
    blk_ext [e]
  exact congrArg (m ((c : Thread nD τ).loc main_arg1) : S2048x3712.Idx → EReal) h2

theorem out (t : Fin cfg0.N) : outsAt0 (F := Ideal) m c t = k0_pay1 (F := Ideal) (iblk m c 0 t) (iblk m c 1 t) := by
  unfold outsAt0
  frame_open
  frame_out

theorem final : (dats m 0 c).arrAt 2 cfg0.N = Cert.Reference9Ideal.Read.val_main_v7 (F := Ideal)
    (m ((c : Thread nD τ).loc main_arg0)) (m ((c : Thread nD τ).loc main_arg1)) := by
  refine (dats m 0 c).arrAt_eq_of_covers 2 _ (by decide +kernel) fun t hf y => ?_
  obtain ⟨-, -, e⟩ := idx t
  blk_simp [e]
  rw [after0_2, out]
  have h2 : (win0_2.blk t).view.emb y = ix2 (rw_ t (y 0)) (y 1) := by
    unfold rw_
    blk_ext [e]
  refine Eq.trans ?_ ((congrArg _ h2).trans (ref _ _ _ _)).symm
  have hy : y = ix2 (y 0) (y 1) := by blk_ext
  refine (congrArg _ hy).trans ((pay _ _ (y 0) (y 1)).trans ?_)
  exact Finset.sum_congr rfl fun k _ => congrArg₂ (· * ·) (in0 m c t k (y 0)) (in1 m c t (ix2 k (y 1)))

end

theorem algebraic : Cert.algebraic_Kernel9Ideal_Reference9Ideal := by
  pair_intro
  · run_from Cert.Kernel9Ideal.Value.run_blocks m g
  · refine (θ_run Cert.Reference9Ideal.defs _ _).mono (fun r h c => ?_) (Cert.Reference9Ideal.Value.run (F := Ideal) m' g')
    obtain ⟨r0, rest⟩ := h c
    obtain ⟨a0, a1, a2⟩ := hagree c
    refine ⟨r0.trans ?_, rest⟩
    refine (Cert.Reference9Ideal.Read.val_main_v7_eq _ _).trans ?_
    rw [a0, a1]
    exact (final m c).symm

theorem frame_ref : Cert.quiescent_Reference9Ideal := fun m g _ =>
  (θ_run Cert.Reference9Ideal.defs _ _).mono
    (fun r h => ⟨fun c => (h c).2, sem_eq_zero_of_no_sems (by decide) r.2⟩)
    (Cert.Reference9Ideal.Value.run (F := Ideal) m g)

end Cert.WgradInB
-- ==== Proof.InBwdBlock.lean ====
/- What one block of the gradient through the input projection computes, over the reals: the kernel's stored values from the
   block's inputs. -/
module

public import proofs.«01_k».proof.Proof.MlpPay
public import proofs.«01_k».proof.Proof.Gen.Kernel10Ideal.Value
public import Idealize.ShloMosaic.Lib.Pipeline.ValueKit
public import Idealize.ShloMosaic.Lib.Pipeline.ReadBack
public import Idealize.ShloMosaic.Lib.WritesUnit

@[expose] public section

noncomputable section

namespace Cert.InBwd

open Idealize.ShloMosaic Idealize.ShloMosaic.TcCoe Cert.Kernel10Ideal Cert.Kernel10Ideal.Gen Cert.Reals Cert.Mlp

/-- The gradient of a normalised token: what the residual and the projection hand back. -/
def dh (w : Fin 1024 → Fin 3712 → ℝ) (d : Fin 3712 → ℝ) (z : Fin 1024 → ℝ) (i : Fin 1024) : ℝ := al * z i + ∑ n, d n * w i n
/-- The gradient of the token. -/
def dx (w : Fin 1024 → Fin 3712 → ℝ) (g : Fin 1024 → ℝ) (d : Fin 3712 → ℝ) (z x : Fin 1024 → ℝ) (i : Fin 1024) : ℝ :=
  lnb (fun k => dh w d z k * g k) x i
/-- What a token adds to the two rows of column sums. -/
def acc (w : Fin 1024 → Fin 3712 → ℝ) (d : Fin 3712 → ℝ) (z x : Fin 1024 → ℝ) (a : ℕ) (i : Fin 1024) : ℝ :=
  match a with
  | 0 => dh w d z i * xh x i
  | 1 => dh w d z i
  | _ => 0

variable (w : Fin 1024 → Fin 3712 → ℝ) (g : Fin 1024 → ℝ)

section
variable (D : Fin 512 → Fin 3712 → ℝ) (Z X : Fin 512 → Fin 1024 → ℝ)

theorem pay5 : k0_pay5 (F := Ideal) (arr Z) (arr D) (arr w) = arr fun t => dh w (D t) (Z t) := by
  funext x
  idx_vars x
  pointwise [k0_pay5]
  simp only [arr_apply, row_apply, ← EReal.coe_mul, coe_sum, ← EReal.coe_add, ← EReal.coe_sub, ofBits_1024, ofBits_eps5, ofBits_al, div_1024]
  rfl

theorem pay6 : k0_pay6 (F := Ideal) (arr X) = arr fun t => xc (X t) := by
  funext x
  idx_vars x
  pointwise [k0_pay6]
  simp only [arr_apply, row_apply, ← EReal.coe_mul, coe_sum, ← EReal.coe_add, ← EReal.coe_sub, ofBits_1024, ofBits_eps5, ofBits_al, div_1024]
  rfl

theorem pay7 : k0_pay7 (F := Ideal) (arr X) = arr fun t (_ : Fin 1) => rs (X t) := by
  unfold k0_pay7
  rw [pay6]
  funext x
  idx_vars x
  pointwise
  simp only [arr_apply, row_apply, ← EReal.coe_mul, coe_sum, ← EReal.coe_add, ← EReal.coe_sub, ofBits_1024, ofBits_eps5, ofBits_al, div_1024]
  exact rsqrt_ve (X x0)

theorem pay8 : k0_pay8 (F := Ideal) (arr X) = arr fun t => xh (X t) := by
  unfold k0_pay8
  rw [pay6, pay7]
  funext x
  idx_vars x
  pointwise
  simp only [arr_apply, row_apply, ← EReal.coe_mul, coe_sum, ← EReal.coe_add, ← EReal.coe_sub, ofBits_1024, ofBits_eps5, ofBits_al, div_1024]
  rfl

theorem pay9 : k0_pay9 (F := Ideal) (arr Z) (arr D) (arr w) (row g) = arr fun t k => dh w (D t) (Z t) k * g k := by
  unfold k0_pay9
  rw [pay5]
  funext x
  idx_vars x
  pointwise
  simp only [arr_apply, row_apply, ← EReal.coe_mul, coe_sum, ← EReal.coe_add, ← EReal.coe_sub, ofBits_1024, ofBits_eps5, ofBits_al, div_1024]

theorem pay10 : k0_pay10 (F := Ideal) (arr Z) (arr D) (arr w) (row g) = arr fun t i => dh w (D t) (Z t) i * g i - (∑ k, dh w (D t) (Z t) k * g k) / 1024 := by
  unfold k0_pay10
  rw [pay9]
  funext x
  idx_vars x
  pointwise
  simp only [arr_apply, row_apply, ← EReal.coe_mul, coe_sum, ← EReal.coe_add, ← EReal.coe_sub, ofBits_1024, ofBits_eps5, ofBits_al, div_1024]

theorem pay11 : k0_pay11 (F := Ideal) (arr Z) (arr D) (arr w) (arr X) (row g) = arr fun t i => dh w (D t) (Z t) i * g i * xh (X t) i := by
  unfold k0_pay11
  rw [pay9, pay8]
  funext x
  idx_vars x
  pointwise
  simp only [arr_apply, row_apply, ← EReal.coe_mul, coe_sum, ← EReal.coe_add, ← EReal.coe_sub, ofBits_1024, ofBits_eps5, ofBits_al, div_1024]

theorem pay1 : k0_pay1 (F := Ideal) (arr fun t (_ : Fin 1) => rs (X t)) (arr fun t => xh (X t))
      (arr fun t i => dh w (D t) (Z t) i * g i - (∑ k, dh w (D t) (Z t) k * g k) / 1024) (arr fun t i => dh w (D t) (Z t) i * g i * xh (X t) i)
    =  arr fun t => dx w g (D t) (Z t) (X t) := by
  funext x
  idx_vars x
  pointwise [k0_pay1]
  simp only [arr_apply, row_apply, ← EReal.coe_mul, coe_sum, ← EReal.coe_add, ← EReal.coe_sub, ofBits_1024, ofBits_eps5, ofBits_al, div_1024]
  rfl

theorem pay2  (a : Fin 1024 → ℝ) : k0_pay2 (F := Ideal) (arr fun t => dh w (D t) (Z t)) (arr fun t => xh (X t)) (row a)
    =  row fun i => a i + ∑ t, acc w (D t) (Z t) (X t) 0 i := by
  funext x
  idx_vars x
  pointwise [k0_pay2]
  simp only [arr_apply, row_apply, ← EReal.coe_mul, coe_sum, ← EReal.coe_add, ← EReal.coe_sub, ofBits_1024, ofBits_eps5, ofBits_al, div_1024]
  rfl

theorem pay3  (a : Fin 1024 → ℝ) : k0_pay3 (F := Ideal) (arr fun t => dh w (D t) (Z t)) (row a)
    =  row fun i => a i + ∑ t, acc w (D t) (Z t) (X t) 1 i := by
  funext x
  idx_vars x
  pointwise [k0_pay3]
  simp only [arr_apply, row_apply, ← EReal.coe_mul, coe_sum, ← EReal.coe_add, ← EReal.coe_sub, ofBits_1024, ofBits_eps5, ofBits_al, div_1024]
  rfl

theorem pay4 : k0_pay4 (F := Ideal) = arr fun (_ : Fin 8) (_ : Fin 1024) => 0 := by
  funext x
  idx_vars x
  pointwise [k0_pay4]
  rfl

end

theorem ld0 (V : Fin 8 → Fin 1024 → ℝ) : View.ld (Val := Elt Ideal) (e' := .f32) (arr V) (Rect.unit ![0, 0] ![1, 1024] inb_S8x1024_S1x1024_0_0) = row (V 0) := by
  rw [View.ld_unit]
  funext x
  idx_vars x
  show ((V _ _ : ℝ) : EReal) = ((V _ _ : ℝ) : EReal)
  congr 2 <;> (apply Fin.ext; simp [extractStridedSlice, ix2]) <;> omega

theorem ld1 (V : Fin 8 → Fin 1024 → ℝ) : View.ld (Val := Elt Ideal) (e' := .f32) (arr V) (Rect.unit ![1, 0] ![1, 1024] inb_S8x1024_S1x1024_1_0) = row (V 1) := by
  rw [View.ld_unit]
  funext x
  idx_vars x
  show ((V _ _ : ℝ) : EReal) = ((V _ _ : ℝ) : EReal)
  congr 2 <;> (apply Fin.ext; simp [extractStridedSlice, ix2]) <;> omega

theorem rows2 (v : View sig .tc .vmem S8x1024 .f32) (f : v.ty.Contents (Elt Ideal)) (p0 p1 : S1x1024.Idx → EReal)
    (L : List (View.Piece (Elt Ideal) S8x1024 .f32)) (a : Fin 8) (i : Fin 1024) :
    v.read (Elt Ideal) (v.writes (Elt Ideal) f
      (⟨Rect.unit ![1, 0] ![1, 1024] inb_S8x1024_S1x1024_1_0, p1⟩ :: ⟨Rect.unit ![0, 0] ![1, 1024] inb_S8x1024_S1x1024_0_0, p0⟩ :: L)) (ix2 a i)
    = if a.val = 1 then p1 (ix2 0 i) else if a.val = 0 then p0 (ix2 0 i)
      else v.read (Elt Ideal) (v.writes (Elt Ideal) f L) (ix2 a i) := by
  by_cases h1 : a.val = 1
  · rw [if_pos h1]
    exact View.read_writes_cons_unit_of_mem v f _ _ _ _ (ix2 0 i) rfl (fun b => by fin_cases b <;> simp [ix2, h1])
  rw [if_neg h1, View.read_writes_cons_unit_of_not_mem v f _ _ _ _ rfl 0 (by show a.val < 1 ∨ 1 + 1 ≤ a.val; omega)]
  by_cases h0 : a.val = 0
  · rw [if_pos h0]
    exact View.read_writes_cons_unit_of_mem v f _ _ _ _ (ix2 0 i) rfl (fun b => by fin_cases b <;> simp [ix2, h0])
  rw [if_neg h0, View.read_writes_cons_unit_of_not_mem v f _ _ _ _ rfl 0 (by show a.val < 0 ∨ 0 + 1 ≤ a.val; omega)]

variable (m : (ℓ : Loc nD τ sig) → Buf (Elt Ideal) ℓ) (c : Dev nD)

/-- The input blocks of a point are the given rows and weights. -/
structure Ins (t : Fin cfg0.N) (D : Fin 512 → Fin 3712 → ℝ) (Z X : Fin 512 → Fin 1024 → ℝ) : Prop where
  h0 : (iblk m c 0 t : S512x3712.Idx → EReal) = arr D
  h1 : (iblk m c 1 t : S1024x3712.Idx → EReal) = arr w
  h2 : (iblk m c 2 t : S512x1024.Idx → EReal) = arr Z
  h3 : (iblk m c 3 t : S512x1024.Idx → EReal) = arr X
  h4 : (iblk m c 4 t : S1x1024.Idx → EReal) = row g

variable (t : Fin cfg0.N) (D : Fin 512 → Fin 3712 → ℝ) (Z X : Fin 512 → Fin 1024 → ℝ)

theorem out5 (I : Ins w g m c t D Z X) : (outsAt0 (F := Ideal) m c t.val t.isLt).1 = arr fun t => dx w g (D t) (Z t) (X t) := by
  by_cases h : t.val % 4 = 0
  · rw [outsAt0_A m c t h]
    frame_open
    frame_out
    simp only [I.h0, I.h1, I.h2, I.h3, I.h4, pay5, pay7, pay8, pay10, pay11, pay1]
  · rw [outsAt0_B m c t h]
    frame_open
    frame_out
    simp only [I.h0, I.h1, I.h2, I.h3, I.h4, pay5, pay7, pay8, pay10, pay11, pay1]

/-- The column sums after one more point. -/
def addAcc (Y : Fin 8 → Fin 1024 → ℝ) (a : Fin 8) (i : Fin 1024) : ℝ := Y a i + ∑ t, acc w (D t) (Z t) (X t) a.val i

theorem out6_A (I : Ins w g m c t D Z X) (h : t.val % 4 = 0) :
    (outsAt0 (F := Ideal) m c t.val t.isLt).2 = arr (addAcc w D Z X (fun _ _ => 0)) := by
  rw [outsAt0_A m c t h]
  frame_open
  simp (disch := decide) only [↓ View.readCov_skip, ↓ View.readCov_cons_toLoadRect, ↓ View.readCov_fill]
  frame_out
  simp only [I.h0, I.h1, I.h2, I.h3, I.h4, pay4, ld0, ld1, pay5, pay8]
  rw [← View.read_writes_junk_eq_canon (ms0_6 t).view]
  funext y
  idx_vars y
  rw [rows2]
  simp only [pay2 w D Z X, pay3 w D Z X]
  rw [View.read_writes_cons_unit_of_mem _ _ _ _ _ _ (ix2 y0 y1) rfl (fun b => by fin_cases b <;> simp [ix2])]
  match y0 with
  | 0 => rfl
  | 1 => rfl
  | 2 => simp [arr, acc, ix2, addAcc]
  | 3 => simp [arr, acc, ix2, addAcc]
  | 4 => simp [arr, acc, ix2, addAcc]
  | 5 => simp [arr, acc, ix2, addAcc]
  | 6 => simp [arr, acc, ix2, addAcc]
  | 7 => simp [arr, acc, ix2, addAcc]

theorem out6_B (I : Ins w g m c t D Z X) (h : ¬t.val % 4 = 0) (Y : Fin 8 → Fin 1024 → ℝ)
    (hY : (outsAt0 (F := Ideal) m c (t.val - 1) (Nat.lt_of_le_of_lt (Nat.sub_le _ _) t.isLt)).2 = arr Y) :
    (outsAt0 (F := Ideal) m c t.val t.isLt).2 = arr (addAcc w D Z X Y) := by
  rw [outsAt0_B m c t h]
  frame_open
  simp (disch := decide) only [↓ View.readCov_skip, ↓ View.readCov_cons_toLoadRect, ↓ View.readCov_fill]
  frame_out
  simp only [I.h0, I.h1, I.h2, I.h3, I.h4, hY, ld0, ld1, pay5, pay8]
  funext y
  idx_vars y
  rw [rows2]
  simp only [pay2 w D Z X, pay3 w D Z X]
  rw [View.writes_nil, Memref.IsWhole.read_unread]
  match y0 with
  | 0 => rfl
  | 1 => rfl
  | 2 => simp [arr, acc, ix2, addAcc]
  | 3 => simp [arr, acc, ix2, addAcc]
  | 4 => simp [arr, acc, ix2, addAcc]
  | 5 => simp [arr, acc, ix2, addAcc]
  | 6 => simp [arr, acc, ix2, addAcc]
  | 7 => simp [arr, acc, ix2, addAcc]

end Cert.InBwd
-- ==== Proof.InBwdRef.lean ====
/- The reference's gradient through the input projection and the entry norm, entry by entry, over the reals. -/
module

public import proofs.«01_k».proof.Proof.InBwdBlock
public import proofs.«01_k».proof.Proof.Gen.Reference10Ideal.Read

@[expose] public section

noncomputable section

namespace Cert.InBwd

open Idealize.ShloMosaic Cert.Reference10Ideal Cert.Reference10Ideal.Gen Cert.Reference10Ideal.Read Cert.Reals Cert.Mlp

variable (w : Fin 1024 → Fin 3712 → ℝ) (g : Fin 1024 → ℝ) (D : Fin 2048 → Fin 3712 → ℝ) (Z X : Fin 2048 → Fin 1024 → ℝ)

theorem r8 (t : Fin 2048) (i : Fin 1024) : val_main_v8 (F := Ideal) (arr X) (ix2 t i) = ((xc (X t) i : ℝ) : EReal) := by
  pointwise [val_main_v8, val_main_v7, val_main_v6, val_main_v4, val_main_v3, val_main_cst_0, val_main_v5, val_main_cst_1]
  simp only [arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  rfl

theorem r17 (t : Fin 2048) (i : Fin 1024) : val_main_v17 (F := Ideal) (arr X) (ix2 t i) = ((xc (X t) i : ℝ) : EReal) := by
  pointwise [val_main_v17, val_main_v16, val_main_v6, val_main_v4, val_main_v3, val_main_cst_0, val_main_v5, val_main_cst_1]
  simp only [arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  rfl

theorem r19 (t : Fin 2048) (s : Fin 1) : val_main_v19 (F := Ideal) (arr X) (ix2 t s) = ((ve (X t) : ℝ) : EReal) := by
  pointwise [val_main_v19, val_main_v15, val_main_v13, val_main_v12, val_main_v9, val_main_cst_3, val_main_v14, val_main_cst_4, val_main_v18, val_main_cst_5]
  simp only [r8, arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  rfl

theorem r20 (t : Fin 2048) (s : Fin 1) : val_main_v20 (F := Ideal) (arr X) (ix2 t s) = ((rs (X t) : ℝ) : EReal) := by
  pointwise [val_main_v20]
  simp only [r19, arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  exact rsqrt_ve _

theorem r23 (t : Fin 2048) (s : Fin 1) : val_main_v23 (F := Ideal) (arr X) (ix2 t s) = ((-(1 / 2) * (rs (X t) / ve (X t)) : ℝ) : EReal) := by
  pointwise [val_main_v23, val_main_v22, val_main_cst_6, val_main_v21]
  simp only [r20, r19, div_coe (ve_pos (X t)).ne', arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]

theorem r25 (t : Fin 2048) (i : Fin 1024) : val_main_v25 (F := Ideal) (arr X) (ix2 t i) = ((xh (X t) i : ℝ) : EReal) := by
  pointwise [val_main_v25, val_main_v24]
  simp only [r17, r20, arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  rfl

theorem r39 (t : Fin 2048) (i : Fin 1024) : val_main_v39 (F := Ideal) (arr D) (arr w) (arr Z) (ix2 t i) = ((dh w (D t) (Z t) i : ℝ) : EReal) := by
  pointwise [val_main_v39, val_main_v36, val_main_v35, val_main_v0, val_main_v38, val_main_v37, val_main_cst_8]
  simp only [arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  exact congrArg _ (add_comm _ _)

theorem r47 (t : Fin 2048) (i : Fin 1024) : val_main_v47 (F := Ideal) (arr D) (arr w) (arr Z) (row g) (ix2 t i) = ((dh w (D t) (Z t) i * g i : ℝ) : EReal) := by
  pointwise [val_main_v47, val_main_v46, val_main_v26, val_main_v1]
  simp only [r39, arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]

theorem r72 (t : Fin 2048) (i : Fin 1024) : val_main_v72 (F := Ideal) (arr D) (arr w) (arr Z) (arr X) (row g) (ix2 t i) = ((dx w g (D t) (Z t) (X t) i : ℝ) : EReal) := by
  pointwise [val_main_v72, val_main_v66, val_main_v53, val_main_v52, val_main_v62, val_main_v61, val_main_v60, val_main_v59, val_main_v54, val_main_v51, val_main_v50, val_main_v49, val_main_cst_13, val_main_v58, val_main_cst_15, val_main_cst_16, val_main_v11, val_main_v10, val_main_cst_2, val_main_v71, val_main_v70, val_main_v69, val_main_v67, val_main_v57, val_main_v56, val_main_v55, val_main_cst_14, val_main_v65, val_main_v64, val_main_v63, val_main_cst_17, val_main_v68, val_main_cst_18, val_main_cst_19]
  simp only [r47, r20, r17, r23, r8, arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  exact congrArg _ (ln_back (X t) (fun k => dh w (D t) (Z t) k * g k) i)

theorem r48 (i : Fin 1024) : val_main_v48 (F := Ideal) (arr D) (arr w) (arr Z) (arr X) (ix1 i) = ((∑ t, acc w (D t) (Z t) (X t) 0 i : ℝ) : EReal) := by
  pointwise [val_main_v48, val_main_v45, val_main_v44, val_main_v43, val_main_cst_11, val_main_cst_12]
  simp only [r25, r39, arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  exact congrArg _ (Finset.sum_congr rfl fun t _ => mul_comm _ _)

theorem r42 (i : Fin 1024) : val_main_v42 (F := Ideal) (arr D) (arr w) (arr Z) (ix1 i) = ((∑ t, acc w (D t) (Z t) (X t) 1 i : ℝ) : EReal) := by
  pointwise [val_main_v42, val_main_v41, val_main_v40, val_main_cst_9, val_main_cst_10]
  simp only [r39, arr_apply, row_apply, ← EReal.coe_mul, coe_sum, ← EReal.coe_add, ← EReal.coe_sub, ← EReal.coe_neg, ofBits_1024, ofBits_eps5, ofBits_al, ofBits_two, ofBits_neg_half, div_1024, zero_add, Fin.sum_univ_one]
  rfl

theorem res72 : val_main_v72 (F := Ideal) (arr D) (arr w) (arr Z) (arr X) (row g) = arr fun t => dx w g (D t) (Z t) (X t) := by
  funext x
  idx_vars x
  exact r72 w g D Z X x0 x1

theorem res77 : val_main_v77 (F := Ideal) (arr D) (arr w) (arr Z) (arr X)
    = arr fun (a : Fin 8) i => ∑ t, acc w (D t) (Z t) (X t) a.val i := by
  funext x
  idx_vars x
  have e0 := r48 w D Z X x1
  have e1 := r42 w D Z X x1
  pointwise [val_main_v77, val_main_v75, val_main_v73, val_main_v74, val_main_v76, val_main_cst_20]
  fin_cases x0
  · simp [e0, arr]
  · simp [e1, arr]
  all_goals simp [acc, arr]

end Cert.InBwd
-- ==== Proof.InBwd.lean ====
/- The claims about the gradient through the residual, the input projection and the entry norm. Every grid point handles 512
   tokens; the last point's column sums are those of all tokens. -/
module

public import proofs.«01_k».proof.Defs
public import proofs.«01_k».proof.Proof.InBwdRef
public import proofs.«01_k».proof.Proof.Gen.Reference10Ideal.Run
public import proofs.«01_k».proof.Proof.Gen.Pre_in_bwd_finite
public import Idealize.ShloMosaic.Lib.Claim
public import Idealize.ShloMosaic.Lib.ReduceAll

@[expose] public section

noncomputable section

namespace Cert.InBwd

open Idealize.ShloMosaic Idealize.ShloMosaic.TcCoe Idealize.SL.Sem Cert.Reals Cert.Mlp

local instance : Cert.Kernel10Ideal.Facts := Cert.Kernel10Ideal.Gen.facts
local instance : Cert.Reference10Ideal.Facts := Cert.Reference10Ideal.Gen.facts
local instance : Cert.Pre_in_bwd_finite.Facts := Cert.Pre_in_bwd_finite.Gen.facts

section
open Cert.Kernel10Ideal Cert.Kernel10Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

/-- Token `s` of the block a grid point handles. -/
def tk (t : Fin cfg0.N) (s : Fin 512) : Fin 2048 := ⟨512 * t.val + s.val, by have h : t.val < 4 := t.isLt; omega⟩
/-- The rows a grid point handles. -/
abbrev rows {b : ℕ} (f : Fin 2048 → Fin b → ℝ) (t : Fin cfg0.N) (s : Fin 512) : Fin b → ℝ := f (tk t s)

theorem arr_tk {b : ℕ} (f : Fin 2048 → Fin b → ℝ) (t : Fin cfg0.N) (y : (⟨2, ![512, b]⟩ : Shape).Idx) :
    arr (fun s => f (tk t s)) y = arr f (ix2 (tk t (y 0)) (y 1)) := rfl

variable (w : Fin 1024 → Fin 3712 → ℝ) (g : Fin 1024 → ℝ) (D : Fin 2048 → Fin 3712 → ℝ) (Z X : Fin 2048 → Fin 1024 → ℝ)

/-- The launch's arguments hold these reals. -/
structure Args : Prop where
  a0 : m ((c : Thread nD τ).loc main_arg0) = arr D
  a1 : m ((c : Thread nD τ).loc main_arg1) = arr w
  a2 : m ((c : Thread nD τ).loc main_arg2) = arr Z
  a3 : m ((c : Thread nD τ).loc main_arg3) = arr X
  a4 : m ((c : Thread nD τ).loc main_arg4) = row g

variable (A : Args m c w g D Z X)

include A in
theorem in0 (t : Fin cfg0.N) : (iblk m c 0 t : S512x3712.Idx → EReal) = arr (rows D t) := by
  funext y
  obtain ⟨e, -, -, -, -, -⟩ := idx t
  blk_simp [iblk, e]
  rw [V_main_arg0, A.a0]
  have h2 : (win0_0.blk t).view.emb y = ix2 (tk t (y 0)) (y 1) := by
    unfold tk
    blk_ext [e]
  exact (congrArg (arr D) h2).trans (arr_tk D t y).symm

include A in
theorem in1 (t : Fin cfg0.N) : (iblk m c 1 t : S1024x3712.Idx → EReal) = arr w := by
  funext y
  obtain ⟨-, e, -, -, -, -⟩ := idx t
  blk_simp [iblk, e]
  rw [V_main_arg1, A.a1]
  have h2 : (win0_1.blk t).view.emb y = y := by blk_ext [e]
  exact congrArg (arr w) h2

include A in
theorem in2 (t : Fin cfg0.N) : (iblk m c 2 t : S512x1024.Idx → EReal) = arr (rows Z t) := by
  funext y
  obtain ⟨-, -, e, -, -, -⟩ := idx t
  blk_simp [iblk, e]
  rw [V_main_arg2, A.a2]
  have h2 : (win0_2.blk t).view.emb y = ix2 (tk t (y 0)) (y 1) := by
    unfold tk
    blk_ext [e]
  exact (congrArg (arr Z) h2).trans (arr_tk Z t y).symm

include A in
theorem in3 (t : Fin cfg0.N) : (iblk m c 3 t : S512x1024.Idx → EReal) = arr (rows X t) := by
  funext y
  obtain ⟨-, -, -, e, -, -⟩ := idx t
  blk_simp [iblk, e]
  rw [V_main_arg3, A.a3]
  have h2 : (win0_3.blk t).view.emb y = ix2 (tk t (y 0)) (y 1) := by
    unfold tk
    blk_ext [e]
  exact (congrArg (arr X) h2).trans (arr_tk X t y).symm

include A in
theorem in4 (t : Fin cfg0.N) : (iblk m c 4 t : S1x1024.Idx → EReal) = row g := by
  funext y
  obtain ⟨-, -, -, -, e, -⟩ := idx t
  blk_simp [iblk, e]
  rw [V_main_arg4, A.a4]
  have h2 : (win0_4.blk t).view.emb y = y := by blk_ext [e]
  exact congrArg (row g) h2

include A in
theorem ins (t : Fin cfg0.N) : Ins w g m c t (rows D t) (rows Z t) (rows X t) :=
  ⟨in0 m c w g D Z X A t, in1 m c w g D Z X A t, in2 m c w g D Z X A t, in3 m c w g D Z X A t, in4 m c w g D Z X A t⟩

include A in
theorem final5 : (dats m 0 c).arrAt 5 cfg0.N = arr (fun t => dx w g (D t) (Z t) (X t)) := by
  refine (dats m 0 c).arrAt_eq_of_covers 5 _ (by decide +kernel) fun t hf y => ?_
  obtain ⟨-, -, -, -, -, e⟩ := idx t
  blk_simp [e]
  rw [after0_5]
  have h2 : (win0_5.blk t).view.emb y = ix2 (tk t (y 0)) (y 1) := by
    unfold tk
    blk_ext [e]
  refine Eq.trans ?_ (congrArg (arr (fun t => dx w g (D t) (Z t) (X t))) h2).symm
  refine (congrFun (out5 w g m c t _ _ _ (ins m c w g D Z X A t)) y).trans ?_
  exact arr_tk (fun t => dx w g (D t) (Z t) (X t)) t y

/-- What a token adds to a row of sums, zero past the last token. -/
def tokAcc (a : Fin 8) (i : Fin 1024) (k : ℕ) : ℝ :=
  if h : k < 2048 then acc w (D ⟨k, h⟩) (Z ⟨k, h⟩) (X ⟨k, h⟩) a.val i else 0
/-- The sums over the first `n` tokens. -/
def upTo (n : ℕ) (a : Fin 8) (i : Fin 1024) : ℝ := ∑ k ∈ Finset.range n, tokAcc w D Z X a i k

theorem upTo_all : upTo w D Z X 2048 = fun a i => ∑ t, acc w (D t) (Z t) (X t) a.val i := by
  funext a i
  unfold upTo
  rw [Finset.sum_range]
  exact Finset.sum_congr rfl fun t _ => dif_pos t.isLt

theorem upTo_block (t : Fin cfg0.N) :
    addAcc w (rows D t) (rows Z t) (rows X t) (upTo w D Z X (512 * t.val)) = upTo w D Z X (512 * t.val + 512) := by
  have h8 : t.val < 4 := t.isLt
  funext a i
  unfold addAcc upTo
  rw [Finset.sum_range_add]
  congr 1
  rw [Finset.sum_range]
  refine Finset.sum_congr rfl fun s _ => ?_
  unfold tokAcc
  rw [dif_pos (show 512 * t.val + s.val < 2048 by omega)]
  rfl

include A in
theorem sums : ∀ (n : ℕ) (hn : n < cfg0.N), (outsAt0 (F := Ideal) m c n hn).2 = arr (upTo w D Z X (512 * n + 512))
  | 0, hn => by
    have e : upTo w D Z X (512 * 0) = fun _ _ => 0 := by
      funext a i
      unfold upTo
      simp
    have q := upTo_block w D Z X ⟨0, hn⟩
    rw [e] at q
    exact (out6_A w g m c ⟨0, hn⟩ _ _ _ (ins m c w g D Z X A ⟨0, hn⟩) rfl).trans (congrArg arr q)
  | n + 1, hn => by
    have h8 : n + 1 < 4 := hn
    have q := upTo_block w D Z X ⟨n + 1, hn⟩
    refine (out6_B w g m c ⟨n + 1, hn⟩ _ _ _ (ins m c w g D Z X A ⟨n + 1, hn⟩) ?_ _ (sums n (Nat.lt_of_succ_lt hn))).trans (congrArg arr q)
    show ¬(n + 1) % 4 = 0
    omega

include A in
theorem final6 : (dats m 0 c).arrAt 6 cfg0.N = arr (fun a i => ∑ t, acc w (D t) (Z t) (X t) a.val i) := by
  refine (dats m 0 c).arrAt_eq_of_after_last 6 t0_3 (by decide +kernel) _ fun j => ?_
  rw [after0_6, ← upTo_all]
  exact congrFun (sums m c w g D Z X A 3 (by decide)) j

end

theorem arr_of {a b : ℕ} {x : (⟨2, ![a, b]⟩ : Shape).Idx → EReal} (h : ∃ f, x = up f) : ∃ f : Fin a → Fin b → ℝ, x = arr f := by
  obtain ⟨f, rfl⟩ := h
  refine ⟨fun t i => f (ix2 t i), ?_⟩
  funext y
  exact congrArg (up f) (show y = ix2 (y 0) (y 1) by funext k; fin_cases k <;> rfl)

theorem row_of {b : ℕ} {x : (⟨2, ![1, b]⟩ : Shape).Idx → EReal} (h : ∃ f, x = up f) : ∃ f : Fin b → ℝ, x = row f := by
  obtain ⟨f, rfl⟩ := h
  refine ⟨fun i => f (ix2 0 i), ?_⟩
  funext y
  refine congrArg (up f) (show y = ix2 0 (y 1) from ?_)
  funext k
  fin_cases k
  · exact Subsingleton.elim (α := Fin 1) _ _
  · rfl

/-- The precondition says that the arrays hold reals. -/
theorem reals (x0 : (⟨Cert.Pre_in_bwd_finite.S2048x3712, .bf16⟩ : BufTy).Contents (Elt Ideal))
    (x1 : (⟨Cert.Pre_in_bwd_finite.S1024x3712, .bf16⟩ : BufTy).Contents (Elt Ideal))
    (x2 x3 : (⟨Cert.Pre_in_bwd_finite.S2048x1024, .f32⟩ : BufTy).Contents (Elt Ideal))
    (x4 : (⟨Cert.Pre_in_bwd_finite.S1x1024, .f32⟩ : BufTy).Contents (Elt Ideal))
    (x5 : (⟨Cert.Pre_in_bwd_finite.S8x128, .f32⟩ : BufTy).Contents (Elt Ideal))
    (h : Cert.Pre_in_bwd_finite.fn (F := Ideal) x0 x1 x2 x3 x4 x5 = fun _ => 1#1) :
    ∃ (w : Fin 1024 → Fin 3712 → ℝ) (g : Fin 1024 → ℝ) (D : Fin 2048 → Fin 3712 → ℝ) (Z X : Fin 2048 → Fin 1024 → ℝ),
      x0 = arr D ∧ x1 = arr w ∧ x2 = arr Z ∧ x3 = arr X ∧ x4 = row g := by
  have e := congrFun h (fun a => a.elim0)
  dsimp only [Cert.Pre_in_bwd_finite.fn, Cert.Pre_in_bwd_finite.fn_part1] at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨D, hD⟩ := arr_of (exists_real x0 fun i => finite_of_olt _ (Host.reduce_andi_all _ _ _ _ _ h0 i))
  obtain ⟨w, hw⟩ := arr_of (exists_real x1 fun i => finite_of_olt _ (Host.reduce_andi_all _ _ _ _ _ h1 i))
  obtain ⟨Z, hZ⟩ := arr_of (exists_real x2 fun i => finite_of_olt _ (Host.reduce_andi_all _ _ _ _ _ h2 i))
  obtain ⟨X, hX⟩ := arr_of (exists_real x3 fun i => finite_of_olt _ (Host.reduce_andi_all _ _ _ _ _ h3 i))
  obtain ⟨g, hg⟩ := row_of (exists_real x4 fun i => finite_of_olt _ (Host.reduce_andi_all _ _ _ _ _ h4 i))
  exact ⟨w, g, D, Z, X, hD, hw, hZ, hX, hg⟩

section
open Cert.Reference10Ideal Cert.Reference10Ideal.Read

variable {x0 : S2048x3712.Idx → EReal} {x1 : S1024x3712.Idx → EReal} {x2 x3 : S2048x1024.Idx → EReal} {x4 : S1x1024.Idx → EReal}
  {w : Fin 1024 → Fin 3712 → ℝ} {g : Fin 1024 → ℝ} {D : Fin 2048 → Fin 3712 → ℝ} {Z X : Fin 2048 → Fin 1024 → ℝ}

theorem of72 (b0 : x0 = arr D) (b1 : x1 = arr w) (b2 : x2 = arr Z) (b3 : x3 = arr X) (b4 : x4 = row g) :
    val_main_v72 (F := Ideal) x0 x1 x2 x3 x4 = arr (fun t => dx w g (D t) (Z t) (X t)) := by
  rw [b0, b1, b2, b3, b4]
  exact res72 w g D Z X

theorem of77 (b0 : x0 = arr D) (b1 : x1 = arr w) (b2 : x2 = arr Z) (b3 : x3 = arr X) :
    val_main_v77 (F := Ideal) x0 x1 x2 x3 = arr (fun (a : Fin 8) i => ∑ t, acc w (D t) (Z t) (X t) a.val i) := by
  rw [b0, b1, b2, b3]
  exact res77 w D Z X

end

theorem algebraic : Cert.algebraic_Kernel10Ideal_Reference10Ideal_pre_in_bwd_finite := by
  pair_intro
  · run_from Cert.Kernel10Ideal.Value.run_blocks m g
  · refine (θ_run Cert.Reference10Ideal.defs _ _).mono (fun r h c => ?_) (Cert.Reference10Ideal.Value.run (F := Ideal) m' g')
    obtain ⟨r0, r1, rest⟩ := h c
    obtain ⟨a0, a1, a2, a3, a4, -⟩ := hagree c
    obtain ⟨w, gg, D, Z, X, h0, h1, h2, h3, h4⟩ := reals _ _ _ _ _ _ (hpre c)
    have A : Args m c w gg D Z X := ⟨h0, h1, h2, h3, h4⟩
    have b0 := a0.trans h0
    have b1 := a1.trans h1
    have b2 := a2.trans h2
    have b3 := a3.trans h3
    have b4 := a4.trans h4
    refine ⟨r0.trans ?_, r1.trans ?_, rest⟩
    · exact (Cert.Reference10Ideal.Read.val_main_v72_eq _ _).trans ((of72 b0 b1 b2 b3 b4).trans (final5 m c w gg D Z X A).symm)
    · exact (Cert.Reference10Ideal.Read.val_main_v77_eq _ _ _ _).trans ((of77 b0 b1 b2 b3).trans (final6 m c w gg D Z X A).symm)

theorem frame_ref : Cert.quiescent_Reference10Ideal := fun m g _ =>
  (θ_run Cert.Reference10Ideal.defs _ _).mono
    (fun r h => ⟨fun c => (h c).2.2, sem_eq_zero_of_no_sems (by decide) r.2⟩)
    (Cert.Reference10Ideal.Value.run (F := Ideal) m g)

end Cert.InBwd
-- ==== Proof.OutStage.lean ====
/- The claims about the mixture of the heads: a head is divided by its root mean square, the delta rule's heads are gated, and
   the mixture is projected onto the residual stream. The kernel sums a head's squares as lanes of one array and multiplies by
   the reciprocal of the head's width; the reference reshapes into heads and divides. -/
module

public import proofs.«01_k».proof.Defs
public import proofs.«01_k».proof.Proof.Reals
public import proofs.«01_k».proof.Proof.Gen.Kernel11Ideal.Value
public import proofs.«01_k».proof.Proof.Gen.Reference11Ideal.Run
public import proofs.«01_k».proof.Proof.Gen.Reference11Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

noncomputable section

namespace Cert.OutStage

open Idealize.ShloMosaic Idealize.ShloMosaic.TcCoe Idealize.SL.Sem Cert.Reals

local instance : Cert.Kernel11Ideal.Facts := Cert.Kernel11Ideal.Gen.facts
local instance : Cert.Reference11Ideal.Facts := Cert.Reference11Ideal.Gen.facts

/-- The sum of the squares of a head of 128 columns. -/
def sq128 (o : Fin 512 → EReal) (a : ℕ) (h : a < 4) : EReal :=
  ∑ x : Fin 128, o ⟨a * 128 + x.val, by omega⟩ * o ⟨a * 128 + x.val, by omega⟩
/-- The sum of the squares of a head of 64 columns. -/
def sq64 (o : Fin 512 → EReal) (a : ℕ) (h : a < 8) : EReal :=
  ∑ x : Fin 64, o ⟨a * 64 + x.val, by omega⟩ * o ⟨a * 64 + x.val, by omega⟩
/-- A column of the delta rule's output, divided by the root mean square of its head. -/
def hd128 (o g : Fin 512 → EReal) (i : Fin 512) : EReal :=
  o i * Ideal.rsqrt (sq128 o (i.val / 128) (by omega) * ((1 / 128 : ℝ) : EReal) + Ideal.ofBits .f32 0x358637BD#32) * g i
/-- A column of the attention's output, divided by the root mean square of its head. -/
def hd64 (o g : Fin 512 → EReal) (i : Fin 512) : EReal :=
  o i * Ideal.rsqrt (sq64 o (i.val / 64) (by omega) * ((1 / 64 : ℝ) : EReal) + Ideal.ofBits .f32 0x358637BD#32) * g i
/-- The logistic function, as both programs form it. -/
def lgt (z : EReal) : EReal := Ideal.div 1 (1 + Ideal.exp (-z))
/-- A column of the mixture. -/
def mx (o z f g gf : Fin 512 → EReal) (j : Fin 1024) : EReal :=
  if h : j.val < 512 then hd128 o g ⟨j.val, h⟩ * (z ⟨j.val, h⟩ * lgt (z ⟨j.val, h⟩)) else hd64 f gf ⟨j.val - 512, by omega⟩

theorem sq128_eq (o : Fin 512 → EReal) (i : Fin 512) (e : Fin 128 → Fin 512) (h : ∀ x, (e x).val = i.val / 128 * 128 + x.val) :
    ∑ x, o (e x) * o (e x) = sq128 o (i.val / 128) (by omega) :=
  Finset.sum_congr rfl fun x _ => congrArg (fun k : Fin 512 => o k * o k) (Fin.ext (h x))

theorem sq64_eq (o : Fin 512 → EReal) (i : Fin 512) (e : Fin 64 → Fin 512) (h : ∀ x, (e x).val = i.val / 64 * 64 + x.val) :
    ∑ x, o (e x) * o (e x) = sq64 o (i.val / 64) (by omega) :=
  Finset.sum_congr rfl fun x _ => congrArg (fun k : Fin 512 => o k * o k) (Fin.ext (h x))

theorem ofBits_r128 : Ideal.ofBits .f32 0x3C000000#32 = ((1 / 128 : ℝ) : EReal) := by
  simp [Ideal.ofBits, Ideal.ieee]
  rw [← EReal.coe_mul]
  norm_num
theorem ofBits_r64 : Ideal.ofBits .f32 0x3C800000#32 = ((1 / 64 : ℝ) : EReal) := by
  simp [Ideal.ofBits, Ideal.ieee]
  rw [← EReal.coe_mul]
  norm_num
theorem ofBits_128 : Ideal.ofBits .f32 0x43000000#32 = ((128 : ℝ) : EReal) := by
  simp [Ideal.ofBits, Ideal.ieee]
  rw [← EReal.coe_mul]
  norm_num
theorem ofBits_64 : Ideal.ofBits .f32 0x42800000#32 = ((64 : ℝ) : EReal) := by
  simp [Ideal.ofBits, Ideal.ieee]
  rw [← EReal.coe_mul]
  norm_num

/-- The lanes below 64, summed. -/
theorem low (f : Fin 128 → EReal) :
    ∑ x : Fin 128, Scalar.select (IntOp.cmpi CmpIPredicate.slt (BitVec.ofNat 32 x.val) 64#32) (f x) 0 = ∑ x : Fin 64, f ⟨x.val, by omega⟩ := by
  have q (x : Fin 128) : Scalar.select (IntOp.cmpi CmpIPredicate.slt (BitVec.ofNat 32 x.val) 64#32) (f x) 0 = if x.val < 64 then f x else 0 :=
    select_slt x.val 64 (by omega) (by norm_num) _ _
  rw [Finset.sum_congr rfl fun x _ => q x, Fin.sum_univ_add (a := 64) (b := 64)]
  refine (congrArg₂ (· + ·) (Finset.sum_congr rfl fun x _ => if_pos x.isLt) (Finset.sum_eq_zero fun x _ => if_neg (by simp))).trans ?_
  exact add_zero _

/-- The lanes from 64 on, summed. -/
theorem high (f : Fin 128 → EReal) :
    ∑ x : Fin 128, Scalar.select (IntOp.cmpi CmpIPredicate.slt (BitVec.ofNat 32 x.val) 64#32) 0 (f x) = ∑ x : Fin 64, f ⟨64 + x.val, by omega⟩ := by
  have q (x : Fin 128) : Scalar.select (IntOp.cmpi CmpIPredicate.slt (BitVec.ofNat 32 x.val) 64#32) 0 (f x) = if x.val < 64 then 0 else f x :=
    select_slt x.val 64 (by omega) (by norm_num) _ _
  rw [Finset.sum_congr rfl fun x _ => q x, Fin.sum_univ_add (a := 64) (b := 64)]
  refine (congrArg₂ (· + ·) (Finset.sum_eq_zero fun x _ => if_pos x.isLt) (Finset.sum_congr rfl fun x _ => if_neg (by simp))).trans ?_
  exact zero_add _

section
open Cert.Kernel11Ideal Cert.Kernel11Ideal.Gen

theorem pay4 (o : S512x512.Idx → EReal) (g : S1x512.Idx → EReal) (s : Fin 512) (i : Fin 512) :
    k0_pay4 (F := Ideal) o g (ix2 s i) = hd128 (fun k => o (ix2 s k)) (fun k => g (ix2 0 k)) i := by
  pointwise [k0_pay4]
  unfold hd128
  rw [ofBits_r128]
  refine congrArg (fun e => o (ix2 s i) * Ideal.rsqrt (e + Ideal.ofBits .f32 0x358637BD#32) * g (ix2 0 i)) ?_
  split_ifs
  all_goals exact congrArg (· * ((1 / 128 : ℝ) : EReal)) (sq128_eq (fun k => o (ix2 s k)) i _ fun x => by dsimp only; omega)

theorem pay12 (o : S512x512.Idx → EReal) (g : S1x512.Idx → EReal) (s : Fin 512) (i : Fin 512) :
    k0_pay12 (F := Ideal) o (k0_pay5 o) (k0_pay7 (k0_pay6 o)) (k0_pay8 (k0_pay5 o)) (k0_pay9 (k0_pay5 o)) k0_pay10 (k0_pay11 (k0_pay5 o)) g (ix2 s i)
      = hd64 (fun k => o (ix2 s k)) (fun k => g (ix2 0 k)) i := by
  unfold k0_pay12 k0_pay11
  pointwise [k0_pay5, k0_pay6, k0_pay7, k0_pay8, k0_pay9, k0_pay10]
  unfold hd64
  rw [ofBits_r64]
  simp only [low, high]
  refine congrArg (fun e => o (ix2 s i) * Ideal.rsqrt (e + Ideal.ofBits .f32 0x358637BD#32) * g (ix2 0 i)) ?_
  have q (n : ℕ) (h : n < 128) (a b : EReal) : Scalar.select (IntOp.cmpi CmpIPredicate.slt (BitVec.ofNat 32 n) 64#32) a b = if n < 64 then a else b :=
    select_slt n 64 (by omega) (by norm_num) _ _
  split_ifs
  all_goals rw [q _ (by omega)]
  all_goals split_ifs
  all_goals exact congrArg (· * ((1 / 64 : ℝ) : EReal)) (sq64_eq (fun k => o (ix2 s k)) i _ fun x => by dsimp only; omega)

theorem pay1 (z a : S512x512.Idx → EReal) (s : Fin 512) (i : Fin 512) :
    k0_pay1 (F := Ideal) z a (k0_pay13 z) (ix2 s i) = a (ix2 s i) * (z (ix2 s i) * lgt (z (ix2 s i))) := by
  pointwise [k0_pay1, k0_pay13]
  unfold lgt
  rw [zero_sub]

theorem pay3 (r : S512x1024.Idx → EReal) (a : S512x1024.Idx → EReal) (b : S1024x1024.Idx → EReal) (s : Fin 512) (j : Fin 1024) :
    k0_pay3 (F := Ideal) r a b (ix2 s j) = Ideal.ofBits .f32 0x3F9837F0#32 * r (ix2 s j) + ∑ k : Fin 1024, a (ix2 s k) * b (ix2 k j) := by
  pointwise [k0_pay3]

end

section
open Cert.Reference11Ideal Cert.Reference11Ideal.Read

variable (o : S2048x512.Idx → EReal) (p : S2048x3712.Idx → EReal) (f : S2048x512.Idx → EReal) (h : S2048x1024.Idx → EReal)
  (g gf : S1x512.Idx → EReal) (w : S1024x1024.Idx → EReal)

theorem ref16 (s : Fin 2048) (i : Fin 512) :
    val_main_v16 (F := Ideal) o g (ix3 s ⟨i.val / 128, by omega⟩ ⟨i.val % 128, by omega⟩) = hd128 (fun k => o (ix2 s k)) (fun k => g (ix2 0 k)) i := by
  pointwise [val_main_v16, val_main_v15, val_main_v14, val_main_v13, val_main_v12, val_main_v11, val_main_v10, val_main_v9, val_main_cst_1,
    val_main_v8, val_main_v7, val_main_cst_0, val_main_v6, val_main_v5, val_main_v4, val_main_v3, val_main_cst, val_main_v1]
  unfold hd128
  rw [ofBits_128, Ideal.div_coe (by norm_num)]
  rfl

theorem ref39 (s : Fin 2048) (i : Fin 512) :
    val_main_v39 (F := Ideal) f gf (ix3 s ⟨i.val / 64, by omega⟩ ⟨i.val % 64, by omega⟩) = hd64 (fun k => f (ix2 s k)) (fun k => gf (ix2 0 k)) i := by
  pointwise [val_main_v39, val_main_v38, val_main_v37, val_main_v36, val_main_v35, val_main_v34, val_main_v33, val_main_v32, val_main_cst_6,
    val_main_v31, val_main_v30, val_main_cst_5, val_main_v29, val_main_v28, val_main_v27, val_main_v26, val_main_cst_4, val_main_v2]
  unfold hd64
  rw [ofBits_64, Ideal.div_coe (by norm_num)]
  rfl

theorem ref24 (s : Fin 2048) (i : Fin 512) :
    val_main_v24 (F := Ideal) p (ix3 s ⟨i.val / 128, by omega⟩ ⟨i.val % 128, by omega⟩)
      = p (ix2 s ⟨1536 + i.val, by omega⟩) * lgt (p (ix2 s ⟨1536 + i.val, by omega⟩)) := by
  pointwise [val_main_v24, val_main_v23, val_main_v22, val_main_v21, val_main_v20, val_main_v19, val_main_v18, val_main_v17, val_main_v0,
    val_main_cst_2, val_main_cst_3]
  rfl

theorem ref42 (s : Fin 2048) (j : Fin 1024) : val_main_v42 (F := Ideal) o p f g gf (ix2 s j)
    = mx (fun k => o (ix2 s k)) (fun k => p (ix2 s ⟨1536 + k.val, by omega⟩)) (fun k => f (ix2 s k)) (fun k => g (ix2 0 k)) (fun k => gf (ix2 0 k)) j := by
  pointwise [val_main_v42, val_main_v41, val_main_v40]
  unfold mx
  by_cases hj : j.val < 512
  · rw [dif_pos hj, dif_pos hj]
    exact congrArg₂ (· * ·) (ref16 o g s ⟨j.val, hj⟩) (ref24 p s ⟨j.val, hj⟩)
  · rw [dif_neg hj, dif_neg hj]
    exact ref39 f gf s ⟨j.val - 512, by omega⟩

theorem ref48 (s : Fin 2048) (j : Fin 1024) : val_main_v48 (F := Ideal) o p f g gf (ix2 s j) = val_main_v42 (F := Ideal) o p f g gf (ix2 s j) := by
  pointwise [val_main_v48]

theorem ref47 (s : Fin 2048) (j : Fin 1024) : val_main_v47 (F := Ideal) o p f h g gf w (ix2 s j)
    = Ideal.ofBits .f32 0x3F9837F0#32 * h (ix2 s j) + ∑ k : Fin 1024, val_main_v42 (F := Ideal) o p f g gf (ix2 s k) * w (ix2 k j) := by
  pointwise [val_main_v47, val_main_v46, val_main_v45, val_main_v44, val_main_v43, val_main_cst_7]

end

section
open Cert.Kernel11Ideal Cert.Kernel11Ideal.Gen

theorem idx : ∀ t : Fin cfg0.N, win0_0.index t = ![t.val, 0] ∧ win0_1.index t = ![t.val, 3] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- Token `s` of the block a grid point handles. -/
def tk (t : Fin cfg0.N) (s : Fin 512) : Fin 2048 := ⟨512 * t.val + s.val, by have h : t.val < 4 := t.isLt; omega⟩

theorem in1 (t : Fin cfg0.N) (s : Fin 512) (k : Fin 512) : (X0_1 m c t : S512x512.Idx → EReal) (ix2 s k)
    = (m ((c : Thread nD τ).loc main_arg1) : S2048x3712.Idx → EReal) (ix2 (tk t s) ⟨1536 + k.val, by omega⟩) := by
  obtain ⟨-, e, -, -, -, -, -, -, -⟩ := idx t
  unfold X0_1 Pipeline.Window.fill
  refine (dif_pos (moved0_1 t (ix2 s k))).trans ?_
  blk_simp [iblk, e]
  rw [V_main_arg1]
  have h2 : (win0_1.blk t).view.emb (fun a => ⟨(ix2 s k a).val, (((cfg0.win 1).moved_iff (cfg0.grid.coords t) (ix2 s k)).mp (moved0_1 t (ix2 s k))) a⟩)
      = ix2 (tk t s) ⟨1536 + k.val, by omega⟩ := by
    unfold tk
    blk_ext [e]
  exact congrArg (m ((c : Thread nD τ).loc main_arg1) : S2048x3712.Idx → EReal) h2

theorem in0 (t : Fin cfg0.N) (s : Fin 512) (k : Fin 512) : (iblk m c 0 t : S512x512.Idx → EReal) (ix2 s k)
    = (m ((c : Thread nD τ).loc main_arg0) : S2048x512.Idx → EReal) (ix2 (tk t s) k) := by
  obtain ⟨e, -, -, -, -, -, -, -, -⟩ := idx t
  blk_simp [iblk, e]
  rw [V_main_arg0]
  have h2 : (win0_0.blk t).view.emb (ix2 s k) = ix2 (tk t s) k := by
    unfold tk
    blk_ext [e]
  exact congrArg (m ((c : Thread nD τ).loc main_arg0) : S2048x512.Idx → EReal) h2

theorem in2 (t : Fin cfg0.N) (s : Fin 512) (k : Fin 512) : (iblk m c 2 t : S512x512.Idx → EReal) (ix2 s k)
    = (m ((c : Thread nD τ).loc main_arg2) : S2048x512.Idx → EReal) (ix2 (tk t s) k) := by
  obtain ⟨-, -, e, -, -, -, -, -, -⟩ := idx t
  blk_simp [iblk, e]
  rw [V_main_arg2]
  have h2 : (win0_2.blk t).view.emb (ix2 s k) = ix2 (tk t s) k := by
    unfold tk
    blk_ext [e]
  exact congrArg (m ((c : Thread nD τ).loc main_arg2) : S2048x512.Idx → EReal) h2

theorem in3 (t : Fin cfg0.N) (s : Fin 512) (k : Fin 1024) : (iblk m c 3 t : S512x1024.Idx → EReal) (ix2 s k)
    = (m ((c : Thread nD τ).loc main_arg3) : S2048x1024.Idx → EReal) (ix2 (tk t s) k) := by
  obtain ⟨-, -, -, e, -, -, -, -, -⟩ := idx t
  blk_simp [iblk, e]
  rw [V_main_arg3]
  have h2 : (win0_3.blk t).view.emb (ix2 s k) = ix2 (tk t s) k := by
    unfold tk
    blk_ext [e]
  exact congrArg (m ((c : Thread nD τ).loc main_arg3) : S2048x1024.Idx → EReal) h2

theorem in4 (t : Fin cfg0.N) : (iblk m c 4 t : S1x512.Idx → EReal) = m ((c : Thread nD τ).loc main_arg4) := by
  funext y
  obtain ⟨-, -, -, -, e, -, -, -, -⟩ := idx t
  blk_simp [iblk, e]
  rw [V_main_arg4]
  have h2 : (win0_4.blk t).view.emb y = y := by blk_ext [e]
  exact congrArg (m ((c : Thread nD τ).loc main_arg4) : S1x512.Idx → EReal) h2

theorem in5 (t : Fin cfg0.N) : (iblk m c 5 t : S1x512.Idx → EReal) = m ((c : Thread nD τ).loc main_arg5) := by
  funext y
  obtain ⟨-, -, -, -, -, e, -, -, -⟩ := idx t
  blk_simp [iblk, e]
  rw [V_main_arg5]
  have h2 : (win0_5.blk t).view.emb y = y := by blk_ext [e]
  exact congrArg (m ((c : Thread nD τ).loc main_arg5) : S1x512.Idx → EReal) h2

theorem in6 (t : Fin cfg0.N) : (iblk m c 6 t : S1024x1024.Idx → EReal) = m ((c : Thread nD τ).loc main_arg6) := by
  funext y
  obtain ⟨-, -, -, -, -, -, e, -, -⟩ := idx t
  blk_simp [iblk, e]
  rw [V_main_arg6]
  have h2 : (win0_6.blk t).view.emb y = y := by blk_ext [e]
  exact congrArg (m ((c : Thread nD τ).loc main_arg6) : S1024x1024.Idx → EReal) h2

/-- The mixture of the block's tokens. -/
def mix (t : Fin cfg0.N) : S512x1024.Idx → EReal := fun y => Cert.Reference11Ideal.Read.val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ix2 (tk t (y 0)) (y 1))

/-- Two stores side by side, read back. -/
theorem cols (v : View sig .tc .vmem S512x1024 .bf16) (f : v.ty.Contents (Elt Ideal)) (p0 p1 : S512x512.Idx → EReal) (s : Fin 512) (j : Fin 1024) :
    v.read (Elt Ideal) (v.writes (Elt Ideal) f
      [⟨Rect.unit ![0, 512] ![512, 512] inb_S512x1024_S512x512_0_512, p1⟩, ⟨Rect.unit ![0, 0] ![512, 512] inb_S512x1024_S512x512_0_0, p0⟩]) (ix2 s j)
      = if h : j.val < 512 then p0 (ix2 s ⟨j.val, h⟩) else p1 (ix2 s ⟨j.val - 512, by omega⟩) := by
  by_cases h : j.val < 512
  · rw [dif_pos h, View.read_writes_cons_unit_of_not_mem v f _ _ _ _ rfl 1 (by show j.val < 512 ∨ 512 + 512 ≤ j.val; omega)]
    exact View.read_writes_cons_unit_of_mem v f _ _ _ _ (ix2 s ⟨j.val, h⟩) rfl (fun b => by fin_cases b <;> simp [ix2])
  · rw [dif_neg h]
    exact View.read_writes_cons_unit_of_mem v f _ _ _ _ (ix2 s ⟨j.val - 512, by omega⟩) rfl (fun b => by fin_cases b <;> simp [ix2] <;> omega)

/-- The two halves of the mixture's block. -/
theorem halves (t : Fin cfg0.N) (s : Fin 512) (j : Fin 1024) :
    (if h : j.val < 512 then k0_pay1 (F := Ideal) (X0_1 m c t) (k0_pay4 (iblk m c 0 t) (iblk m c 4 t)) (k0_pay13 (X0_1 m c t)) (ix2 s ⟨j.val, h⟩)
      else k0_pay2 (F := Ideal) (k0_pay12 (iblk m c 2 t) (k0_pay5 (iblk m c 2 t)) (k0_pay7 (k0_pay6 (iblk m c 2 t)))
          (k0_pay8 (k0_pay5 (iblk m c 2 t))) (k0_pay9 (k0_pay5 (iblk m c 2 t))) k0_pay10 (k0_pay11 (k0_pay5 (iblk m c 2 t))) (iblk m c 5 t))
        (ix2 s ⟨j.val - 512, by omega⟩)) = mix m c t (ix2 s j) := by
  refine Eq.trans ?_ (ref42 _ _ _ _ _ (tk t s) j).symm
  unfold mx
  by_cases h : j.val < 512
  · rw [dif_pos h, dif_pos h]
    refine (pay1 _ _ s ⟨j.val, h⟩).trans ?_
    rw [pay4, in1, in4]
    exact congrArg (fun f => hd128 f _ _ * _) (funext fun k => in0 m c t s k)
  · rw [dif_neg h, dif_neg h]
    refine (pay12 (iblk m c 2 t) (iblk m c 5 t) s ⟨j.val - 512, by omega⟩).trans ?_
    rw [in5]
    exact congrArg (fun f => hd64 f _ _) (funext fun k => in2 m c t s k)

theorem canon_mix (t : Fin cfg0.N) : View.canon (Val := Elt Ideal) (s := S512x1024) (e := .bf16)
      [⟨Rect.unit ![0, 512] ![512, 512] inb_S512x1024_S512x512_0_512,
          k0_pay2 (F := Ideal) (k0_pay12 (iblk m c 2 t) (k0_pay5 (iblk m c 2 t)) (k0_pay7 (k0_pay6 (iblk m c 2 t)))
          (k0_pay8 (k0_pay5 (iblk m c 2 t))) (k0_pay9 (k0_pay5 (iblk m c 2 t))) k0_pay10 (k0_pay11 (k0_pay5 (iblk m c 2 t))) (iblk m c 5 t))⟩,
        ⟨Rect.unit ![0, 0] ![512, 512] inb_S512x1024_S512x512_0_0,
          k0_pay1 (F := Ideal) (X0_1 m c t) (k0_pay4 (iblk m c 0 t) (iblk m c 4 t)) (k0_pay13 (X0_1 m c t))⟩] = mix m c t := by
  rw [← View.read_writes_junk_eq_canon (ms0_8 t).view]
  funext y
  have hy : y = ix2 (y 0) (y 1) := by blk_ext
  exact (congrArg _ hy).trans ((cols _ _ _ _ (y 0) (y 1)).trans ((halves m c t (y 0) (y 1)).trans (congrArg (mix m c t) hy.symm)))

theorem out8 (t : Fin cfg0.N) : (outsAt0 (F := Ideal) m c t).2 = mix m c t := by
  unfold outsAt0
  frame_open
  simp (disch := decide) only [↓ View.readCov_skip, ↓ View.readCov_cons_toLoadRect, ↓ View.readCov_fill]
  frame_out
  exact canon_mix m c t

theorem out7 (t : Fin cfg0.N) : (outsAt0 (F := Ideal) m c t).1 = k0_pay3 (F := Ideal) (iblk m c 3 t) (mix m c t) (iblk m c 6 t) := by
  unfold outsAt0
  frame_open
  simp (disch := decide) only [↓ View.readCov_skip, ↓ View.readCov_cons_toLoadRect, ↓ View.readCov_fill]
  frame_out
  rw [View.readCov_eq_canon', canon_mix]
  refine congrArg (fun a => k0_pay3 (F := Ideal) (iblk m c 3 t) a (iblk m c 6 t)) ?_
  exact View.ld_unit_lit (Val := Elt Ideal) (S := S512x1024) (e := .bf16) _ (mix m c t) (by decide)

theorem final8 : (dats m 0 c).arrAt 8 cfg0.N = Cert.Reference11Ideal.Read.val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 8 _ (by decide +kernel) fun t hf y => ?_
  obtain ⟨-, -, -, -, -, -, -, -, e⟩ := idx t
  blk_simp [e]
  rw [after0_8, out8]
  have h2 : (win0_8.blk t).view.emb y = ix2 (tk t (y 0)) (y 1) := by
    unfold tk
    blk_ext [e]
  exact ((congrArg _ h2).trans (ref48 _ _ _ _ _ (tk t (y 0)) (y 1))).symm

theorem final7 : (dats m 0 c).arrAt 7 cfg0.N = Cert.Reference11Ideal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨-, -, -, -, -, -, -, e, -⟩ := idx t
  blk_simp [e]
  rw [after0_7, out7, in6]
  have h2 : (win0_7.blk t).view.emb y = ix2 (tk t (y 0)) (y 1) := by
    unfold tk
    blk_ext [e]
  have hy : y = ix2 (y 0) (y 1) := by blk_ext
  refine Eq.trans ?_ ((congrArg _ h2).trans (ref47 _ _ _ _ _ _ _ (tk t (y 0)) (y 1))).symm
  refine (congrArg _ hy).trans ((pay3 _ _ _ (y 0) (y 1)).trans ?_)
  exact congrArg (fun e => Ideal.ofBits .f32 0x3F9837F0#32 * e + _) (in3 m c t (y 0) (y 1))

end

theorem algebraic : Cert.algebraic_Kernel11Ideal_Reference11Ideal := by
  pair_intro
  · run_from Cert.Kernel11Ideal.Value.run_blocks m g
  · refine (θ_run Cert.Reference11Ideal.defs _ _).mono (fun r h c => ?_) (Cert.Reference11Ideal.Value.run (F := Ideal) m' g')
    obtain ⟨r0, r1, rest⟩ := h c
    obtain ⟨a0, a1, a2, a3, a4, a5, a6⟩ := hagree c
    refine ⟨r0.trans ?_, r1.trans ?_, rest⟩
    · refine (Cert.Reference11Ideal.Read.val_main_v47_eq _ _ _ _ _ _ _).trans ?_
      rw [a0, a1, a2, a3, a4, a5, a6]
      exact (final7 m c).symm
    · refine (Cert.Reference11Ideal.Read.val_main_v48_eq _ _ _ _ _).trans ?_
      rw [a0, a1, a2, a4, a5]
      exact (final8 m c).symm

theorem frame_ref : Cert.quiescent_Reference11Ideal := fun m g _ =>
  (θ_run Cert.Reference11Ideal.defs _ _).mono
    (fun r h => ⟨fun c => (h c).2.2, sem_eq_zero_of_no_sems (by decide) r.2⟩)
    (Cert.Reference11Ideal.Value.run (F := Ideal) m g)

end Cert.OutStage
-- ==== Proof.OutBwdSpec.lean ====
/- The gradient through the mixture of the heads over the reals: a token's columns in heads of equal width, each head divided by
   its root mean square. -/
module

public import proofs.«01_k».proof.Proof.MlpPay
public import proofs.«01_k».proof.Proof.OutStage

@[expose] public section

noncomputable section

namespace Cert.OutBwd

open Idealize.ShloMosaic Cert.Reals Cert.Mlp

/-- The sum over the head, of width `n`, that column `i` lies in. -/
def hs (n : ℕ) (f : Fin 512 → ℝ) (i : Fin 512) : ℝ := ∑ k : Fin 512, if k.val / n = i.val / n then f k else 0

theorem hs_eq (n : ℕ) (f : Fin 512 → ℝ) (i : Fin 512) (e : Fin n → Fin 512) (h : ∀ x, (e x).val = i.val / n * n + x.val) (hn : 0 < n) :
    ∑ x, f (e x) = hs n f i := by
  refine Finset.sum_of_injOn e ?_ (fun _ _ => Finset.mem_coe.2 (Finset.mem_univ _)) ?_ ?_
  · intro x _ y _ hxy
    have q := congrArg Fin.val hxy
    rw [h, h] at q
    exact Fin.ext (by omega)
  · intro k _ hk
    refine if_neg fun q => hk ?_
    refine ⟨⟨k.val % n, Nat.mod_lt _ hn⟩, Finset.mem_coe.2 (Finset.mem_univ _), Fin.ext ?_⟩
    rw [h, ← q]
    exact Nat.div_add_mod' _ _
  · intro x _
    refine (if_pos ?_).symm
    rw [h, Nat.mul_comm, Nat.mul_add_div (Nat.lt_of_le_of_lt (Nat.zero_le _) x.isLt), Nat.div_eq_of_lt x.isLt, Nat.add_zero]

variable (n : ℕ) (f d : Fin 512 → ℝ)

/-- The mean square of a head, with the constant that keeps it from zero. -/
def va (i : Fin 512) : ℝ := hs n (fun k => f k * f k) i * (1 / n) + eps
/-- The reciprocal root mean square of a head. -/
def rr (i : Fin 512) : ℝ := (Real.sqrt (va n f i))⁻¹
/-- The columns, each head divided by its root mean square. -/
def nx (i : Fin 512) : ℝ := f i * rr n f i
/-- The gradient through that division. -/
def nb (i : Fin 512) : ℝ := rr n f i * (d i - nx n f i * (hs n (fun k => d k * nx n f k) i * (1 / n)))

theorem va_pos (i : Fin 512) : 0 < va n f i := by
  have h : 0 ≤ hs n (fun k => f k * f k) i := Finset.sum_nonneg fun k _ => by
    split_ifs
    · exact mul_self_nonneg _
    · exact le_rfl
  have := eps_pos
  unfold va
  positivity

theorem rsqrt_va (i : Fin 512) : Ideal.rsqrt ((va n f i : ℝ) : EReal) = ((rr n f i : ℝ) : EReal) := rsqrt_coe (va_pos n f i)

theorem rr_sq (i : Fin 512) : rr n f i / va n f i = rr n f i * (rr n f i * rr n f i) := by
  have h := va_pos n f i
  have q : Real.sqrt (va n f i) * Real.sqrt (va n f i) = va n f i := Real.mul_self_sqrt h.le
  have p : Real.sqrt (va n f i) ≠ 0 := (Real.sqrt_pos.2 h).ne'
  unfold rr
  rw [← mul_inv, q, div_eq_mul_inv]

/-- The columns of one head share their sums. -/
theorem hs_congr {n : ℕ} (f : Fin 512 → ℝ) {i j : Fin 512} (h : i.val / n = j.val / n) : hs n f i = hs n f j := by
  unfold hs
  rw [h]

theorem rr_congr {n : ℕ} (f : Fin 512 → ℝ) {i j : Fin 512} (h : i.val / n = j.val / n) : rr n f i = rr n f j := by
  unfold rr va
  rw [hs_congr _ h]

/-- A factor that a head shares comes out of its sum. -/
theorem hs_mul (c f : Fin 512 → ℝ) (i : Fin 512) (h : ∀ k : Fin 512, k.val / n = i.val / n → c k = c i) :
    hs n (fun k => f k * c k) i = hs n f i * c i := by
  unfold hs
  rw [Finset.sum_mul]
  refine Finset.sum_congr rfl fun k _ => ?_
  split_ifs with q
  · exact congrArg (f k * ·) (h k q)
  · exact (zero_mul _).symm

/-- The gradient of a head divided by its root mean square, in the form that differentiating the square's mean leaves. -/
theorem nb_eq (i : Fin 512) :
    d i * rr n f i + f i * (hs n (fun k => f k * d k) i * (-(1 / 2) * (rr n f i / va n f i)) / n)
      + hs n (fun k => f k * d k) i * (-(1 / 2) * (rr n f i / va n f i)) / n * f i = nb n f d i := by
  have e : hs n (fun k => d k * nx n f k) i = hs n (fun k => f k * d k) i * rr n f i := by
    rw [← hs_mul n (rr n f) (fun k => f k * d k) i fun k q => rr_congr f q]
    congr 1
    funext k
    unfold nx
    ring
  unfold nb
  rw [e, rr_sq]
  unfold nx
  ring

/-- A select by a lane's half. -/
theorem sel {α : Type} (k : ℕ) (h : k < 128) (a b : α) :
    Scalar.select (IntOp.cmpi CmpIPredicate.slt (BitVec.ofNat 32 k) 64#32) a b = if k < 64 then a else b :=
  select_slt k 64 (by omega) (by norm_num) a b

/-- The gradient of the mixture: the residual's through the projection. -/
def dm (w : Fin 1024 → Fin 1024 → ℝ) (z : Fin 1024 → ℝ) (i : Fin 1024) : ℝ := ∑ k, z k * w i k
/-- The delta rule's half. -/
def lo (i : Fin 512) : Fin 1024 := ⟨i.val, by omega⟩
/-- The attention's half. -/
def hi (i : Fin 512) : Fin 1024 := ⟨512 + i.val, by omega⟩

section
variable (D : Fin 1024 → ℝ) (z g gf o f : Fin 512 → ℝ)

/-- The gradient of the delta rule's scaled columns. -/
def dn (i : Fin 512) : ℝ := D (lo i) * (z i * sg (z i))
/-- The gradient of the gate. -/
def dz (i : Fin 512) : ℝ := D (lo i) * (nx 128 o i * g i) * (sg (z i) * (1 + z i * (1 - sg (z i))))
/-- The gradient of the delta rule's output. -/
def dog (i : Fin 512) : ℝ := nb 128 o (fun k => dn D z k * g k) i
/-- The gradient of the attention's output. -/
def dof (i : Fin 512) : ℝ := nb 64 f (fun k => D (hi k) * gf k) i
/-- What the attention's output and its gradient have in common, per head. -/
def dl (i : Fin 512) : ℝ := hs 64 (fun k => dof D gf f k * f k) i * (1 / 64) * 64
/-- What a token adds to the two rows of column sums. -/
def acc (a : ℕ) (i : Fin 512) : ℝ :=
  match a with
  | 0 => dn D z i * nx 128 o i
  | 1 => D (hi i) * nx 64 f i
  | _ => 0

end

end Cert.OutBwd
-- ==== Proof.OutBwdBlock.lean ====
/- What one block of the gradient through the mixture of the heads computes, over the reals: the kernel's stored values from
   the block's inputs. -/
module

public import proofs.«01_k».proof.Proof.OutBwdSpec
public import proofs.«01_k».proof.Proof.Gen.Kernel12Ideal.Value
public import Idealize.ShloMosaic.Lib.Pipeline.ValueKit
public import Idealize.ShloMosaic.Lib.Pipeline.ReadBack
public import Idealize.ShloMosaic.Lib.WritesUnit

@[expose] public section

noncomputable section

namespace Cert.OutBwd

open Idealize.ShloMosaic Idealize.ShloMosaic.TcCoe Cert.Kernel12Ideal Cert.Kernel12Ideal.Gen Cert.Reals Cert.Mlp

section
variable (W : Fin 1024 → Fin 1024 → ℝ) (Z D : Fin 512 → Fin 1024 → ℝ) (z o f p : Fin 512 → Fin 512 → ℝ) (g gf : Fin 512 → ℝ)

/-- Lane `j` of a block of 128 columns. -/
def ln (b : Fin 4) (j : Fin 128) : Fin 512 := ⟨b.val * 128 + j.val, by omega⟩

theorem pay5 : k0_pay5 (F := Ideal) (arr Z) (arr W)
    = arr fun t => dm W (Z t) := by
  funext x
  idx_vars x
  pointwise [k0_pay5]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rfl

theorem pay11 : k0_pay11 (F := Ideal) (k0_pay7 (arr o)) (k0_pay8 (arr o)) (k0_pay9 (arr o)) (k0_pay10 (arr o))
    = arr fun t => rr 128 (o t) := by
  unfold k0_pay11
  funext x
  idx_vars x
  pointwise [k0_pay6, k0_pay7, k0_pay8, k0_pay9, k0_pay10]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  refine Eq.trans (congrArg (fun e => Ideal.rsqrt (e + ((eps : ℝ) : EReal))) (?_ : _ = ((hs 128 (fun k => o x0 k * o x0 k) x1 * (1 / 128) : ℝ) : EReal))) ?_
  · split_ifs
    all_goals exact congrArg (fun e : ℝ => ((e * (1 / 128) : ℝ) : EReal)) (hs_eq 128 (fun k => o x0 k * o x0 k) _ _ (fun x => by dsimp only; omega) (by norm_num))
  · have q := rsqrt_va 128 (o x0) x1
    unfold va at q
    simpa only [EReal.coe_add, Nat.cast_ofNat] using q

theorem pay12 : k0_pay12 (F := Ideal) (arr o) (k0_pay7 (arr o)) (k0_pay8 (arr o)) (k0_pay9 (arr o)) (k0_pay10 (arr o))
    = arr fun t => nx 128 (o t) := by
  unfold k0_pay12
  simp only [pay11]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rfl

theorem pay13 : k0_pay13 (F := Ideal) (arr z)
    = arr fun t i => sg (z t i) := by
  funext x
  idx_vars x
  pointwise [k0_pay13]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  exact sg_sub _

theorem pay15 : k0_pay15 (F := Ideal) (arr D) (arr z)
    = arr fun t => dn (D t) (z t) := by
  unfold k0_pay15 k0_pay14
  simp only [pay13]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rfl

theorem pay16 : k0_pay16 (F := Ideal) (arr D) (arr o) (arr z) (k0_pay7 (arr o)) (k0_pay8 (arr o)) (k0_pay9 (arr o)) (k0_pay10 (arr o)) (row g)
    = arr fun t => dz (D t) (z t) g (o t) := by
  unfold k0_pay16 k0_pay14
  simp only [pay12, pay13]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  simp only [show (1 : EReal) = ((1 : ℝ) : EReal) from rfl, ← EReal.coe_mul, ← EReal.coe_add, ← EReal.coe_sub]
  rfl

theorem pay17 : k0_pay17 (F := Ideal) (arr D) (arr z) (row g)
    = arr fun t k => dn (D t) (z t) k * g k := by
  unfold k0_pay17
  simp only [pay15]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay18 : k0_pay18 (F := Ideal) (arr D) (arr o) (arr z) (k0_pay7 (arr o)) (k0_pay8 (arr o)) (k0_pay9 (arr o)) (k0_pay10 (arr o)) (row g)
    = arr fun t k => dn (D t) (z t) k * g k * nx 128 (o t) k := by
  unfold k0_pay18
  simp only [pay17, pay12]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay19 : k0_pay19 (F := Ideal) (arr D) (arr o) (arr z) (k0_pay7 (arr o)) (k0_pay8 (arr o)) (k0_pay9 (arr o)) (k0_pay10 (arr o)) (row g)
    = arr fun t (j : Fin 128) => hs 128 (fun k => dn (D t) (z t) k * g k * nx 128 (o t) k) (ln 0 j) * (1 / 128) := by
  unfold k0_pay19
  simp only [pay18]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  exact congrArg (fun e : ℝ => ((e * (1 / 128) : ℝ) : EReal)) (hs_eq 128 (fun k => dn (D x0) (z x0) k * g k * nx 128 (o x0) k) (ln 0 x1) _ (fun x => by simp [ln] <;> omega) (by norm_num))

theorem pay20 : k0_pay20 (F := Ideal) (arr D) (arr o) (arr z) (k0_pay7 (arr o)) (k0_pay8 (arr o)) (k0_pay9 (arr o)) (k0_pay10 (arr o)) (row g)
    = arr fun t (_ : Fin 1) => hs 128 (fun k => dn (D t) (z t) k * g k * nx 128 (o t) k) (ln 1 0) := by
  unfold k0_pay20
  simp only [pay18]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  exact congrArg (fun e : ℝ => (e : EReal)) (hs_eq 128 (fun k => dn (D x0) (z x0) k * g k * nx 128 (o x0) k) (ln 1 0) _ (fun x => by simp [ln] <;> omega) (by norm_num))

theorem pay21  (R N d : Fin 512 → Fin 512 → ℝ) : k0_pay21 (F := Ideal) (arr R) (arr N) (arr d) (arr p)
      (arr fun t (j : Fin 128) => hs 128 (p t) (ln 0 j) * (1 / 128)) (arr fun t (_ : Fin 1) => hs 128 (p t) (ln 1 0)) (Scalar.ofBits .f32 0x3C000000#32)
    = arr fun t i => R t i * (d t i - N t i * (hs 128 (p t) i * (1 / 128))) := by
  funext x
  idx_vars x
  pointwise [k0_pay21]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  simp only [EReal.coe_mul, EReal.coe_sub]
  refine congrArg (fun e => (R x0 x1 : EReal) * ((d x0 x1 : EReal) - (N x0 x1 : EReal) * e)) ?_
  split_ifs
  all_goals simp only [← EReal.coe_mul]
  all_goals exact congrArg (fun e : ℝ => ((e * (1 / 128) : ℝ) : EReal)) (by
    first
    | exact hs_congr _ (by simp [ln] <;> omega)
    | exact hs_eq 128 (p x0) x1 _ (fun x => by dsimp only; omega) (by norm_num))

theorem pay22 : k0_pay22 (F := Ideal) (arr f)
    = arr fun t k => f t k * f t k := by
  funext x
  idx_vars x
  pointwise [k0_pay22]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay32 : k0_pay32 (F := Ideal) (k0_pay23 (arr f)) (k0_pay26 (k0_pay24 (arr f)) (iota Kind.tc S512x128 32 [1] iota_S512x128_d1_w32) k0_pay25) (k0_pay27 (k0_pay22 (arr f))) k0_pay29 (k0_pay30 (k0_pay22 (arr f))) (k0_pay31 (k0_pay22 (arr f)))
    = arr fun t => rr 64 (f t) := by
  unfold k0_pay32
  funext x
  idx_vars x
  pointwise [k0_pay22, k0_pay23, k0_pay24, k0_pay25, k0_pay26, k0_pay27, k0_pay28, k0_pay29, k0_pay30, k0_pay31]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  refine Eq.trans (congrArg (fun e => Ideal.rsqrt (e + ((eps : ℝ) : EReal))) (?_ : _ = ((hs 64 (fun k => f x0 k * f x0 k) x1 * (1 / 64) : ℝ) : EReal))) ?_
  · split_ifs
    all_goals rw [sel _ (by omega)]
    all_goals split_ifs
    all_goals exact congrArg (fun e : ℝ => ((e * (1 / 64) : ℝ) : EReal)) (hs_eq 64 (fun k => f x0 k * f x0 k) _ _ (fun x => by dsimp only; omega) (by norm_num))
  · have q := rsqrt_va 64 (f x0) x1
    unfold va at q
    simpa only [EReal.coe_add, Nat.cast_ofNat] using q

theorem pay33 : k0_pay33 (F := Ideal) (arr f) (k0_pay23 (arr f)) (k0_pay26 (k0_pay24 (arr f)) (iota Kind.tc S512x128 32 [1] iota_S512x128_d1_w32) k0_pay25) (k0_pay27 (k0_pay22 (arr f))) k0_pay29 (k0_pay30 (k0_pay22 (arr f))) (k0_pay31 (k0_pay22 (arr f)))
    = arr fun t => nx 64 (f t) := by
  unfold k0_pay33
  rw [pay32 f]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rfl

theorem pay34 : k0_pay34 (F := Ideal) (arr D)
    = arr fun t k => D t (hi k) := by
  funext x
  idx_vars x
  pointwise [k0_pay34]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rfl

theorem pay35 : k0_pay35 (F := Ideal) (arr D) (row gf)
    = arr fun t k => D t (hi k) * gf k := by
  unfold k0_pay35
  simp only [pay34]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay36 : k0_pay36 (F := Ideal) (arr D) (arr f) (k0_pay23 (arr f)) (k0_pay26 (k0_pay24 (arr f)) (iota Kind.tc S512x128 32 [1] iota_S512x128_d1_w32) k0_pay25) (k0_pay27 (k0_pay22 (arr f))) k0_pay29 (k0_pay30 (k0_pay22 (arr f))) (k0_pay31 (k0_pay22 (arr f))) (row gf)
    = arr fun t k => D t (hi k) * gf k * nx 64 (f t) k := by
  unfold k0_pay36
  rw [pay35 D gf, pay33 f]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay37 : k0_pay37 (F := Ideal) (arr D) (arr f) (k0_pay23 (arr f)) (k0_pay26 (k0_pay24 (arr f)) (iota Kind.tc S512x128 32 [1] iota_S512x128_d1_w32) k0_pay25) (k0_pay27 (k0_pay22 (arr f))) k0_pay29 (k0_pay30 (k0_pay22 (arr f))) (k0_pay31 (k0_pay22 (arr f))) (row gf)
    = arr fun t (j : Fin 128) => hs 64 (fun k => D t (hi k) * gf k * nx 64 (f t) k) (ln 0 j) * (1 / 64) := by
  unfold k0_pay37
  rw [pay36 D f gf]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rw [sel _ (by omega)]
  split_ifs
  all_goals exact congrArg (fun e : ℝ => ((e * (1 / 64) : ℝ) : EReal)) (hs_eq 64 (fun k => D x0 (hi k) * gf k * nx 64 (f x0) k) (ln 0 x1) _ (fun x => by simp [ln] <;> omega) (by norm_num))

theorem pay41 : k0_pay41 (F := Ideal) (k0_pay38 (arr D) (arr f) (k0_pay23 (arr f)) (k0_pay26 (k0_pay24 (arr f)) (iota Kind.tc S512x128 32 [1] iota_S512x128_d1_w32) k0_pay25) (k0_pay27 (k0_pay22 (arr f))) k0_pay29 (k0_pay30 (k0_pay22 (arr f))) (k0_pay31 (k0_pay22 (arr f))) (row gf)) k0_pay39
      (k0_pay40 (arr D) (arr f) (k0_pay23 (arr f)) (k0_pay26 (k0_pay24 (arr f)) (iota Kind.tc S512x128 32 [1] iota_S512x128_d1_w32) k0_pay25) (k0_pay27 (k0_pay22 (arr f))) k0_pay29 (k0_pay30 (k0_pay22 (arr f))) (k0_pay31 (k0_pay22 (arr f))) (row gf))
    = arr fun t (j : Fin 128) => hs 64 (fun k => D t (hi k) * gf k * nx 64 (f t) k) (ln 1 j) * (1 / 64) := by
  unfold k0_pay41 k0_pay38 k0_pay40 k0_pay38
  rw [pay36 D f gf]
  funext x
  idx_vars x
  pointwise [k0_pay39]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rw [sel _ (by omega)]
  split_ifs
  all_goals exact congrArg (fun e : ℝ => ((e * (1 / 64) : ℝ) : EReal)) (hs_eq 64 (fun k => D x0 (hi k) * gf k * nx 64 (f x0) k) (ln 1 x1) _ (fun x => by simp [ln] <;> omega) (by norm_num))

theorem pay42 : k0_pay42 (F := Ideal) (arr p)
    = arr fun t (j : Fin 128) => hs 64 (p t) (ln 2 j) * (1 / 64) := by
  funext x
  idx_vars x
  pointwise [k0_pay42]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rw [sel _ (by omega)]
  split_ifs
  all_goals exact congrArg (fun e : ℝ => ((e * (1 / 64) : ℝ) : EReal)) (hs_eq 64 (p x0) (ln 2 x1) _ (fun x => by simp [ln] <;> omega) (by norm_num))

theorem pay45 : k0_pay45 (F := Ideal) (arr p)
    = arr fun t (j : Fin 128) => hs 64 (p t) (ln 3 0) := by
  funext x
  idx_vars x
  pointwise [k0_pay45, k0_pay43, k0_pay44]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  exact congrArg (fun e : ℝ => (e : EReal)) (hs_eq 64 (p x0) (ln 3 0) _ (fun x => by simp [ln] <;> omega) (by norm_num))

theorem pay46 : k0_pay46 (F := Ideal) (arr p)
    = arr fun t (j : Fin 128) => hs 64 (p t) (ln 3 64) := by
  funext x
  idx_vars x
  pointwise [k0_pay46, k0_pay43, k0_pay44]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  exact congrArg (fun e : ℝ => (e : EReal)) (hs_eq 64 (p x0) (ln 3 64) _ (fun x => by simp [ln] <;> omega) (by norm_num))

theorem pay47  (R N d : Fin 512 → Fin 512 → ℝ) : k0_pay47 (F := Ideal) (arr R) (arr N) (arr d)
      (arr fun t (j : Fin 128) => hs 64 (p t) (ln 0 j) * (1 / 64)) (arr fun t (j : Fin 128) => hs 64 (p t) (ln 1 j) * (1 / 64))
      (arr fun t (j : Fin 128) => hs 64 (p t) (ln 2 j) * (1 / 64)) k0_pay44 (arr fun t (j : Fin 128) => hs 64 (p t) (ln 3 0))
      (arr fun t (j : Fin 128) => hs 64 (p t) (ln 3 64))
    = arr fun t i => R t i * (d t i - N t i * (hs 64 (p t) i * (1 / 64))) := by
  funext x
  idx_vars x
  pointwise [k0_pay47, k0_pay44]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  simp only [EReal.coe_mul, EReal.coe_sub]
  refine congrArg (fun e => (R x0 x1 : EReal) * ((d x0 x1 : EReal) - (N x0 x1 : EReal) * e)) ?_
  split_ifs
  all_goals first | rw [sel _ (by omega)] | skip
  all_goals split_ifs
  all_goals simp only [← EReal.coe_mul]
  all_goals exact congrArg (fun e : ℝ => ((e * (1 / 64) : ℝ) : EReal)) (hs_congr _ (by simp [ln] <;> omega))

theorem pay48  (R N d : Fin 512 → Fin 512 → ℝ) : k0_pay48 (F := Ideal) (arr f) (arr R) (arr N) (arr d)
      (arr fun t (j : Fin 128) => hs 64 (p t) (ln 0 j) * (1 / 64)) (arr fun t (j : Fin 128) => hs 64 (p t) (ln 1 j) * (1 / 64))
      (arr fun t (j : Fin 128) => hs 64 (p t) (ln 2 j) * (1 / 64)) k0_pay44 (arr fun t (j : Fin 128) => hs 64 (p t) (ln 3 0))
      (arr fun t (j : Fin 128) => hs 64 (p t) (ln 3 64))
    = arr fun t i => R t i * (d t i - N t i * (hs 64 (p t) i * (1 / 64))) * f t i := by
  unfold k0_pay48
  simp only [pay47]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay49  (R N d : Fin 512 → Fin 512 → ℝ) : k0_pay49 (F := Ideal) (arr f) (arr R) (arr N) (arr d)
      (arr fun t (j : Fin 128) => hs 64 (p t) (ln 0 j) * (1 / 64)) (arr fun t (j : Fin 128) => hs 64 (p t) (ln 1 j) * (1 / 64))
      (arr fun t (j : Fin 128) => hs 64 (p t) (ln 2 j) * (1 / 64)) k0_pay44 (arr fun t (j : Fin 128) => hs 64 (p t) (ln 3 0))
      (arr fun t (j : Fin 128) => hs 64 (p t) (ln 3 64))
    = arr fun t (j : Fin 128) => hs 64 (fun i => R t i * (d t i - N t i * (hs 64 (p t) i * (1 / 64))) * f t i) (ln 0 j) * (1 / 64) := by
  unfold k0_pay49
  simp only [pay48]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rw [sel _ (by omega)]
  split_ifs
  all_goals exact congrArg (fun e : ℝ => ((e * (1 / 64) : ℝ) : EReal)) (hs_eq 64 (fun i => R x0 i * (d x0 i - N x0 i * (hs 64 (p x0) i * (1 / 64))) * f x0 i) (ln 0 x1) _ (fun x => by simp [ln] <;> omega) (by norm_num))

theorem pay50  (R N d : Fin 512 → Fin 512 → ℝ) : k0_pay50 (F := Ideal) (arr f) (arr R) (arr N) (arr d)
      (arr fun t (j : Fin 128) => hs 64 (p t) (ln 0 j) * (1 / 64)) (arr fun t (j : Fin 128) => hs 64 (p t) (ln 1 j) * (1 / 64))
      (arr fun t (j : Fin 128) => hs 64 (p t) (ln 2 j) * (1 / 64)) k0_pay44 (arr fun t (j : Fin 128) => hs 64 (p t) (ln 3 0))
      (arr fun t (j : Fin 128) => hs 64 (p t) (ln 3 64))
    = arr fun t (j : Fin 128) => hs 64 (fun i => R t i * (d t i - N t i * (hs 64 (p t) i * (1 / 64))) * f t i) (ln 1 j) := by
  unfold k0_pay50
  simp only [pay48]
  funext x
  idx_vars x
  pointwise
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  rw [sel _ (by omega)]
  split_ifs
  all_goals exact congrArg (fun e : ℝ => (e : EReal)) (hs_eq 64 (fun i => R x0 i * (d x0 i - N x0 i * (hs 64 (p x0) i * (1 / 64))) * f x0 i) (ln 1 x1) _ (fun x => by simp [ln] <;> omega) (by norm_num))

theorem pay51 : k0_pay51 (F := Ideal) (arr p) (arr fun t (j : Fin 128) => hs 64 (p t) (ln 0 j) * (1 / 64))
      (arr fun t (j : Fin 128) => hs 64 (p t) (ln 1 j))
    = arr fun t i => hs 64 (p t) i * (1 / 64) * 64 := by
  funext x
  idx_vars x
  pointwise [k0_pay51]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]
  simp only [EReal.coe_mul]
  refine congrArg (fun e : EReal => e * ((64 : ℝ) : EReal)) ?_
  simp only [← EReal.coe_mul]
  split_ifs
  all_goals first
    | exact congrArg (fun e : ℝ => ((e * (1 / 64) : ℝ) : EReal)) (hs_congr _ (by simp [ln] <;> omega))
    | (rw [sel _ (by omega)]
       split_ifs
       all_goals refine (EReal.coe_mul _ _).symm.trans ?_
       all_goals exact congrArg (fun e : ℝ => ((e * (1 / 64) : ℝ) : EReal)) (hs_eq 64 (p x0) x1 _ (fun x => by dsimp only; omega) (by norm_num)))

theorem pay1  (N d : Fin 512 → Fin 512 → ℝ) (a : Fin 512 → ℝ) : k0_pay1 (F := Ideal) (arr N) (arr d) (row a)
    = row fun i => a i + ∑ t, d t i * N t i := by
  funext x
  idx_vars x
  pointwise [k0_pay1]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay2  (N d : Fin 512 → Fin 512 → ℝ) (a : Fin 512 → ℝ) : k0_pay2 (F := Ideal) (arr N) (arr d) (row a)
    = row fun i => a i + ∑ t, d t i * N t i := by
  funext x
  idx_vars x
  pointwise [k0_pay2]
  simp only [arr_apply, row_apply, ← EReal.coe_mul, coe_sum, ← EReal.coe_add, ← EReal.coe_sub, OutStage.low, OutStage.high, OutStage.ofBits_r128, OutStage.ofBits_r64, OutStage.ofBits_64, OutStage.ofBits_128, ofBits_eps]

theorem pay4 : k0_pay4 (F := Ideal) = arr fun (_ : Fin 8) (_ : Fin 512) => 0 := by
  funext x
  idx_vars x
  pointwise [k0_pay4]
  rfl

end

end Cert.OutBwd
-- ==== Proof.OutBwdOut.lean ====
/- What one point of the gradient through the mixture of the heads writes, over the reals, and the column sums it carries on. -/
module

public import proofs.«01_k».proof.Proof.OutBwdBlock

@[expose] public section

noncomputable section

namespace Cert.OutBwd

open Idealize.ShloMosaic Idealize.ShloMosaic.TcCoe Cert.Kernel12Ideal Cert.Kernel12Ideal.Gen Cert.Reals Cert.Mlp

/-- A constant matrix that folds a row of 512 columns into one head of width `n`. -/
def fold (n : ℕ) (k : Fin 512) (j : Fin 128) : ℝ := if k.val % n = j.val then 1 else 0

theorem row_sel {α : Type} (a : Fin 8) (x y z : α) :
    Scalar.select (IntOp.cmpi CmpIPredicate.eq (BitVec.ofNat 32 a.val) 0#32) x (Scalar.select (IntOp.cmpi CmpIPredicate.eq (BitVec.ofNat 32 a.val) 1#32) y z)
    = if a.val = 0 then x else if a.val = 1 then y else z := by
  fin_cases a <;> rfl

/-- The gains' rows: the two rows of column sums, folded. -/
def gains (Y : Fin 8 → Fin 512 → ℝ) (a : Fin 8) (j : Fin 128) : ℝ :=
  if a.val = 0 then ∑ k, Y a k * fold 128 k j else if a.val = 1 then ∑ k, Y a k * fold 64 k j else 0

theorem pay3 (Y : Fin 8 → Fin 512 → ℝ) : k0_pay3 (F := Ideal) (arr Y) (arr (fold 128)) (arr (fold 64)) = arr (gains Y) := by
  funext x
  idx_vars x
  pointwise [k0_pay3]
  simp only [arr_apply, ← EReal.coe_mul, coe_sum]
  rw [row_sel]
  unfold gains
  split_ifs
  all_goals rfl

theorem ld0 (V : Fin 8 → Fin 512 → ℝ) : View.ld (Val := Elt Ideal) (e' := .f32) (arr V) (Rect.unit ![0, 0] ![1, 512] inb_S8x512_S1x512_0_0) = row (V 0) := by
  rw [View.ld_unit]
  funext x
  idx_vars x
  show ((V _ _ : ℝ) : EReal) = ((V _ _ : ℝ) : EReal)
  congr 2 <;> (apply Fin.ext; simp [extractStridedSlice, ix2]) <;> omega

theorem ld1 (V : Fin 8 → Fin 512 → ℝ) : View.ld (Val := Elt Ideal) (e' := .f32) (arr V) (Rect.unit ![1, 0] ![1, 512] inb_S8x512_S1x512_1_0) = row (V 1) := by
  rw [View.ld_unit]
  funext x
  idx_vars x
  show ((V _ _ : ℝ) : EReal) = ((V _ _ : ℝ) : EReal)
  congr 2 <;> (apply Fin.ext; simp [extractStridedSlice, ix2]) <;> omega

theorem rows2 (v : View sig .tc .vmem S8x512 .f32) (f : v.ty.Contents (Elt Ideal)) (p0 p1 : S1x512.Idx → EReal)
    (L : List (View.Piece (Elt Ideal) S8x512 .f32)) (a : Fin 8) (i : Fin 512) :
    v.read (Elt Ideal) (v.writes (Elt Ideal) f
      (⟨Rect.unit ![1, 0] ![1, 512] inb_S8x512_S1x512_1_0, p1⟩ :: ⟨Rect.unit ![0, 0] ![1, 512] inb_S8x512_S1x512_0_0, p0⟩ :: L)) (ix2 a i)
    = if a.val = 1 then p1 (ix2 0 i) else if a.val = 0 then p0 (ix2 0 i)
      else v.read (Elt Ideal) (v.writes (Elt Ideal) f L) (ix2 a i) := by
  by_cases h1 : a.val = 1
  · rw [if_pos h1]
    exact View.read_writes_cons_unit_of_mem v f _ _ _ _ (ix2 0 i) rfl (fun b => by fin_cases b <;> simp [ix2, h1])
  rw [if_neg h1, View.read_writes_cons_unit_of_not_mem v f _ _ _ _ rfl 0 (by show a.val < 1 ∨ 1 + 1 ≤ a.val; omega)]
  by_cases h0 : a.val = 0
  · rw [if_pos h0]
    exact View.read_writes_cons_unit_of_mem v f _ _ _ _ (ix2 0 i) rfl (fun b => by fin_cases b <;> simp [ix2, h0])
  rw [if_neg h0, View.read_writes_cons_unit_of_not_mem v f _ _ _ _ rfl 0 (by show a.val < 0 ∨ 0 + 1 ≤ a.val; omega)]

variable (W : Fin 1024 → Fin 1024 → ℝ) (Z : Fin 512 → Fin 1024 → ℝ) (z o f : Fin 512 → Fin 512 → ℝ) (g gf : Fin 512 → ℝ)

/-- The column sums after one more point. -/
def addAcc (Y : Fin 8 → Fin 512 → ℝ) (a : Fin 8) (i : Fin 512) : ℝ := Y a i + ∑ t, acc (dm W (Z t)) (z t) (o t) (f t) a.val i

/-- The two rows of column sums, written over an array read as `Y`. -/
theorem scr (v : View sig .tc .vmem S8x512 .f32) (X : v.ty.Contents (Elt Ideal)) (L : List (View.Piece (Elt Ideal) S8x512 .f32)) (Y : Fin 8 → Fin 512 → ℝ)
    (V : S8x512.Idx → EReal) (hV : V = arr Y) (hX : v.read (Elt Ideal) (v.writes (Elt Ideal) X L) = arr Y) :
    v.read (Elt Ideal) (v.writes (Elt Ideal) X
      (⟨Rect.unit ![1, 0] ![1, 512] inb_S8x512_S1x512_1_0,
          k0_pay2 (F := Ideal) (arr fun t => nx 64 (f t)) (arr fun t k => dm W (Z t) (hi k)) (View.ld (Val := Elt Ideal) (e' := .f32) V (Rect.unit ![1, 0] ![1, 512] inb_S8x512_S1x512_1_0))⟩
        :: ⟨Rect.unit ![0, 0] ![1, 512] inb_S8x512_S1x512_0_0,
          k0_pay1 (F := Ideal) (arr fun t => nx 128 (o t)) (arr fun t => dn (dm W (Z t)) (z t)) (View.ld (Val := Elt Ideal) (e' := .f32) V (Rect.unit ![0, 0] ![1, 512] inb_S8x512_S1x512_0_0))⟩
        :: L)) = arr (addAcc W Z z o f Y) := by
  rw [hV, ld0, ld1, pay1, pay2]
  funext y
  idx_vars y
  rw [rows2, hX]
  match y0 with
  | 0 => rfl
  | 1 => rfl
  | 2 => simp [arr, acc, ix2, addAcc]
  | 3 => simp [arr, acc, ix2, addAcc]
  | 4 => simp [arr, acc, ix2, addAcc]
  | 5 => simp [arr, acc, ix2, addAcc]
  | 6 => simp [arr, acc, ix2, addAcc]
  | 7 => simp [arr, acc, ix2, addAcc]

variable (m : (ℓ : Loc nD τ sig) → Buf (Elt Ideal) ℓ) (c : Dev nD) (t : Fin cfg0.N)

/-- The input blocks of a point are the given rows and weights. -/
structure Ins : Prop where
  h0 : (iblk m c 0 t : S512x1024.Idx → EReal) = arr Z
  h1 : (iblk m c 1 t : S512x512.Idx → EReal) = arr o
  h2 : (X0_2 (F := Ideal) m c t : S512x512.Idx → EReal) = arr z
  h3 : (iblk m c 3 t : S512x512.Idx → EReal) = arr f
  h4 : (iblk m c 4 t : S1x512.Idx → EReal) = row g
  h5 : (iblk m c 5 t : S1x512.Idx → EReal) = row gf
  h6 : (iblk m c 6 t : S512x128.Idx → EReal) = arr (fold 128)
  h7 : (iblk m c 7 t : S512x128.Idx → EReal) = arr (fold 64)
  h8 : (iblk m c 8 t : S1024x1024.Idx → EReal) = arr W

theorem out9 (I : Ins W Z z o f g gf m c t) : (outsAt0 (F := Ideal) m c t.val t.isLt).1 = arr fun t => dog (dm W (Z t)) (z t) g (o t) := by
  by_cases h0 : t.val % 4 = 0
  · have h1 : ¬t.val % 4 = 3 := by omega
    rw [outsAt0_A m c t h0 h1]
    frame_open
    simp (disch := decide) only [↓ View.readCov_skip, ↓ View.readCov_cons_toLoadRect, ↓ View.readCov_fill]
    frame_out
    simp only [I.h0, I.h1, I.h2, I.h3, I.h4, I.h5, I.h6, I.h7, I.h8, pay5]
    simp only [pay11, pay12, pay17, pay18, pay19, pay20]
    exact pay21 _ _ _ _
  · by_cases h1 : t.val % 4 = 3
    · rw [outsAt0_C m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      simp only [pay11, pay12, pay17, pay18, pay19, pay20]
      exact pay21 _ _ _ _
    · rw [outsAt0_B m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      simp only [pay11, pay12, pay17, pay18, pay19, pay20]
      exact pay21 _ _ _ _

theorem out10 (I : Ins W Z z o f g gf m c t) : (outsAt0 (F := Ideal) m c t.val t.isLt).2.1 = arr fun t => dz (dm W (Z t)) (z t) g (o t) := by
  by_cases h0 : t.val % 4 = 0
  · have h1 : ¬t.val % 4 = 3 := by omega
    rw [outsAt0_A m c t h0 h1]
    frame_open
    simp (disch := decide) only [↓ View.readCov_skip, ↓ View.readCov_cons_toLoadRect, ↓ View.readCov_fill]
    frame_out
    simp only [I.h0, I.h1, I.h2, I.h3, I.h4, I.h5, I.h6, I.h7, I.h8, pay5]
    exact pay16 _ _ _ _
  · by_cases h1 : t.val % 4 = 3
    · rw [outsAt0_C m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      exact pay16 _ _ _ _
    · rw [outsAt0_B m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      exact pay16 _ _ _ _

theorem out11 (I : Ins W Z z o f g gf m c t) : (outsAt0 (F := Ideal) m c t.val t.isLt).2.2.1 = arr fun t => dof (dm W (Z t)) gf (f t) := by
  by_cases h0 : t.val % 4 = 0
  · have h1 : ¬t.val % 4 = 3 := by omega
    rw [outsAt0_A m c t h0 h1]
    frame_open
    simp (disch := decide) only [↓ View.readCov_skip, ↓ View.readCov_cons_toLoadRect, ↓ View.readCov_fill]
    frame_out
    simp only [I.h0, I.h1, I.h2, I.h3, I.h4, I.h5, I.h6, I.h7, I.h8, pay5]
    rw [pay32 f, pay33 f, pay35 (fun t => dm W (Z t)) gf, pay36 (fun t => dm W (Z t)) f gf, pay37 (fun t => dm W (Z t)) f gf, pay41 (fun t => dm W (Z t)) f gf, pay42, pay45, pay46]
    exact pay47 (fun t k => dm W (Z t) (hi k) * gf k * nx 64 (f t) k) (fun t => rr 64 (f t)) (fun t => nx 64 (f t)) (fun t k => dm W (Z t) (hi k) * gf k)
  · by_cases h1 : t.val % 4 = 3
    · rw [outsAt0_C m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      rw [pay32 f, pay33 f, pay35 (fun t => dm W (Z t)) gf, pay36 (fun t => dm W (Z t)) f gf, pay37 (fun t => dm W (Z t)) f gf, pay41 (fun t => dm W (Z t)) f gf, pay42, pay45, pay46]
      exact pay47 (fun t k => dm W (Z t) (hi k) * gf k * nx 64 (f t) k) (fun t => rr 64 (f t)) (fun t => nx 64 (f t)) (fun t k => dm W (Z t) (hi k) * gf k)
    · rw [outsAt0_B m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      rw [pay32 f, pay33 f, pay35 (fun t => dm W (Z t)) gf, pay36 (fun t => dm W (Z t)) f gf, pay37 (fun t => dm W (Z t)) f gf, pay41 (fun t => dm W (Z t)) f gf, pay42, pay45, pay46]
      exact pay47 (fun t k => dm W (Z t) (hi k) * gf k * nx 64 (f t) k) (fun t => rr 64 (f t)) (fun t => nx 64 (f t)) (fun t k => dm W (Z t) (hi k) * gf k)

theorem out12 (I : Ins W Z z o f g gf m c t) : (outsAt0 (F := Ideal) m c t.val t.isLt).2.2.2.1 = arr fun t => dl (dm W (Z t)) gf (f t) := by
  by_cases h0 : t.val % 4 = 0
  · have h1 : ¬t.val % 4 = 3 := by omega
    rw [outsAt0_A m c t h0 h1]
    frame_open
    simp (disch := decide) only [↓ View.readCov_skip, ↓ View.readCov_cons_toLoadRect, ↓ View.readCov_fill]
    frame_out
    simp only [I.h0, I.h1, I.h2, I.h3, I.h4, I.h5, I.h6, I.h7, I.h8, pay5]
    rw [pay32 f, pay33 f, pay35 (fun t => dm W (Z t)) gf, pay36 (fun t => dm W (Z t)) f gf, pay37 (fun t => dm W (Z t)) f gf, pay41 (fun t => dm W (Z t)) f gf, pay42, pay45, pay46, pay48 f (fun t k => dm W (Z t) (hi k) * gf k * nx 64 (f t) k) (fun t => rr 64 (f t)) (fun t => nx 64 (f t)) (fun t k => dm W (Z t) (hi k) * gf k), pay49 f (fun t k => dm W (Z t) (hi k) * gf k * nx 64 (f t) k) (fun t => rr 64 (f t)) (fun t => nx 64 (f t)) (fun t k => dm W (Z t) (hi k) * gf k), pay50 f (fun t k => dm W (Z t) (hi k) * gf k * nx 64 (f t) k) (fun t => rr 64 (f t)) (fun t => nx 64 (f t)) (fun t k => dm W (Z t) (hi k) * gf k)]
    exact pay51 _
  · by_cases h1 : t.val % 4 = 3
    · rw [outsAt0_C m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      rw [pay32 f, pay33 f, pay35 (fun t => dm W (Z t)) gf, pay36 (fun t => dm W (Z t)) f gf, pay37 (fun t => dm W (Z t)) f gf, pay41 (fun t => dm W (Z t)) f gf, pay42, pay45, pay46, pay48 f (fun t k => dm W (Z t) (hi k) * gf k * nx 64 (f t) k) (fun t => rr 64 (f t)) (fun t => nx 64 (f t)) (fun t k => dm W (Z t) (hi k) * gf k), pay49 f (fun t k => dm W (Z t) (hi k) * gf k * nx 64 (f t) k) (fun t => rr 64 (f t)) (fun t => nx 64 (f t)) (fun t k => dm W (Z t) (hi k) * gf k), pay50 f (fun t k => dm W (Z t) (hi k) * gf k * nx 64 (f t) k) (fun t => rr 64 (f t)) (fun t => nx 64 (f t)) (fun t k => dm W (Z t) (hi k) * gf k)]
      exact pay51 _
    · rw [outsAt0_B m c t h0 h1]
      frame_open
      simp (disch := decide) only [↓ View.readCov_skip, ↓ View.readCov_cons_toLoadRect, ↓ View.readCov_fill]
      frame_out
      simp only [I.h0, I.h1, I.h2, I.h3, I.h4, I.h5, I.h6, I.h7, I.h8, pay5]
      rw [pay32 f, pay33 f, pay35 (fun t => dm W (Z t)) gf, pay36 (fun t => dm W (Z t)) f gf, pay37 (fun t => dm W (Z t)) f gf, pay41 (fun t => dm W (Z t)) f gf, pay42, pay45, pay46, pay48 f (fun t k => dm W (Z t) (hi k) * gf k * nx 64 (f t) k) (fun t => rr 64 (f t)) (fun t => nx 64 (f t)) (fun t k => dm W (Z t) (hi k) * gf k), pay49 f (fun t k => dm W (Z t) (hi k) * gf k * nx 64 (f t) k) (fun t => rr 64 (f t)) (fun t => nx 64 (f t)) (fun t k => dm W (Z t) (hi k) * gf k), pay50 f (fun t k => dm W (Z t) (hi k) * gf k * nx 64 (f t) k) (fun t => rr 64 (f t)) (fun t => nx 64 (f t)) (fun t k => dm W (Z t) (hi k) * gf k)]
      exact pay51 _

theorem sumA (I : Ins W Z z o f g gf m c t) (h0 : t.val % 4 = 0) :
    (outsAt0 (F := Ideal) m c t.val t.isLt).2.2.2.2.2 = arr (addAcc W Z z o f (fun _ _ => 0)) := by
  rw [outsAt0_A m c t h0 (by omega)]
  frame_open
  simp (disch := decide) only [↓ View.readCov_skip, ↓ View.readCov_cons_toLoadRect, ↓ View.readCov_fill]
  frame_out
  simp only [I.h0, I.h1, I.h2, I.h3, I.h4, I.h5, I.h6, I.h7, I.h8, pay5]
  rw [pay33 f, pay34, pay12, pay15, pay4]
  refine (View.read_writes_junk_eq_canon (View.whole cc0_scratch0) _).symm.trans (scr W Z z o f _ _ _ _ _ rfl ?_)
  funext y
  idx_vars y
  rw [View.read_writes_cons_unit_of_mem _ _ _ _ _ _ (ix2 y0 y1) rfl (fun b => by fin_cases b <;> simp [ix2])]

variable (Y : Fin 8 → Fin 512 → ℝ) (hY : (outsAt0 (F := Ideal) m c (t.val - 1) (Nat.lt_of_le_of_lt (Nat.sub_le _ _) t.isLt)).2.2.2.2.2 = arr Y)

include hY

theorem sumB (I : Ins W Z z o f g gf m c t) (h0 : ¬t.val % 4 = 0) :
    (outsAt0 (F := Ideal) m c t.val t.isLt).2.2.2.2.2 = arr (addAcc W Z z o f Y) := by
  by_cases h1 : t.val % 4 = 3
  · rw [outsAt0_C m c t h0 h1]
    frame_open
    simp (disch := decide) only [↓ View.readCov_skip, ↓ View.readCov_cons_toLoadRect, ↓ View.readCov_fill]
    frame_out
    simp only [hY, I.h0, I.h1, I.h2, I.h3, I.h4, I.h5, I.h6, I.h7, I.h8, pay5]
    rw [pay33 f, pay34, pay12, pay15]
    exact scr W Z z o f _ _ [] Y _ (Memref.IsWhole.read_unread _ _) (Memref.IsWhole.read_unread _ _)
  · rw [outsAt0_B m c t h0 h1]
    frame_open
    simp (disch := decide) only [↓ View.readCov_skip, ↓ View.readCov_cons_toLoadRect, ↓ View.readCov_fill]
    frame_out
    simp only [hY, I.h0, I.h1, I.h2, I.h3, I.h4, I.h5, I.h6, I.h7, I.h8, pay5]
    rw [pay33 f, pay34, pay12, pay15]
    exact scr W Z z o f _ _ [] Y _ (Memref.IsWhole.read_unread _ _) (Memref.IsWhole.read_unread _ _)

theorem out13 (I : Ins W Z z o f g gf m c t) (h1 : t.val % 4 = 3) :
    (outsAt0 (F := Ideal) m c t.val t.isLt).2.2.2.2.1 = arr (gains (addAcc W Z z o f Y)) := by
  rw [outsAt0_C m c t (by omega) h1]
  frame_open
  simp (disch := decide) only [↓ View.readCov_skip, ↓ View.readCov_cons_toLoadRect, ↓ View.readCov_fill]
  frame_out
  simp only [hY, I.h0, I.h1, I.h2, I.h3, I.h4, I.h5, I.h6, I.h7, I.h8, pay5]
  rw [pay33 f, pay34, pay12, pay15]
  refine (congrFun (congrFun (congrArg (k0_pay3 (F := Ideal)) ?_) (arr (fold 128))) (arr (fold 64))).trans (pay3 (addAcc W Z z o f Y))
  exact scr W Z z o f _ _ [] Y _ (Memref.IsWhole.read_unread _ _) (Memref.IsWhole.read_unread _ _)

end Cert.OutBwd
-- ==== Proof.OutBwdRef.lean ====
/- The reference's gradient through the mixture of the heads, entry by entry, over the reals. -/
module

public import proofs.«01_k».proof.Proof.OutBwdOut
public import proofs.«01_k».proof.Proof.MlpSpec
public import proofs.«01_k».proof.Proof.Gen.Reference12Ideal.Read

@[expose] public section

noncomputable section

namespace Cert.OutBwd

open Idealize.ShloMosaic Cert.Reference12Ideal Cert.Reference12Ideal.Gen Cert.Reference12Ideal.Read Cert.Reals Cert.Mlp

/-- Column `l` of head `h`, for heads of 128 columns. -/
def c4 (h : Fin 4) (l : Fin 128) : Fin 512 := ⟨h.val * 128 + l.val, by omega⟩
/-- Column `l` of head `h`, for heads of 64 columns. -/
def c8 (h : Fin 8) (l : Fin 64) : Fin 512 := ⟨h.val * 64 + l.val, by omega⟩

theorem c4_div (i : Fin 512) : c4 ⟨i.val / 128, by omega⟩ ⟨i.val % 128, by omega⟩ = i := Fin.ext (Nat.div_add_mod' _ _)
theorem c8_div (i : Fin 512) : c8 ⟨i.val / 64, by omega⟩ ⟨i.val % 64, by omega⟩ = i := Fin.ext (Nat.div_add_mod' _ _)

theorem c4_head (h : Fin 4) (l k : Fin 128) : (c4 h l).val / 128 = (c4 h k).val / 128 := by
  show (h.val * 128 + l.val) / 128 = (h.val * 128 + k.val) / 128
  omega
theorem c8_head (h : Fin 8) (l k : Fin 64) : (c8 h l).val / 64 = (c8 h k).val / 64 := by
  show (h.val * 64 + l.val) / 64 = (h.val * 64 + k.val) / 64
  omega

theorem sum4 (F : Fin 512 → ℝ) (h : Fin 4) (l : Fin 128) : ∑ x, F (c4 h x) = hs 128 F (c4 h l) :=
  hs_eq 128 F _ _ (fun x => by
    show h.val * 128 + x.val = (h.val * 128 + l.val) / 128 * 128 + x.val
    omega) (by norm_num)
theorem sum8 (F : Fin 512 → ℝ) (h : Fin 8) (l : Fin 64) : ∑ x, F (c8 h x) = hs 64 F (c8 h l) :=
  hs_eq 64 F _ _ (fun x => by
    show h.val * 64 + x.val = (h.val * 64 + l.val) / 64 * 64 + x.val
    omega) (by norm_num)

theorem va_congr {n : ℕ} (f : Fin 512 → ℝ) {i j : Fin 512} (h : i.val / n = j.val / n) : va n f i = va n f j := by
  unfold va
  rw [hs_congr _ h]

/-- The folded column sums are the sums over the heads. -/
theorem fold4 (F : Fin 512 → ℝ) (j : Fin 128) : ∑ k, F k * fold 128 k j = ∑ h, F (c4 h j) := by
  refine (Finset.sum_of_injOn (fun h => c4 h j) ?_ (fun _ _ => Finset.mem_coe.2 (Finset.mem_univ _)) ?_ ?_).symm
  · intro x _ y _ e
    have q : x.val * 128 + j.val = y.val * 128 + j.val := congrArg Fin.val e
    exact Fin.ext (by omega)
  · intro k _ hk
    unfold fold
    rw [if_neg, mul_zero]
    intro q
    refine hk ⟨⟨k.val / 128, by omega⟩, Finset.mem_coe.2 (Finset.mem_univ _), Fin.ext ?_⟩
    show k.val / 128 * 128 + j.val = k.val
    omega
  · intro h _
    unfold fold
    rw [if_pos, mul_one]
    show (h.val * 128 + j.val) % 128 = j.val
    omega

theorem fold8 (F : Fin 512 → ℝ) (j : Fin 128) (hj : j.val < 64) : ∑ k, F k * fold 64 k j = ∑ h, F (c8 h ⟨j.val, hj⟩) := by
  refine (Finset.sum_of_injOn (fun h => c8 h ⟨j.val, hj⟩) ?_ (fun _ _ => Finset.mem_coe.2 (Finset.mem_univ _)) ?_ ?_).symm
  · intro x _ y _ e
    have q : x.val * 64 + j.val = y.val * 64 + j.val := congrArg Fin.val e
    exact Fin.ext (by omega)
  · intro k _ hk
    unfold fold
    rw [if_neg, mul_zero]
    intro q
    refine hk ⟨⟨k.val / 64, by omega⟩, Finset.mem_coe.2 (Finset.mem_univ _), Fin.ext ?_⟩
    show k.val / 64 * 64 + j.val = k.val
    omega
  · intro h _
    unfold fold
    rw [if_pos, mul_one]
    show (h.val * 64 + j.val) % 64 = j.val
    omega

theorem fold8_none (F : Fin 512 → ℝ) (j : Fin 128) (hj : ¬j.val < 64) : ∑ k, F k * fold 64 k j = 0 := by
  refine Finset.sum_eq_zero fun k _ => ?_
  unfold fold
  rw [if_neg (by omega), mul_zero]

theorem div_128 (x : ℝ) : Ideal.div ((x : ℝ) : EReal) ((128 : ℝ) : EReal) = ((x / 128 : ℝ) : EReal) := div_coe (by norm_num)
theorem div_64 (x : ℝ) : Ideal.div ((x : ℝ) : EReal) ((64 : ℝ) : EReal) = ((x / 64 : ℝ) : EReal) := div_coe (by norm_num)

/-- The gate's columns of a projected token. -/
def zc (p : Fin 3712 → ℝ) (i : Fin 512) : ℝ := p ⟨1536 + i.val, by omega⟩

variable (W : Fin 1024 → Fin 1024 → ℝ) (g gf : Fin 512 → ℝ) (Z : Fin 2048 → Fin 1024 → ℝ) (p : Fin 2048 → Fin 3712 → ℝ) (o f : Fin 2048 → Fin 512 → ℝ)

theorem r11 (t : Fin 2048) (h : Fin 4) (s : Fin 1) : val_main_v11 (F := Ideal) (arr o) (ix3 t h s) = ((va 128 (o t) (c4 h 0) : ℝ) : EReal) := by
  pointwise [val_main_v11, val_main_v9, val_main_v7, val_main_v6, val_main_v5, val_main_v4, val_main_cst, val_main_v8, val_main_cst_0, val_main_v10, val_main_cst_1]
  simp only [arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  refine congrArg (fun e : ℝ => ((e + eps : ℝ) : EReal)) ?_
  rw [← sum4 (fun k => o t k * o t k) h 0, div_eq_mul_one_div]
  rfl

theorem r12 (t : Fin 2048) (h : Fin 4) (s : Fin 1) : val_main_v12 (F := Ideal) (arr o) (ix3 t h s) = ((rr 128 (o t) (c4 h 0) : ℝ) : EReal) := by
  pointwise [val_main_v12]
  simp only [r11, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  exact rsqrt_va _ _ _

theorem r15 (t : Fin 2048) (h : Fin 4) (s : Fin 1) : val_main_v15 (F := Ideal) (arr o) (ix3 t h s) = ((-(1 / 2) * (rr 128 (o t) (c4 h 0) / va 128 (o t) (c4 h 0)) : ℝ) : EReal) := by
  pointwise [val_main_v15, val_main_v14, val_main_cst_2, val_main_v13]
  simp only [r12, r11, div_coe (va_pos 128 (o t) (c4 h 0)).ne', arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]

theorem r17 (t : Fin 2048) (h : Fin 4) (l : Fin 128) : val_main_v17 (F := Ideal) (arr o) (ix3 t h l) = ((nx 128 (o t) (c4 h l) : ℝ) : EReal) := by
  pointwise [val_main_v17, val_main_v4, val_main_v16]
  simp only [r12, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  exact congrArg (fun e : ℝ => ((o t (c4 h l) * e : ℝ) : EReal)) (rr_congr _ (c4_head h 0 l))

theorem r40 (t : Fin 2048) (h : Fin 8) (s : Fin 1) : val_main_v40 (F := Ideal) (arr f) (ix3 t h s) = ((va 64 (f t) (c8 h 0) : ℝ) : EReal) := by
  pointwise [val_main_v40, val_main_v38, val_main_v36, val_main_v35, val_main_v34, val_main_v33, val_main_cst_6, val_main_v37, val_main_cst_7, val_main_v39, val_main_cst_8]
  simp only [arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  refine congrArg (fun e : ℝ => ((e + eps : ℝ) : EReal)) ?_
  rw [← sum8 (fun k => f t k * f t k) h 0, div_eq_mul_one_div]
  rfl

theorem r41 (t : Fin 2048) (h : Fin 8) (s : Fin 1) : val_main_v41 (F := Ideal) (arr f) (ix3 t h s) = ((rr 64 (f t) (c8 h 0) : ℝ) : EReal) := by
  pointwise [val_main_v41]
  simp only [r40, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  exact rsqrt_va _ _ _

theorem r44 (t : Fin 2048) (h : Fin 8) (s : Fin 1) : val_main_v44 (F := Ideal) (arr f) (ix3 t h s) = ((-(1 / 2) * (rr 64 (f t) (c8 h 0) / va 64 (f t) (c8 h 0)) : ℝ) : EReal) := by
  pointwise [val_main_v44, val_main_v43, val_main_cst_9, val_main_v42]
  simp only [r41, r40, div_coe (va_pos 64 (f t) (c8 h 0)).ne', arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]

theorem r46 (t : Fin 2048) (h : Fin 8) (l : Fin 64) : val_main_v46 (F := Ideal) (arr f) (ix3 t h l) = ((nx 64 (f t) (c8 h l) : ℝ) : EReal) := by
  pointwise [val_main_v46, val_main_v33, val_main_v45]
  simp only [r41, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  exact congrArg (fun e : ℝ => ((f t (c8 h l) * e : ℝ) : EReal)) (rr_congr _ (c8_head h 0 l))

theorem r26 (t : Fin 2048) (i : Fin 512) : val_main_v26 (F := Ideal) (arr p) (ix2 t i) = ((sg (zc (p t) i) : ℝ) : EReal) := by
  pointwise [val_main_v26, val_main_v25, val_main_cst_4, val_main_v24, val_main_v23, val_main_cst_3, val_main_v22, val_main_v21, val_main_v1]
  simp only [arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  exact sg_neg _

theorem r30 (t : Fin 2048) (i : Fin 512) : val_main_v30 (F := Ideal) (arr p) (ix2 t i) = ((zc (p t) i * sg (zc (p t) i) : ℝ) : EReal) := by
  pointwise [val_main_v30, val_main_v1]
  simp only [r26, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rfl

theorem r55 (t : Fin 2048) (i : Fin 1024) : val_main_v55 (F := Ideal) (arr Z) (arr W) (ix2 t i) = ((dm W (Z t) i : ℝ) : EReal) := by
  pointwise [val_main_v55, val_main_v54, val_main_v0]
  simp only [arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rfl

theorem r58 (t : Fin 2048) (h : Fin 8) (l : Fin 64) : val_main_v58 (F := Ideal) (arr Z) (arr W) (ix3 t h l) = ((dm W (Z t) (hi (c8 h l)) : ℝ) : EReal) := by
  pointwise [val_main_v58, val_main_v57]
  simp only [r55, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rfl

theorem r59 (t : Fin 2048) (h : Fin 4) (l : Fin 128) : val_main_v59 (F := Ideal) (arr Z) (arr W) (ix3 t h l) = ((dm W (Z t) (lo (c4 h l)) : ℝ) : EReal) := by
  pointwise [val_main_v59, val_main_v56]
  simp only [r55, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rfl

theorem r82 (t : Fin 2048) (h : Fin 4) (l : Fin 128) : val_main_v82 (F := Ideal) (arr Z) (arr p) (arr W) (ix3 t h l) = ((dn (dm W (Z t)) (zc (p t)) (c4 h l) : ℝ) : EReal) := by
  pointwise [val_main_v82, val_main_v31]
  simp only [r59, r30, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rfl

theorem r92 (t : Fin 2048) (h : Fin 4) (l : Fin 128) : val_main_v92 (F := Ideal) (arr Z) (arr p) (row g) (arr W) (ix3 t h l) = ((dn (dm W (Z t)) (zc (p t)) (c4 h l) * g (c4 h l) : ℝ) : EReal) := by
  pointwise [val_main_v92, val_main_v91, val_main_v18, val_main_v2]
  simp only [r82, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rfl

theorem r64 (t : Fin 2048) (h : Fin 8) (l : Fin 64) : val_main_v64 (F := Ideal) (arr Z) (row gf) (arr W) (ix3 t h l) = ((dm W (Z t) (hi (c8 h l)) * gf (c8 h l) : ℝ) : EReal) := by
  pointwise [val_main_v64, val_main_v63, val_main_v47, val_main_v3]
  simp only [r58, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rfl

theorem r107 (t : Fin 2048) (h : Fin 4) (l : Fin 128) : val_main_v107 (F := Ideal) (arr Z) (arr o) (arr p) (row g) (arr W) (ix3 t h l) = ((dog (dm W (Z t)) (zc (p t)) g (o t) (c4 h l) : ℝ) : EReal) := by
  pointwise [val_main_v107, val_main_v105, val_main_v98, val_main_v97, val_main_v104, val_main_v4, val_main_v103, val_main_v102, val_main_v101, val_main_v99, val_main_v96, val_main_v95, val_main_v94, val_main_cst_17, val_main_v100, val_main_cst_18, val_main_cst_19, val_main_v106]
  simp only [r92, r12, r15, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  have e := nb_eq 128 (o t) (fun k => dn (dm W (Z t)) (zc (p t)) k * g k) (c4 h l)
  rw [← sum4 _ h l, ← rr_congr (o t) (c4_head h 0 l), ← va_congr (o t) (c4_head h 0 l)] at e
  exact congrArg _ e

theorem r79 (t : Fin 2048) (h : Fin 8) (l : Fin 64) : val_main_v79 (F := Ideal) (arr Z) (arr f) (row gf) (arr W) (ix3 t h l) = ((dof (dm W (Z t)) gf (f t) (c8 h l) : ℝ) : EReal) := by
  pointwise [val_main_v79, val_main_v77, val_main_v70, val_main_v69, val_main_v76, val_main_v33, val_main_v75, val_main_v74, val_main_v73, val_main_v71, val_main_v68, val_main_v67, val_main_v66, val_main_cst_12, val_main_v72, val_main_cst_13, val_main_cst_14, val_main_v78]
  simp only [r64, r41, r44, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  have e := nb_eq 64 (f t) (fun k => dm W (Z t) (hi k) * gf k) (c8 h l)
  rw [← sum8 _ h l, ← rr_congr (f t) (c8_head h 0 l), ← va_congr (f t) (c8_head h 0 l)] at e
  exact congrArg _ e

theorem r108 (t : Fin 2048) (i : Fin 512) : val_main_v108 (F := Ideal) (arr Z) (arr o) (arr p) (row g) (arr W) (ix2 t i) = ((dog (dm W (Z t)) (zc (p t)) g (o t) i : ℝ) : EReal) := by
  pointwise [val_main_v108]
  simp only [r107, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rw [c4_div]

theorem r80 (t : Fin 2048) (i : Fin 512) : val_main_v80 (F := Ideal) (arr Z) (arr f) (row gf) (arr W) (ix2 t i) = ((dof (dm W (Z t)) gf (f t) i : ℝ) : EReal) := by
  pointwise [val_main_v80]
  simp only [r79, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rw [c8_div]

theorem r122 (t : Fin 2048) (i : Fin 512) : val_main_v122 (F := Ideal) (arr Z) (arr o) (arr p) (row g) (arr W) (ix2 t i) = ((dz (dm W (Z t)) (zc (p t)) g (o t) i : ℝ) : EReal) := by
  pointwise [val_main_v122, val_main_v87, val_main_v85, val_main_v83, val_main_v81, val_main_v20, val_main_v19, val_main_v18, val_main_v2, val_main_v86, val_main_v84, val_main_v1, val_main_v29, val_main_v28, val_main_v27, val_main_cst_5]
  simp only [r17, r59, r26, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  rw [c4_div]
  simp only [show (1 : EReal) = ((1 : ℝ) : EReal) from rfl, ← EReal.coe_mul, ← EReal.coe_add, ← EReal.coe_sub]
  refine congrArg _ ?_
  unfold dz zc
  ring

theorem r114 (t : Fin 2048) (i : Fin 512) : val_main_v114 (F := Ideal) (arr Z) (arr f) (row gf) (arr W) (ix2 t i) = ((dl (dm W (Z t)) gf (f t) i : ℝ) : EReal) := by
  pointwise [val_main_v114, val_main_v113, val_main_v112, val_main_v111, val_main_v110, val_main_v109, val_main_cst_20]
  simp only [r80, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  refine congrArg _ ((sum8 (fun k => dof (dm W (Z t)) gf (f t) k * f t k) ⟨i.val / 64, by omega⟩ ⟨i.val % 64, by omega⟩).trans ?_)
  rw [c8_div]
  unfold dl
  ring

theorem r115 (f : Fin 2048 → Fin 512 → ℝ) (j : Fin 128) : val_main_v115 (F := Ideal) (arr Z) (arr o) (arr p) (arr W) (ix1 j) = ((∑ h, ∑ t, acc (dm W (Z t)) (zc (p t)) (o t) (f t) 0 (c4 h j) : ℝ) : EReal) := by
  pointwise [val_main_v115, val_main_v93, val_main_v90, val_main_v89, val_main_v88, val_main_cst_15, val_main_cst_16, val_main_cst_21]
  simp only [r17, r82, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  exact congrArg _ (Finset.sum_congr rfl fun h _ => Finset.sum_congr rfl fun t _ => mul_comm _ _)

theorem r116 (p : Fin 2048 → Fin 3712 → ℝ) (o : Fin 2048 → Fin 512 → ℝ) (l : Fin 64) : val_main_v116 (F := Ideal) (arr Z) (arr f) (arr W) (ix1 l) = ((∑ h, ∑ t, acc (dm W (Z t)) (zc (p t)) (o t) (f t) 1 (c8 h l) : ℝ) : EReal) := by
  pointwise [val_main_v116, val_main_v65, val_main_v62, val_main_v61, val_main_v60, val_main_cst_10, val_main_cst_11, val_main_cst_22]
  simp only [r46, r58, arr_apply, row_apply, ← EReal.coe_mul, coe_sum, ← EReal.coe_add, ← EReal.coe_sub, ← EReal.coe_neg, OutStage.ofBits_128, OutStage.ofBits_64, ofBits_eps, ofBits_neg_half, div_128, div_64, zero_add, Fin.sum_univ_one]
  exact congrArg _ (Finset.sum_congr rfl fun h _ => Finset.sum_congr rfl fun t _ => mul_comm _ _)

theorem r124 (a : Fin 8) (j : Fin 128) : val_main_v124 (F := Ideal) (arr Z) (arr o) (arr p) (arr f) (arr W) (ix2 a j) = ((gains (fun a i => ∑ t, acc (dm W (Z t)) (zc (p t)) (o t) (f t) a.val i) a j : ℝ) : EReal) := by
  pointwise [val_main_v124, val_main_v121, val_main_v119, val_main_v120, val_main_v118, val_main_v117, val_main_cst_23, val_main_v123, val_main_cst_24]
  match a with
  | 0 => exact (r115 (W := W) (Z := Z) (p := p) (o := o) (f := f) j).trans (congrArg _ (fold4 (fun i => ∑ t, acc (dm W (Z t)) (zc (p t)) (o t) (f t) 0 i) j).symm)
  | 1 =>
    show (if h : j.val < 64 then val_main_v116 (F := Ideal) (arr Z) (arr f) (arr W) (ix1 ⟨j.val, h⟩) else 0)
      = ((∑ k, (∑ t, acc (dm W (Z t)) (zc (p t)) (o t) (f t) 1 k) * fold 64 k j : ℝ) : EReal)
    by_cases hj : j.val < 64
    · rw [dif_pos hj]
      exact (r116 (W := W) (Z := Z) (p := p) (o := o) (f := f) ⟨j.val, hj⟩).trans
        (congrArg _ (fold8 (fun i => ∑ t, acc (dm W (Z t)) (zc (p t)) (o t) (f t) 1 i) j hj).symm)
    · rw [dif_neg hj, fold8_none _ j hj]
      rfl
  | 2 => rfl
  | 3 => rfl
  | 4 => rfl
  | 5 => rfl
  | 6 => rfl
  | 7 => rfl

theorem res108 : val_main_v108 (F := Ideal) (arr Z) (arr o) (arr p) (row g) (arr W) = arr (fun t => dog (dm W (Z t)) (zc (p t)) g (o t)) := by
  funext x
  idx_vars x
  exact r108 ..

theorem res122 : val_main_v122 (F := Ideal) (arr Z) (arr o) (arr p) (row g) (arr W) = arr (fun t => dz (dm W (Z t)) (zc (p t)) g (o t)) := by
  funext x
  idx_vars x
  exact r122 ..

theorem res80 : val_main_v80 (F := Ideal) (arr Z) (arr f) (row gf) (arr W) = arr (fun t => dof (dm W (Z t)) gf (f t)) := by
  funext x
  idx_vars x
  exact r80 ..

theorem res114 : val_main_v114 (F := Ideal) (arr Z) (arr f) (row gf) (arr W) = arr (fun t => dl (dm W (Z t)) gf (f t)) := by
  funext x
  idx_vars x
  exact r114 ..

theorem res124 : val_main_v124 (F := Ideal) (arr Z) (arr o) (arr p) (arr f) (arr W) = arr (gains fun a i => ∑ t, acc (dm W (Z t)) (zc (p t)) (o t) (f t) a.val i) := by
  funext x
  idx_vars x
  exact r124 ..

end Cert.OutBwd
-- ==== Proof.OutBwdFold0.lean ====
/- The constant matrices that fold a row of 512 columns into one head, rows 0 to 127: entry by entry, one where the
   column belongs there. -/
module

public import proofs.«01_k».proof.Proof.Gen.Kernel12Ideal.Value

@[expose] public section

namespace Cert.OutBwd

open Idealize.ShloMosaic Cert.Kernel12Ideal

theorem word0_0 : ∀ r : Fin 8, ∀ j : Fin 128, lit0t ((0 + r.val) * 128 + j.val) = if (0 + r.val) % 128 = j.val then 0x3F800000#32 else 0#32 := by
  decide +kernel

theorem word0_1 : ∀ r : Fin 8, ∀ j : Fin 128, lit0t ((8 + r.val) * 128 + j.val) = if (8 + r.val) % 128 = j.val then 0x3F800000#32 else 0#32 := by
  decide +kernel

theorem word0_2 : ∀ r : Fin 8, ∀ j : Fin 128, lit0t ((16 + r.val) * 128 + j.val) = if (16 + r.val) % 128 = j.val then 0x3F800000#32 else 0#32 := by
  decide +kernel

theorem word0_3 : ∀ r : Fin 8, ∀ j : Fin 128, lit0t ((24 + r.val) * 128 + j.val) = if (24 + r.val) % 128 = j.val then 0x3F800000#32 else 0#32 := by
  decide +kernel

theorem word0_4 : ∀ r : Fin 8, ∀ j : Fin 128, lit0t ((32 + r.val) * 128 + j.val) = if (32 + r.val) % 128 = j.val then 0x3F800000#32 else 0#32 := by
  decide +kernel

theorem word0_5 : ∀ r : Fin 8, ∀ j : Fin 128, lit0t ((40 + r.val) * 128 + j.val) = if (40 + r.val) % 128 = j.val then 0x3F800000#32 else 0#32 := by
  decide +kernel

theorem word0_6 : ∀ r : Fin 8, ∀ j : Fin 128, lit0t ((48 + r.val) * 128 + j.val) = if (48 + r.val) % 128 = j.val then 0x3F800000#32 else 0#32 := by
  decide +kernel

theorem word0_7 : ∀ r : Fin 8, ∀ j : Fin 128, lit0t ((56 + r.val) * 128 + j.val) = if (56 + r.val) % 128 = j.val then 0x3F800000#32 else 0#32 := by
  decide +kernel

theorem word0_8 : ∀ r : Fin 8, ∀ j : Fin 128, lit0t ((64 + r.val) * 128 + j.val) = if (64 + r.val) % 128 = j.val then 0x3F800000#32 else 0#32 := by
  decide +kernel

theorem word0_9 : ∀ r : Fin 8, ∀ j : Fin 128, lit0t ((72 + r.val) * 128 + j.val) = if (72 + r.val) % 128 = j.val then 0x3F800000#32 else 0#32 := by
  decide +kernel

theorem word0_10 : ∀ r : Fin 8, ∀ j : Fin 128, lit0t ((80 + r.val) * 128 + j.val) = if (80 + r.val) % 128 = j.val then 0x3F800000#32 else 0#32 := by
  decide +kernel

theorem word0_11 : ∀ r : Fin 8, ∀ j : Fin 128, lit0t ((88 + r.val) * 128 + j.val) = if (88 + r.val) % 128 = j.val then 0x3F800000#32 else 0#32 := by
  decide +kernel

theorem word0_12 : ∀ r : Fin 8, ∀ j : Fin 128, lit0t ((96 + r.val) * 128 + j.val) = if (96 + r.val) % 128 = j.val then 0x3F800000#32 else 0#32 := by
  decide +kernel

theorem word0_13 : ∀ r : Fin 8, ∀ j : Fin 128, lit0t ((104 + r.val) * 128 + j.val) = if (104 + r.val) % 128 = j.val then 0x3F800000#32 else 0#32 := by
  decide +kernel

theorem word0_14 : ∀ r : Fin 8, ∀ j : Fin 128, lit0t ((112 + r.val) * 128 + j.val) = if (112 + r.val) % 128 = j.val then 0x3F800000#32 else 0#32 := by
  decide +kernel

theorem word0_15 : ∀ r : Fin 8, ∀ j : Fin 128, lit0t ((120 + r.val) * 128 + j.val) = if (120 + r.val) % 128 = j.val then 0x3F800000#32 else 0#32 := by
  decide +kernel

theorem word1_0 : ∀ r : Fin 8, ∀ j : Fin 128, lit1t ((0 + r.val) * 128 + j.val) = if (0 + r.val) % 64 = j.val then 0x3F800000#32 else 0#32 := by
  decide +kernel

theorem word1_1 : ∀ r : Fin 8, ∀ j : Fin 128, lit1t ((8 + r.val) * 128 + j.val) = if (8 + r.val) % 64 = j.val then 0x3F800000#32 else 0#32 := by
  decide +kernel

theorem word1_2 : ∀ r : Fin 8, ∀ j : Fin 128, lit1t ((16 + r.val) * 128 + j.val) = if (16 + r.val) % 64 = j.val then 0x3F800000#32 else 0#32 := by
  decide +kernel

theorem word1_3 : ∀ r : Fin 8, ∀ j : Fin 128, lit1t ((24 + r.val) * 128 + j.val) = if (24 + r.val) % 64 = j.val then 0x3F800000#32 else 0#32 := by
  decide +kernel

theorem word1_4 : ∀ r : Fin 8, ∀ j : Fin 128, lit1t ((32 + r.val) * 128 + j.val) = if (32 + r.val) % 64 = j.val then 0x3F800000#32 else 0#32 := by
  decide +kernel

theorem word1_5 : ∀ r : Fin 8, ∀ j : Fin 128, lit1t ((40 + r.val) * 128 + j.val) = if (40 + r.val) % 64 = j.val then 0x3F800000#32 else 0#32 := by
  decide +kernel

theorem word1_6 : ∀ r : Fin 8, ∀ j : Fin 128, lit1t ((48 + r.val) * 128 + j.val) = if (48 + r.val) % 64 = j.val then 0x3F800000#32 else 0#32 := by
  decide +kernel

theorem word1_7 : ∀ r : Fin 8, ∀ j : Fin 128, lit1t ((56 + r.val) * 128 + j.val) = if (56 + r.val) % 64 = j.val then 0x3F800000#32 else 0#32 := by
  decide +kernel

theorem word1_8 : ∀ r : Fin 8, ∀ j : Fin 128, lit1t ((64 + r.val) * 128 + j.val) = if (64 + r.val) % 64 = j.val then 0x3F800000#32 else 0#32 := by
  decide +kernel

theorem word1_9 : ∀ r : Fin 8, ∀ j : Fin 128, lit1t ((72 + r.val) * 128 + j.val) = if (72 + r.val) % 64 = j.val then 0x3F800000#32 else 0#32 := by
  decide +kernel

theorem word1_10 : ∀ r : Fin 8, ∀ j : Fin 128, lit1t ((80 + r.val) * 128 + j.val) = if (80 + r.val) % 64 = j.val then 0x3F800000#32 else 0#32 := by
  decide +kernel

theorem word1_11 : ∀ r : Fin 8, ∀ j : Fin 128, lit1t ((88 + r.val) * 128 + j.val) = if (88 + r.val) % 64 = j.val then 0x3F800000#32 else 0#32 := by
  decide +kernel

theorem word1_12 : ∀ r : Fin 8, ∀ j : Fin 128, lit1t ((96 + r.val) * 128 + j.val) = if (96 + r.val) % 64 = j.val then 0x3F800000#32 else 0#32 := by
  decide +kernel

theorem word1_13 : ∀ r : Fin 8, ∀ j : Fin 128, lit1t ((104 + r.val) * 128 + j.val) = if (104 + r.val) % 64 = j.val then 0x3F800000#32 else 0#32 := by
  decide +kernel

theorem word1_14 : ∀ r : Fin 8, ∀ j : Fin 128, lit1t ((112 + r.val) * 128 + j.val) = if (112 + r.val) % 64 = j.val then 0x3F800000#32 else 0#32 := by
  decide +kernel

theorem word1_15 : ∀ r : Fin 8, ∀ j : Fin 128, lit1t ((120 + r.val) * 128 + j.val) = if (120 + r.val) % 64 = j.val then 0x3F800000#32 else 0#32 := by
  decide +kernel

end Cert.OutBwd
-- ==== Proof.OutBwdFold1.lean ====
/- The constant matrices that fold a row of 512 columns into one head, rows 128 to 255: entry by entry, one where the
   column belongs there. -/
module

public import proofs.«01_k».proof.Proof.Gen.Kernel12Ideal.Value

@[expose] public section

namespace Cert.OutBwd

open Idealize.ShloMosaic Cert.Kernel12Ideal

theorem word0_16 : ∀ r : Fin 8, ∀ j : Fin 128, lit0t ((128 + r.val) * 128 + j.val) = if (128 + r.val) % 128 = j.val then 0x3F800000#32 else 0#32 := by
  decide +kernel

theorem word0_17 : ∀ r : Fin 8, ∀ j : Fin 128, lit0t ((136 + r.val) * 128 + j.val) = if (136 + r.val) % 128 = j.val then 0x3F800000#32 else 0#32 := by
  decide +kernel

theorem word0_18 : ∀ r : Fin 8, ∀ j : Fin 128, lit0t ((144 + r.val) * 128 + j.val) = if (144 + r.val) % 128 = j.val then 0x3F800000#32 else 0#32 := by
  decide +kernel

theorem word0_19 : ∀ r : Fin 8, ∀ j : Fin 128, lit0t ((152 + r.val) * 128 + j.val) = if (152 + r.val) % 128 = j.val then 0x3F800000#32 else 0#32 := by
  decide +kernel

theorem word0_20 : ∀ r : Fin 8, ∀ j : Fin 128, lit0t ((160 + r.val) * 128 + j.val) = if (160 + r.val) % 128 = j.val then 0x3F800000#32 else 0#32 := by
  decide +kernel

theorem word0_21 : ∀ r : Fin 8, ∀ j : Fin 128, lit0t ((168 + r.val) * 128 + j.val) = if (168 + r.val) % 128 = j.val then 0x3F800000#32 else 0#32 := by
  decide +kernel

theorem word0_22 : ∀ r : Fin 8, ∀ j : Fin 128, lit0t ((176 + r.val) * 128 + j.val) = if (176 + r.val) % 128 = j.val then 0x3F800000#32 else 0#32 := by
  decide +kernel

theorem word0_23 : ∀ r : Fin 8, ∀ j : Fin 128, lit0t ((184 + r.val) * 128 + j.val) = if (184 + r.val) % 128 = j.val then 0x3F800000#32 else 0#32 := by
  decide +kernel

theorem word0_24 : ∀ r : Fin 8, ∀ j : Fin 128, lit0t ((192 + r.val) * 128 + j.val) = if (192 + r.val) % 128 = j.val then 0x3F800000#32 else 0#32 := by
  decide +kernel

theorem word0_25 : ∀ r : Fin 8, ∀ j : Fin 128, lit0t ((200 + r.val) * 128 + j.val) = if (200 + r.val) % 128 = j.val then 0x3F800000#32 else 0#32 := by
  decide +kernel

theorem word0_26 : ∀ r : Fin 8, ∀ j : Fin 128, lit0t ((208 + r.val) * 128 + j.val) = if (208 + r.val) % 128 = j.val then 0x3F800000#32 else 0#32 := by
  decide +kernel

theorem word0_27 : ∀ r : Fin 8, ∀ j : Fin 128, lit0t ((216 + r.val) * 128 + j.val) = if (216 + r.val) % 128 = j.val then 0x3F800000#32 else 0#32 := by
  decide +kernel

theorem word0_28 : ∀ r : Fin 8, ∀ j : Fin 128, lit0t ((224 + r.val) * 128 + j.val) = if (224 + r.val) % 128 = j.val then 0x3F800000#32 else 0#32 := by
  decide +kernel

theorem word0_29 : ∀ r : Fin 8, ∀ j : Fin 128, lit0t ((232 + r.val) * 128 + j.val) = if (232 + r.val) % 128 = j.val then 0x3F800000#32 else 0#32 := by
  decide +kernel

theorem word0_30 : ∀ r : Fin 8, ∀ j : Fin 128, lit0t ((240 + r.val) * 128 + j.val) = if (240 + r.val) % 128 = j.val then 0x3F800000#32 else 0#32 := by
  decide +kernel

theorem word0_31 : ∀ r : Fin 8, ∀ j : Fin 128, lit0t ((248 + r.val) * 128 + j.val) = if (248 + r.val) % 128 = j.val then 0x3F800000#32 else 0#32 := by
  decide +kernel

theorem word1_16 : ∀ r : Fin 8, ∀ j : Fin 128, lit1t ((128 + r.val) * 128 + j.val) = if (128 + r.val) % 64 = j.val then 0x3F800000#32 else 0#32 := by
  decide +kernel

theorem word1_17 : ∀ r : Fin 8, ∀ j : Fin 128, lit1t ((136 + r.val) * 128 + j.val) = if (136 + r.val) % 64 = j.val then 0x3F800000#32 else 0#32 := by
  decide +kernel

theorem word1_18 : ∀ r : Fin 8, ∀ j : Fin 128, lit1t ((144 + r.val) * 128 + j.val) = if (144 + r.val) % 64 = j.val then 0x3F800000#32 else 0#32 := by
  decide +kernel

theorem word1_19 : ∀ r : Fin 8, ∀ j : Fin 128, lit1t ((152 + r.val) * 128 + j.val) = if (152 + r.val) % 64 = j.val then 0x3F800000#32 else 0#32 := by
  decide +kernel

theorem word1_20 : ∀ r : Fin 8, ∀ j : Fin 128, lit1t ((160 + r.val) * 128 + j.val) = if (160 + r.val) % 64 = j.val then 0x3F800000#32 else 0#32 := by
  decide +kernel

theorem word1_21 : ∀ r : Fin 8, ∀ j : Fin 128, lit1t ((168 + r.val) * 128 + j.val) = if (168 + r.val) % 64 = j.val then 0x3F800000#32 else 0#32 := by
  decide +kernel

theorem word1_22 : ∀ r : Fin 8, ∀ j : Fin 128, lit1t ((176 + r.val) * 128 + j.val) = if (176 + r.val) % 64 = j.val then 0x3F800000#32 else 0#32 := by
  decide +kernel

theorem word1_23 : ∀ r : Fin 8, ∀ j : Fin 128, lit1t ((184 + r.val) * 128 + j.val) = if (184 + r.val) % 64 = j.val then 0x3F800000#32 else 0#32 := by
  decide +kernel

theorem word1_24 : ∀ r : Fin 8, ∀ j : Fin 128, lit1t ((192 + r.val) * 128 + j.val) = if (192 + r.val) % 64 = j.val then 0x3F800000#32 else 0#32 := by
  decide +kernel

theorem word1_25 : ∀ r : Fin 8, ∀ j : Fin 128, lit1t ((200 + r.val) * 128 + j.val) = if (200 + r.val) % 64 = j.val then 0x3F800000#32 else 0#32 := by
  decide +kernel

theorem word1_26 : ∀ r : Fin 8, ∀ j : Fin 128, lit1t ((208 + r.val) * 128 + j.val) = if (208 + r.val) % 64 = j.val then 0x3F800000#32 else 0#32 := by
  decide +kernel

theorem word1_27 : ∀ r : Fin 8, ∀ j : Fin 128, lit1t ((216 + r.val) * 128 + j.val) = if (216 + r.val) % 64 = j.val then 0x3F800000#32 else 0#32 := by
  decide +kernel

theorem word1_28 : ∀ r : Fin 8, ∀ j : Fin 128, lit1t ((224 + r.val) * 128 + j.val) = if (224 + r.val) % 64 = j.val then 0x3F800000#32 else 0#32 := by
  decide +kernel

theorem word1_29 : ∀ r : Fin 8, ∀ j : Fin 128, lit1t ((232 + r.val) * 128 + j.val) = if (232 + r.val) % 64 = j.val then 0x3F800000#32 else 0#32 := by
  decide +kernel

theorem word1_30 : ∀ r : Fin 8, ∀ j : Fin 128, lit1t ((240 + r.val) * 128 + j.val) = if (240 + r.val) % 64 = j.val then 0x3F800000#32 else 0#32 := by
  decide +kernel

theorem word1_31 : ∀ r : Fin 8, ∀ j : Fin 128, lit1t ((248 + r.val) * 128 + j.val) = if (248 + r.val) % 64 = j.val then 0x3F800000#32 else 0#32 := by
  decide +kernel

end Cert.OutBwd
-- ==== Proof.OutBwdFold2.lean ====
/- The constant matrices that fold a row of 512 columns into one head, rows 256 to 383: entry by entry, one where the
   column belongs there. -/
module

public import proofs.«01_k».proof.Proof.Gen.Kernel12Ideal.Value

@[expose] public section

namespace Cert.OutBwd

open Idealize.ShloMosaic Cert.Kernel12Ideal

theorem word0_32 : ∀ r : Fin 8, ∀ j : Fin 128, lit0t ((256 + r.val) * 128 + j.val) = if (256 + r.val) % 128 = j.val then 0x3F800000#32 else 0#32 := by
  decide +kernel

theorem word0_33 : ∀ r : Fin 8, ∀ j : Fin 128, lit0t ((264 + r.val) * 128 + j.val) = if (264 + r.val) % 128 = j.val then 0x3F800000#32 else 0#32 := by
  decide +kernel

theorem word0_34 : ∀ r : Fin 8, ∀ j : Fin 128, lit0t ((272 + r.val) * 128 + j.val) = if (272 + r.val) % 128 = j.val then 0x3F800000#32 else 0#32 := by
  decide +kernel

theorem word0_35 : ∀ r : Fin 8, ∀ j : Fin 128, lit0t ((280 + r.val) * 128 + j.val) = if (280 + r.val) % 128 = j.val then 0x3F800000#32 else 0#32 := by
  decide +kernel

theorem word0_36 : ∀ r : Fin 8, ∀ j : Fin 128, lit0t ((288 + r.val) * 128 + j.val) = if (288 + r.val) % 128 = j.val then 0x3F800000#32 else 0#32 := by
  decide +kernel

theorem word0_37 : ∀ r : Fin 8, ∀ j : Fin 128, lit0t ((296 + r.val) * 128 + j.val) = if (296 + r.val) % 128 = j.val then 0x3F800000#32 else 0#32 := by
  decide +kernel

theorem word0_38 : ∀ r : Fin 8, ∀ j : Fin 128, lit0t ((304 + r.val) * 128 + j.val) = if (304 + r.val) % 128 = j.val then 0x3F800000#32 else 0#32 := by
  decide +kernel

theorem word0_39 : ∀ r : Fin 8, ∀ j : Fin 128, lit0t ((312 + r.val) * 128 + j.val) = if (312 + r.val) % 128 = j.val then 0x3F800000#32 else 0#32 := by
  decide +kernel

theorem word0_40 : ∀ r : Fin 8, ∀ j : Fin 128, lit0t ((320 + r.val) * 128 + j.val) = if (320 + r.val) % 128 = j.val then 0x3F800000#32 else 0#32 := by
  decide +kernel

theorem word0_41 : ∀ r : Fin 8, ∀ j : Fin 128, lit0t ((328 + r.val) * 128 + j.val) = if (328 + r.val) % 128 = j.val then 0x3F800000#32 else 0#32 := by
  decide +kernel

theorem word0_42 : ∀ r : Fin 8, ∀ j : Fin 128, lit0t ((336 + r.val) * 128 + j.val) = if (336 + r.val) % 128 = j.val then 0x3F800000#32 else 0#32 := by
  decide +kernel

theorem word0_43 : ∀ r : Fin 8, ∀ j : Fin 128, lit0t ((344 + r.val) * 128 + j.val) = if (344 + r.val) % 128 = j.val then 0x3F800000#32 else 0#32 := by
  decide +kernel

theorem word0_44 : ∀ r : Fin 8, ∀ j : Fin 128, lit0t ((352 + r.val) * 128 + j.val) = if (352 + r.val) % 128 = j.val then 0x3F800000#32 else 0#32 := by
  decide +kernel

theorem word0_45 : ∀ r : Fin 8, ∀ j : Fin 128, lit0t ((360 + r.val) * 128 + j.val) = if (360 + r.val) % 128 = j.val then 0x3F800000#32 else 0#32 := by
  decide +kernel

theorem word0_46 : ∀ r : Fin 8, ∀ j : Fin 128, lit0t ((368 + r.val) * 128 + j.val) = if (368 + r.val) % 128 = j.val then 0x3F800000#32 else 0#32 := by
  decide +kernel

theorem word0_47 : ∀ r : Fin 8, ∀ j : Fin 128, lit0t ((376 + r.val) * 128 + j.val) = if (376 + r.val) % 128 = j.val then 0x3F800000#32 else 0#32 := by
  decide +kernel

theorem word1_32 : ∀ r : Fin 8, ∀ j : Fin 128, lit1t ((256 + r.val) * 128 + j.val) = if (256 + r.val) % 64 = j.val then 0x3F800000#32 else 0#32 := by
  decide +kernel

theorem word1_33 : ∀ r : Fin 8, ∀ j : Fin 128, lit1t ((264 + r.val) * 128 + j.val) = if (264 + r.val) % 64 = j.val then 0x3F800000#32 else 0#32 := by
  decide +kernel

theorem word1_34 : ∀ r : Fin 8, ∀ j : Fin 128, lit1t ((272 + r.val) * 128 + j.val) = if (272 + r.val) % 64 = j.val then 0x3F800000#32 else 0#32 := by
  decide +kernel

theorem word1_35 : ∀ r : Fin 8, ∀ j : Fin 128, lit1t ((280 + r.val) * 128 + j.val) = if (280 + r.val) % 64 = j.val then 0x3F800000#32 else 0#32 := by
  decide +kernel

theorem word1_36 : ∀ r : Fin 8, ∀ j : Fin 128, lit1t ((288 + r.val) * 128 + j.val) = if (288 + r.val) % 64 = j.val then 0x3F800000#32 else 0#32 := by
  decide +kernel

theorem word1_37 : ∀ r : Fin 8, ∀ j : Fin 128, lit1t ((296 + r.val) * 128 + j.val) = if (296 + r.val) % 64 = j.val then 0x3F800000#32 else 0#32 := by
  decide +kernel

theorem word1_38 : ∀ r : Fin 8, ∀ j : Fin 128, lit1t ((304 + r.val) * 128 + j.val) = if (304 + r.val) % 64 = j.val then 0x3F800000#32 else 0#32 := by
  decide +kernel

theorem word1_39 : ∀ r : Fin 8, ∀ j : Fin 128, lit1t ((312 + r.val) * 128 + j.val) = if (312 + r.val) % 64 = j.val then 0x3F800000#32 else 0#32 := by
  decide +kernel

theorem word1_40 : ∀ r : Fin 8, ∀ j : Fin 128, lit1t ((320 + r.val) * 128 + j.val) = if (320 + r.val) % 64 = j.val then 0x3F800000#32 else 0#32 := by
  decide +kernel

theorem word1_41 : ∀ r : Fin 8, ∀ j : Fin 128, lit1t ((328 + r.val) * 128 + j.val) = if (328 + r.val) % 64 = j.val then 0x3F800000#32 else 0#32 := by
  decide +kernel

theorem word1_42 : ∀ r : Fin 8, ∀ j : Fin 128, lit1t ((336 + r.val) * 128 + j.val) = if (336 + r.val) % 64 = j.val then 0x3F800000#32 else 0#32 := by
  decide +kernel

theorem word1_43 : ∀ r : Fin 8, ∀ j : Fin 128, lit1t ((344 + r.val) * 128 + j.val) = if (344 + r.val) % 64 = j.val then 0x3F800000#32 else 0#32 := by
  decide +kernel

theorem word1_44 : ∀ r : Fin 8, ∀ j : Fin 128, lit1t ((352 + r.val) * 128 + j.val) = if (352 + r.val) % 64 = j.val then 0x3F800000#32 else 0#32 := by
  decide +kernel

theorem word1_45 : ∀ r : Fin 8, ∀ j : Fin 128, lit1t ((360 + r.val) * 128 + j.val) = if (360 + r.val) % 64 = j.val then 0x3F800000#32 else 0#32 := by
  decide +kernel

theorem word1_46 : ∀ r : Fin 8, ∀ j : Fin 128, lit1t ((368 + r.val) * 128 + j.val) = if (368 + r.val) % 64 = j.val then 0x3F800000#32 else 0#32 := by
  decide +kernel

theorem word1_47 : ∀ r : Fin 8, ∀ j : Fin 128, lit1t ((376 + r.val) * 128 + j.val) = if (376 + r.val) % 64 = j.val then 0x3F800000#32 else 0#32 := by
  decide +kernel

end Cert.OutBwd
-- ==== Proof.OutBwdFold3.lean ====
/- The constant matrices that fold a row of 512 columns into one head, rows 384 to 511: entry by entry, one where the
   column belongs there. -/
module

public import proofs.«01_k».proof.Proof.Gen.Kernel12Ideal.Value

@[expose] public section

namespace Cert.OutBwd

open Idealize.ShloMosaic Cert.Kernel12Ideal

theorem word0_48 : ∀ r : Fin 8, ∀ j : Fin 128, lit0t ((384 + r.val) * 128 + j.val) = if (384 + r.val) % 128 = j.val then 0x3F800000#32 else 0#32 := by
  decide +kernel

theorem word0_49 : ∀ r : Fin 8, ∀ j : Fin 128, lit0t ((392 + r.val) * 128 + j.val) = if (392 + r.val) % 128 = j.val then 0x3F800000#32 else 0#32 := by
  decide +kernel

theorem word0_50 : ∀ r : Fin 8, ∀ j : Fin 128, lit0t ((400 + r.val) * 128 + j.val) = if (400 + r.val) % 128 = j.val then 0x3F800000#32 else 0#32 := by
  decide +kernel

theorem word0_51 : ∀ r : Fin 8, ∀ j : Fin 128, lit0t ((408 + r.val) * 128 + j.val) = if (408 + r.val) % 128 = j.val then 0x3F800000#32 else 0#32 := by
  decide +kernel

theorem word0_52 : ∀ r : Fin 8, ∀ j : Fin 128, lit0t ((416 + r.val) * 128 + j.val) = if (416 + r.val) % 128 = j.val then 0x3F800000#32 else 0#32 := by
  decide +kernel

theorem word0_53 : ∀ r : Fin 8, ∀ j : Fin 128, lit0t ((424 + r.val) * 128 + j.val) = if (424 + r.val) % 128 = j.val then 0x3F800000#32 else 0#32 := by
  decide +kernel

theorem word0_54 : ∀ r : Fin 8, ∀ j : Fin 128, lit0t ((432 + r.val) * 128 + j.val) = if (432 + r.val) % 128 = j.val then 0x3F800000#32 else 0#32 := by
  decide +kernel

theorem word0_55 : ∀ r : Fin 8, ∀ j : Fin 128, lit0t ((440 + r.val) * 128 + j.val) = if (440 + r.val) % 128 = j.val then 0x3F800000#32 else 0#32 := by
  decide +kernel

theorem word0_56 : ∀ r : Fin 8, ∀ j : Fin 128, lit0t ((448 + r.val) * 128 + j.val) = if (448 + r.val) % 128 = j.val then 0x3F800000#32 else 0#32 := by
  decide +kernel

theorem word0_57 : ∀ r : Fin 8, ∀ j : Fin 128, lit0t ((456 + r.val) * 128 + j.val) = if (456 + r.val) % 128 = j.val then 0x3F800000#32 else 0#32 := by
  decide +kernel

theorem word0_58 : ∀ r : Fin 8, ∀ j : Fin 128, lit0t ((464 + r.val) * 128 + j.val) = if (464 + r.val) % 128 = j.val then 0x3F800000#32 else 0#32 := by
  decide +kernel

theorem word0_59 : ∀ r : Fin 8, ∀ j : Fin 128, lit0t ((472 + r.val) * 128 + j.val) = if (472 + r.val) % 128 = j.val then 0x3F800000#32 else 0#32 := by
  decide +kernel

theorem word0_60 : ∀ r : Fin 8, ∀ j : Fin 128, lit0t ((480 + r.val) * 128 + j.val) = if (480 + r.val) % 128 = j.val then 0x3F800000#32 else 0#32 := by
  decide +kernel

theorem word0_61 : ∀ r : Fin 8, ∀ j : Fin 128, lit0t ((488 + r.val) * 128 + j.val) = if (488 + r.val) % 128 = j.val then 0x3F800000#32 else 0#32 := by
  decide +kernel

theorem word0_62 : ∀ r : Fin 8, ∀ j : Fin 128, lit0t ((496 + r.val) * 128 + j.val) = if (496 + r.val) % 128 = j.val then 0x3F800000#32 else 0#32 := by
  decide +kernel

theorem word0_63 : ∀ r : Fin 8, ∀ j : Fin 128, lit0t ((504 + r.val) * 128 + j.val) = if (504 + r.val) % 128 = j.val then 0x3F800000#32 else 0#32 := by
  decide +kernel

theorem word1_48 : ∀ r : Fin 8, ∀ j : Fin 128, lit1t ((384 + r.val) * 128 + j.val) = if (384 + r.val) % 64 = j.val then 0x3F800000#32 else 0#32 := by
  decide +kernel

theorem word1_49 : ∀ r : Fin 8, ∀ j : Fin 128, lit1t ((392 + r.val) * 128 + j.val) = if (392 + r.val) % 64 = j.val then 0x3F800000#32 else 0#32 := by
  decide +kernel

theorem word1_50 : ∀ r : Fin 8, ∀ j : Fin 128, lit1t ((400 + r.val) * 128 + j.val) = if (400 + r.val) % 64 = j.val then 0x3F800000#32 else 0#32 := by
  decide +kernel

theorem word1_51 : ∀ r : Fin 8, ∀ j : Fin 128, lit1t ((408 + r.val) * 128 + j.val) = if (408 + r.val) % 64 = j.val then 0x3F800000#32 else 0#32 := by
  decide +kernel

theorem word1_52 : ∀ r : Fin 8, ∀ j : Fin 128, lit1t ((416 + r.val) * 128 + j.val) = if (416 + r.val) % 64 = j.val then 0x3F800000#32 else 0#32 := by
  decide +kernel

theorem word1_53 : ∀ r : Fin 8, ∀ j : Fin 128, lit1t ((424 + r.val) * 128 + j.val) = if (424 + r.val) % 64 = j.val then 0x3F800000#32 else 0#32 := by
  decide +kernel

theorem word1_54 : ∀ r : Fin 8, ∀ j : Fin 128, lit1t ((432 + r.val) * 128 + j.val) = if (432 + r.val) % 64 = j.val then 0x3F800000#32 else 0#32 := by
  decide +kernel

theorem word1_55 : ∀ r : Fin 8, ∀ j : Fin 128, lit1t ((440 + r.val) * 128 + j.val) = if (440 + r.val) % 64 = j.val then 0x3F800000#32 else 0#32 := by
  decide +kernel

theorem word1_56 : ∀ r : Fin 8, ∀ j : Fin 128, lit1t ((448 + r.val) * 128 + j.val) = if (448 + r.val) % 64 = j.val then 0x3F800000#32 else 0#32 := by
  decide +kernel

theorem word1_57 : ∀ r : Fin 8, ∀ j : Fin 128, lit1t ((456 + r.val) * 128 + j.val) = if (456 + r.val) % 64 = j.val then 0x3F800000#32 else 0#32 := by
  decide +kernel

theorem word1_58 : ∀ r : Fin 8, ∀ j : Fin 128, lit1t ((464 + r.val) * 128 + j.val) = if (464 + r.val) % 64 = j.val then 0x3F800000#32 else 0#32 := by
  decide +kernel

theorem word1_59 : ∀ r : Fin 8, ∀ j : Fin 128, lit1t ((472 + r.val) * 128 + j.val) = if (472 + r.val) % 64 = j.val then 0x3F800000#32 else 0#32 := by
  decide +kernel

theorem word1_60 : ∀ r : Fin 8, ∀ j : Fin 128, lit1t ((480 + r.val) * 128 + j.val) = if (480 + r.val) % 64 = j.val then 0x3F800000#32 else 0#32 := by
  decide +kernel

theorem word1_61 : ∀ r : Fin 8, ∀ j : Fin 128, lit1t ((488 + r.val) * 128 + j.val) = if (488 + r.val) % 64 = j.val then 0x3F800000#32 else 0#32 := by
  decide +kernel

theorem word1_62 : ∀ r : Fin 8, ∀ j : Fin 128, lit1t ((496 + r.val) * 128 + j.val) = if (496 + r.val) % 64 = j.val then 0x3F800000#32 else 0#32 := by
  decide +kernel

theorem word1_63 : ∀ r : Fin 8, ∀ j : Fin 128, lit1t ((504 + r.val) * 128 + j.val) = if (504 + r.val) % 64 = j.val then 0x3F800000#32 else 0#32 := by
  decide +kernel

end Cert.OutBwd
-- ==== Proof.OutBwdFold.lean ====
/- The two constant matrices that fold a row of 512 columns into one head: one where the column belongs there, else zero. -/
module

public import proofs.«01_k».proof.Proof.Reals
public import proofs.«01_k».proof.Proof.OutBwdFold0
public import proofs.«01_k».proof.Proof.OutBwdFold1
public import proofs.«01_k».proof.Proof.OutBwdFold2
public import proofs.«01_k».proof.Proof.OutBwdFold3

@[expose] public section

namespace Cert.OutBwd

open Idealize.ShloMosaic Cert.Kernel12Ideal

/-- Eight rows of the words `L`, from row `b` on: a one where the column's lane in its head of `n` is the row's. -/
def Good (L : ℕ → BitVec 32) (n b : ℕ) : Prop :=
  ∀ r : Fin 8, ∀ j : Fin 128, L ((b + r.val) * 128 + j.val) = if (b + r.val) % n = j.val then 0x3F800000#32 else 0#32

theorem all8 (P : ℕ → Prop) (h0 : P 0) (h1 : P 1) (h2 : P 2) (h3 : P 3) (h4 : P 4) (h5 : P 5) (h6 : P 6) (h7 : P 7) : ∀ d, d < 8 → P d
  | 0, _ => h0
  | 1, _ => h1
  | 2, _ => h2
  | 3, _ => h3
  | 4, _ => h4
  | 5, _ => h5
  | 6, _ => h6
  | 7, _ => h7

theorem all64 (P : ℕ → Prop)
    (h0 : P 0) (h1 : P 8) (h2 : P 16) (h3 : P 24) (h4 : P 32) (h5 : P 40) (h6 : P 48) (h7 : P 56)
    (h8 : P 64) (h9 : P 72) (h10 : P 80) (h11 : P 88) (h12 : P 96) (h13 : P 104) (h14 : P 112) (h15 : P 120)
    (h16 : P 128) (h17 : P 136) (h18 : P 144) (h19 : P 152) (h20 : P 160) (h21 : P 168) (h22 : P 176) (h23 : P 184)
    (h24 : P 192) (h25 : P 200) (h26 : P 208) (h27 : P 216) (h28 : P 224) (h29 : P 232) (h30 : P 240) (h31 : P 248)
    (h32 : P 256) (h33 : P 264) (h34 : P 272) (h35 : P 280) (h36 : P 288) (h37 : P 296) (h38 : P 304) (h39 : P 312)
    (h40 : P 320) (h41 : P 328) (h42 : P 336) (h43 : P 344) (h44 : P 352) (h45 : P 360) (h46 : P 368) (h47 : P 376)
    (h48 : P 384) (h49 : P 392) (h50 : P 400) (h51 : P 408) (h52 : P 416) (h53 : P 424) (h54 : P 432) (h55 : P 440)
    (h56 : P 448) (h57 : P 456) (h58 : P 464) (h59 : P 472) (h60 : P 480) (h61 : P 488) (h62 : P 496) (h63 : P 504) (d : ℕ) (h : d < 64) : P (8 * d) := by
  have q : ∀ a, a < 8 → ∀ b, b < 8 → P (8 * (8 * a + b)) := all8 _
    (all8 _ h0 h1 h2 h3 h4 h5 h6 h7)
    (all8 _ h8 h9 h10 h11 h12 h13 h14 h15)
    (all8 _ h16 h17 h18 h19 h20 h21 h22 h23)
    (all8 _ h24 h25 h26 h27 h28 h29 h30 h31)
    (all8 _ h32 h33 h34 h35 h36 h37 h38 h39)
    (all8 _ h40 h41 h42 h43 h44 h45 h46 h47)
    (all8 _ h48 h49 h50 h51 h52 h53 h54 h55)
    (all8 _ h56 h57 h58 h59 h60 h61 h62 h63)
  have w := q (d / 8) (Nat.div_lt_of_lt_mul h) (d % 8) (Nat.mod_lt _ (Nat.succ_pos 7))
  rw [Nat.div_add_mod] at w
  exact w

theorem good_word (L : ℕ → BitVec 32) (n : ℕ) (h : ∀ d, d < 64 → Good L n (8 * d)) (r : Fin 512) (j : Fin 128) :
    L (r.val * 128 + j.val) = if r.val % n = j.val then 0x3F800000#32 else 0#32 := by
  have e : 8 * (r.val / 8) + r.val % 8 = r.val := Nat.div_add_mod _ _
  have w := h (r.val / 8) (Nat.div_lt_of_lt_mul r.isLt) ⟨r.val % 8, Nat.mod_lt _ (Nat.succ_pos 7)⟩ j
  dsimp only at w
  rw [e] at w
  exact w

/-- The first matrix's words. -/
theorem word0 : ∀ (r : Fin 512) (j : Fin 128), lit0t (r.val * 128 + j.val) = if r.val % 128 = j.val then 0x3F800000#32 else 0#32 :=
  good_word lit0t 128 (all64 (Good lit0t 128)
    word0_0 word0_1 word0_2 word0_3 word0_4 word0_5 word0_6 word0_7
    word0_8 word0_9 word0_10 word0_11 word0_12 word0_13 word0_14 word0_15
    word0_16 word0_17 word0_18 word0_19 word0_20 word0_21 word0_22 word0_23
    word0_24 word0_25 word0_26 word0_27 word0_28 word0_29 word0_30 word0_31
    word0_32 word0_33 word0_34 word0_35 word0_36 word0_37 word0_38 word0_39
    word0_40 word0_41 word0_42 word0_43 word0_44 word0_45 word0_46 word0_47
    word0_48 word0_49 word0_50 word0_51 word0_52 word0_53 word0_54 word0_55
    word0_56 word0_57 word0_58 word0_59 word0_60 word0_61 word0_62 word0_63)

/-- The second matrix's words. -/
theorem word1 : ∀ (r : Fin 512) (j : Fin 128), lit1t (r.val * 128 + j.val) = if r.val % 64 = j.val then 0x3F800000#32 else 0#32 :=
  good_word lit1t 64 (all64 (Good lit1t 64)
    word1_0 word1_1 word1_2 word1_3 word1_4 word1_5 word1_6 word1_7
    word1_8 word1_9 word1_10 word1_11 word1_12 word1_13 word1_14 word1_15
    word1_16 word1_17 word1_18 word1_19 word1_20 word1_21 word1_22 word1_23
    word1_24 word1_25 word1_26 word1_27 word1_28 word1_29 word1_30 word1_31
    word1_32 word1_33 word1_34 word1_35 word1_36 word1_37 word1_38 word1_39
    word1_40 word1_41 word1_42 word1_43 word1_44 word1_45 word1_46 word1_47
    word1_48 word1_49 word1_50 word1_51 word1_52 word1_53 word1_54 word1_55
    word1_56 word1_57 word1_58 word1_59 word1_60 word1_61 word1_62 word1_63)

end Cert.OutBwd
-- ==== Proof.OutBwd.lean ====
/- The claims about the gradient through the mixture of the heads. Every grid point handles 512 tokens; the last point's gains
   fold the column sums of all tokens. -/
module

public import proofs.«01_k».proof.Defs
public import proofs.«01_k».proof.Proof.OutBwdRef
public import proofs.«01_k».proof.Proof.OutBwdFold
public import proofs.«01_k».proof.Proof.Gen.Reference12Ideal.Run
public import proofs.«01_k».proof.Proof.Gen.Pre_out_bwd_finite
public import Idealize.ShloMosaic.Lib.Claim
public import Idealize.ShloMosaic.Lib.ReduceAll

@[expose] public section

noncomputable section

namespace Cert.OutBwd

open Idealize.ShloMosaic Idealize.ShloMosaic.TcCoe Idealize.SL.Sem Cert.Reals Cert.Mlp

local instance : Cert.Kernel12Ideal.Facts := Cert.Kernel12Ideal.Gen.facts
local instance : Cert.Reference12Ideal.Facts := Cert.Reference12Ideal.Gen.facts
local instance : Cert.Pre_out_bwd_finite.Facts := Cert.Pre_out_bwd_finite.Gen.facts

section
open Cert.Kernel12Ideal Cert.Kernel12Ideal.Gen

theorem ofBits_one : Ideal.ofBits .f32 0x3F800000#32 = ((1 : ℝ) : EReal) := by
  simp [Ideal.ofBits, Ideal.ieee]
  rw [← EReal.coe_mul]
  norm_num
theorem ofBits_nil : Ideal.ofBits .f32 0#32 = ((0 : ℝ) : EReal) := by
  simp [Ideal.ofBits, Ideal.ieee]

theorem lit0_eq (n : Fin 65536) : lit0 n = lit0t n.val := rfl
theorem lit1_eq (n : Fin 65536) : lit1 n = lit1t n.val := rfl

theorem fold128_word (r : Fin 512) (j : Fin 128) : Ideal.ofBits .f32 (lit0t (r.val * 128 + j.val)) = ((fold 128 r j : ℝ) : EReal) := by
  rw [word0]
  unfold fold
  by_cases h : r.val % 128 = j.val
  · rw [if_pos h, if_pos h]
    exact ofBits_one
  · rw [if_neg h, if_neg h]
    exact ofBits_nil

theorem fold128_arr (y : S512x128.Idx) : FloatOps.ofBits (F := Ideal) .f32 (lit0 (S512x128.rowMajor y)) = arr (fold 128) y := by
  refine Eq.trans ?_ (fold128_word (y 0) (y 1))
  exact congrArg (Ideal.ofBits .f32) ((lit0_eq _).trans (congrArg lit0t (Shape.rowMajor_val_two y)))

theorem fold64_word (r : Fin 512) (j : Fin 128) : Ideal.ofBits .f32 (lit1t (r.val * 128 + j.val)) = ((fold 64 r j : ℝ) : EReal) := by
  rw [word1]
  unfold fold
  by_cases h : r.val % 64 = j.val
  · rw [if_pos h, if_pos h]
    exact ofBits_one
  · rw [if_neg h, if_neg h]
    exact ofBits_nil

theorem fold64_arr (y : S512x128.Idx) : FloatOps.ofBits (F := Ideal) .f32 (lit1 (S512x128.rowMajor y)) = arr (fold 64) y := by
  refine Eq.trans ?_ (fold64_word (y 0) (y 1))
  exact congrArg (Ideal.ofBits .f32) ((lit1_eq _).trans (congrArg lit1t (Shape.rowMajor_val_two y)))

variable (m : (ℓ : Loc nD τ sig) → Buf (Elt Ideal) ℓ) (c : Dev nD)

theorem V_cst : (V m c main_cst : S512x128.Idx → EReal) = fun i => FloatOps.ofBits (F := Ideal) .f32 (lit0 (S512x128.rowMajor i)) := by
  show StableHlo.after hostOps0 _ (Proc.devRef .tc main_cst) = _
  rw [hostOps0, StableHlo.after_cons, StableHlo.after_cons, StableHlo.after_nil,
    StableHlo.nullary_result_ne main_cst_0 _ _ _ (r := main_cst) (by decide), StableHlo.nullary_result]
  rfl

theorem V_cst_0 : (V m c main_cst_0 : S512x128.Idx → EReal) = fun i => FloatOps.ofBits (F := Ideal) .f32 (lit1 (S512x128.rowMajor i)) := by
  show StableHlo.after hostOps0 _ (Proc.devRef .tc main_cst_0) = _
  rw [hostOps0, StableHlo.after_cons, StableHlo.after_cons, StableHlo.after_nil, StableHlo.nullary_result]
  rfl

theorem idx : ∀ t : Fin cfg0.N, win0_0.index t = ![t.val, 0] ∧ win0_1.index t = ![t.val, 0] ∧ win0_2.index t = ![t.val, 3] ∧ win0_3.index t = ![t.val, 0] ∧ win0_4.index t = ![0, 0]
    ∧ win0_5.index t = ![0, 0] ∧ win0_6.index t = ![0, 0] ∧ win0_7.index t = ![0, 0] ∧ win0_8.index t = ![0, 0] ∧ win0_9.index t = ![t.val, 0]
    ∧ win0_10.index t = ![t.val, 0] ∧ win0_11.index t = ![t.val, 0] ∧ win0_12.index t = ![t.val, 0] ∧ win0_13.index t = ![0, 0] :=
  (by decide +kernel : ∀ t : Fin grid0.N, _)

/-- Token `s` of the block a grid point handles. -/
def tk (t : Fin cfg0.N) (s : Fin 512) : Fin 2048 := ⟨512 * t.val + s.val, by have h : t.val < 4 := t.isLt; omega⟩
/-- The rows a grid point handles. -/
abbrev rows {b : ℕ} (f : Fin 2048 → Fin b → ℝ) (t : Fin cfg0.N) (s : Fin 512) : Fin b → ℝ := f (tk t s)

theorem arr_tk {b : ℕ} (f : Fin 2048 → Fin b → ℝ) (t : Fin cfg0.N) (y : (⟨2, ![512, b]⟩ : Shape).Idx) :
    arr (fun s => f (tk t s)) y = arr f (ix2 (tk t (y 0)) (y 1)) := rfl

variable (W : Fin 1024 → Fin 1024 → ℝ) (g gf : Fin 512 → ℝ) (Z : Fin 2048 → Fin 1024 → ℝ) (p : Fin 2048 → Fin 3712 → ℝ) (o f : Fin 2048 → Fin 512 → ℝ)

/-- The gates' columns of a token's projection. -/
abbrev gate (s : Fin 2048) : Fin 512 → ℝ := zc (p s)

/-- The launch's arguments hold these reals. -/
structure Args : Prop where
  a0 : m ((c : Thread nD τ).loc main_arg0) = arr Z
  a1 : m ((c : Thread nD τ).loc main_arg1) = arr o
  a2 : m ((c : Thread nD τ).loc main_arg2) = arr p
  a3 : m ((c : Thread nD τ).loc main_arg3) = arr f
  a4 : m ((c : Thread nD τ).loc main_arg4) = row g
  a5 : m ((c : Thread nD τ).loc main_arg5) = row gf
  a6 : m ((c : Thread nD τ).loc main_arg6) = arr W

variable (A : Args m c W g gf Z p o f)

include A in
theorem in0 (t : Fin cfg0.N) : (iblk m c 0 t : S512x1024.Idx → EReal) = arr (rows Z t) := by
  funext y
  obtain ⟨e, -, -, -, -, -, -, -, -, -, -, -, -, -⟩ := idx t
  blk_simp [iblk, e]
  rw [V_main_arg0, A.a0]
  have h2 : (win0_0.blk t).view.emb y = ix2 (tk t (y 0)) (y 1) := by
    unfold tk
    blk_ext [e]
  exact (congrArg (arr Z) h2).trans (arr_tk Z t y).symm

include A in
theorem in1 (t : Fin cfg0.N) : (iblk m c 1 t : S512x512.Idx → EReal) = arr (rows o t) := by
  funext y
  obtain ⟨-, e, -, -, -, -, -, -, -, -, -, -, -, -⟩ := idx t
  blk_simp [iblk, e]
  rw [V_main_arg1, A.a1]
  have h2 : (win0_1.blk t).view.emb y = ix2 (tk t (y 0)) (y 1) := by
    unfold tk
    blk_ext [e]
  exact (congrArg (arr o) h2).trans (arr_tk o t y).symm

include A in
theorem in3 (t : Fin cfg0.N) : (iblk m c 3 t : S512x512.Idx → EReal) = arr (rows f t) := by
  funext y
  obtain ⟨-, -, -, e, -, -, -, -, -, -, -, -, -, -⟩ := idx t
  blk_simp [iblk, e]
  rw [V_main_arg3, A.a3]
  have h2 : (win0_3.blk t).view.emb y = ix2 (tk t (y 0)) (y 1) := by
    unfold tk
    blk_ext [e]
  exact (congrArg (arr f) h2).trans (arr_tk f t y).symm

include A in
theorem in4 (t : Fin cfg0.N) : (iblk m c 4 t : S1x512.Idx → EReal) = row g := by
  funext y
  obtain ⟨-, -, -, -, e, -, -, -, -, -, -, -, -, -⟩ := idx t
  blk_simp [iblk, e]
  rw [V_main_arg4, A.a4]
  have h2 : (win0_4.blk t).view.emb y = y := by blk_ext [e]
  exact congrArg (row g) h2

include A in
theorem in5 (t : Fin cfg0.N) : (iblk m c 5 t : S1x512.Idx → EReal) = row gf := by
  funext y
  obtain ⟨-, -, -, -, -, e, -, -, -, -, -, -, -, -⟩ := idx t
  blk_simp [iblk, e]
  rw [V_main_arg5, A.a5]
  have h2 : (win0_5.blk t).view.emb y = y := by blk_ext [e]
  exact congrArg (row gf) h2

include A in
theorem in8 (t : Fin cfg0.N) : (iblk m c 8 t : S1024x1024.Idx → EReal) = arr W := by
  funext y
  obtain ⟨-, -, -, -, -, -, -, -, e, -, -, -, -, -⟩ := idx t
  blk_simp [iblk, e]
  rw [V_main_arg6, A.a6]
  have h2 : (win0_8.blk t).view.emb y = y := by blk_ext [e]
  exact congrArg (arr W) h2

theorem in6 (t : Fin cfg0.N) : (iblk m c 6 t : S512x128.Idx → EReal) = arr (fold 128) := by
  funext y
  obtain ⟨-, -, -, -, -, -, e, -, -, -, -, -, -, -⟩ := idx t
  blk_simp [iblk, e]
  rw [V_cst]
  have h2 : (win0_6.blk t).view.emb y = y := by blk_ext [e]
  exact (fold128_arr _).trans (congrArg (arr (fold 128)) h2)

theorem in7 (t : Fin cfg0.N) : (iblk m c 7 t : S512x128.Idx → EReal) = arr (fold 64) := by
  funext y
  obtain ⟨-, -, -, -, -, -, -, e, -, -, -, -, -, -⟩ := idx t
  blk_simp [iblk, e]
  rw [V_cst_0]
  have h2 : (win0_7.blk t).view.emb y = y := by blk_ext [e]
  exact (fold64_arr _).trans (congrArg (arr (fold 64)) h2)

include A in
theorem in2 (t : Fin cfg0.N) : (X0_2 (F := Ideal) m c t : S512x512.Idx → EReal) = arr (rows (gate p) t) := by
  funext y
  idx_vars y
  obtain ⟨-, -, e, -, -, -, -, -, -, -, -, -, -, -⟩ := idx t
  unfold X0_2 Pipeline.Window.fill
  refine (dif_pos (moved0_2 t (ix2 y0 y1))).trans ?_
  blk_simp [iblk, e]
  rw [V_main_arg2, A.a2]
  have h2 : (win0_2.blk t).view.emb (fun a => ⟨(ix2 y0 y1 a).val, (((cfg0.win 2).moved_iff (cfg0.grid.coords t) (ix2 y0 y1)).mp (moved0_2 t (ix2 y0 y1))) a⟩)
      = ix2 (tk t y0) ⟨1536 + y1.val, by omega⟩ := by
    unfold tk
    blk_ext [e]
  exact congrArg (arr p) h2

include A in
theorem ins (t : Fin cfg0.N) : Ins W (rows Z t) (rows (gate p) t) (rows o t) (rows f t) g gf m c t :=
  ⟨in0 m c W g gf Z p o f A t, in1 m c W g gf Z p o f A t, in2 m c W g gf Z p o f A t, in3 m c W g gf Z p o f A t, in4 m c W g gf Z p o f A t, in5 m c W g gf Z p o f A t, in6 m c t, in7 m c t, in8 m c W g gf Z p o f A t⟩

include A in
theorem final9 : (dats m 0 c).arrAt 9 cfg0.N = arr (fun t => dog (dm W (Z t)) (gate p t) g (o t)) := by
  refine (dats m 0 c).arrAt_eq_of_covers 9 _ (by decide +kernel) fun t hf y => ?_
  obtain ⟨-, -, -, -, -, -, -, -, -, e, -, -, -, -⟩ := idx t
  blk_simp [e]
  rw [after0_9]
  have h2 : (win0_9.blk t).view.emb y = ix2 (tk t (y 0)) (y 1) := by
    unfold tk
    blk_ext [e]
  refine Eq.trans ?_ (congrArg (arr (fun t => dog (dm W (Z t)) (gate p t) g (o t))) h2).symm
  refine (congrFun (out9 W (rows Z t) (rows (gate p) t) (rows o t) (rows f t) g gf m c t (ins m c W g gf Z p o f A t)) y).trans ?_
  exact arr_tk (fun t => dog (dm W (Z t)) (gate p t) g (o t)) t y

include A in
theorem final10 : (dats m 0 c).arrAt 10 cfg0.N = arr (fun t => dz (dm W (Z t)) (gate p t) g (o t)) := by
  refine (dats m 0 c).arrAt_eq_of_covers 10 _ (by decide +kernel) fun t hf y => ?_
  obtain ⟨-, -, -, -, -, -, -, -, -, -, e, -, -, -⟩ := idx t
  blk_simp [e]
  rw [after0_10]
  have h2 : (win0_10.blk t).view.emb y = ix2 (tk t (y 0)) (y 1) := by
    unfold tk
    blk_ext [e]
  refine Eq.trans ?_ (congrArg (arr (fun t => dz (dm W (Z t)) (gate p t) g (o t))) h2).symm
  refine (congrFun (out10 W (rows Z t) (rows (gate p) t) (rows o t) (rows f t) g gf m c t (ins m c W g gf Z p o f A t)) y).trans ?_
  exact arr_tk (fun t => dz (dm W (Z t)) (gate p t) g (o t)) t y

include A in
theorem final11 : (dats m 0 c).arrAt 11 cfg0.N = arr (fun t => dof (dm W (Z t)) gf (f t)) := by
  refine (dats m 0 c).arrAt_eq_of_covers 11 _ (by decide +kernel) fun t hf y => ?_
  obtain ⟨-, -, -, -, -, -, -, -, -, -, -, e, -, -⟩ := idx t
  blk_simp [e]
  rw [after0_11]
  have h2 : (win0_11.blk t).view.emb y = ix2 (tk t (y 0)) (y 1) := by
    unfold tk
    blk_ext [e]
  refine Eq.trans ?_ (congrArg (arr (fun t => dof (dm W (Z t)) gf (f t))) h2).symm
  refine (congrFun (out11 W (rows Z t) (rows (gate p) t) (rows o t) (rows f t) g gf m c t (ins m c W g gf Z p o f A t)) y).trans ?_
  exact arr_tk (fun t => dof (dm W (Z t)) gf (f t)) t y

include A in
theorem final12 : (dats m 0 c).arrAt 12 cfg0.N = arr (fun t => dl (dm W (Z t)) gf (f t)) := by
  refine (dats m 0 c).arrAt_eq_of_covers 12 _ (by decide +kernel) fun t hf y => ?_
  obtain ⟨-, -, -, -, -, -, -, -, -, -, -, -, e, -⟩ := idx t
  blk_simp [e]
  rw [after0_12]
  have h2 : (win0_12.blk t).view.emb y = ix2 (tk t (y 0)) (y 1) := by
    unfold tk
    blk_ext [e]
  refine Eq.trans ?_ (congrArg (arr (fun t => dl (dm W (Z t)) gf (f t))) h2).symm
  refine (congrFun (out12 W (rows Z t) (rows (gate p) t) (rows o t) (rows f t) g gf m c t (ins m c W g gf Z p o f A t)) y).trans ?_
  exact arr_tk (fun t => dl (dm W (Z t)) gf (f t)) t y

/-- What a token adds to a row of sums, zero past the last token. -/
def tokAcc (a : Fin 8) (i : Fin 512) (k : ℕ) : ℝ :=
  if h : k < 2048 then acc (dm W (Z ⟨k, h⟩)) (gate p ⟨k, h⟩) (o ⟨k, h⟩) (f ⟨k, h⟩) a.val i else 0
/-- The sums over the first `n` tokens. -/
def upTo (n : ℕ) (a : Fin 8) (i : Fin 512) : ℝ := ∑ k ∈ Finset.range n, tokAcc W Z p o f a i k

theorem upTo_all : upTo W Z p o f 2048 = fun a i => ∑ t, acc (dm W (Z t)) (gate p t) (o t) (f t) a.val i := by
  funext a i
  unfold upTo
  rw [Finset.sum_range]
  exact Finset.sum_congr rfl fun t _ => dif_pos t.isLt

theorem upTo_block (t : Fin cfg0.N) :
    addAcc W (rows Z t) (rows (gate p) t) (rows o t) (rows f t) (upTo W Z p o f (512 * t.val)) = upTo W Z p o f (512 * t.val + 512) := by
  have h8 : t.val < 4 := t.isLt
  funext a i
  unfold addAcc upTo
  rw [Finset.sum_range_add]
  congr 1
  rw [Finset.sum_range]
  refine Finset.sum_congr rfl fun s _ => ?_
  unfold tokAcc
  rw [dif_pos (show 512 * t.val + s.val < 2048 by omega)]
  rfl

include A in
theorem sums : ∀ (n : ℕ) (hn : n < cfg0.N), (outsAt0 (F := Ideal) m c n hn).2.2.2.2.2 = arr (upTo W Z p o f (512 * n + 512))
  | 0, hn => by
    have e : upTo W Z p o f (512 * 0) = fun _ _ => 0 := by
      funext a i
      unfold upTo
      simp
    have q := upTo_block W Z p o f ⟨0, hn⟩
    rw [e] at q
    exact (sumA W _ _ _ _ g gf m c ⟨0, hn⟩ (ins m c W g gf Z p o f A ⟨0, hn⟩) rfl).trans (congrArg arr q)
  | n + 1, hn => by
    have h8 : n + 1 < 4 := hn
    have q := upTo_block W Z p o f ⟨n + 1, hn⟩
    refine (sumB W _ _ _ _ g gf m c ⟨n + 1, hn⟩ _ (sums n (Nat.lt_of_succ_lt hn)) (ins m c W g gf Z p o f A ⟨n + 1, hn⟩) ?_).trans (congrArg arr q)
    show ¬(n + 1) % 4 = 0
    omega

include A in
theorem final13 : (dats m 0 c).arrAt 13 cfg0.N = arr (gains fun a i => ∑ t, acc (dm W (Z t)) (gate p t) (o t) (f t) a.val i) := by
  refine (dats m 0 c).arrAt_eq_of_after_last 13 t0_3 (by decide +kernel) _ fun j => ?_
  rw [after0_13, ← upTo_all]
  have q := upTo_block W Z p o f t0_3
  refine (congrFun (out13 W _ _ _ _ g gf m c t0_3 _ (sums m c W g gf Z p o f A 2 (by decide)) (ins m c W g gf Z p o f A t0_3) rfl) j).trans ?_
  exact congrFun (congrArg (fun Y => arr (gains Y)) q) j

end

theorem arr_of {a b : ℕ} {x : (⟨2, ![a, b]⟩ : Shape).Idx → EReal} (h : ∃ f, x = up f) : ∃ f : Fin a → Fin b → ℝ, x = arr f := by
  obtain ⟨f, rfl⟩ := h
  refine ⟨fun t i => f (ix2 t i), ?_⟩
  funext y
  exact congrArg (up f) (show y = ix2 (y 0) (y 1) by funext k; fin_cases k <;> rfl)

theorem row_of {b : ℕ} {x : (⟨2, ![1, b]⟩ : Shape).Idx → EReal} (h : ∃ f, x = up f) : ∃ f : Fin b → ℝ, x = row f := by
  obtain ⟨f, rfl⟩ := h
  refine ⟨fun i => f (ix2 0 i), ?_⟩
  funext y
  refine congrArg (up f) (show y = ix2 0 (y 1) from ?_)
  funext k
  fin_cases k
  · exact Subsingleton.elim (α := Fin 1) _ _
  · rfl

/-- The precondition says that the arrays hold reals. -/
theorem reals (x0 : (⟨Cert.Pre_out_bwd_finite.S2048x1024, .bf16⟩ : BufTy).Contents (Elt Ideal))
    (x1 : (⟨Cert.Pre_out_bwd_finite.S2048x512, .f32⟩ : BufTy).Contents (Elt Ideal))
    (x2 : (⟨Cert.Pre_out_bwd_finite.S2048x3712, .f32⟩ : BufTy).Contents (Elt Ideal))
    (x3 : (⟨Cert.Pre_out_bwd_finite.S2048x512, .f32⟩ : BufTy).Contents (Elt Ideal))
    (x4 x5 : (⟨Cert.Pre_out_bwd_finite.S1x512, .f32⟩ : BufTy).Contents (Elt Ideal))
    (x6 : (⟨Cert.Pre_out_bwd_finite.S1024x1024, .bf16⟩ : BufTy).Contents (Elt Ideal))
    (x7 : (⟨Cert.Pre_out_bwd_finite.S8x128, .f32⟩ : BufTy).Contents (Elt Ideal))
    (h : Cert.Pre_out_bwd_finite.fn (F := Ideal) x0 x1 x2 x3 x4 x5 x6 x7 = fun _ => 1#1) :
    ∃ (W : Fin 1024 → Fin 1024 → ℝ) (g gf : Fin 512 → ℝ) (Z : Fin 2048 → Fin 1024 → ℝ) (p : Fin 2048 → Fin 3712 → ℝ) (o f : Fin 2048 → Fin 512 → ℝ),
      x0 = arr Z ∧ x1 = arr o ∧ x2 = arr p ∧ x3 = arr f ∧ x4 = row g ∧ x5 = row gf ∧ x6 = arr W := by
  have e := congrFun h (fun a => a.elim0)
  dsimp only [Cert.Pre_out_bwd_finite.fn, Cert.Pre_out_bwd_finite.fn_part1, Cert.Pre_out_bwd_finite.fn_part2] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  obtain ⟨Z, hZ⟩ := arr_of (exists_real x0 fun i => finite_of_olt _ (Host.reduce_andi_all _ _ _ _ _ h0 i))
  obtain ⟨o, ho⟩ := arr_of (exists_real x1 fun i => finite_of_olt _ (Host.reduce_andi_all _ _ _ _ _ h1 i))
  obtain ⟨p, hp⟩ := arr_of (exists_real x2 fun i => finite_of_olt _ (Host.reduce_andi_all _ _ _ _ _ h2 i))
  obtain ⟨f, hf⟩ := arr_of (exists_real x3 fun i => finite_of_olt _ (Host.reduce_andi_all _ _ _ _ _ h3 i))
  obtain ⟨g, hg⟩ := row_of (exists_real x4 fun i => finite_of_olt _ (Host.reduce_andi_all _ _ _ _ _ h4 i))
  obtain ⟨gf, hgf⟩ := row_of (exists_real x5 fun i => finite_of_olt _ (Host.reduce_andi_all _ _ _ _ _ h5 i))
  obtain ⟨W, hW⟩ := arr_of (exists_real x6 fun i => finite_of_olt _ (Host.reduce_andi_all _ _ _ _ _ h6 i))
  exact ⟨W, g, gf, Z, p, o, f, hZ, ho, hp, hf, hg, hgf, hW⟩

section
open Cert.Reference12Ideal Cert.Reference12Ideal.Read

variable {x0 : S2048x1024.Idx → EReal} {x1 x3 : S2048x512.Idx → EReal} {x2 : S2048x3712.Idx → EReal} {x4 x5 : S1x512.Idx → EReal} {x6 : S1024x1024.Idx → EReal}
  {W : Fin 1024 → Fin 1024 → ℝ} {g gf : Fin 512 → ℝ} {Z : Fin 2048 → Fin 1024 → ℝ} {p : Fin 2048 → Fin 3712 → ℝ} {o f : Fin 2048 → Fin 512 → ℝ}

theorem of108 (b0 : x0 = arr Z) (b1 : x1 = arr o) (b2 : x2 = arr p) (b4 : x4 = row g) (b6 : x6 = arr W) :
    val_main_v108 (F := Ideal) x0 x1 x2 x4 x6 = arr (fun t => dog (dm W (Z t)) (gate p t) g (o t)) := by
  rw [b0, b1, b2, b4, b6]
  exact res108 W g Z p o

theorem of122 (b0 : x0 = arr Z) (b1 : x1 = arr o) (b2 : x2 = arr p) (b4 : x4 = row g) (b6 : x6 = arr W) :
    val_main_v122 (F := Ideal) x0 x1 x2 x4 x6 = arr (fun t => dz (dm W (Z t)) (gate p t) g (o t)) := by
  rw [b0, b1, b2, b4, b6]
  exact res122 W g Z p o

theorem of80 (b0 : x0 = arr Z) (b3 : x3 = arr f) (b5 : x5 = row gf) (b6 : x6 = arr W) :
    val_main_v80 (F := Ideal) x0 x3 x5 x6 = arr (fun t => dof (dm W (Z t)) gf (f t)) := by
  rw [b0, b3, b5, b6]
  exact res80 W gf Z f

theorem of114 (b0 : x0 = arr Z) (b3 : x3 = arr f) (b5 : x5 = row gf) (b6 : x6 = arr W) :
    val_main_v114 (F := Ideal) x0 x3 x5 x6 = arr (fun t => dl (dm W (Z t)) gf (f t)) := by
  rw [b0, b3, b5, b6]
  exact res114 W gf Z f

theorem of124 (b0 : x0 = arr Z) (b1 : x1 = arr o) (b2 : x2 = arr p) (b3 : x3 = arr f) (b6 : x6 = arr W) :
    val_main_v124 (F := Ideal) x0 x1 x2 x3 x6 = arr (gains fun a i => ∑ t, acc (dm W (Z t)) (gate p t) (o t) (f t) a.val i) := by
  rw [b0, b1, b2, b3, b6]
  exact res124 W Z p o f

end

theorem algebraic : Cert.algebraic_Kernel12Ideal_Reference12Ideal_pre_out_bwd_finite := by
  pair_intro
  · run_from Cert.Kernel12Ideal.Value.run_blocks m g
  · refine (θ_run Cert.Reference12Ideal.defs _ _).mono (fun r h c => ?_) (Cert.Reference12Ideal.Value.run (F := Ideal) m' g')
    obtain ⟨r0, r1, r2, r3, r4, rest⟩ := h c
    obtain ⟨a0, a1, a2, a3, a4, a5, a6, -⟩ := hagree c
    obtain ⟨W, gg, gf, Z, p, o, f, h0, h1, h2, h3, h4, h5, h6⟩ := reals _ _ _ _ _ _ _ _ (hpre c)
    have A : Args m c W gg gf Z p o f := ⟨h0, h1, h2, h3, h4, h5, h6⟩
    have b0 := a0.trans h0
    have b1 := a1.trans h1
    have b2 := a2.trans h2
    have b3 := a3.trans h3
    have b4 := a4.trans h4
    have b5 := a5.trans h5
    have b6 := a6.trans h6
    refine ⟨r0.trans ?_, r1.trans ?_, r2.trans ?_, r3.trans ?_, r4.trans ?_, rest⟩
    · exact (Cert.Reference12Ideal.Read.val_main_v108_eq _ _).trans ((of108 b0 b1 b2 b4 b6).trans (final9 m c W gg gf Z p o f A).symm)
    · exact (Cert.Reference12Ideal.Read.val_main_v122_eq _ _ _ _ _).trans ((of122 b0 b1 b2 b4 b6).trans (final10 m c W gg gf Z p o f A).symm)
    · exact (Cert.Reference12Ideal.Read.val_main_v80_eq _ _).trans ((of80 b0 b3 b5 b6).trans (final11 m c W gg gf Z p o f A).symm)
    · exact (Cert.Reference12Ideal.Read.val_main_v114_eq _ _).trans ((of114 b0 b3 b5 b6).trans (final12 m c W gg gf Z p o f A).symm)
    · exact (Cert.Reference12Ideal.Read.val_main_v124_eq _ _ _ _ _).trans ((of124 b0 b1 b2 b3 b6).trans (final13 m c W gg gf Z p o f A).symm)

theorem frame_ref : Cert.quiescent_Reference12Ideal := fun m g _ =>
  (θ_run Cert.Reference12Ideal.defs _ _).mono
    (fun r h => ⟨fun c => (h c).2.2.2.2.2, sem_eq_zero_of_no_sems (by decide) r.2⟩)
    (Cert.Reference12Ideal.Value.run (F := Ideal) m g)

end Cert.OutBwd
-- ==== Proof.GdnFwd.lean ====
/- The claims about the short convolution's forward: the kernel wraps the rows around and then writes the first eight
   again without the wrapped ones; the reference pads with zeros. -/
module

public import proofs.«01_k».proof.Defs
public import proofs.«01_k».proof.Proof.Reals
public import proofs.«01_k».proof.Proof.Gen.Kernel13Ideal.Value
public import proofs.«01_k».proof.Proof.Gen.Reference13Ideal.Run
public import proofs.«01_k».proof.Proof.Gen.Reference13Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

noncomputable section

namespace Cert.GdnFwd

open Idealize.ShloMosaic Idealize.ShloMosaic.TcCoe Idealize.SL.Sem Cert.Reals

local instance : Cert.Kernel13Ideal.Facts := Cert.Kernel13Ideal.Gen.facts
local instance : Cert.Reference13Ideal.Facts := Cert.Reference13Ideal.Gen.facts

/-- The rows moved down by `s`, the first `s` rows zero. -/
def back (s : ℕ) (f : Fin 2048 → EReal) (t : Fin 2048) : EReal :=
  if s ≤ t.val then f ⟨t.val - s, by omega⟩ else 0

/-- The convolution of four taps. -/
def cv (f : Fin 2048 → EReal) (w : Fin 4 → EReal) (t : Fin 2048) : EReal :=
  f t * w 3 + back 1 f t * w 2 + back 2 f t * w 1 + back 3 f t * w 0

/-- A value times its logistic function. -/
def gate (y : EReal) : EReal := y * Ideal.div 1 (1 + Ideal.exp (0 - y))

/-- The gated convolution of a head section. -/
def gv (X : Fin 2048 → Fin 128 → EReal) (W : Fin 4 → Fin 128 → EReal) (t : Fin 2048) (l : Fin 128) : EReal :=
  gate (cv (fun r => X r l) (fun k => W k l) t)

/-- A row divided by its norm, when `b`. -/
def nrm (b : Prop) [Decidable b] (g : Fin 128 → EReal) (l : Fin 128) : EReal :=
  if b then g l * Ideal.rsqrt (∑ k, g k * g k + Ideal.ofBits .f32 897988541#32) else g l

section
open Cert.Reference13Ideal Cert.Reference13Ideal.Gen Cert.Reference13Ideal.Read

/-- The column of channel `l` of head section `j`. -/
def col (j : Fin 12) (l : Fin 128) : Fin 1536 := ⟨128 * j.val + l.val, by omega⟩

variable (X : S2048x3712.Idx → EReal) (W : S4x1536.Idx → EReal)

/-- Head section `j` of the convolution's input. -/
def secX (j : Fin 12) (t : Fin 2048) (l : Fin 128) : EReal := X (ix2 t ⟨128 * j.val + l.val, by omega⟩)

/-- Head section `j` of the taps. -/
def secW (j : Fin 12) (k : Fin 4) (l : Fin 128) : EReal := W (ix2 k (col j l))

theorem r0 (j : Fin 12) (t : Fin 2048) (l : Fin 128) : val_main_v0 (F := Ideal) X (ix2 t (col j l)) = secX X j t l := by
  pointwise [val_main_v0]
  rfl

theorem r22 (j : Fin 12) (t : Fin 2048) (l : Fin 128) :
    val_main_v22 (F := Ideal) X (ix2 t (col j l)) = back 1 (fun r => secX X j r l) t := by
  pointwise [val_main_v22, val_main_v20, val_main_cst_2, val_main_v21, val_main_v0]
  unfold back
  by_cases h : 1 ≤ t.val
  · rw [dif_neg (by omega), if_pos h]
    rfl
  · rw [dif_pos (by omega), if_neg h]

theorem r13 (j : Fin 12) (t : Fin 2048) (l : Fin 128) :
    val_main_v13 (F := Ideal) X (ix2 t (col j l)) = back 2 (fun r => secX X j r l) t := by
  pointwise [val_main_v13, val_main_v11, val_main_cst_1, val_main_v12, val_main_v0]
  unfold back
  by_cases h : 2 ≤ t.val
  · rw [dif_neg (by omega), if_pos h]
    rfl
  · rw [dif_pos (by omega), if_neg h]

theorem r3 (j : Fin 12) (t : Fin 2048) (l : Fin 128) :
    val_main_v3 (F := Ideal) X (ix2 t (col j l)) = back 3 (fun r => secX X j r l) t := by
  pointwise [val_main_v3, val_main_v1, val_main_cst, val_main_v2, val_main_v0]
  unfold back
  by_cases h : 3 ≤ t.val
  · rw [dif_neg (by omega), if_pos h]
    rfl
  · rw [dif_pos (by omega), if_neg h]

theorem r34 (j : Fin 12) (t : Fin 2048) (l : Fin 128) :
    val_main_v34 (F := Ideal) X W (ix2 t (col j l)) = cv (fun r => secX X j r l) (fun k => secW W j k l) t := by
  have e0 := r0 X j t l
  have e1 := r22 X j t l
  have e2 := r13 X j t l
  have e3 := r3 X j t l
  pointwise [val_main_v34, val_main_v28, val_main_v19, val_main_v10, val_main_cst_0, val_main_v9, val_main_v8, val_main_v7, val_main_v6, val_main_v5, val_main_v4, val_main_v18, val_main_v17, val_main_v16, val_main_v15, val_main_v14, val_main_v27, val_main_v26, val_main_v25, val_main_v24, val_main_v23, val_main_v33, val_main_v32, val_main_v31, val_main_v30, val_main_v29]
  rw [e0, e1, e2, e3, cv]
  unfold secW
  abel

theorem r41 (j : Fin 12) (t : Fin 2048) (l : Fin 128) :
    val_main_v41 (F := Ideal) X W (ix2 t (col j l)) = gv (secX X j) (secW W j) t l := by
  have e := r34 X W j t l
  pointwise [val_main_v41, val_main_v40, val_main_v39, val_main_cst_4, val_main_v38, val_main_v37, val_main_cst_3, val_main_v36, val_main_v35]
  rw [e, gv, gate, zero_sub]

theorem r43 (h : Fin 4) (j : Fin 12) (hj : j.val = 0 + h.val) (t : Fin 2048) (l : Fin 128) :
    val_main_v43 (F := Ideal) X W (ix3 t h l) = gv (secX X j) (secW W j) t l := by
  rw [← r41]
  pointwise [val_main_v43, val_main_v42]
  exact congrArg (fun n => val_main_v41 (F := Ideal) X W (ix2 t n)) (Fin.ext (by simp only [col]; omega))

theorem r53 (h : Fin 4) (j : Fin 12) (hj : j.val = 4 + h.val) (t : Fin 2048) (l : Fin 128) :
    val_main_v53 (F := Ideal) X W (ix3 t h l) = gv (secX X j) (secW W j) t l := by
  rw [← r41]
  pointwise [val_main_v53, val_main_v52]
  exact congrArg (fun n => val_main_v41 (F := Ideal) X W (ix2 t n)) (Fin.ext (by simp only [col]; omega))

theorem r63 (h : Fin 4) (j : Fin 12) (hj : j.val = 8 + h.val) (t : Fin 2048) (l : Fin 128) :
    val_main_v63 (F := Ideal) X W (ix3 t h l) = gv (secX X j) (secW W j) t l := by
  rw [← r41]
  pointwise [val_main_v63, val_main_v62]
  exact congrArg (fun n => val_main_v41 (F := Ideal) X W (ix2 t n)) (Fin.ext (by simp only [col]; omega))

theorem r51 (h : Fin 4) (j : Fin 12) (hj : j.val = 0 + h.val) (t : Fin 2048) (l : Fin 128) :
    val_main_v51 (F := Ideal) X W (ix3 t h l) = nrm (j.val < 8) (gv (secX X j) (secW W j) t) l := by
  pointwise [val_main_v51, val_main_v50, val_main_v49, val_main_v48, val_main_v47, val_main_cst_6, val_main_v46, val_main_v45, val_main_cst_5, val_main_v44]
  simp only [r43 X W h j hj]
  rw [nrm, if_pos (by omega)]

theorem r61 (h : Fin 4) (j : Fin 12) (hj : j.val = 4 + h.val) (t : Fin 2048) (l : Fin 128) :
    val_main_v61 (F := Ideal) X W (ix3 t h l) = nrm (j.val < 8) (gv (secX X j) (secW W j) t) l := by
  pointwise [val_main_v61, val_main_v60, val_main_v59, val_main_v58, val_main_v57, val_main_cst_8, val_main_v56, val_main_v55, val_main_cst_7, val_main_v54]
  simp only [r53 X W h j hj]
  rw [nrm, if_pos (by omega)]

/-- The three results side by side. -/
theorem r67 (j : Fin 12) (t : Fin 2048) (l : Fin 128) :
    val_main_v67 (F := Ideal) X W (ix2 t (col j l)) = nrm (j.val < 8) (gv (secX X j) (secW W j) t) l := by
  pointwise [val_main_v67, val_main_v66, val_main_v65, val_main_v64]
  have hc : (col j l).val = 128 * j.val + l.val := rfl
  generalize col j l = n at *
  have hj := j.isLt
  have hl := l.isLt
  have hq : ∀ (a b : ℕ) (ha : a < 4) (hb : b < 128), a = j.val → b = l.val →
      val_main_v51 (F := Ideal) X W (ix3 t ⟨a, ha⟩ ⟨b, hb⟩) = nrm (j.val < 8) (gv (secX X j) (secW W j) t) l := by
    rintro a b ha hb h1 rfl
    exact r51 X W ⟨a, ha⟩ j (by show j.val = 0 + a; omega) t l
  have hk : ∀ (a b : ℕ) (ha : a < 4) (hb : b < 128), 4 + a = j.val → b = l.val →
      val_main_v61 (F := Ideal) X W (ix3 t ⟨a, ha⟩ ⟨b, hb⟩) = nrm (j.val < 8) (gv (secX X j) (secW W j) t) l := by
    rintro a b ha hb h1 rfl
    exact r61 X W ⟨a, ha⟩ j h1.symm t l
  have hv : ∀ (a b : ℕ) (ha : a < 4) (hb : b < 128), 8 + a = j.val → b = l.val →
      val_main_v63 (F := Ideal) X W (ix3 t ⟨a, ha⟩ ⟨b, hb⟩) = nrm (j.val < 8) (gv (secX X j) (secW W j) t) l := by
    rintro a b ha hb h1 rfl
    rw [nrm, if_neg (by omega)]
    exact r63 X W ⟨a, ha⟩ j h1.symm t l
  by_cases h4 : j.val < 4
  · rw [dif_pos (by omega), hq _ _ _ _ (by omega) (by omega)]
  · by_cases h8 : j.val < 8
    · rw [dif_neg (by omega), dif_pos (by omega), hk _ _ _ _ (by omega) (by omega)]
    · rw [dif_neg (by omega), dif_neg (by omega), hv _ _ _ _ (by omega) (by omega)]

end

section
open Cert.Kernel13Ideal Cert.Kernel13Ideal.Gen

/-- A 2048 × 128 array by row and column. -/
abbrev m2 {a b : ℕ} (X : (⟨2, ![a, b]⟩ : Shape).Idx → EReal) (t : Fin a) (l : Fin b) : EReal := X (ix2 t l)

variable (X : S2048x128.Idx → EReal) (W : S4x128.Idx → EReal)

/-- The wrapped rows are the rows above, from the fourth row on. -/
theorem cv_far (t : Fin 2048) (ht : 3 ≤ t.val) (l : Fin 128) (h1 : (t.val + 2048 - 1) % 2048 < 2048) (h2 : (t.val + 2048 - 2) % 2048 < 2048)
    (h3 : (t.val + 2048 - 3) % 2048 < 2048) :
    X (ix2 t l) * W (ix2 3 l) + X (ix2 ⟨(t.val + 2048 - 1) % 2048, h1⟩ l) * W (ix2 2 l) + X (ix2 ⟨(t.val + 2048 - 2) % 2048, h2⟩ l) * W (ix2 1 l)
      + X (ix2 ⟨(t.val + 2048 - 3) % 2048, h3⟩ l) * W (ix2 0 l) = cv (fun r => m2 X r l) (fun k => m2 W k l) t := by
  have e1 : (⟨(t.val + 2048 - 1) % 2048, h1⟩ : Fin 2048) = ⟨t.val - 1, by omega⟩ := Fin.ext (by show (t.val + 2048 - 1) % 2048 = t.val - 1; omega)
  have e2 : (⟨(t.val + 2048 - 2) % 2048, h2⟩ : Fin 2048) = ⟨t.val - 2, by omega⟩ := Fin.ext (by show (t.val + 2048 - 2) % 2048 = t.val - 2; omega)
  have e3 : (⟨(t.val + 2048 - 3) % 2048, h3⟩ : Fin 2048) = ⟨t.val - 3, by omega⟩ := Fin.ext (by show (t.val + 2048 - 3) % 2048 = t.val - 3; omega)
  rw [e1, e2, e3, cv, back, back, back, if_pos (by omega), if_pos (by omega), if_pos (by omega)]

theorem pay2 (i : grid0.Coords) (t : Fin 2048) (ht : 3 ≤ t.val) (l : Fin 128) :
    k0_pay2 (F := Ideal) i X W (ix2 t l) = nrm ((i 0).val < 8) (gv (m2 X) (m2 W) t) l := by
  have hi : (i 0).val < 12 := (i 0).isLt
  pointwise [k0_pay2]
  simp only [cv_far X W t ht]
  have hs := select_slt (α := EReal) (i 0).val 8 (by omega) (by omega)
  unfold Scalar.cmpi
  rw [hs, nrm]
  unfold gv gate
  rfl

/-- The first eight rows of the block, by themselves. -/
theorem near (A : S8x128.Idx → EReal) (hA : ∀ (s : Fin 8) (l : Fin 128), A (ix2 s l) = X (ix2 ⟨s.val, by omega⟩ l)) (k : ℕ) (hk : k < 8)
    (s : Fin 8) (l : Fin 128) (w : EReal) (h : (s.val + 8 - k) % 8 < 8) :
    (if k ≤ s.val then A (ix2 ⟨(s.val + 8 - k) % 8, h⟩ l) * w else 0) = back k (fun r => m2 X r l) ⟨s.val, by omega⟩ * w := by
  unfold back
  by_cases h1 : k ≤ s.val
  · rw [if_pos h1, if_pos h1, hA]
    have e : (⟨(s.val + 8 - k) % 8, by omega⟩ : Fin 2048) = ⟨s.val - k, by omega⟩ := Fin.ext (by show (s.val + 8 - k) % 8 = s.val - k; omega)
    exact congrArg (fun r => X (ix2 r l) * w) e
  · rw [if_neg h1, if_neg h1, zero_mul]

theorem pay3 (A : S8x128.Idx → EReal) (hA : ∀ (s : Fin 8) (l : Fin 128), A (ix2 s l) = X (ix2 ⟨s.val, by omega⟩ l)) (s : Fin 8) (l : Fin 128) :
    k0_pay3 (F := Ideal) A W (ix2 s l) = gv (m2 X) (m2 W) ⟨s.val, by omega⟩ l := by
  pointwise [k0_pay3]
  rw [select_sge _ 1 (by omega) (by omega), select_sge _ 2 (by omega) (by omega), select_sge _ 3 (by omega) (by omega),
    near X A hA 1 (by omega), near X A hA 2 (by omega), near X A hA 3 (by omega), hA]
  unfold gv gate cv
  rfl

theorem pay1 (n : ℕ) (hn : n < 12) (A : S8x128.Idx → EReal) (hA : ∀ (s : Fin 8) (l : Fin 128), A (ix2 s l) = X (ix2 ⟨s.val, by omega⟩ l))
    (s : Fin 8) (l : Fin 128) :
    k0_pay1 (F := Ideal) (BitVec.ofNat 32 n) (k0_pay3 A W) (k0_pay4 A W) (ix2 s l) = nrm (n < 8) (gv (m2 X) (m2 W) ⟨s.val, by omega⟩) l := by
  have h3 := pay3 X W A hA
  unfold k0_pay4
  generalize k0_pay3 (F := Ideal) A W = Z at *
  pointwise [k0_pay1]
  simp only [h3]
  have hs := select_slt (α := EReal) n 8 (by omega) (by omega)
  unfold Scalar.cmpi
  rw [hs, nrm]

theorem idx : ∀ t : Fin cfg0.N, win0_0.index t = ![0, t.val] ∧ win0_1.index t = ![0, t.val] ∧ win0_2.index t = ![0, t.val]
    ∧ (grid0.coords t 0).val = t.val :=
  (by decide +kernel : ∀ t : Fin grid0.N, _)

variable (m : (ℓ : Loc nD τ sig) → Buf (Elt Ideal) ℓ) (c : Dev nD)

/-- The head section of a grid point. -/
def hd (t : Fin cfg0.N) : Fin 12 := ⟨t.val, t.isLt⟩

theorem in0 (t : Fin cfg0.N) : m2 (iblk m c 0 t : S2048x128.Idx → EReal) = secX (m ((c : Thread nD τ).loc main_arg0)) (hd t) := by
  funext r l
  obtain ⟨e, -, -, -⟩ := idx t
  unfold m2 secX
  blk_simp [iblk, e]
  rw [V_main_arg0]
  have h2 : (win0_0.blk t).view.emb (ix2 r l) = ix2 r ⟨128 * (hd t).val + l.val, by omega⟩ := by
    unfold hd
    blk_ext [e]
  exact congrArg (m ((c : Thread nD τ).loc main_arg0) : S2048x3712.Idx → EReal) h2

theorem in1 (t : Fin cfg0.N) : m2 (iblk m c 1 t : S4x128.Idx → EReal) = secW (m ((c : Thread nD τ).loc main_arg1)) (hd t) := by
  funext r l
  obtain ⟨-, e, -, -⟩ := idx t
  unfold m2 secW col
  blk_simp [iblk, e]
  rw [V_main_arg1]
  have h2 : (win0_1.blk t).view.emb (ix2 r l) = ix2 r ⟨128 * (hd t).val + l.val, by omega⟩ := by
    unfold hd
    blk_ext [e]
  exact congrArg (m ((c : Thread nD τ).loc main_arg1) : S4x1536.Idx → EReal) h2

/-- What a grid point leaves: its section of the reference's result. -/
def res (t : Fin cfg0.N) : S2048x128.Idx → EReal := fun y =>
  nrm (t.val < 8) (gv (m2 (iblk m c 0 t : S2048x128.Idx → EReal)) (m2 (iblk m c 1 t : S4x128.Idx → EReal)) (y 0)) (y 1)

/-- Two stores, the second over the first rows of the first, read back. -/
theorem rows (v : View sig .tc .vmem S2048x128 .f32) (f : v.ty.Contents (Elt Ideal)) (p0 : S2048x128.Idx → EReal) (p1 : S8x128.Idx → EReal)
    (s : Fin 2048) (j : Fin 128) :
    v.read (Elt Ideal) (v.writes (Elt Ideal) f
      [⟨Rect.unit ![0, 0] ![8, 128] inb_S2048x128_S8x128_0_0, p1⟩, ⟨Rect.unit ![0, 0] ![2048, 128] inb_S2048x128_S2048x128_0_0, p0⟩]) (ix2 s j)
      = if h : s.val < 8 then p1 (ix2 ⟨s.val, h⟩ j) else p0 (ix2 s j) := by
  by_cases h : s.val < 8
  · rw [dif_pos h]
    exact View.read_writes_cons_unit_of_mem v f _ _ _ _ (ix2 ⟨s.val, h⟩ j) rfl (fun b => by fin_cases b <;> simp [ix2])
  · rw [dif_neg h, View.read_writes_cons_unit_of_not_mem v f _ _ _ _ rfl 0 (by show s.val < 0 ∨ 0 + 8 ≤ s.val; omega)]
    exact View.read_writes_cons_unit_of_mem v f _ _ _ _ (ix2 s j) rfl (fun b => by fin_cases b <;> simp [ix2])

/-- The first eight rows of the input block. -/
theorem head_rows (s : Fin 8) (l : Fin 128) :
    View.ld (Val := Elt Ideal) (S := S2048x128) (e' := .f32) X (Rect.unit ![0, 0] ![8, 128] inb_S2048x128_S8x128_0_0) (ix2 s l) = X (ix2 ⟨s.val, by omega⟩ l) :=
  View.ld_unit_apply_of (Val := Elt Ideal) (S := S2048x128) (e := .f32) X _ _ _ _ _ (fun b => by fin_cases b <;> simp [ix2])

theorem out2 (t : Fin cfg0.N) : outsAt0 (F := Ideal) m c t = res m c t := by
  unfold outsAt0
  frame_open
  simp (disch := decide) only [↓ View.readCov_skip, ↓ View.readCov_cons_toLoadRect, ↓ View.readCov_fill]
  frame_out
  rw [← View.read_writes_junk_eq_canon (ms0_2 t).view]
  funext y
  have hy : y = ix2 (y 0) (y 1) := by blk_ext
  refine (congrArg _ hy).trans ((rows _ _ _ _ (y 0) (y 1)).trans ?_)
  obtain ⟨-, -, -, ht⟩ := idx t
  have hn : t.val < 12 := t.isLt
  unfold res
  by_cases h : (y 0).val < 8
  · rw [dif_pos h, ht]
    exact pay1 (iblk m c 0 t) (iblk m c 1 t) t.val hn _ (head_rows (iblk m c 0 t)) ⟨(y 0).val, h⟩ (y 1)
  · rw [dif_neg h]
    refine (pay2 (iblk m c 0 t) (iblk m c 1 t) (grid0.coords t) (y 0) (by omega) (y 1)).trans ?_
    rw [ht]

theorem final2 : (dats m 0 c).arrAt 2 cfg0.N = Cert.Reference13Ideal.Read.val_main_v67 (F := Ideal) (m ((c : Thread nD τ).loc main_arg0)) (m ((c : Thread nD τ).loc main_arg1)) := by
  refine (dats m 0 c).arrAt_eq_of_covers 2 _ (by decide +kernel) fun t hf y => ?_
  obtain ⟨-, -, e, -⟩ := idx t
  blk_simp [e]
  rw [after0_2, out2]
  have h2 : (win0_2.blk t).view.emb y = ix2 (y 0) (col (hd t) (y 1)) := by
    unfold col hd
    blk_ext [e]
  refine Eq.trans ?_ ((congrArg _ h2).trans (r67 _ _ (hd t) (y 0) (y 1))).symm
  unfold res
  rw [in0, in1]
  rfl

end

theorem algebraic : Cert.algebraic_Kernel13Ideal_Reference13Ideal := by
  pair_intro
  · run_from Cert.Kernel13Ideal.Value.run_blocks m g
  · refine (θ_run Cert.Reference13Ideal.defs _ _).mono (fun r h c => ?_) (Cert.Reference13Ideal.Value.run (F := Ideal) m' g')
    obtain ⟨r0, rest⟩ := h c
    obtain ⟨a0, a1, a2⟩ := hagree c
    refine ⟨r0.trans ?_, rest⟩
    refine (Cert.Reference13Ideal.Read.val_main_v67_eq _ _).trans ?_
    rw [a0, a1]
    exact (final2 m c).symm

theorem frame_ref : Cert.quiescent_Reference13Ideal := fun m g _ =>
  (θ_run Cert.Reference13Ideal.defs _ _).mono
    (fun r h => ⟨fun c => (h c).2, sem_eq_zero_of_no_sems (by decide) r.2⟩)
    (Cert.Reference13Ideal.Value.run (F := Ideal) m g)

end Cert.GdnFwd
-- ==== Proof.AdamSpec.lean ====
/- One step of the optimiser at one entry: the first moment, the second moment, and the change of the weight. -/
module

public import Idealize.ShloMosaic.PureOps.Ideal
public import proofs.«01_k».proof.Proof.Reals

@[expose] public section

noncomputable section

namespace Cert.Adam

open Idealize.ShloMosaic

/-- The first moment after the step. -/
def mom (g m : EReal) : EReal := Ideal.ofBits .f32 0x3F666666#32 * m + Ideal.ofBits .f32 0x3DCCCCCD#32 * g
/-- The second moment after the step. -/
def sqm (g v : EReal) : EReal := Ideal.ofBits .f32 0x3F7FBE77#32 * v + Ideal.ofBits .f32 0x3A83126F#32 * (g * g)
/-- The change of a weight, from the two moments after the step. -/
def delta (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
      + Ideal.ofBits .f32 0x3C23D70A#32 * w)

end Cert.Adam
-- ==== Proof.AdamSquare.lean ====
/- The claims about the optimiser's step of a square weight: the kernel adds the eight devices' parts one after
   another, tile by tile; the reference sums over the devices. -/
module

public import proofs.«01_k».proof.Defs
public import proofs.«01_k».proof.Proof.AdamSpec
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.AdamSquare

open Idealize.ShloMosaic Idealize.ShloMosaic.TcCoe Idealize.SL.Sem Cert.Adam

local instance : Cert.Kernel14Ideal.Facts := Cert.Kernel14Ideal.Gen.facts
local instance : Cert.Reference14Ideal.Facts := Cert.Reference14Ideal.Gen.facts

section
open Cert.Kernel14Ideal Cert.Kernel14Ideal.Gen

/-- The `k`-th device's part of an entry. -/
def part (x : S8x128x1024.Idx → EReal) (r : Fin 128) (j : Fin 1024) (k : Fin 8) : EReal := x (ix3 k r j)

section
open Cert.Reference14Ideal.Read

theorem refg (x : S8x128x1024.Idx → EReal) (q : Fin 1) (r : Fin 128) (j : Fin 1024) :
    val_main_v2 (F := Ideal) x (ix3 q r j) = ∑ k, part x r j k := by
  pointwise [val_main_v2, val_main_v1, val_main_v0, val_main_cst]
  rfl

theorem refm (x : S8x128x1024.Idx → EReal) (m : S1x128x1024.Idx → EReal) (i : S1x128x1024.Idx) :
    val_main_v7 (F := Ideal) x m i = mom (val_main_v2 (F := Ideal) x i) (m i) := by
  idx_vars i
  pointwise [val_main_v7, val_main_v6, val_main_v5, val_main_v4, val_main_v3, val_main_cst_0, val_main_cst_1]
  rfl

theorem refv (x : S8x128x1024.Idx → EReal) (v : S1x128x1024.Idx → EReal) (i : S1x128x1024.Idx) :
    val_main_v13 (F := Ideal) x v i = sqm (val_main_v2 (F := Ideal) x i) (v i) := by
  idx_vars i
  pointwise [val_main_v13, val_main_v12, val_main_v11, val_main_v10, val_main_v9, val_main_v8, val_main_cst_2, val_main_cst_3]
  rfl

theorem refd (x : S8x128x1024.Idx → EReal) (w m v : S1x128x1024.Idx → EReal) (i : S1x128x1024.Idx) :
    val_main_v26 (F := Ideal) x w m v i
      = delta (w i) (val_main_v7 (F := Ideal) x m i) (val_main_v13 (F := Ideal) x v i) := by
  idx_vars i
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]
  rfl

end

theorem payg (x : S8x128x1024.Idx → EReal) (s : Fin 128) (j : Fin 1024) : k0_pay6 (F := Ideal) x (ix2 s j) = ∑ k : Fin 8, x (ix3 k s j) := by
  pointwise [k0_pay6]
  exact (Fin.sum_univ_eight fun k => x (ix3 k s j)).symm

theorem pay7 (x : S8x128x1024.Idx → EReal) (q : Fin 1) (s : Fin 128) (j : Fin 1024) : k0_pay7 (F := Ideal) x (ix3 q s j) = ∑ k : Fin 8, x (ix3 k s j) := by
  refine Eq.trans ?_ (payg x s j)
  unfold k0_pay7
  generalize k0_pay6 (F := Ideal) x = z
  pointwise

theorem paym (g : S128x1024.Idx → EReal) (m : S1x128x1024.Idx → EReal) (s : Fin 128) (j : Fin 1024) :
    k0_pay1 (F := Ideal) g (k0_pay9 m) k0_pay11 (ix2 s j) = mom (g (ix2 s j)) (m (ix3 0 s j)) := by
  pointwise [k0_pay1, k0_pay9, k0_pay11]
  rfl

theorem payv (g : S128x1024.Idx → EReal) (v : S1x128x1024.Idx → EReal) (s : Fin 128) (j : Fin 1024) :
    k0_pay2 (F := Ideal) g (k0_pay10 v) (ix2 s j) = sqm (g (ix2 s j)) (v (ix3 0 s j)) := by
  pointwise [k0_pay2, k0_pay10]
  rfl

theorem pay3 (g : S128x1024.Idx → EReal) (w m v : S1x128x1024.Idx → EReal) (q : Fin 1) (s : Fin 128) (j : Fin 1024) :
    k0_pay3 (F := Ideal) g (k0_pay8 w) (k0_pay9 m) (k0_pay10 v) k0_pay11 (ix3 q s j)
      = delta (w (ix3 0 s j)) (mom (g (ix2 s j)) (m (ix3 0 s j))) (sqm (g (ix2 s j)) (v (ix3 0 s j))) := by
  rw [← paym, ← payv]
  unfold k0_pay3
  generalize k0_pay1 (F := Ideal) g (k0_pay9 m) k0_pay11 = a
  generalize k0_pay2 (F := Ideal) g (k0_pay10 v) = b
  pointwise [k0_pay8]
  rfl

theorem pay4 (g : S128x1024.Idx → EReal) (m : S1x128x1024.Idx → EReal) (q : Fin 1) (s : Fin 128) (j : Fin 1024) :
    k0_pay4 (F := Ideal) g (k0_pay9 m) k0_pay11 (ix3 q s j) = mom (g (ix2 s j)) (m (ix3 0 s j)) := by
  refine Eq.trans ?_ (paym g m s j)
  unfold k0_pay4
  generalize k0_pay1 (F := Ideal) g (k0_pay9 m) k0_pay11 = z
  pointwise

theorem pay5 (g : S128x1024.Idx → EReal) (v : S1x128x1024.Idx → EReal) (q : Fin 1) (s : Fin 128) (j : Fin 1024) :
    k0_pay5 (F := Ideal) g (k0_pay10 v) (ix3 q s j) = sqm (g (ix2 s j)) (v (ix3 0 s j)) := by
  refine Eq.trans ?_ (payv g v s j)
  unfold k0_pay5
  generalize k0_pay2 (F := Ideal) g (k0_pay10 v) = z
  pointwise

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- Row `s` of the tile of a grid point. -/
def ro (t : Fin cfg0.N) (s : Fin 128) : Fin 128 := ⟨128 * t.val + s.val, by have h : t.val < 1 := t.isLt; omega⟩

theorem ldf (x : S8x128x1024.Idx → EReal) : View.ld (Val := Elt Ideal) (e' := .bf16) x r0_0 = x :=
  View.ld_unit_lit (Val := Elt Ideal) (S := S8x128x1024) (e := .bf16) _ x (by decide)

theorem ldw (x : S1x128x1024.Idx → EReal) : View.ld (Val := Elt Ideal) (e' := .f32) x r0_1 = x :=
  View.ld_unit_lit (Val := Elt Ideal) (S := S1x128x1024) (e := .f32) _ x (by decide)

theorem inp (t : Fin cfg0.N) (k : Fin 8) (s : Fin 128) (j : Fin 1024) : (iblk m c 0 t : S8x128x1024.Idx → EReal) (ix3 k s j)
    = part (m ((c : Thread nD τ).loc main_arg0)) (ro t s) j k := by
  obtain ⟨e, -, -, -, -, -, -, -⟩ := idx t
  blk_simp [iblk, e]
  rw [V_main_arg0]
  have h2 : (win0_0.blk t).view.emb (ix3 k s j) = ix3 k (ro t s) j := by
    unfold ro
    blk_ext [e]
  exact congrArg (m ((c : Thread nD τ).loc main_arg0) : S8x128x1024.Idx → EReal) h2

theorem in1 (t : Fin cfg0.N) (q : Fin 1) (s : Fin 128) (j : Fin 1024) : (iblk m c 1 t : S1x128x1024.Idx → EReal) (ix3 0 s j)
    = (m ((c : Thread nD τ).loc main_arg1) : S1x128x1024.Idx → EReal) (ix3 q (ro t s) j) := by
  obtain ⟨-, e, -, -, -, -, -, -⟩ := idx t
  blk_simp [iblk, e]
  rw [V_main_arg1]
  have h2 : (win0_1.blk t).view.emb (ix3 0 s j) = ix3 q (ro t s) j := by
    unfold ro
    blk_ext [e]
  exact congrArg (m ((c : Thread nD τ).loc main_arg1) : S1x128x1024.Idx → EReal) h2

theorem in2 (t : Fin cfg0.N) (q : Fin 1) (s : Fin 128) (j : Fin 1024) : (iblk m c 2 t : S1x128x1024.Idx → EReal) (ix3 0 s j)
    = (m ((c : Thread nD τ).loc main_arg2) : S1x128x1024.Idx → EReal) (ix3 q (ro t s) j) := by
  obtain ⟨-, -, e, -, -, -, -, -⟩ := idx t
  blk_simp [iblk, e]
  rw [V_main_arg2]
  have h2 : (win0_2.blk t).view.emb (ix3 0 s j) = ix3 q (ro t s) j := by
    unfold ro
    blk_ext [e]
  exact congrArg (m ((c : Thread nD τ).loc main_arg2) : S1x128x1024.Idx → EReal) h2

theorem in3 (t : Fin cfg0.N) (q : Fin 1) (s : Fin 128) (j : Fin 1024) : (iblk m c 3 t : S1x128x1024.Idx → EReal) (ix3 0 s j)
    = (m ((c : Thread nD τ).loc main_arg3) : S1x128x1024.Idx → EReal) (ix3 q (ro t s) j) := by
  obtain ⟨-, -, -, e, -, -, -, -⟩ := idx t
  blk_simp [iblk, e]
  rw [V_main_arg3]
  have h2 : (win0_3.blk t).view.emb (ix3 0 s j) = ix3 q (ro t s) j := by
    unfold ro
    blk_ext [e]
  exact congrArg (m ((c : Thread nD τ).loc main_arg3) : S1x128x1024.Idx → EReal) h2

theorem sum_eq (t : Fin cfg0.N) (q : Fin 1) (s : Fin 128) (j : Fin 1024) :
    k0_pay6 (F := Ideal) (iblk m c 0 t) (ix2 s j) = Cert.Reference14Ideal.Read.val_main_v2 (F := Ideal) (m ((c : Thread nD τ).loc main_arg0)) (ix3 q (ro t s) j) := by
  rw [payg]
  refine Eq.trans ?_ (refg _ q (ro t s) j).symm
  exact Finset.sum_congr rfl fun k _ => inp m c t k s j

theorem out4 (t : Fin cfg0.N) : out0_4 (F := Ideal) (iblk m c 0 t) (iblk m c 1 t) (iblk m c 2 t) (iblk m c 3 t)
    = k0_pay7 (F := Ideal) (iblk m c 0 t) := by
  unfold_out out0_4
  rw [View.canon_cons_unit_lit _ _ _ (by decide), ldf]

theorem blk4 (t : Fin cfg0.N) (q : Fin 1) (s : Fin 128) (j : Fin 1024) :
    k0_pay7 (F := Ideal) (iblk m c 0 t) (ix3 q s j)
      = Cert.Reference14Ideal.Read.val_main_v2 (F := Ideal) (m ((c : Thread nD τ).loc main_arg0)) (ix3 q (ro t s) j) := by
  refine (pay7 _ q s j).trans ?_
  rw [← payg]
  exact sum_eq m c t q s j

theorem final4 : (dats m 0 c).arrAt 4 cfg0.N = Cert.Reference14Ideal.Read.val_main_v2 (F := Ideal) (m ((c : Thread nD τ).loc main_arg0)) := by
  refine (dats m 0 c).arrAt_eq_of_covers 4 _ (by decide +kernel) fun t hf y => ?_
  obtain ⟨-, -, -, -, e, -, -, -⟩ := idx t
  blk_simp [e]
  rw [after0_4, out4]
  have h2 : (win0_4.blk t).view.emb y = ix3 (y 0 : Fin 1) (ro t (y 1)) (y 2) := by
    unfold ro
    blk_ext [e]
  have hy : y = ix3 (y 0) (y 1) (y 2) := by blk_ext
  exact (congrArg _ hy).trans ((blk4 m c t (y 0) (y 1) (y 2)).trans (congrArg _ h2).symm)

theorem out5 (t : Fin cfg0.N) : out0_5 (F := Ideal) (iblk m c 0 t) (iblk m c 1 t) (iblk m c 2 t) (iblk m c 3 t)
    = k0_pay3 (F := Ideal) (k0_pay6 (iblk m c 0 t)) (k0_pay8 (iblk m c 1 t)) (k0_pay9 (iblk m c 2 t)) (k0_pay10 (iblk m c 3 t)) k0_pay11 := by
  unfold_out out0_5
  rw [View.canon_cons_unit_lit _ _ _ (by decide), ldf, ldw, ldw, ldw]

theorem blk5 (t : Fin cfg0.N) (q : Fin 1) (s : Fin 128) (j : Fin 1024) :
    k0_pay3 (F := Ideal) (k0_pay6 (iblk m c 0 t)) (k0_pay8 (iblk m c 1 t)) (k0_pay9 (iblk m c 2 t)) (k0_pay10 (iblk m c 3 t)) k0_pay11 (ix3 q s j)
      = Cert.Reference14Ideal.Read.val_main_v26 (F := Ideal) (m ((c : Thread nD τ).loc main_arg0)) (m ((c : Thread nD τ).loc main_arg1)) (m ((c : Thread nD τ).loc main_arg2)) (m ((c : Thread nD τ).loc main_arg3)) (ix3 q (ro t s) j) := by
  refine Eq.trans ?_ (refd _ _ _ _ _).symm
  refine (pay3 _ _ _ _ q s j).trans ?_
  rw [sum_eq m c t q, in1 m c t q, in2 m c t q, in3 m c t q, refm, refv]

theorem final5 : (dats m 0 c).arrAt 5 cfg0.N = Cert.Reference14Ideal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e, -, -⟩ := idx t
  blk_simp [e]
  rw [after0_5, out5]
  have h2 : (win0_5.blk t).view.emb y = ix3 (y 0 : Fin 1) (ro t (y 1)) (y 2) := by
    unfold ro
    blk_ext [e]
  have hy : y = ix3 (y 0) (y 1) (y 2) := by blk_ext
  exact (congrArg _ hy).trans ((blk5 m c t (y 0) (y 1) (y 2)).trans (congrArg _ h2).symm)

theorem out6 (t : Fin cfg0.N) : out0_6 (F := Ideal) (iblk m c 0 t) (iblk m c 1 t) (iblk m c 2 t) (iblk m c 3 t)
    = k0_pay4 (F := Ideal) (k0_pay6 (iblk m c 0 t)) (k0_pay9 (iblk m c 2 t)) k0_pay11 := by
  unfold_out out0_6
  rw [View.canon_cons_unit_lit _ _ _ (by decide), ldf, ldw]

theorem blk6 (t : Fin cfg0.N) (q : Fin 1) (s : Fin 128) (j : Fin 1024) :
    k0_pay4 (F := Ideal) (k0_pay6 (iblk m c 0 t)) (k0_pay9 (iblk m c 2 t)) k0_pay11 (ix3 q s j)
      = Cert.Reference14Ideal.Read.val_main_v7 (F := Ideal) (m ((c : Thread nD τ).loc main_arg0)) (m ((c : Thread nD τ).loc main_arg2)) (ix3 q (ro t s) j) := by
  refine Eq.trans ?_ (refm _ _ _).symm
  refine (pay4 _ _ q s j).trans ?_
  rw [sum_eq m c t q, in2 m c t q]

theorem final6 : (dats m 0 c).arrAt 6 cfg0.N = Cert.Reference14Ideal.Read.val_main_v7 (F := Ideal) (m ((c : Thread nD τ).loc main_arg0)) (m ((c : Thread nD τ).loc main_arg2)) := by
  refine (dats m 0 c).arrAt_eq_of_covers 6 _ (by decide +kernel) fun t hf y => ?_
  obtain ⟨-, -, -, -, -, -, e, -⟩ := idx t
  blk_simp [e]
  rw [after0_6, out6]
  have h2 : (win0_6.blk t).view.emb y = ix3 (y 0 : Fin 1) (ro t (y 1)) (y 2) := by
    unfold ro
    blk_ext [e]
  have hy : y = ix3 (y 0) (y 1) (y 2) := by blk_ext
  exact (congrArg _ hy).trans ((blk6 m c t (y 0) (y 1) (y 2)).trans (congrArg _ h2).symm)

theorem out7 (t : Fin cfg0.N) : out0_7 (F := Ideal) (iblk m c 0 t) (iblk m c 1 t) (iblk m c 2 t) (iblk m c 3 t)
    = k0_pay5 (F := Ideal) (k0_pay6 (iblk m c 0 t)) (k0_pay10 (iblk m c 3 t)) := by
  unfold_out out0_7
  rw [View.canon_cons_unit_lit _ _ _ (by decide), ldf, ldw]

theorem blk7 (t : Fin cfg0.N) (q : Fin 1) (s : Fin 128) (j : Fin 1024) :
    k0_pay5 (F := Ideal) (k0_pay6 (iblk m c 0 t)) (k0_pay10 (iblk m c 3 t)) (ix3 q s j)
      = Cert.Reference14Ideal.Read.val_main_v13 (F := Ideal) (m ((c : Thread nD τ).loc main_arg0)) (m ((c : Thread nD τ).loc main_arg3)) (ix3 q (ro t s) j) := by
  refine Eq.trans ?_ (refv _ _ _).symm
  refine (pay5 _ _ q s j).trans ?_
  rw [sum_eq m c t q, in3 m c t q]

theorem final7 : (dats m 0 c).arrAt 7 cfg0.N = Cert.Reference14Ideal.Read.val_main_v13 (F := Ideal) (m ((c : Thread nD τ).loc main_arg0)) (m ((c : Thread nD τ).loc main_arg3)) := by
  refine (dats m 0 c).arrAt_eq_of_covers 7 _ (by decide +kernel) fun t hf y => ?_
  obtain ⟨-, -, -, -, -, -, -, e⟩ := idx t
  blk_simp [e]
  rw [after0_7, out7]
  have h2 : (win0_7.blk t).view.emb y = ix3 (y 0 : Fin 1) (ro t (y 1)) (y 2) := by
    unfold ro
    blk_ext [e]
  have hy : y = ix3 (y 0) (y 1) (y 2) := by blk_ext
  exact (congrArg _ hy).trans ((blk7 m c t (y 0) (y 1) (y 2)).trans (congrArg _ h2).symm)

end

theorem algebraic : Cert.algebraic_Kernel14Ideal_Reference14Ideal := by
  pair_intro
  · run_from Cert.Kernel14Ideal.Value.run_blocks m g
  · refine (θ_run Cert.Reference14Ideal.defs _ _).mono (fun r h c => ?_) (Cert.Reference14Ideal.Value.run (F := Ideal) m' g')
    obtain ⟨r0, r1, r2, r3, rest⟩ := h c
    obtain ⟨a0, a1, a2, a3⟩ := hagree c
    refine ⟨r0.trans ?_, r1.trans ?_, r2.trans ?_, r3.trans ?_, rest⟩
    · refine (Cert.Reference14Ideal.Read.val_main_v2_eq _).trans ?_
      rw [a0]
      exact (final4 m c).symm
    · refine (Cert.Reference14Ideal.Read.val_main_v26_eq _ _ _ _).trans ?_
      rw [a0, a1, a2, a3]
      exact (final5 m c).symm
    · refine (Cert.Reference14Ideal.Read.val_main_v7_eq _ _).trans ?_
      rw [a0, a2]
      exact (final6 m c).symm
    · refine (Cert.Reference14Ideal.Read.val_main_v13_eq _ _).trans ?_
      rw [a0, a3]
      exact (final7 m c).symm

theorem frame_ref : Cert.quiescent_Reference14Ideal := fun m g _ =>
  (θ_run Cert.Reference14Ideal.defs _ _).mono
    (fun r h => ⟨fun c => (h c).2.2.2.2, sem_eq_zero_of_no_sems (by decide) r.2⟩)
    (Cert.Reference14Ideal.Value.run (F := Ideal) m g)

end Cert.AdamSquare
-- ==== Proof.AdamUp.lean ====
/- The claims about the optimiser's step of the up projection's weight: the kernel adds the eight devices' parts one after
   another, tile by tile; the reference sums over the devices. -/
module

public import proofs.«01_k».proof.Defs
public import proofs.«01_k».proof.Proof.AdamSpec
public import proofs.«01_k».proof.Proof.Gen.Kernel15Ideal.Value
public import proofs.«01_k».proof.Proof.Gen.Reference15Ideal.Run
public import proofs.«01_k».proof.Proof.Gen.Reference15Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.AdamUp

open Idealize.ShloMosaic Idealize.ShloMosaic.TcCoe Idealize.SL.Sem Cert.Adam

local instance : Cert.Kernel15Ideal.Facts := Cert.Kernel15Ideal.Gen.facts
local instance : Cert.Reference15Ideal.Facts := Cert.Reference15Ideal.Gen.facts

section
open Cert.Kernel15Ideal Cert.Kernel15Ideal.Gen

/-- The `k`-th device's part of an entry. -/
def part (x : S8x1024x512.Idx → EReal) (r : Fin 1024) (j : Fin 512) (k : Fin 8) : EReal := x (ix3 k r j)

section
open Cert.Reference15Ideal.Read

theorem refg (x : S8x1024x512.Idx → EReal) (q : Fin 1) (r : Fin 1024) (j : Fin 512) :
    val_main_v2 (F := Ideal) x (ix3 q r j) = ∑ k, part x r j k := by
  pointwise [val_main_v2, val_main_v1, val_main_v0, val_main_cst]
  rfl

theorem refm (x : S8x1024x512.Idx → EReal) (m : S1x1024x512.Idx → EReal) (i : S1x1024x512.Idx) :
    val_main_v7 (F := Ideal) x m i = mom (val_main_v2 (F := Ideal) x i) (m i) := by
  idx_vars i
  pointwise [val_main_v7, val_main_v6, val_main_v5, val_main_v4, val_main_v3, val_main_cst_0, val_main_cst_1]
  rfl

theorem refv (x : S8x1024x512.Idx → EReal) (v : S1x1024x512.Idx → EReal) (i : S1x1024x512.Idx) :
    val_main_v13 (F := Ideal) x v i = sqm (val_main_v2 (F := Ideal) x i) (v i) := by
  idx_vars i
  pointwise [val_main_v13, val_main_v12, val_main_v11, val_main_v10, val_main_v9, val_main_v8, val_main_cst_2, val_main_cst_3]
  rfl

theorem refd (x : S8x1024x512.Idx → EReal) (w m v : S1x1024x512.Idx → EReal) (i : S1x1024x512.Idx) :
    val_main_v26 (F := Ideal) x w m v i
      = delta (w i) (val_main_v7 (F := Ideal) x m i) (val_main_v13 (F := Ideal) x v i) := by
  idx_vars i
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]
  rfl

end

theorem payg (x : S8x256x512.Idx → EReal) (s : Fin 256) (j : Fin 512) : k0_pay6 (F := Ideal) x (ix2 s j) = ∑ k : Fin 8, x (ix3 k s j) := by
  pointwise [k0_pay6]
  exact (Fin.sum_univ_eight fun k => x (ix3 k s j)).symm

theorem pay7 (x : S8x256x512.Idx → EReal) (q : Fin 1) (s : Fin 256) (j : Fin 512) : k0_pay7 (F := Ideal) x (ix3 q s j) = ∑ k : Fin 8, x (ix3 k s j) := by
  refine Eq.trans ?_ (payg x s j)
  unfold k0_pay7
  generalize k0_pay6 (F := Ideal) x = z
  pointwise

theorem paym (g : S256x512.Idx → EReal) (m : S1x256x512.Idx → EReal) (s : Fin 256) (j : Fin 512) :
    k0_pay1 (F := Ideal) g (k0_pay9 m) k0_pay11 (ix2 s j) = mom (g (ix2 s j)) (m (ix3 0 s j)) := by
  pointwise [k0_pay1, k0_pay9, k0_pay11]
  rfl

theorem payv (g : S256x512.Idx → EReal) (v : S1x256x512.Idx → EReal) (s : Fin 256) (j : Fin 512) :
    k0_pay2 (F := Ideal) g (k0_pay10 v) (ix2 s j) = sqm (g (ix2 s j)) (v (ix3 0 s j)) := by
  pointwise [k0_pay2, k0_pay10]
  rfl

theorem pay3 (g : S256x512.Idx → EReal) (w m v : S1x256x512.Idx → EReal) (q : Fin 1) (s : Fin 256) (j : Fin 512) :
    k0_pay3 (F := Ideal) g (k0_pay8 w) (k0_pay9 m) (k0_pay10 v) k0_pay11 (ix3 q s j)
      = delta (w (ix3 0 s j)) (mom (g (ix2 s j)) (m (ix3 0 s j))) (sqm (g (ix2 s j)) (v (ix3 0 s j))) := by
  rw [← paym, ← payv]
  unfold k0_pay3
  generalize k0_pay1 (F := Ideal) g (k0_pay9 m) k0_pay11 = a
  generalize k0_pay2 (F := Ideal) g (k0_pay10 v) = b
  pointwise [k0_pay8]
  rfl

theorem pay4 (g : S256x512.Idx → EReal) (m : S1x256x512.Idx → EReal) (q : Fin 1) (s : Fin 256) (j : Fin 512) :
    k0_pay4 (F := Ideal) g (k0_pay9 m) k0_pay11 (ix3 q s j) = mom (g (ix2 s j)) (m (ix3 0 s j)) := by
  refine Eq.trans ?_ (paym g m s j)
  unfold k0_pay4
  generalize k0_pay1 (F := Ideal) g (k0_pay9 m) k0_pay11 = z
  pointwise

theorem pay5 (g : S256x512.Idx → EReal) (v : S1x256x512.Idx → EReal) (q : Fin 1) (s : Fin 256) (j : Fin 512) :
    k0_pay5 (F := Ideal) g (k0_pay10 v) (ix3 q s j) = sqm (g (ix2 s j)) (v (ix3 0 s j)) := by
  refine Eq.trans ?_ (payv g v s j)
  unfold k0_pay5
  generalize k0_pay2 (F := Ideal) g (k0_pay10 v) = z
  pointwise

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- Row `s` of the tile of a grid point. -/
def ro (t : Fin cfg0.N) (s : Fin 256) : Fin 1024 := ⟨256 * t.val + s.val, by have h : t.val < 4 := t.isLt; omega⟩

theorem ldf (x : S8x256x512.Idx → EReal) : View.ld (Val := Elt Ideal) (e' := .bf16) x r0_0 = x :=
  View.ld_unit_lit (Val := Elt Ideal) (S := S8x256x512) (e := .bf16) _ x (by decide)

theorem ldw (x : S1x256x512.Idx → EReal) : View.ld (Val := Elt Ideal) (e' := .f32) x r0_1 = x :=
  View.ld_unit_lit (Val := Elt Ideal) (S := S1x256x512) (e := .f32) _ x (by decide)

theorem inp (t : Fin cfg0.N) (k : Fin 8) (s : Fin 256) (j : Fin 512) : (iblk m c 0 t : S8x256x512.Idx → EReal) (ix3 k s j)
    = part (m ((c : Thread nD τ).loc main_arg0)) (ro t s) j k := by
  obtain ⟨e, -, -, -, -, -, -, -⟩ := idx t
  blk_simp [iblk, e]
  rw [V_main_arg0]
  have h2 : (win0_0.blk t).view.emb (ix3 k s j) = ix3 k (ro t s) j := by
    unfold ro
    blk_ext [e]
  exact congrArg (m ((c : Thread nD τ).loc main_arg0) : S8x1024x512.Idx → EReal) h2

theorem in1 (t : Fin cfg0.N) (q : Fin 1) (s : Fin 256) (j : Fin 512) : (iblk m c 1 t : S1x256x512.Idx → EReal) (ix3 0 s j)
    = (m ((c : Thread nD τ).loc main_arg1) : S1x1024x512.Idx → EReal) (ix3 q (ro t s) j) := by
  obtain ⟨-, e, -, -, -, -, -, -⟩ := idx t
  blk_simp [iblk, e]
  rw [V_main_arg1]
  have h2 : (win0_1.blk t).view.emb (ix3 0 s j) = ix3 q (ro t s) j := by
    unfold ro
    blk_ext [e]
  exact congrArg (m ((c : Thread nD τ).loc main_arg1) : S1x1024x512.Idx → EReal) h2

theorem in2 (t : Fin cfg0.N) (q : Fin 1) (s : Fin 256) (j : Fin 512) : (iblk m c 2 t : S1x256x512.Idx → EReal) (ix3 0 s j)
    = (m ((c : Thread nD τ).loc main_arg2) : S1x1024x512.Idx → EReal) (ix3 q (ro t s) j) := by
  obtain ⟨-, -, e, -, -, -, -, -⟩ := idx t
  blk_simp [iblk, e]
  rw [V_main_arg2]
  have h2 : (win0_2.blk t).view.emb (ix3 0 s j) = ix3 q (ro t s) j := by
    unfold ro
    blk_ext [e]
  exact congrArg (m ((c : Thread nD τ).loc main_arg2) : S1x1024x512.Idx → EReal) h2

theorem in3 (t : Fin cfg0.N) (q : Fin 1) (s : Fin 256) (j : Fin 512) : (iblk m c 3 t : S1x256x512.Idx → EReal) (ix3 0 s j)
    = (m ((c : Thread nD τ).loc main_arg3) : S1x1024x512.Idx → EReal) (ix3 q (ro t s) j) := by
  obtain ⟨-, -, -, e, -, -, -, -⟩ := idx t
  blk_simp [iblk, e]
  rw [V_main_arg3]
  have h2 : (win0_3.blk t).view.emb (ix3 0 s j) = ix3 q (ro t s) j := by
    unfold ro
    blk_ext [e]
  exact congrArg (m ((c : Thread nD τ).loc main_arg3) : S1x1024x512.Idx → EReal) h2

theorem sum_eq (t : Fin cfg0.N) (q : Fin 1) (s : Fin 256) (j : Fin 512) :
    k0_pay6 (F := Ideal) (iblk m c 0 t) (ix2 s j) = Cert.Reference15Ideal.Read.val_main_v2 (F := Ideal) (m ((c : Thread nD τ).loc main_arg0)) (ix3 q (ro t s) j) := by
  rw [payg]
  refine Eq.trans ?_ (refg _ q (ro t s) j).symm
  exact Finset.sum_congr rfl fun k _ => inp m c t k s j

theorem out4 (t : Fin cfg0.N) : out0_4 (F := Ideal) (iblk m c 0 t) (iblk m c 1 t) (iblk m c 2 t) (iblk m c 3 t)
    = k0_pay7 (F := Ideal) (iblk m c 0 t) := by
  unfold_out out0_4
  rw [View.canon_cons_unit_lit _ _ _ (by decide), ldf]

theorem blk4 (t : Fin cfg0.N) (q : Fin 1) (s : Fin 256) (j : Fin 512) :
    k0_pay7 (F := Ideal) (iblk m c 0 t) (ix3 q s j)
      = Cert.Reference15Ideal.Read.val_main_v2 (F := Ideal) (m ((c : Thread nD τ).loc main_arg0)) (ix3 q (ro t s) j) := by
  refine (pay7 _ q s j).trans ?_
  rw [← payg]
  exact sum_eq m c t q s j

theorem final4 : (dats m 0 c).arrAt 4 cfg0.N = Cert.Reference15Ideal.Read.val_main_v2 (F := Ideal) (m ((c : Thread nD τ).loc main_arg0)) := by
  refine (dats m 0 c).arrAt_eq_of_covers 4 _ (by decide +kernel) fun t hf y => ?_
  obtain ⟨-, -, -, -, e, -, -, -⟩ := idx t
  blk_simp [e]
  rw [after0_4, out4]
  have h2 : (win0_4.blk t).view.emb y = ix3 (y 0 : Fin 1) (ro t (y 1)) (y 2) := by
    unfold ro
    blk_ext [e]
  have hy : y = ix3 (y 0) (y 1) (y 2) := by blk_ext
  exact (congrArg _ hy).trans ((blk4 m c t (y 0) (y 1) (y 2)).trans (congrArg _ h2).symm)

theorem out5 (t : Fin cfg0.N) : out0_5 (F := Ideal) (iblk m c 0 t) (iblk m c 1 t) (iblk m c 2 t) (iblk m c 3 t)
    = k0_pay3 (F := Ideal) (k0_pay6 (iblk m c 0 t)) (k0_pay8 (iblk m c 1 t)) (k0_pay9 (iblk m c 2 t)) (k0_pay10 (iblk m c 3 t)) k0_pay11 := by
  unfold_out out0_5
  rw [View.canon_cons_unit_lit _ _ _ (by decide), ldf, ldw, ldw, ldw]

theorem blk5 (t : Fin cfg0.N) (q : Fin 1) (s : Fin 256) (j : Fin 512) :
    k0_pay3 (F := Ideal) (k0_pay6 (iblk m c 0 t)) (k0_pay8 (iblk m c 1 t)) (k0_pay9 (iblk m c 2 t)) (k0_pay10 (iblk m c 3 t)) k0_pay11 (ix3 q s j)
      = Cert.Reference15Ideal.Read.val_main_v26 (F := Ideal) (m ((c : Thread nD τ).loc main_arg0)) (m ((c : Thread nD τ).loc main_arg1)) (m ((c : Thread nD τ).loc main_arg2)) (m ((c : Thread nD τ).loc main_arg3)) (ix3 q (ro t s) j) := by
  refine Eq.trans ?_ (refd _ _ _ _ _).symm
  refine (pay3 _ _ _ _ q s j).trans ?_
  rw [sum_eq m c t q, in1 m c t q, in2 m c t q, in3 m c t q, refm, refv]

theorem final5 : (dats m 0 c).arrAt 5 cfg0.N = Cert.Reference15Ideal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e, -, -⟩ := idx t
  blk_simp [e]
  rw [after0_5, out5]
  have h2 : (win0_5.blk t).view.emb y = ix3 (y 0 : Fin 1) (ro t (y 1)) (y 2) := by
    unfold ro
    blk_ext [e]
  have hy : y = ix3 (y 0) (y 1) (y 2) := by blk_ext
  exact (congrArg _ hy).trans ((blk5 m c t (y 0) (y 1) (y 2)).trans (congrArg _ h2).symm)

theorem out6 (t : Fin cfg0.N) : out0_6 (F := Ideal) (iblk m c 0 t) (iblk m c 1 t) (iblk m c 2 t) (iblk m c 3 t)
    = k0_pay4 (F := Ideal) (k0_pay6 (iblk m c 0 t)) (k0_pay9 (iblk m c 2 t)) k0_pay11 := by
  unfold_out out0_6
  rw [View.canon_cons_unit_lit _ _ _ (by decide), ldf, ldw]

theorem blk6 (t : Fin cfg0.N) (q : Fin 1) (s : Fin 256) (j : Fin 512) :
    k0_pay4 (F := Ideal) (k0_pay6 (iblk m c 0 t)) (k0_pay9 (iblk m c 2 t)) k0_pay11 (ix3 q s j)
      = Cert.Reference15Ideal.Read.val_main_v7 (F := Ideal) (m ((c : Thread nD τ).loc main_arg0)) (m ((c : Thread nD τ).loc main_arg2)) (ix3 q (ro t s) j) := by
  refine Eq.trans ?_ (refm _ _ _).symm
  refine (pay4 _ _ q s j).trans ?_
  rw [sum_eq m c t q, in2 m c t q]

theorem final6 : (dats m 0 c).arrAt 6 cfg0.N = Cert.Reference15Ideal.Read.val_main_v7 (F := Ideal) (m ((c : Thread nD τ).loc main_arg0)) (m ((c : Thread nD τ).loc main_arg2)) := by
  refine (dats m 0 c).arrAt_eq_of_covers 6 _ (by decide +kernel) fun t hf y => ?_
  obtain ⟨-, -, -, -, -, -, e, -⟩ := idx t
  blk_simp [e]
  rw [after0_6, out6]
  have h2 : (win0_6.blk t).view.emb y = ix3 (y 0 : Fin 1) (ro t (y 1)) (y 2) := by
    unfold ro
    blk_ext [e]
  have hy : y = ix3 (y 0) (y 1) (y 2) := by blk_ext
  exact (congrArg _ hy).trans ((blk6 m c t (y 0) (y 1) (y 2)).trans (congrArg _ h2).symm)

theorem out7 (t : Fin cfg0.N) : out0_7 (F := Ideal) (iblk m c 0 t) (iblk m c 1 t) (iblk m c 2 t) (iblk m c 3 t)
    = k0_pay5 (F := Ideal) (k0_pay6 (iblk m c 0 t)) (k0_pay10 (iblk m c 3 t)) := by
  unfold_out out0_7
  rw [View.canon_cons_unit_lit _ _ _ (by decide), ldf, ldw]

theorem blk7 (t : Fin cfg0.N) (q : Fin 1) (s : Fin 256) (j : Fin 512) :
    k0_pay5 (F := Ideal) (k0_pay6 (iblk m c 0 t)) (k0_pay10 (iblk m c 3 t)) (ix3 q s j)
      = Cert.Reference15Ideal.Read.val_main_v13 (F := Ideal) (m ((c : Thread nD τ).loc main_arg0)) (m ((c : Thread nD τ).loc main_arg3)) (ix3 q (ro t s) j) := by
  refine Eq.trans ?_ (refv _ _ _).symm
  refine (pay5 _ _ q s j).trans ?_
  rw [sum_eq m c t q, in3 m c t q]

theorem final7 : (dats m 0 c).arrAt 7 cfg0.N = Cert.Reference15Ideal.Read.val_main_v13 (F := Ideal) (m ((c : Thread nD τ).loc main_arg0)) (m ((c : Thread nD τ).loc main_arg3)) := by
  refine (dats m 0 c).arrAt_eq_of_covers 7 _ (by decide +kernel) fun t hf y => ?_
  obtain ⟨-, -, -, -, -, -, -, e⟩ := idx t
  blk_simp [e]
  rw [after0_7, out7]
  have h2 : (win0_7.blk t).view.emb y = ix3 (y 0 : Fin 1) (ro t (y 1)) (y 2) := by
    unfold ro
    blk_ext [e]
  have hy : y = ix3 (y 0) (y 1) (y 2) := by blk_ext
  exact (congrArg _ hy).trans ((blk7 m c t (y 0) (y 1) (y 2)).trans (congrArg _ h2).symm)

end

theorem algebraic : Cert.algebraic_Kernel15Ideal_Reference15Ideal := by
  pair_intro
  · run_from Cert.Kernel15Ideal.Value.run_blocks m g
  · refine (θ_run Cert.Reference15Ideal.defs _ _).mono (fun r h c => ?_) (Cert.Reference15Ideal.Value.run (F := Ideal) m' g')
    obtain ⟨r0, r1, r2, r3, rest⟩ := h c
    obtain ⟨a0, a1, a2, a3⟩ := hagree c
    refine ⟨r0.trans ?_, r1.trans ?_, r2.trans ?_, r3.trans ?_, rest⟩
    · refine (Cert.Reference15Ideal.Read.val_main_v2_eq _).trans ?_
      rw [a0]
      exact (final4 m c).symm
    · refine (Cert.Reference15Ideal.Read.val_main_v26_eq _ _ _ _).trans ?_
      rw [a0, a1, a2, a3]
      exact (final5 m c).symm
    · refine (Cert.Reference15Ideal.Read.val_main_v7_eq _ _).trans ?_
      rw [a0, a2]
      exact (final6 m c).symm
    · refine (Cert.Reference15Ideal.Read.val_main_v13_eq _ _).trans ?_
      rw [a0, a3]
      exact (final7 m c).symm

theorem frame_ref : Cert.quiescent_Reference15Ideal := fun m g _ =>
  (θ_run Cert.Reference15Ideal.defs _ _).mono
    (fun r h => ⟨fun c => (h c).2.2.2.2, sem_eq_zero_of_no_sems (by decide) r.2⟩)
    (Cert.Reference15Ideal.Value.run (F := Ideal) m g)

end Cert.AdamUp
-- ==== Proof.AdamDown.lean ====
/- The claims about the optimiser's step of the down projection's weight: the kernel adds the eight devices' parts one after
   another, tile by tile; the reference sums over the devices. -/
module

public import proofs.«01_k».proof.Defs
public import proofs.«01_k».proof.Proof.AdamSpec
public import proofs.«01_k».proof.Proof.Gen.Kernel16Ideal.Value
public import proofs.«01_k».proof.Proof.Gen.Reference16Ideal.Run
public import proofs.«01_k».proof.Proof.Gen.Reference16Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.AdamDown

open Idealize.ShloMosaic Idealize.ShloMosaic.TcCoe Idealize.SL.Sem Cert.Adam

local instance : Cert.Kernel16Ideal.Facts := Cert.Kernel16Ideal.Gen.facts
local instance : Cert.Reference16Ideal.Facts := Cert.Reference16Ideal.Gen.facts

section
open Cert.Kernel16Ideal Cert.Kernel16Ideal.Gen

/-- The `k`-th device's part of an entry. -/
def part (x : S8x512x1024.Idx → EReal) (r : Fin 512) (j : Fin 1024) (k : Fin 8) : EReal := x (ix3 k r j)

section
open Cert.Reference16Ideal.Read

theorem refg (x : S8x512x1024.Idx → EReal) (q : Fin 1) (r : Fin 512) (j : Fin 1024) :
    val_main_v2 (F := Ideal) x (ix3 q r j) = ∑ k, part x r j k := by
  pointwise [val_main_v2, val_main_v1, val_main_v0, val_main_cst]
  rfl

theorem refm (x : S8x512x1024.Idx → EReal) (m : S1x512x1024.Idx → EReal) (i : S1x512x1024.Idx) :
    val_main_v7 (F := Ideal) x m i = mom (val_main_v2 (F := Ideal) x i) (m i) := by
  idx_vars i
  pointwise [val_main_v7, val_main_v6, val_main_v5, val_main_v4, val_main_v3, val_main_cst_0, val_main_cst_1]
  rfl

theorem refv (x : S8x512x1024.Idx → EReal) (v : S1x512x1024.Idx → EReal) (i : S1x512x1024.Idx) :
    val_main_v13 (F := Ideal) x v i = sqm (val_main_v2 (F := Ideal) x i) (v i) := by
  idx_vars i
  pointwise [val_main_v13, val_main_v12, val_main_v11, val_main_v10, val_main_v9, val_main_v8, val_main_cst_2, val_main_cst_3]
  rfl

theorem refd (x : S8x512x1024.Idx → EReal) (w m v : S1x512x1024.Idx → EReal) (i : S1x512x1024.Idx) :
    val_main_v26 (F := Ideal) x w m v i
      = delta (w i) (val_main_v7 (F := Ideal) x m i) (val_main_v13 (F := Ideal) x v i) := by
  idx_vars i
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]
  rfl

end

theorem payg (x : S8x128x1024.Idx → EReal) (s : Fin 128) (j : Fin 1024) : k0_pay6 (F := Ideal) x (ix2 s j) = ∑ k : Fin 8, x (ix3 k s j) := by
  pointwise [k0_pay6]
  exact (Fin.sum_univ_eight fun k => x (ix3 k s j)).symm

theorem pay7 (x : S8x128x1024.Idx → EReal) (q : Fin 1) (s : Fin 128) (j : Fin 1024) : k0_pay7 (F := Ideal) x (ix3 q s j) = ∑ k : Fin 8, x (ix3 k s j) := by
  refine Eq.trans ?_ (payg x s j)
  unfold k0_pay7
  generalize k0_pay6 (F := Ideal) x = z
  pointwise

theorem paym (g : S128x1024.Idx → EReal) (m : S1x128x1024.Idx → EReal) (s : Fin 128) (j : Fin 1024) :
    k0_pay1 (F := Ideal) g (k0_pay9 m) k0_pay11 (ix2 s j) = mom (g (ix2 s j)) (m (ix3 0 s j)) := by
  pointwise [k0_pay1, k0_pay9, k0_pay11]
  rfl

theorem payv (g : S128x1024.Idx → EReal) (v : S1x128x1024.Idx → EReal) (s : Fin 128) (j : Fin 1024) :
    k0_pay2 (F := Ideal) g (k0_pay10 v) (ix2 s j) = sqm (g (ix2 s j)) (v (ix3 0 s j)) := by
  pointwise [k0_pay2, k0_pay10]
  rfl

theorem pay3 (g : S128x1024.Idx → EReal) (w m v : S1x128x1024.Idx → EReal) (q : Fin 1) (s : Fin 128) (j : Fin 1024) :
    k0_pay3 (F := Ideal) g (k0_pay8 w) (k0_pay9 m) (k0_pay10 v) k0_pay11 (ix3 q s j)
      = delta (w (ix3 0 s j)) (mom (g (ix2 s j)) (m (ix3 0 s j))) (sqm (g (ix2 s j)) (v (ix3 0 s j))) := by
  rw [← paym, ← payv]
  unfold k0_pay3
  generalize k0_pay1 (F := Ideal) g (k0_pay9 m) k0_pay11 = a
  generalize k0_pay2 (F := Ideal) g (k0_pay10 v) = b
  pointwise [k0_pay8]
  rfl

theorem pay4 (g : S128x1024.Idx → EReal) (m : S1x128x1024.Idx → EReal) (q : Fin 1) (s : Fin 128) (j : Fin 1024) :
    k0_pay4 (F := Ideal) g (k0_pay9 m) k0_pay11 (ix3 q s j) = mom (g (ix2 s j)) (m (ix3 0 s j)) := by
  refine Eq.trans ?_ (paym g m s j)
  unfold k0_pay4
  generalize k0_pay1 (F := Ideal) g (k0_pay9 m) k0_pay11 = z
  pointwise

theorem pay5 (g : S128x1024.Idx → EReal) (v : S1x128x1024.Idx → EReal) (q : Fin 1) (s : Fin 128) (j : Fin 1024) :
    k0_pay5 (F := Ideal) g (k0_pay10 v) (ix3 q s j) = sqm (g (ix2 s j)) (v (ix3 0 s j)) := by
  refine Eq.trans ?_ (payv g v s j)
  unfold k0_pay5
  generalize k0_pay2 (F := Ideal) g (k0_pay10 v) = z
  pointwise

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- Row `s` of the tile of a grid point. -/
def ro (t : Fin cfg0.N) (s : Fin 128) : Fin 512 := ⟨128 * t.val + s.val, by have h : t.val < 4 := t.isLt; omega⟩

theorem ldf (x : S8x128x1024.Idx → EReal) : View.ld (Val := Elt Ideal) (e' := .bf16) x r0_0 = x :=
  View.ld_unit_lit (Val := Elt Ideal) (S := S8x128x1024) (e := .bf16) _ x (by decide)

theorem ldw (x : S1x128x1024.Idx → EReal) : View.ld (Val := Elt Ideal) (e' := .f32) x r0_1 = x :=
  View.ld_unit_lit (Val := Elt Ideal) (S := S1x128x1024) (e := .f32) _ x (by decide)

theorem inp (t : Fin cfg0.N) (k : Fin 8) (s : Fin 128) (j : Fin 1024) : (iblk m c 0 t : S8x128x1024.Idx → EReal) (ix3 k s j)
    = part (m ((c : Thread nD τ).loc main_arg0)) (ro t s) j k := by
  obtain ⟨e, -, -, -, -, -, -, -⟩ := idx t
  blk_simp [iblk, e]
  rw [V_main_arg0]
  have h2 : (win0_0.blk t).view.emb (ix3 k s j) = ix3 k (ro t s) j := by
    unfold ro
    blk_ext [e]
  exact congrArg (m ((c : Thread nD τ).loc main_arg0) : S8x512x1024.Idx → EReal) h2

theorem in1 (t : Fin cfg0.N) (q : Fin 1) (s : Fin 128) (j : Fin 1024) : (iblk m c 1 t : S1x128x1024.Idx → EReal) (ix3 0 s j)
    = (m ((c : Thread nD τ).loc main_arg1) : S1x512x1024.Idx → EReal) (ix3 q (ro t s) j) := by
  obtain ⟨-, e, -, -, -, -, -, -⟩ := idx t
  blk_simp [iblk, e]
  rw [V_main_arg1]
  have h2 : (win0_1.blk t).view.emb (ix3 0 s j) = ix3 q (ro t s) j := by
    unfold ro
    blk_ext [e]
  exact congrArg (m ((c : Thread nD τ).loc main_arg1) : S1x512x1024.Idx → EReal) h2

theorem in2 (t : Fin cfg0.N) (q : Fin 1) (s : Fin 128) (j : Fin 1024) : (iblk m c 2 t : S1x128x1024.Idx → EReal) (ix3 0 s j)
    = (m ((c : Thread nD τ).loc main_arg2) : S1x512x1024.Idx → EReal) (ix3 q (ro t s) j) := by
  obtain ⟨-, -, e, -, -, -, -, -⟩ := idx t
  blk_simp [iblk, e]
  rw [V_main_arg2]
  have h2 : (win0_2.blk t).view.emb (ix3 0 s j) = ix3 q (ro t s) j := by
    unfold ro
    blk_ext [e]
  exact congrArg (m ((c : Thread nD τ).loc main_arg2) : S1x512x1024.Idx → EReal) h2

theorem in3 (t : Fin cfg0.N) (q : Fin 1) (s : Fin 128) (j : Fin 1024) : (iblk m c 3 t : S1x128x1024.Idx → EReal) (ix3 0 s j)
    = (m ((c : Thread nD τ).loc main_arg3) : S1x512x1024.Idx → EReal) (ix3 q (ro t s) j) := by
  obtain ⟨-, -, -, e, -, -, -, -⟩ := idx t
  blk_simp [iblk, e]
  rw [V_main_arg3]
  have h2 : (win0_3.blk t).view.emb (ix3 0 s j) = ix3 q (ro t s) j := by
    unfold ro
    blk_ext [e]
  exact congrArg (m ((c : Thread nD τ).loc main_arg3) : S1x512x1024.Idx → EReal) h2

theorem sum_eq (t : Fin cfg0.N) (q : Fin 1) (s : Fin 128) (j : Fin 1024) :
    k0_pay6 (F := Ideal) (iblk m c 0 t) (ix2 s j) = Cert.Reference16Ideal.Read.val_main_v2 (F := Ideal) (m ((c : Thread nD τ).loc main_arg0)) (ix3 q (ro t s) j) := by
  rw [payg]
  refine Eq.trans ?_ (refg _ q (ro t s) j).symm
  exact Finset.sum_congr rfl fun k _ => inp m c t k s j

theorem out4 (t : Fin cfg0.N) : out0_4 (F := Ideal) (iblk m c 0 t) (iblk m c 1 t) (iblk m c 2 t) (iblk m c 3 t)
    = k0_pay7 (F := Ideal) (iblk m c 0 t) := by
  unfold_out out0_4
  rw [View.canon_cons_unit_lit _ _ _ (by decide), ldf]

theorem blk4 (t : Fin cfg0.N) (q : Fin 1) (s : Fin 128) (j : Fin 1024) :
    k0_pay7 (F := Ideal) (iblk m c 0 t) (ix3 q s j)
      = Cert.Reference16Ideal.Read.val_main_v2 (F := Ideal) (m ((c : Thread nD τ).loc main_arg0)) (ix3 q (ro t s) j) := by
  refine (pay7 _ q s j).trans ?_
  rw [← payg]
  exact sum_eq m c t q s j

theorem final4 : (dats m 0 c).arrAt 4 cfg0.N = Cert.Reference16Ideal.Read.val_main_v2 (F := Ideal) (m ((c : Thread nD τ).loc main_arg0)) := by
  refine (dats m 0 c).arrAt_eq_of_covers 4 _ (by decide +kernel) fun t hf y => ?_
  obtain ⟨-, -, -, -, e, -, -, -⟩ := idx t
  blk_simp [e]
  rw [after0_4, out4]
  have h2 : (win0_4.blk t).view.emb y = ix3 (y 0 : Fin 1) (ro t (y 1)) (y 2) := by
    unfold ro
    blk_ext [e]
  have hy : y = ix3 (y 0) (y 1) (y 2) := by blk_ext
  exact (congrArg _ hy).trans ((blk4 m c t (y 0) (y 1) (y 2)).trans (congrArg _ h2).symm)

theorem out5 (t : Fin cfg0.N) : out0_5 (F := Ideal) (iblk m c 0 t) (iblk m c 1 t) (iblk m c 2 t) (iblk m c 3 t)
    = k0_pay3 (F := Ideal) (k0_pay6 (iblk m c 0 t)) (k0_pay8 (iblk m c 1 t)) (k0_pay9 (iblk m c 2 t)) (k0_pay10 (iblk m c 3 t)) k0_pay11 := by
  unfold_out out0_5
  rw [View.canon_cons_unit_lit _ _ _ (by decide), ldf, ldw, ldw, ldw]

theorem blk5 (t : Fin cfg0.N) (q : Fin 1) (s : Fin 128) (j : Fin 1024) :
    k0_pay3 (F := Ideal) (k0_pay6 (iblk m c 0 t)) (k0_pay8 (iblk m c 1 t)) (k0_pay9 (iblk m c 2 t)) (k0_pay10 (iblk m c 3 t)) k0_pay11 (ix3 q s j)
      = Cert.Reference16Ideal.Read.val_main_v26 (F := Ideal) (m ((c : Thread nD τ).loc main_arg0)) (m ((c : Thread nD τ).loc main_arg1)) (m ((c : Thread nD τ).loc main_arg2)) (m ((c : Thread nD τ).loc main_arg3)) (ix3 q (ro t s) j) := by
  refine Eq.trans ?_ (refd _ _ _ _ _).symm
  refine (pay3 _ _ _ _ q s j).trans ?_
  rw [sum_eq m c t q, in1 m c t q, in2 m c t q, in3 m c t q, refm, refv]

theorem final5 : (dats m 0 c).arrAt 5 cfg0.N = Cert.Reference16Ideal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e, -, -⟩ := idx t
  blk_simp [e]
  rw [after0_5, out5]
  have h2 : (win0_5.blk t).view.emb y = ix3 (y 0 : Fin 1) (ro t (y 1)) (y 2) := by
    unfold ro
    blk_ext [e]
  have hy : y = ix3 (y 0) (y 1) (y 2) := by blk_ext
  exact (congrArg _ hy).trans ((blk5 m c t (y 0) (y 1) (y 2)).trans (congrArg _ h2).symm)

theorem out6 (t : Fin cfg0.N) : out0_6 (F := Ideal) (iblk m c 0 t) (iblk m c 1 t) (iblk m c 2 t) (iblk m c 3 t)
    = k0_pay4 (F := Ideal) (k0_pay6 (iblk m c 0 t)) (k0_pay9 (iblk m c 2 t)) k0_pay11 := by
  unfold_out out0_6
  rw [View.canon_cons_unit_lit _ _ _ (by decide), ldf, ldw]

theorem blk6 (t : Fin cfg0.N) (q : Fin 1) (s : Fin 128) (j : Fin 1024) :
    k0_pay4 (F := Ideal) (k0_pay6 (iblk m c 0 t)) (k0_pay9 (iblk m c 2 t)) k0_pay11 (ix3 q s j)
      = Cert.Reference16Ideal.Read.val_main_v7 (F := Ideal) (m ((c : Thread nD τ).loc main_arg0)) (m ((c : Thread nD τ).loc main_arg2)) (ix3 q (ro t s) j) := by
  refine Eq.trans ?_ (refm _ _ _).symm
  refine (pay4 _ _ q s j).trans ?_
  rw [sum_eq m c t q, in2 m c t q]

theorem final6 : (dats m 0 c).arrAt 6 cfg0.N = Cert.Reference16Ideal.Read.val_main_v7 (F := Ideal) (m ((c : Thread nD τ).loc main_arg0)) (m ((c : Thread nD τ).loc main_arg2)) := by
  refine (dats m 0 c).arrAt_eq_of_covers 6 _ (by decide +kernel) fun t hf y => ?_
  obtain ⟨-, -, -, -, -, -, e, -⟩ := idx t
  blk_simp [e]
  rw [after0_6, out6]
  have h2 : (win0_6.blk t).view.emb y = ix3 (y 0 : Fin 1) (ro t (y 1)) (y 2) := by
    unfold ro
    blk_ext [e]
  have hy : y = ix3 (y 0) (y 1) (y 2) := by blk_ext
  exact (congrArg _ hy).trans ((blk6 m c t (y 0) (y 1) (y 2)).trans (congrArg _ h2).symm)

theorem out7 (t : Fin cfg0.N) : out0_7 (F := Ideal) (iblk m c 0 t) (iblk m c 1 t) (iblk m c 2 t) (iblk m c 3 t)
    = k0_pay5 (F := Ideal) (k0_pay6 (iblk m c 0 t)) (k0_pay10 (iblk m c 3 t)) := by
  unfold_out out0_7
  rw [View.canon_cons_unit_lit _ _ _ (by decide), ldf, ldw]

theorem blk7 (t : Fin cfg0.N) (q : Fin 1) (s : Fin 128) (j : Fin 1024) :
    k0_pay5 (F := Ideal) (k0_pay6 (iblk m c 0 t)) (k0_pay10 (iblk m c 3 t)) (ix3 q s j)
      = Cert.Reference16Ideal.Read.val_main_v13 (F := Ideal) (m ((c : Thread nD τ).loc main_arg0)) (m ((c : Thread nD τ).loc main_arg3)) (ix3 q (ro t s) j) := by
  refine Eq.trans ?_ (refv _ _ _).symm
  refine (pay5 _ _ q s j).trans ?_
  rw [sum_eq m c t q, in3 m c t q]

theorem final7 : (dats m 0 c).arrAt 7 cfg0.N = Cert.Reference16Ideal.Read.val_main_v13 (F := Ideal) (m ((c : Thread nD τ).loc main_arg0)) (m ((c : Thread nD τ).loc main_arg3)) := by
  refine (dats m 0 c).arrAt_eq_of_covers 7 _ (by decide +kernel) fun t hf y => ?_
  obtain ⟨-, -, -, -, -, -, -, e⟩ := idx t
  blk_simp [e]
  rw [after0_7, out7]
  have h2 : (win0_7.blk t).view.emb y = ix3 (y 0 : Fin 1) (ro t (y 1)) (y 2) := by
    unfold ro
    blk_ext [e]
  have hy : y = ix3 (y 0) (y 1) (y 2) := by blk_ext
  exact (congrArg _ hy).trans ((blk7 m c t (y 0) (y 1) (y 2)).trans (congrArg _ h2).symm)

end

theorem algebraic : Cert.algebraic_Kernel16Ideal_Reference16Ideal := by
  pair_intro
  · run_from Cert.Kernel16Ideal.Value.run_blocks m g
  · refine (θ_run Cert.Reference16Ideal.defs _ _).mono (fun r h c => ?_) (Cert.Reference16Ideal.Value.run (F := Ideal) m' g')
    obtain ⟨r0, r1, r2, r3, rest⟩ := h c
    obtain ⟨a0, a1, a2, a3⟩ := hagree c
    refine ⟨r0.trans ?_, r1.trans ?_, r2.trans ?_, r3.trans ?_, rest⟩
    · refine (Cert.Reference16Ideal.Read.val_main_v2_eq _).trans ?_
      rw [a0]
      exact (final4 m c).symm
    · refine (Cert.Reference16Ideal.Read.val_main_v26_eq _ _ _ _).trans ?_
      rw [a0, a1, a2, a3]
      exact (final5 m c).symm
    · refine (Cert.Reference16Ideal.Read.val_main_v7_eq _ _).trans ?_
      rw [a0, a2]
      exact (final6 m c).symm
    · refine (Cert.Reference16Ideal.Read.val_main_v13_eq _ _).trans ?_
      rw [a0, a3]
      exact (final7 m c).symm

theorem frame_ref : Cert.quiescent_Reference16Ideal := fun m g _ =>
  (θ_run Cert.Reference16Ideal.defs _ _).mono
    (fun r h => ⟨fun c => (h c).2.2.2.2, sem_eq_zero_of_no_sems (by decide) r.2⟩)
    (Cert.Reference16Ideal.Value.run (F := Ideal) m g)

end Cert.AdamDown
-- ==== Proof.AdamPle.lean ====
/- The claims about the optimiser's step of the per-layer embedding's weight: the kernel adds the eight devices' parts one after
   another, tile by tile; the reference sums over the devices. -/
module

public import proofs.«01_k».proof.Defs
public import proofs.«01_k».proof.Proof.AdamSpec
public import proofs.«01_k».proof.Proof.Gen.Kernel17Ideal.Value
public import proofs.«01_k».proof.Proof.Gen.Reference17Ideal.Run
public import proofs.«01_k».proof.Proof.Gen.Reference17Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.AdamPle

open Idealize.ShloMosaic Idealize.ShloMosaic.TcCoe Idealize.SL.Sem Cert.Adam

local instance : Cert.Kernel17Ideal.Facts := Cert.Kernel17Ideal.Gen.facts
local instance : Cert.Reference17Ideal.Facts := Cert.Reference17Ideal.Gen.facts

section
open Cert.Kernel17Ideal Cert.Kernel17Ideal.Gen

/-- The `k`-th device's part of an entry. -/
def part (x : S8x256x128.Idx → EReal) (r : Fin 256) (j : Fin 128) (k : Fin 8) : EReal := x (ix3 k r j)

section
open Cert.Reference17Ideal.Read

theorem refg (x : S8x256x128.Idx → EReal) (q : Fin 1) (r : Fin 256) (j : Fin 128) :
    val_main_v2 (F := Ideal) x (ix3 q r j) = ∑ k, part x r j k := by
  pointwise [val_main_v2, val_main_v1, val_main_v0, val_main_cst]
  rfl

theorem refm (x : S8x256x128.Idx → EReal) (m : S1x256x128.Idx → EReal) (i : S1x256x128.Idx) :
    val_main_v7 (F := Ideal) x m i = mom (val_main_v2 (F := Ideal) x i) (m i) := by
  idx_vars i
  pointwise [val_main_v7, val_main_v6, val_main_v5, val_main_v4, val_main_v3, val_main_cst_0, val_main_cst_1]
  rfl

theorem refv (x : S8x256x128.Idx → EReal) (v : S1x256x128.Idx → EReal) (i : S1x256x128.Idx) :
    val_main_v13 (F := Ideal) x v i = sqm (val_main_v2 (F := Ideal) x i) (v i) := by
  idx_vars i
  pointwise [val_main_v13, val_main_v12, val_main_v11, val_main_v10, val_main_v9, val_main_v8, val_main_cst_2, val_main_cst_3]
  rfl

theorem refd (x : S8x256x128.Idx → EReal) (w m v : S1x256x128.Idx → EReal) (i : S1x256x128.Idx) :
    val_main_v26 (F := Ideal) x w m v i
      = delta (w i) (val_main_v7 (F := Ideal) x m i) (val_main_v13 (F := Ideal) x v i) := by
  idx_vars i
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]
  rfl

end

theorem payg (x : S8x256x128.Idx → EReal) (s : Fin 256) (j : Fin 128) : k0_pay6 (F := Ideal) x (ix2 s j) = ∑ k : Fin 8, x (ix3 k s j) := by
  pointwise [k0_pay6]
  exact (Fin.sum_univ_eight fun k => x (ix3 k s j)).symm

theorem pay7 (x : S8x256x128.Idx → EReal) (q : Fin 1) (s : Fin 256) (j : Fin 128) : k0_pay7 (F := Ideal) x (ix3 q s j) = ∑ k : Fin 8, x (ix3 k s j) := by
  refine Eq.trans ?_ (payg x s j)
  unfold k0_pay7
  generalize k0_pay6 (F := Ideal) x = z
  pointwise

theorem paym (g : S256x128.Idx → EReal) (m : S1x256x128.Idx → EReal) (s : Fin 256) (j : Fin 128) :
    k0_pay1 (F := Ideal) g (k0_pay9 m) k0_pay11 (ix2 s j) = mom (g (ix2 s j)) (m (ix3 0 s j)) := by
  pointwise [k0_pay1, k0_pay9, k0_pay11]
  rfl

theorem payv (g : S256x128.Idx → EReal) (v : S1x256x128.Idx → EReal) (s : Fin 256) (j : Fin 128) :
    k0_pay2 (F := Ideal) g (k0_pay10 v) (ix2 s j) = sqm (g (ix2 s j)) (v (ix3 0 s j)) := by
  pointwise [k0_pay2, k0_pay10]
  rfl

theorem pay3 (g : S256x128.Idx → EReal) (w m v : S1x256x128.Idx → EReal) (q : Fin 1) (s : Fin 256) (j : Fin 128) :
    k0_pay3 (F := Ideal) g (k0_pay8 w) (k0_pay9 m) (k0_pay10 v) k0_pay11 (ix3 q s j)
      = delta (w (ix3 0 s j)) (mom (g (ix2 s j)) (m (ix3 0 s j))) (sqm (g (ix2 s j)) (v (ix3 0 s j))) := by
  rw [← paym, ← payv]
  unfold k0_pay3
  generalize k0_pay1 (F := Ideal) g (k0_pay9 m) k0_pay11 = a
  generalize k0_pay2 (F := Ideal) g (k0_pay10 v) = b
  pointwise [k0_pay8]
  rfl

theorem pay4 (g : S256x128.Idx → EReal) (m : S1x256x128.Idx → EReal) (q : Fin 1) (s : Fin 256) (j : Fin 128) :
    k0_pay4 (F := Ideal) g (k0_pay9 m) k0_pay11 (ix3 q s j) = mom (g (ix2 s j)) (m (ix3 0 s j)) := by
  refine Eq.trans ?_ (paym g m s j)
  unfold k0_pay4
  generalize k0_pay1 (F := Ideal) g (k0_pay9 m) k0_pay11 = z
  pointwise

theorem pay5 (g : S256x128.Idx → EReal) (v : S1x256x128.Idx → EReal) (q : Fin 1) (s : Fin 256) (j : Fin 128) :
    k0_pay5 (F := Ideal) g (k0_pay10 v) (ix3 q s j) = sqm (g (ix2 s j)) (v (ix3 0 s j)) := by
  refine Eq.trans ?_ (payv g v s j)
  unfold k0_pay5
  generalize k0_pay2 (F := Ideal) g (k0_pay10 v) = z
  pointwise

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- Row `s` of the tile of a grid point. -/
def ro (t : Fin cfg0.N) (s : Fin 256) : Fin 256 := ⟨256 * t.val + s.val, by have h : t.val < 1 := t.isLt; omega⟩

theorem ldf (x : S8x256x128.Idx → EReal) : View.ld (Val := Elt Ideal) (e' := .bf16) x r0_0 = x :=
  View.ld_unit_lit (Val := Elt Ideal) (S := S8x256x128) (e := .bf16) _ x (by decide)

theorem ldw (x : S1x256x128.Idx → EReal) : View.ld (Val := Elt Ideal) (e' := .f32) x r0_1 = x :=
  View.ld_unit_lit (Val := Elt Ideal) (S := S1x256x128) (e := .f32) _ x (by decide)

theorem inp (t : Fin cfg0.N) (k : Fin 8) (s : Fin 256) (j : Fin 128) : (iblk m c 0 t : S8x256x128.Idx → EReal) (ix3 k s j)
    = part (m ((c : Thread nD τ).loc main_arg0)) (ro t s) j k := by
  obtain ⟨e, -, -, -, -, -, -, -⟩ := idx t
  blk_simp [iblk, e]
  rw [V_main_arg0]
  have h2 : (win0_0.blk t).view.emb (ix3 k s j) = ix3 k (ro t s) j := by
    unfold ro
    blk_ext [e]
  exact congrArg (m ((c : Thread nD τ).loc main_arg0) : S8x256x128.Idx → EReal) h2

theorem in1 (t : Fin cfg0.N) (q : Fin 1) (s : Fin 256) (j : Fin 128) : (iblk m c 1 t : S1x256x128.Idx → EReal) (ix3 0 s j)
    = (m ((c : Thread nD τ).loc main_arg1) : S1x256x128.Idx → EReal) (ix3 q (ro t s) j) := by
  obtain ⟨-, e, -, -, -, -, -, -⟩ := idx t
  blk_simp [iblk, e]
  rw [V_main_arg1]
  have h2 : (win0_1.blk t).view.emb (ix3 0 s j) = ix3 q (ro t s) j := by
    unfold ro
    blk_ext [e]
  exact congrArg (m ((c : Thread nD τ).loc main_arg1) : S1x256x128.Idx → EReal) h2

theorem in2 (t : Fin cfg0.N) (q : Fin 1) (s : Fin 256) (j : Fin 128) : (iblk m c 2 t : S1x256x128.Idx → EReal) (ix3 0 s j)
    = (m ((c : Thread nD τ).loc main_arg2) : S1x256x128.Idx → EReal) (ix3 q (ro t s) j) := by
  obtain ⟨-, -, e, -, -, -, -, -⟩ := idx t
  blk_simp [iblk, e]
  rw [V_main_arg2]
  have h2 : (win0_2.blk t).view.emb (ix3 0 s j) = ix3 q (ro t s) j := by
    unfold ro
    blk_ext [e]
  exact congrArg (m ((c : Thread nD τ).loc main_arg2) : S1x256x128.Idx → EReal) h2

theorem in3 (t : Fin cfg0.N) (q : Fin 1) (s : Fin 256) (j : Fin 128) : (iblk m c 3 t : S1x256x128.Idx → EReal) (ix3 0 s j)
    = (m ((c : Thread nD τ).loc main_arg3) : S1x256x128.Idx → EReal) (ix3 q (ro t s) j) := by
  obtain ⟨-, -, -, e, -, -, -, -⟩ := idx t
  blk_simp [iblk, e]
  rw [V_main_arg3]
  have h2 : (win0_3.blk t).view.emb (ix3 0 s j) = ix3 q (ro t s) j := by
    unfold ro
    blk_ext [e]
  exact congrArg (m ((c : Thread nD τ).loc main_arg3) : S1x256x128.Idx → EReal) h2

theorem sum_eq (t : Fin cfg0.N) (q : Fin 1) (s : Fin 256) (j : Fin 128) :
    k0_pay6 (F := Ideal) (iblk m c 0 t) (ix2 s j) = Cert.Reference17Ideal.Read.val_main_v2 (F := Ideal) (m ((c : Thread nD τ).loc main_arg0)) (ix3 q (ro t s) j) := by
  rw [payg]
  refine Eq.trans ?_ (refg _ q (ro t s) j).symm
  exact Finset.sum_congr rfl fun k _ => inp m c t k s j

theorem out4 (t : Fin cfg0.N) : out0_4 (F := Ideal) (iblk m c 0 t) (iblk m c 1 t) (iblk m c 2 t) (iblk m c 3 t)
    = k0_pay7 (F := Ideal) (iblk m c 0 t) := by
  unfold_out out0_4
  rw [View.canon_cons_unit_lit _ _ _ (by decide), ldf]

theorem blk4 (t : Fin cfg0.N) (q : Fin 1) (s : Fin 256) (j : Fin 128) :
    k0_pay7 (F := Ideal) (iblk m c 0 t) (ix3 q s j)
      = Cert.Reference17Ideal.Read.val_main_v2 (F := Ideal) (m ((c : Thread nD τ).loc main_arg0)) (ix3 q (ro t s) j) := by
  refine (pay7 _ q s j).trans ?_
  rw [← payg]
  exact sum_eq m c t q s j

theorem final4 : (dats m 0 c).arrAt 4 cfg0.N = Cert.Reference17Ideal.Read.val_main_v2 (F := Ideal) (m ((c : Thread nD τ).loc main_arg0)) := by
  refine (dats m 0 c).arrAt_eq_of_covers 4 _ (by decide +kernel) fun t hf y => ?_
  obtain ⟨-, -, -, -, e, -, -, -⟩ := idx t
  blk_simp [e]
  rw [after0_4, out4]
  have h2 : (win0_4.blk t).view.emb y = ix3 (y 0 : Fin 1) (ro t (y 1)) (y 2) := by
    unfold ro
    blk_ext [e]
  have hy : y = ix3 (y 0) (y 1) (y 2) := by blk_ext
  exact (congrArg _ hy).trans ((blk4 m c t (y 0) (y 1) (y 2)).trans (congrArg _ h2).symm)

theorem out5 (t : Fin cfg0.N) : out0_5 (F := Ideal) (iblk m c 0 t) (iblk m c 1 t) (iblk m c 2 t) (iblk m c 3 t)
    = k0_pay3 (F := Ideal) (k0_pay6 (iblk m c 0 t)) (k0_pay8 (iblk m c 1 t)) (k0_pay9 (iblk m c 2 t)) (k0_pay10 (iblk m c 3 t)) k0_pay11 := by
  unfold_out out0_5
  rw [View.canon_cons_unit_lit _ _ _ (by decide), ldf, ldw, ldw, ldw]

theorem blk5 (t : Fin cfg0.N) (q : Fin 1) (s : Fin 256) (j : Fin 128) :
    k0_pay3 (F := Ideal) (k0_pay6 (iblk m c 0 t)) (k0_pay8 (iblk m c 1 t)) (k0_pay9 (iblk m c 2 t)) (k0_pay10 (iblk m c 3 t)) k0_pay11 (ix3 q s j)
      = Cert.Reference17Ideal.Read.val_main_v26 (F := Ideal) (m ((c : Thread nD τ).loc main_arg0)) (m ((c : Thread nD τ).loc main_arg1)) (m ((c : Thread nD τ).loc main_arg2)) (m ((c : Thread nD τ).loc main_arg3)) (ix3 q (ro t s) j) := by
  refine Eq.trans ?_ (refd _ _ _ _ _).symm
  refine (pay3 _ _ _ _ q s j).trans ?_
  rw [sum_eq m c t q, in1 m c t q, in2 m c t q, in3 m c t q, refm, refv]

theorem final5 : (dats m 0 c).arrAt 5 cfg0.N = Cert.Reference17Ideal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e, -, -⟩ := idx t
  blk_simp [e]
  rw [after0_5, out5]
  have h2 : (win0_5.blk t).view.emb y = ix3 (y 0 : Fin 1) (ro t (y 1)) (y 2) := by
    unfold ro
    blk_ext [e]
  have hy : y = ix3 (y 0) (y 1) (y 2) := by blk_ext
  exact (congrArg _ hy).trans ((blk5 m c t (y 0) (y 1) (y 2)).trans (congrArg _ h2).symm)

theorem out6 (t : Fin cfg0.N) : out0_6 (F := Ideal) (iblk m c 0 t) (iblk m c 1 t) (iblk m c 2 t) (iblk m c 3 t)
    = k0_pay4 (F := Ideal) (k0_pay6 (iblk m c 0 t)) (k0_pay9 (iblk m c 2 t)) k0_pay11 := by
  unfold_out out0_6
  rw [View.canon_cons_unit_lit _ _ _ (by decide), ldf, ldw]

theorem blk6 (t : Fin cfg0.N) (q : Fin 1) (s : Fin 256) (j : Fin 128) :
    k0_pay4 (F := Ideal) (k0_pay6 (iblk m c 0 t)) (k0_pay9 (iblk m c 2 t)) k0_pay11 (ix3 q s j)
      = Cert.Reference17Ideal.Read.val_main_v7 (F := Ideal) (m ((c : Thread nD τ).loc main_arg0)) (m ((c : Thread nD τ).loc main_arg2)) (ix3 q (ro t s) j) := by
  refine Eq.trans ?_ (refm _ _ _).symm
  refine (pay4 _ _ q s j).trans ?_
  rw [sum_eq m c t q, in2 m c t q]

theorem final6 : (dats m 0 c).arrAt 6 cfg0.N = Cert.Reference17Ideal.Read.val_main_v7 (F := Ideal) (m ((c : Thread nD τ).loc main_arg0)) (m ((c : Thread nD τ).loc main_arg2)) := by
  refine (dats m 0 c).arrAt_eq_of_covers 6 _ (by decide +kernel) fun t hf y => ?_
  obtain ⟨-, -, -, -, -, -, e, -⟩ := idx t
  blk_simp [e]
  rw [after0_6, out6]
  have h2 : (win0_6.blk t).view.emb y = ix3 (y 0 : Fin 1) (ro t (y 1)) (y 2) := by
    unfold ro
    blk_ext [e]
  have hy : y = ix3 (y 0) (y 1) (y 2) := by blk_ext
  exact (congrArg _ hy).trans ((blk6 m c t (y 0) (y 1) (y 2)).trans (congrArg _ h2).symm)

theorem out7 (t : Fin cfg0.N) : out0_7 (F := Ideal) (iblk m c 0 t) (iblk m c 1 t) (iblk m c 2 t) (iblk m c 3 t)
    = k0_pay5 (F := Ideal) (k0_pay6 (iblk m c 0 t)) (k0_pay10 (iblk m c 3 t)) := by
  unfold_out out0_7
  rw [View.canon_cons_unit_lit _ _ _ (by decide), ldf, ldw]

theorem blk7 (t : Fin cfg0.N) (q : Fin 1) (s : Fin 256) (j : Fin 128) :
    k0_pay5 (F := Ideal) (k0_pay6 (iblk m c 0 t)) (k0_pay10 (iblk m c 3 t)) (ix3 q s j)
      = Cert.Reference17Ideal.Read.val_main_v13 (F := Ideal) (m ((c : Thread nD τ).loc main_arg0)) (m ((c : Thread nD τ).loc main_arg3)) (ix3 q (ro t s) j) := by
  refine Eq.trans ?_ (refv _ _ _).symm
  refine (pay5 _ _ q s j).trans ?_
  rw [sum_eq m c t q, in3 m c t q]

theorem final7 : (dats m 0 c).arrAt 7 cfg0.N = Cert.Reference17Ideal.Read.val_main_v13 (F := Ideal) (m ((c : Thread nD τ).loc main_arg0)) (m ((c : Thread nD τ).loc main_arg3)) := by
  refine (dats m 0 c).arrAt_eq_of_covers 7 _ (by decide +kernel) fun t hf y => ?_
  obtain ⟨-, -, -, -, -, -, -, e⟩ := idx t
  blk_simp [e]
  rw [after0_7, out7]
  have h2 : (win0_7.blk t).view.emb y = ix3 (y 0 : Fin 1) (ro t (y 1)) (y 2) := by
    unfold ro
    blk_ext [e]
  have hy : y = ix3 (y 0) (y 1) (y 2) := by blk_ext
  exact (congrArg _ hy).trans ((blk7 m c t (y 0) (y 1) (y 2)).trans (congrArg _ h2).symm)

end

theorem algebraic : Cert.algebraic_Kernel17Ideal_Reference17Ideal := by
  pair_intro
  · run_from Cert.Kernel17Ideal.Value.run_blocks m g
  · refine (θ_run Cert.Reference17Ideal.defs _ _).mono (fun r h c => ?_) (Cert.Reference17Ideal.Value.run (F := Ideal) m' g')
    obtain ⟨r0, r1, r2, r3, rest⟩ := h c
    obtain ⟨a0, a1, a2, a3⟩ := hagree c
    refine ⟨r0.trans ?_, r1.trans ?_, r2.trans ?_, r3.trans ?_, rest⟩
    · refine (Cert.Reference17Ideal.Read.val_main_v2_eq _).trans ?_
      rw [a0]
      exact (final4 m c).symm
    · refine (Cert.Reference17Ideal.Read.val_main_v26_eq _ _ _ _).trans ?_
      rw [a0, a1, a2, a3]
      exact (final5 m c).symm
    · refine (Cert.Reference17Ideal.Read.val_main_v7_eq _ _).trans ?_
      rw [a0, a2]
      exact (final6 m c).symm
    · refine (Cert.Reference17Ideal.Read.val_main_v13_eq _ _).trans ?_
      rw [a0, a3]
      exact (final7 m c).symm

theorem frame_ref : Cert.quiescent_Reference17Ideal := fun m g _ =>
  (θ_run Cert.Reference17Ideal.defs _ _).mono
    (fun r h => ⟨fun c => (h c).2.2.2.2, sem_eq_zero_of_no_sems (by decide) r.2⟩)
    (Cert.Reference17Ideal.Value.run (F := Ideal) m g)

end Cert.AdamPle
-- ==== Proof.AdamConv.lean ====
/- The claims about the optimiser's step of the short convolution's taps: the kernel adds the eight devices' parts one after
   another, tile by tile; the reference sums over the devices. -/
module

public import proofs.«01_k».proof.Defs
public import proofs.«01_k».proof.Proof.AdamSpec
public import proofs.«01_k».proof.Proof.Gen.Kernel18Ideal.Value
public import proofs.«01_k».proof.Proof.Gen.Reference18Ideal.Run
public import proofs.«01_k».proof.Proof.Gen.Reference18Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.AdamConv

open Idealize.ShloMosaic Idealize.ShloMosaic.TcCoe Idealize.SL.Sem Cert.Adam

local instance : Cert.Kernel18Ideal.Facts := Cert.Kernel18Ideal.Gen.facts
local instance : Cert.Reference18Ideal.Facts := Cert.Reference18Ideal.Gen.facts

section
open Cert.Kernel18Ideal Cert.Kernel18Ideal.Gen

/-- The `k`-th device's part of an entry. -/
def part (x : S8x8x128.Idx → EReal) (r : Fin 8) (j : Fin 128) (k : Fin 8) : EReal := x (ix3 k r j)

section
open Cert.Reference18Ideal.Read

theorem refg (x : S8x8x128.Idx → EReal) (q : Fin 1) (r : Fin 8) (j : Fin 128) :
    val_main_v1 (F := Ideal) x (ix3 q r j) = ∑ k, part x r j k := by
  pointwise [val_main_v1, val_main_v0, val_main_cst]
  rfl

theorem refm (x : S8x8x128.Idx → EReal) (m : S1x8x128.Idx → EReal) (i : S1x8x128.Idx) :
    val_main_v6 (F := Ideal) x m i = mom (val_main_v1 (F := Ideal) x i) (m i) := by
  idx_vars i
  pointwise [val_main_v6, val_main_v5, val_main_v4, val_main_v3, val_main_v2, val_main_cst_0, val_main_cst_1]
  rfl

theorem refv (x : S8x8x128.Idx → EReal) (v : S1x8x128.Idx → EReal) (i : S1x8x128.Idx) :
    val_main_v12 (F := Ideal) x v i = sqm (val_main_v1 (F := Ideal) x i) (v i) := by
  idx_vars i
  pointwise [val_main_v12, val_main_v11, val_main_v10, val_main_v9, val_main_v8, val_main_v7, val_main_cst_2, val_main_cst_3]
  rfl

theorem refd (x : S8x8x128.Idx → EReal) (w m v : S1x8x128.Idx → EReal) (i : S1x8x128.Idx) :
    val_main_v25 (F := Ideal) x w m v i
      = delta (w i) (val_main_v6 (F := Ideal) x m i) (val_main_v12 (F := Ideal) x v i) := by
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rfl

end

/-- The sum of the eight devices' parts. -/
def psum (x : S8x8x128.Idx → EReal) (s : Fin 8) (j : Fin 128) : EReal := ∑ k : Fin 8, x (ix3 k s j)

theorem payg (x : S8x8x128.Idx → EReal) (s : Fin 8) (j : Fin 128) : k0_pay5 (F := Ideal) x (ix2 s j) = psum x s j := by
  pointwise [k0_pay5]
  exact (Fin.sum_univ_eight fun k => x (ix3 k s j)).symm

theorem pay6 (x : S8x8x128.Idx → EReal) (q : Fin 1) (s : Fin 8) (j : Fin 128) : k0_pay6 (F := Ideal) x (ix3 q s j) = psum x s j := by
  refine Eq.trans ?_ (payg x s j)
  unfold k0_pay6
  generalize k0_pay5 (F := Ideal) x = z
  pointwise

theorem paym (x : S8x8x128.Idx → EReal) (m : S1x8x128.Idx → EReal) (s : Fin 8) (j : Fin 128) :
    k0_pay8 (F := Ideal) x m (ix2 s j) = mom (psum x s j) (m (ix3 0 s j)) := by
  rw [← payg]
  unfold k0_pay8
  generalize k0_pay5 (F := Ideal) x = z
  pointwise
  rfl

theorem payv (g : S8x128.Idx → EReal) (v : S1x8x128.Idx → EReal) (s : Fin 8) (j : Fin 128) :
    k0_pay1 (F := Ideal) g (k0_pay9 v) (ix2 s j) = sqm (g (ix2 s j)) (v (ix3 0 s j)) := by
  pointwise [k0_pay1, k0_pay9]
  rfl

theorem pay2 (x : S8x8x128.Idx → EReal) (w m v : S1x8x128.Idx → EReal) (q : Fin 1) (s : Fin 8) (j : Fin 128) :
    k0_pay2 (F := Ideal) (k0_pay5 x) (k0_pay7 w) (k0_pay8 x m) (k0_pay9 v) (ix3 q s j)
      = delta (w (ix3 0 s j)) (mom (psum x s j) (m (ix3 0 s j))) (sqm (psum x s j) (v (ix3 0 s j))) := by
  rw [← paym, ← payg, ← payv]
  unfold k0_pay2
  generalize k0_pay1 (F := Ideal) (k0_pay5 x) (k0_pay9 v) = b
  generalize k0_pay8 (F := Ideal) x m = a
  pointwise [k0_pay7]
  rfl

theorem pay3 (x : S8x8x128.Idx → EReal) (m : S1x8x128.Idx → EReal) (q : Fin 1) (s : Fin 8) (j : Fin 128) :
    k0_pay3 (F := Ideal) (k0_pay8 x m) (ix3 q s j) = mom (psum x s j) (m (ix3 0 s j)) := by
  rw [← paym]
  unfold k0_pay3
  generalize k0_pay8 (F := Ideal) x m = z
  pointwise

theorem pay4 (x : S8x8x128.Idx → EReal) (v : S1x8x128.Idx → EReal) (q : Fin 1) (s : Fin 8) (j : Fin 128) :
    k0_pay4 (F := Ideal) (k0_pay5 x) (k0_pay9 v) (ix3 q s j) = sqm (psum x s j) (v (ix3 0 s j)) := by
  rw [← payg, ← payv]
  unfold k0_pay4
  generalize k0_pay1 (F := Ideal) (k0_pay5 x) (k0_pay9 v) = z
  pointwise

theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- Row `s` of the tile of a grid point. -/
def ro (t : Fin cfg0.N) (s : Fin 8) : Fin 8 := ⟨8 * t.val + s.val, by have h : t.val < 1 := t.isLt; omega⟩

theorem ldf (x : S8x8x128.Idx → EReal) : View.ld (Val := Elt Ideal) (e' := .f32) x r0_0 = x :=
  View.ld_unit_lit (Val := Elt Ideal) (S := S8x8x128) (e := .f32) _ x (by decide)

theorem ldw (x : S1x8x128.Idx → EReal) : View.ld (Val := Elt Ideal) (e' := .f32) x r0_1 = x :=
  View.ld_unit_lit (Val := Elt Ideal) (S := S1x8x128) (e := .f32) _ x (by decide)

theorem inp (t : Fin cfg0.N) (k : Fin 8) (s : Fin 8) (j : Fin 128) : (iblk m c 0 t : S8x8x128.Idx → EReal) (ix3 k s j)
    = part (m ((c : Thread nD τ).loc main_arg0)) (ro t s) j k := by
  obtain ⟨e, -, -, -, -, -, -, -⟩ := idx t
  blk_simp [iblk, e]
  rw [V_main_arg0]
  have h2 : (win0_0.blk t).view.emb (ix3 k s j) = ix3 k (ro t s) j := by
    unfold ro
    blk_ext [e]
  exact congrArg (m ((c : Thread nD τ).loc main_arg0) : S8x8x128.Idx → EReal) h2

theorem in1 (t : Fin cfg0.N) (q : Fin 1) (s : Fin 8) (j : Fin 128) : (iblk m c 1 t : S1x8x128.Idx → EReal) (ix3 0 s j)
    = (m ((c : Thread nD τ).loc main_arg1) : S1x8x128.Idx → EReal) (ix3 q (ro t s) j) := by
  obtain ⟨-, e, -, -, -, -, -, -⟩ := idx t
  blk_simp [iblk, e]
  rw [V_main_arg1]
  have h2 : (win0_1.blk t).view.emb (ix3 0 s j) = ix3 q (ro t s) j := by
    unfold ro
    blk_ext [e]
  exact congrArg (m ((c : Thread nD τ).loc main_arg1) : S1x8x128.Idx → EReal) h2

theorem in2 (t : Fin cfg0.N) (q : Fin 1) (s : Fin 8) (j : Fin 128) : (iblk m c 2 t : S1x8x128.Idx → EReal) (ix3 0 s j)
    = (m ((c : Thread nD τ).loc main_arg2) : S1x8x128.Idx → EReal) (ix3 q (ro t s) j) := by
  obtain ⟨-, -, e, -, -, -, -, -⟩ := idx t
  blk_simp [iblk, e]
  rw [V_main_arg2]
  have h2 : (win0_2.blk t).view.emb (ix3 0 s j) = ix3 q (ro t s) j := by
    unfold ro
    blk_ext [e]
  exact congrArg (m ((c : Thread nD τ).loc main_arg2) : S1x8x128.Idx → EReal) h2

theorem in3 (t : Fin cfg0.N) (q : Fin 1) (s : Fin 8) (j : Fin 128) : (iblk m c 3 t : S1x8x128.Idx → EReal) (ix3 0 s j)
    = (m ((c : Thread nD τ).loc main_arg3) : S1x8x128.Idx → EReal) (ix3 q (ro t s) j) := by
  obtain ⟨-, -, -, e, -, -, -, -⟩ := idx t
  blk_simp [iblk, e]
  rw [V_main_arg3]
  have h2 : (win0_3.blk t).view.emb (ix3 0 s j) = ix3 q (ro t s) j := by
    unfold ro
    blk_ext [e]
  exact congrArg (m ((c : Thread nD τ).loc main_arg3) : S1x8x128.Idx → EReal) h2

theorem sum_eq (t : Fin cfg0.N) (q : Fin 1) (s : Fin 8) (j : Fin 128) :
    psum (iblk m c 0 t) s j = Cert.Reference18Ideal.Read.val_main_v1 (F := Ideal) (m ((c : Thread nD τ).loc main_arg0)) (ix3 q (ro t s) j) := by
  refine Eq.trans ?_ (refg _ q (ro t s) j).symm
  exact Finset.sum_congr rfl fun k _ => inp m c t k s j

theorem out4 (t : Fin cfg0.N) : out0_4 (F := Ideal) (iblk m c 0 t) (iblk m c 1 t) (iblk m c 2 t) (iblk m c 3 t)
    = k0_pay6 (F := Ideal) (iblk m c 0 t) := by
  unfold_out out0_4
  rw [View.canon_cons_unit_lit _ _ _ (by decide), ldf]

theorem blk4 (t : Fin cfg0.N) (q : Fin 1) (s : Fin 8) (j : Fin 128) :
    k0_pay6 (F := Ideal) (iblk m c 0 t) (ix3 q s j)
      = Cert.Reference18Ideal.Read.val_main_v1 (F := Ideal) (m ((c : Thread nD τ).loc main_arg0)) (ix3 q (ro t s) j) := by
  refine (pay6 _ q s j).trans ?_
  exact sum_eq m c t q s j

theorem final4 : (dats m 0 c).arrAt 4 cfg0.N = Cert.Reference18Ideal.Read.val_main_v1 (F := Ideal) (m ((c : Thread nD τ).loc main_arg0)) := by
  refine (dats m 0 c).arrAt_eq_of_covers 4 _ (by decide +kernel) fun t hf y => ?_
  obtain ⟨-, -, -, -, e, -, -, -⟩ := idx t
  blk_simp [e]
  rw [after0_4, out4]
  have h2 : (win0_4.blk t).view.emb y = ix3 (y 0 : Fin 1) (ro t (y 1)) (y 2) := by
    unfold ro
    blk_ext [e]
  have hy : y = ix3 (y 0) (y 1) (y 2) := by blk_ext
  exact (congrArg _ hy).trans ((blk4 m c t (y 0) (y 1) (y 2)).trans (congrArg _ h2).symm)

theorem out5 (t : Fin cfg0.N) : out0_5 (F := Ideal) (iblk m c 0 t) (iblk m c 1 t) (iblk m c 2 t) (iblk m c 3 t)
    = k0_pay2 (F := Ideal) (k0_pay5 (iblk m c 0 t)) (k0_pay7 (iblk m c 1 t)) (k0_pay8 (iblk m c 0 t) (iblk m c 2 t)) (k0_pay9 (iblk m c 3 t)) := by
  unfold_out out0_5
  rw [View.canon_cons_unit_lit _ _ _ (by decide), ldf, ldw, ldw, ldw]

theorem blk5 (t : Fin cfg0.N) (q : Fin 1) (s : Fin 8) (j : Fin 128) :
    k0_pay2 (F := Ideal) (k0_pay5 (iblk m c 0 t)) (k0_pay7 (iblk m c 1 t)) (k0_pay8 (iblk m c 0 t) (iblk m c 2 t)) (k0_pay9 (iblk m c 3 t)) (ix3 q s j)
      = Cert.Reference18Ideal.Read.val_main_v25 (F := Ideal) (m ((c : Thread nD τ).loc main_arg0)) (m ((c : Thread nD τ).loc main_arg1)) (m ((c : Thread nD τ).loc main_arg2)) (m ((c : Thread nD τ).loc main_arg3)) (ix3 q (ro t s) j) := by
  refine Eq.trans ?_ (refd _ _ _ _ _).symm
  refine (pay2 _ _ _ _ q s j).trans ?_
  rw [sum_eq m c t q, in1 m c t q, in2 m c t q, in3 m c t q, refm, refv]

theorem final5 : (dats m 0 c).arrAt 5 cfg0.N = Cert.Reference18Ideal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e, -, -⟩ := idx t
  blk_simp [e]
  rw [after0_5, out5]
  have h2 : (win0_5.blk t).view.emb y = ix3 (y 0 : Fin 1) (ro t (y 1)) (y 2) := by
    unfold ro
    blk_ext [e]
  have hy : y = ix3 (y 0) (y 1) (y 2) := by blk_ext
  exact (congrArg _ hy).trans ((blk5 m c t (y 0) (y 1) (y 2)).trans (congrArg _ h2).symm)

theorem out6 (t : Fin cfg0.N) : out0_6 (F := Ideal) (iblk m c 0 t) (iblk m c 1 t) (iblk m c 2 t) (iblk m c 3 t)
    = k0_pay3 (F := Ideal) (k0_pay8 (iblk m c 0 t) (iblk m c 2 t)) := by
  unfold_out out0_6
  rw [View.canon_cons_unit_lit _ _ _ (by decide), ldf, ldw]

theorem blk6 (t : Fin cfg0.N) (q : Fin 1) (s : Fin 8) (j : Fin 128) :
    k0_pay3 (F := Ideal) (k0_pay8 (iblk m c 0 t) (iblk m c 2 t)) (ix3 q s j)
      = Cert.Reference18Ideal.Read.val_main_v6 (F := Ideal) (m ((c : Thread nD τ).loc main_arg0)) (m ((c : Thread nD τ).loc main_arg2)) (ix3 q (ro t s) j) := by
  refine Eq.trans ?_ (refm _ _ _).symm
  refine (pay3 _ _ q s j).trans ?_
  rw [sum_eq m c t q, in2 m c t q]

theorem final6 : (dats m 0 c).arrAt 6 cfg0.N = Cert.Reference18Ideal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨-, -, -, -, -, -, e, -⟩ := idx t
  blk_simp [e]
  rw [after0_6, out6]
  have h2 : (win0_6.blk t).view.emb y = ix3 (y 0 : Fin 1) (ro t (y 1)) (y 2) := by
    unfold ro
    blk_ext [e]
  have hy : y = ix3 (y 0) (y 1) (y 2) := by blk_ext
  exact (congrArg _ hy).trans ((blk6 m c t (y 0) (y 1) (y 2)).trans (congrArg _ h2).symm)

theorem out7 (t : Fin cfg0.N) : out0_7 (F := Ideal) (iblk m c 0 t) (iblk m c 1 t) (iblk m c 2 t) (iblk m c 3 t)
    = k0_pay4 (F := Ideal) (k0_pay5 (iblk m c 0 t)) (k0_pay9 (iblk m c 3 t)) := by
  unfold_out out0_7
  rw [View.canon_cons_unit_lit _ _ _ (by decide), ldf, ldw]

theorem blk7 (t : Fin cfg0.N) (q : Fin 1) (s : Fin 8) (j : Fin 128) :
    k0_pay4 (F := Ideal) (k0_pay5 (iblk m c 0 t)) (k0_pay9 (iblk m c 3 t)) (ix3 q s j)
      = Cert.Reference18Ideal.Read.val_main_v12 (F := Ideal) (m ((c : Thread nD τ).loc main_arg0)) (m ((c : Thread nD τ).loc main_arg3)) (ix3 q (ro t s) j) := by
  refine Eq.trans ?_ (refv _ _ _).symm
  refine (pay4 _ _ q s j).trans ?_
  rw [sum_eq m c t q, in3 m c t q]

theorem final7 : (dats m 0 c).arrAt 7 cfg0.N = Cert.Reference18Ideal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨-, -, -, -, -, -, -, e⟩ := idx t
  blk_simp [e]
  rw [after0_7, out7]
  have h2 : (win0_7.blk t).view.emb y = ix3 (y 0 : Fin 1) (ro t (y 1)) (y 2) := by
    unfold ro
    blk_ext [e]
  have hy : y = ix3 (y 0) (y 1) (y 2) := by blk_ext
  exact (congrArg _ hy).trans ((blk7 m c t (y 0) (y 1) (y 2)).trans (congrArg _ h2).symm)

end

theorem algebraic : Cert.algebraic_Kernel18Ideal_Reference18Ideal := by
  pair_intro
  · run_from Cert.Kernel18Ideal.Value.run_blocks m g
  · refine (θ_run Cert.Reference18Ideal.defs _ _).mono (fun r h c => ?_) (Cert.Reference18Ideal.Value.run (F := Ideal) m' g')
    obtain ⟨r0, r1, r2, r3, rest⟩ := h c
    obtain ⟨a0, a1, a2, a3⟩ := hagree c
    refine ⟨r0.trans ?_, r1.trans ?_, r2.trans ?_, r3.trans ?_, rest⟩
    · refine (Cert.Reference18Ideal.Read.val_main_v1_eq _).trans ?_
      rw [a0]
      exact (final4 m c).symm
    · refine (Cert.Reference18Ideal.Read.val_main_v25_eq _ _ _ _).trans ?_
      rw [a0, a1, a2, a3]
      exact (final5 m c).symm
    · refine (Cert.Reference18Ideal.Read.val_main_v6_eq _ _).trans ?_
      rw [a0, a2]
      exact (final6 m c).symm
    · refine (Cert.Reference18Ideal.Read.val_main_v12_eq _ _).trans ?_
      rw [a0, a3]
      exact (final7 m c).symm

theorem frame_ref : Cert.quiescent_Reference18Ideal := fun m g _ =>
  (θ_run Cert.Reference18Ideal.defs _ _).mono
    (fun r h => ⟨fun c => (h c).2.2.2.2, sem_eq_zero_of_no_sems (by decide) r.2⟩)
    (Cert.Reference18Ideal.Value.run (F := Ideal) m g)

end Cert.AdamConv
-- ==== Proof.AdamIn.lean ====
/- The claims about the optimiser's step of the input projection's weight: the kernel adds the eight devices' parts one after
   another, tile by tile; the reference sums over the devices. -/
module

public import proofs.«01_k».proof.Defs
public import proofs.«01_k».proof.Proof.AdamSpec
public import proofs.«01_k».proof.Proof.Gen.Kernel19Ideal.Value
public import proofs.«01_k».proof.Proof.Gen.Reference19Ideal.Run
public import proofs.«01_k».proof.Proof.Gen.Reference19Ideal.Read
public import Idealize.ShloMosaic.Lib.Claim
public import Idealize.ShloMosaic.Lib.Pointwise
public import Idealize.ShloMosaic.Lib.Pipeline.ValueKit
public import Idealize.ShloMosaic.Lib.Pipeline.ReadBack

@[expose] public section

noncomputable section

namespace Cert.AdamIn

open Idealize.ShloMosaic Idealize.ShloMosaic.TcCoe Idealize.SL.Sem Cert.Adam Cert.Reals

local instance : Cert.Kernel19Ideal.Facts := Cert.Kernel19Ideal.Gen.facts
local instance : Cert.Reference19Ideal.Facts := Cert.Reference19Ideal.Gen.facts

section
open Cert.Kernel19Ideal Cert.Kernel19Ideal.Gen

/-- The `k`-th device's part of an entry: the first half of the rows is in one array, the second in the other. -/
def part (x y : S8x512x450.Idx → EReal) (r : Fin 1024) (j : Fin 450) (k : Fin 8) : EReal :=
  if h : r.val < 512 then x (ix3 k ⟨r.val, h⟩ j) else y (ix3 k ⟨r.val - 512, by omega⟩ j)

section
open Cert.Reference19Ideal.Read

theorem refg (x y : S8x512x450.Idx → EReal) (q : Fin 1) (r : Fin 1024) (j : Fin 450) :
    val_main_v3 (F := Ideal) x y (ix3 q r j) = ∑ k, part x y r j k := by
  pointwise [val_main_v3, val_main_v2, val_main_v1, val_main_v0, val_main_cst]
  unfold part
  refine Finset.sum_congr rfl fun k _ => ?_
  split_ifs <;> rfl

theorem refm (x y : S8x512x450.Idx → EReal) (m : S1x1024x450.Idx → EReal) (i : S1x1024x450.Idx) :
    val_main_v8 (F := Ideal) x y m i = mom (val_main_v3 (F := Ideal) x y i) (m i) := by
  idx_vars i
  pointwise [val_main_v8, val_main_v7, val_main_v6, val_main_v5, val_main_v4, val_main_cst_0, val_main_cst_1]
  rfl

theorem refv (x y : S8x512x450.Idx → EReal) (v : S1x1024x450.Idx → EReal) (i : S1x1024x450.Idx) :
    val_main_v14 (F := Ideal) x y v i = sqm (val_main_v3 (F := Ideal) x y i) (v i) := by
  idx_vars i
  pointwise [val_main_v14, val_main_v13, val_main_v12, val_main_v11, val_main_v10, val_main_v9, val_main_cst_2, val_main_cst_3]
  rfl

theorem refd (x y : S8x512x450.Idx → EReal) (w m v : S1x1024x450.Idx → EReal) (i : S1x1024x450.Idx) :
    val_main_v27 (F := Ideal) x y w m v i
      = delta (w i) (val_main_v8 (F := Ideal) x y m i) (val_main_v14 (F := Ideal) x y v i) := by
  idx_vars i
  pointwise [val_main_v27, val_main_v26, val_main_v25, val_main_v24, val_main_v23, val_main_v22, val_main_v21, val_main_v20, val_main_v19, val_main_v18, val_main_v17, val_main_v16, val_main_v15, val_main_cst_4, val_main_cst_5, val_main_cst_6, val_main_cst_7, val_main_cst_8]
  rfl

end

/-- The parts a grid point takes, of the two arrays' blocks. -/
def pick (n : ℕ) (x y : S8x256x450.Idx → EReal) (k : Fin 8) (s : Fin 256) (j : Fin 450) : EReal := if 2 ≤ n then y (ix3 k s j) else x (ix3 k s j)

theorem payg (i : grid0.Coords) (x y : S8x256x450.Idx → EReal) (s : Fin 256) (j : Fin 450) :
    k0_pay1 (F := Ideal) i x y (ix2 s j) = ∑ k : Fin 8, pick (i 0).val x y k s j := by
  have hi : (i 0).val < 4 := (i 0).isLt
  have q (a b : S8x256x450.Idx → EReal) : Scalar.select (Scalar.cmpi .sge (BitVec.ofNat 32 (i 0).val) 2#32) a b = if 2 ≤ (i 0).val then a else b :=
    select_sge (i 0).val 2 (by omega) (by norm_num) _ _
  unfold k0_pay1
  dsimp only
  rw [q]
  refine Eq.trans ?_ (Fin.sum_univ_eight fun k => pick (i 0).val x y k s j).symm
  unfold pick
  split_ifs <;> pointwise

theorem pay2 (i : grid0.Coords) (x y : S8x256x450.Idx → EReal) (q : Fin 1) (s : Fin 256) (j : Fin 450) :
    k0_pay2 (F := Ideal) i x y (ix3 q s j) = ∑ k : Fin 8, pick (i 0).val x y k s j := by
  refine Eq.trans ?_ (payg i x y s j)
  unfold k0_pay2
  generalize k0_pay1 (F := Ideal) i x y = z
  pointwise

theorem paym (g : S256x450.Idx → EReal) (m : S1x256x450.Idx → EReal) (s : Fin 256) (j : Fin 450) :
    k0_pay5 (F := Ideal) g (k0_pay4 m) (ix2 s j) = mom (g (ix2 s j)) (m (ix3 0 s j)) := by
  pointwise [k0_pay5, k0_pay4]
  rfl

theorem payv (g : S256x450.Idx → EReal) (v : S1x256x450.Idx → EReal) (s : Fin 256) (j : Fin 450) :
    k0_pay6 (F := Ideal) g v (ix2 s j) = sqm (g (ix2 s j)) (v (ix3 0 s j)) := by
  pointwise [k0_pay6]
  rfl

theorem pay7 (g : S256x450.Idx → EReal) (w m v : S1x256x450.Idx → EReal) (q : Fin 1) (s : Fin 256) (j : Fin 450) :
    k0_pay7 (F := Ideal) g (k0_pay3 w) (k0_pay4 m) v (ix3 q s j)
      = delta (w (ix3 0 s j)) (mom (g (ix2 s j)) (m (ix3 0 s j))) (sqm (g (ix2 s j)) (v (ix3 0 s j))) := by
  rw [← paym, ← payv]
  unfold k0_pay7
  generalize k0_pay5 (F := Ideal) g (k0_pay4 m) = a
  generalize k0_pay6 (F := Ideal) g v = b
  pointwise [k0_pay3]
  rfl

theorem pay8 (g : S256x450.Idx → EReal) (m : S1x256x450.Idx → EReal) (q : Fin 1) (s : Fin 256) (j : Fin 450) :
    k0_pay8 (F := Ideal) g (k0_pay4 m) (ix3 q s j) = mom (g (ix2 s j)) (m (ix3 0 s j)) := by
  refine Eq.trans ?_ (paym g m s j)
  unfold k0_pay8
  generalize k0_pay5 (F := Ideal) g (k0_pay4 m) = z
  pointwise

theorem pay9 (g : S256x450.Idx → EReal) (v : S1x256x450.Idx → EReal) (q : Fin 1) (s : Fin 256) (j : Fin 450) :
    k0_pay9 (F := Ideal) g v (ix3 q s j) = sqm (g (ix2 s j)) (v (ix3 0 s j)) := by
  refine Eq.trans ?_ (payv g v s j)
  unfold k0_pay9
  generalize k0_pay6 (F := Ideal) g v = z
  pointwise

theorem idx : ∀ t : Fin cfg0.N, win0_0.index t = ![0, min t.val 1, 0]
    ∧ win0_1.index t = ![0, min (t.val - 2) 1, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0]
    ∧ (grid0.coords t 0).val = t.val :=
  (by decide +kernel : ∀ t : Fin grid0.N, _)

variable (m : (ℓ : Loc nD τ sig) → Buf (Elt Ideal) ℓ) (c : Dev nD)

/-- Row `s` of the tile of a grid point. -/
def ro (t : Fin cfg0.N) (s : Fin 256) : Fin 1024 := ⟨256 * t.val + s.val, by have h : t.val < 4 := t.isLt; omega⟩

theorem ldf (x : S8x256x450.Idx → EReal) : View.ld (Val := Elt Ideal) (e' := .bf16) x r0_0 = x :=
  View.ld_unit_lit (Val := Elt Ideal) (S := S8x256x450) (e := .bf16) _ x (by decide)

theorem ldw (x : S1x256x450.Idx → EReal) : View.ld (Val := Elt Ideal) (e' := .f32) x r0_1 = x :=
  View.ld_unit_lit (Val := Elt Ideal) (S := S1x256x450) (e := .f32) _ x (by decide)

theorem inp0 (t : Fin cfg0.N) (h : t.val < 2) (k : Fin 8) (s : Fin 256) (j : Fin 450) : (iblk m c 0 t : S8x256x450.Idx → EReal) (ix3 k s j)
    = (m ((c : Thread nD τ).loc main_arg0) : S8x512x450.Idx → EReal) (ix3 k ⟨256 * t.val + s.val, by omega⟩ j) := by
  obtain ⟨e, -, -, -, -, -, -, -, -, -⟩ := idx t
  blk_simp [iblk, e]
  rw [V_main_arg0]
  have h2 : (win0_0.blk t).view.emb (ix3 k s j) = ix3 k (⟨256 * t.val + s.val, by omega⟩ : Fin 512) j := by
    blk_ext [e, min_eq_left (show t.val ≤ 1 by omega)]
  exact congrArg (m ((c : Thread nD τ).loc main_arg0) : S8x512x450.Idx → EReal) h2

theorem inp1 (t : Fin cfg0.N) (h : 2 ≤ t.val) (k : Fin 8) (s : Fin 256) (j : Fin 450) : (iblk m c 1 t : S8x256x450.Idx → EReal) (ix3 k s j)
    = (m ((c : Thread nD τ).loc main_arg1) : S8x512x450.Idx → EReal) (ix3 k ⟨256 * t.val + s.val - 512, by have h : t.val < 4 := t.isLt; omega⟩ j) := by
  obtain ⟨-, e, -, -, -, -, -, -, -, -⟩ := idx t
  have ht : t.val < 4 := t.isLt
  blk_simp [iblk, e]
  rw [V_main_arg1]
  have h2 : (win0_1.blk t).view.emb (ix3 k s j) = ix3 k (⟨256 * t.val + s.val - 512, by omega⟩ : Fin 512) j := by
    blk_ext [e, min_eq_left (show t.val - 2 ≤ 1 by omega)]
  exact congrArg (m ((c : Thread nD τ).loc main_arg1) : S8x512x450.Idx → EReal) h2

theorem inp (t : Fin cfg0.N) (k : Fin 8) (s : Fin 256) (j : Fin 450) : pick (grid0.coords t 0).val (iblk m c 0 t) (iblk m c 1 t) k s j
    = part (m ((c : Thread nD τ).loc main_arg0)) (m ((c : Thread nD τ).loc main_arg1)) (ro t s) j k := by
  obtain ⟨-, -, -, -, -, -, -, -, -, e⟩ := idx t
  unfold pick part ro
  rw [e]
  dsimp only
  by_cases h : 2 ≤ t.val
  · rw [if_pos h, dif_neg (by omega), inp1 m c t h]
  · rw [if_neg h, dif_pos (by omega), inp0 m c t (by omega)]

theorem in2 (t : Fin cfg0.N) (q : Fin 1) (s : Fin 256) (j : Fin 450) : (iblk m c 2 t : S1x256x450.Idx → EReal) (ix3 0 s j)
    = (m ((c : Thread nD τ).loc main_arg2) : S1x1024x450.Idx → EReal) (ix3 q (ro t s) j) := by
  obtain ⟨-, -, e, -, -, -, -, -, -, -⟩ := idx t
  blk_simp [iblk, e]
  rw [V_main_arg2]
  have h2 : (win0_2.blk t).view.emb (ix3 0 s j) = ix3 q (ro t s) j := by
    unfold ro
    blk_ext [e]
  exact congrArg (m ((c : Thread nD τ).loc main_arg2) : S1x1024x450.Idx → EReal) h2

theorem in3 (t : Fin cfg0.N) (q : Fin 1) (s : Fin 256) (j : Fin 450) : (iblk m c 3 t : S1x256x450.Idx → EReal) (ix3 0 s j)
    = (m ((c : Thread nD τ).loc main_arg3) : S1x1024x450.Idx → EReal) (ix3 q (ro t s) j) := by
  obtain ⟨-, -, -, e, -, -, -, -, -, -⟩ := idx t
  blk_simp [iblk, e]
  rw [V_main_arg3]
  have h2 : (win0_3.blk t).view.emb (ix3 0 s j) = ix3 q (ro t s) j := by
    unfold ro
    blk_ext [e]
  exact congrArg (m ((c : Thread nD τ).loc main_arg3) : S1x1024x450.Idx → EReal) h2

theorem in4 (t : Fin cfg0.N) (q : Fin 1) (s : Fin 256) (j : Fin 450) : (iblk m c 4 t : S1x256x450.Idx → EReal) (ix3 0 s j)
    = (m ((c : Thread nD τ).loc main_arg4) : S1x1024x450.Idx → EReal) (ix3 q (ro t s) j) := by
  obtain ⟨-, -, -, -, e, -, -, -, -, -⟩ := idx t
  blk_simp [iblk, e]
  rw [V_main_arg4]
  have h2 : (win0_4.blk t).view.emb (ix3 0 s j) = ix3 q (ro t s) j := by
    unfold ro
    blk_ext [e]
  exact congrArg (m ((c : Thread nD τ).loc main_arg4) : S1x1024x450.Idx → EReal) h2

theorem sum_eq (t : Fin cfg0.N) (q : Fin 1) (s : Fin 256) (j : Fin 450) :
    k0_pay1 (F := Ideal) (grid0.coords t) (iblk m c 0 t) (iblk m c 1 t) (ix2 s j) = Cert.Reference19Ideal.Read.val_main_v3 (F := Ideal) (m ((c : Thread nD τ).loc main_arg0)) (m ((c : Thread nD τ).loc main_arg1)) (ix3 q (ro t s) j) := by
  rw [payg]
  refine Eq.trans ?_ (refg _ _ q (ro t s) j).symm
  exact Finset.sum_congr rfl fun k _ => inp m c t k s j

theorem out5 (t : Fin cfg0.N) : out0_5 (F := Ideal) (grid0.coords t) (iblk m c 0 t) (iblk m c 1 t) (iblk m c 2 t) (iblk m c 3 t) (iblk m c 4 t)
    = k0_pay2 (F := Ideal) (grid0.coords t) (iblk m c 0 t) (iblk m c 1 t) := by
  unfold_out out0_5
  rw [View.canon_cons_unit_lit _ _ _ (by decide), ldf, ldf]

theorem blk5 (t : Fin cfg0.N) (q : Fin 1) (s : Fin 256) (j : Fin 450) :
    k0_pay2 (F := Ideal) (grid0.coords t) (iblk m c 0 t) (iblk m c 1 t) (ix3 q s j)
      = Cert.Reference19Ideal.Read.val_main_v3 (F := Ideal) (m ((c : Thread nD τ).loc main_arg0)) (m ((c : Thread nD τ).loc main_arg1)) (ix3 q (ro t s) j) := by
  refine (pay2 _ _ _ q s j).trans ?_
  rw [← payg]
  exact sum_eq m c t q s j

theorem final5 : (dats m 0 c).arrAt 5 cfg0.N = Cert.Reference19Ideal.Read.val_main_v3 (F := Ideal) (m ((c : Thread nD τ).loc main_arg0)) (m ((c : Thread nD τ).loc main_arg1)) := by
  refine (dats m 0 c).arrAt_eq_of_covers 5 _ (by decide +kernel) fun t hf y => ?_
  obtain ⟨-, -, -, -, -, e, -, -, -, -⟩ := idx t
  blk_simp [e]
  rw [after0_5, out5]
  have h2 : (win0_5.blk t).view.emb y = ix3 (y 0 : Fin 1) (ro t (y 1)) (y 2) := by
    unfold ro
    blk_ext [e]
  have hy : y = ix3 (y 0) (y 1) (y 2) := by blk_ext
  exact (congrArg _ hy).trans ((blk5 m c t (y 0) (y 1) (y 2)).trans (congrArg _ h2).symm)

theorem out6 (t : Fin cfg0.N) : out0_6 (F := Ideal) (grid0.coords t) (iblk m c 0 t) (iblk m c 1 t) (iblk m c 2 t) (iblk m c 3 t) (iblk m c 4 t)
    = k0_pay7 (F := Ideal) (k0_pay1 (grid0.coords t) (iblk m c 0 t) (iblk m c 1 t)) (k0_pay3 (iblk m c 2 t)) (k0_pay4 (iblk m c 3 t)) (iblk m c 4 t) := by
  unfold_out out0_6
  rw [View.canon_cons_unit_lit _ _ _ (by decide), ldf, ldf, ldw, ldw, ldw]

theorem blk6 (t : Fin cfg0.N) (q : Fin 1) (s : Fin 256) (j : Fin 450) :
    k0_pay7 (F := Ideal) (k0_pay1 (grid0.coords t) (iblk m c 0 t) (iblk m c 1 t)) (k0_pay3 (iblk m c 2 t)) (k0_pay4 (iblk m c 3 t)) (iblk m c 4 t) (ix3 q s j)
      = Cert.Reference19Ideal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 q (ro t s) j) := by
  refine Eq.trans ?_ (refd _ _ _ _ _ _).symm
  refine (pay7 _ _ _ _ q s j).trans ?_
  rw [sum_eq m c t q, in2 m c t q, in3 m c t q, in4 m c t q, refm, refv]

theorem final6 : (dats m 0 c).arrAt 6 cfg0.N = Cert.Reference19Ideal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨-, -, -, -, -, -, e, -, -, -⟩ := idx t
  blk_simp [e]
  rw [after0_6, out6]
  have h2 : (win0_6.blk t).view.emb y = ix3 (y 0 : Fin 1) (ro t (y 1)) (y 2) := by
    unfold ro
    blk_ext [e]
  have hy : y = ix3 (y 0) (y 1) (y 2) := by blk_ext
  exact (congrArg _ hy).trans ((blk6 m c t (y 0) (y 1) (y 2)).trans (congrArg _ h2).symm)

theorem out7 (t : Fin cfg0.N) : out0_7 (F := Ideal) (grid0.coords t) (iblk m c 0 t) (iblk m c 1 t) (iblk m c 2 t) (iblk m c 3 t) (iblk m c 4 t)
    = k0_pay8 (F := Ideal) (k0_pay1 (grid0.coords t) (iblk m c 0 t) (iblk m c 1 t)) (k0_pay4 (iblk m c 3 t)) := by
  unfold_out out0_7
  rw [View.canon_cons_unit_lit _ _ _ (by decide), ldf, ldf, ldw]

theorem blk7 (t : Fin cfg0.N) (q : Fin 1) (s : Fin 256) (j : Fin 450) :
    k0_pay8 (F := Ideal) (k0_pay1 (grid0.coords t) (iblk m c 0 t) (iblk m c 1 t)) (k0_pay4 (iblk m c 3 t)) (ix3 q s j)
      = Cert.Reference19Ideal.Read.val_main_v8 (F := Ideal) (m ((c : Thread nD τ).loc main_arg0)) (m ((c : Thread nD τ).loc main_arg1)) (m ((c : Thread nD τ).loc main_arg3)) (ix3 q (ro t s) j) := by
  refine Eq.trans ?_ (refm _ _ _ _).symm
  refine (pay8 _ _ q s j).trans ?_
  rw [sum_eq m c t q, in3 m c t q]

theorem final7 : (dats m 0 c).arrAt 7 cfg0.N = Cert.Reference19Ideal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  obtain ⟨-, -, -, -, -, -, -, e, -, -⟩ := idx t
  blk_simp [e]
  rw [after0_7, out7]
  have h2 : (win0_7.blk t).view.emb y = ix3 (y 0 : Fin 1) (ro t (y 1)) (y 2) := by
    unfold ro
    blk_ext [e]
  have hy : y = ix3 (y 0) (y 1) (y 2) := by blk_ext
  exact (congrArg _ hy).trans ((blk7 m c t (y 0) (y 1) (y 2)).trans (congrArg _ h2).symm)

theorem out8 (t : Fin cfg0.N) : out0_8 (F := Ideal) (grid0.coords t) (iblk m c 0 t) (iblk m c 1 t) (iblk m c 2 t) (iblk m c 3 t) (iblk m c 4 t)
    = k0_pay9 (F := Ideal) (k0_pay1 (grid0.coords t) (iblk m c 0 t) (iblk m c 1 t)) (iblk m c 4 t) := by
  unfold_out out0_8
  rw [View.canon_cons_unit_lit _ _ _ (by decide), ldf, ldf, ldw]

theorem blk8 (t : Fin cfg0.N) (q : Fin 1) (s : Fin 256) (j : Fin 450) :
    k0_pay9 (F := Ideal) (k0_pay1 (grid0.coords t) (iblk m c 0 t) (iblk m c 1 t)) (iblk m c 4 t) (ix3 q s j)
      = Cert.Reference19Ideal.Read.val_main_v14 (F := Ideal) (m ((c : Thread nD τ).loc main_arg0)) (m ((c : Thread nD τ).loc main_arg1)) (m ((c : Thread nD τ).loc main_arg4)) (ix3 q (ro t s) j) := by
  refine Eq.trans ?_ (refv _ _ _ _).symm
  refine (pay9 _ _ q s j).trans ?_
  rw [sum_eq m c t q, in4 m c t q]

theorem final8 : (dats m 0 c).arrAt 8 cfg0.N = Cert.Reference19Ideal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  obtain ⟨-, -, -, -, -, -, -, -, e, -⟩ := idx t
  blk_simp [e]
  rw [after0_8, out8]
  have h2 : (win0_8.blk t).view.emb y = ix3 (y 0 : Fin 1) (ro t (y 1)) (y 2) := by
    unfold ro
    blk_ext [e]
  have hy : y = ix3 (y 0) (y 1) (y 2) := by blk_ext
  exact (congrArg _ hy).trans ((blk8 m c t (y 0) (y 1) (y 2)).trans (congrArg _ h2).symm)

end

theorem algebraic : Cert.algebraic_Kernel19Ideal_Reference19Ideal := by
  pair_intro
  · run_from Cert.Kernel19Ideal.Value.run_blocks m g
  · refine (θ_run Cert.Reference19Ideal.defs _ _).mono (fun r h c => ?_) (Cert.Reference19Ideal.Value.run (F := Ideal) m' g')
    obtain ⟨r0, r1, r2, r3, rest⟩ := h c
    obtain ⟨a0, a1, a2, a3, a4⟩ := hagree c
    refine ⟨r0.trans ?_, r1.trans ?_, r2.trans ?_, r3.trans ?_, rest⟩
    · refine (Cert.Reference19Ideal.Read.val_main_v3_eq _ _).trans ?_
      rw [a0, a1]
      exact (final5 m c).symm
    · refine (Cert.Reference19Ideal.Read.val_main_v27_eq _ _ _ _ _).trans ?_
      rw [a0, a1, a2, a3, a4]
      exact (final6 m c).symm
    · refine (Cert.Reference19Ideal.Read.val_main_v8_eq _ _ _).trans ?_
      rw [a0, a1, a3]
      exact (final7 m c).symm
    · refine (Cert.Reference19Ideal.Read.val_main_v14_eq _ _ _).trans ?_
      rw [a0, a1, a4]
      exact (final8 m c).symm

theorem frame_ref : Cert.quiescent_Reference19Ideal := fun m g _ =>
  (θ_run Cert.Reference19Ideal.defs _ _).mono
    (fun r h => ⟨fun c => (h c).2.2.2.2, sem_eq_zero_of_no_sems (by decide) r.2⟩)
    (Cert.Reference19Ideal.Value.run (F := Ideal) m g)

end Cert.AdamIn
-- ==== Proof.lean ====
module

public import proofs.«01_k».proof.Defs
public import proofs.«01_k».proof.Proof.GdnPrep
public import proofs.«01_k».proof.Proof.Mlp
public import proofs.«01_k».proof.Proof.InProj
public import proofs.«01_k».proof.Proof.WgradUp
public import proofs.«01_k».proof.Proof.WgradDown
public import proofs.«01_k».proof.Proof.WgradSquare
public import proofs.«01_k».proof.Proof.WgradPle
public import proofs.«01_k».proof.Proof.WgradInA
public import proofs.«01_k».proof.Proof.WgradInB
public import proofs.«01_k».proof.Proof.InBwd
public import proofs.«01_k».proof.Proof.OutStage
public import proofs.«01_k».proof.Proof.OutBwd
public import proofs.«01_k».proof.Proof.GdnFwd
public import proofs.«01_k».proof.Proof.AdamSquare
public import proofs.«01_k».proof.Proof.AdamUp
public import proofs.«01_k».proof.Proof.AdamDown
public import proofs.«01_k».proof.Proof.AdamPle
public import proofs.«01_k».proof.Proof.AdamConv
public import proofs.«01_k».proof.Proof.AdamIn
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_mlp_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_in_bwd_finite
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_out_bwd_finite
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Pre_finite.Gen.facts, Cert.Pre_mlp_finite.Gen.facts, Cert.Pre_in_bwd_finite.Gen.facts,
  Cert.Pre_out_bwd_finite.Gen.facts, fun m g _ => Cert.Kernel.Gen.frame m g, fun m g _ => Cert.KernelIdeal.Gen.frame m g,
  fun m g _ => Cert.KernelIdeal.Gen.frame m g, Cert.GdnPrep.frame_ref, fun m g _ => Cert.GdnPrep.frame_ref m g trivial,
  fun m g _ => Cert.Kernel2.Gen.frame m g, fun m g _ => Cert.Kernel2Ideal.Gen.frame m g,
  fun m g _ => Cert.Kernel2Ideal.Gen.frame m g, Cert.Mlp.frame_ref, fun m g _ => Cert.Mlp.frame_ref m g trivial,
  fun m g _ => Cert.Kernel3.Gen.frame m g, fun m g _ => Cert.Kernel3Ideal.Gen.frame m g, Cert.InProj.frame_ref,
  fun m g _ => Cert.Kernel4.Gen.frame m g, fun m g _ => Cert.Kernel4Ideal.Gen.frame m g, Cert.WgradUp.frame_ref,
  fun m g _ => Cert.Kernel5.Gen.frame m g, fun m g _ => Cert.Kernel5Ideal.Gen.frame m g, Cert.WgradDown.frame_ref,
  fun m g _ => Cert.Kernel6.Gen.frame m g, fun m g _ => Cert.Kernel6Ideal.Gen.frame m g, Cert.WgradSquare.frame_ref,
  fun m g _ => Cert.Kernel7.Gen.frame m g, fun m g _ => Cert.Kernel7Ideal.Gen.frame m g, Cert.WgradPle.frame_ref,
  fun m g _ => Cert.Kernel8.Gen.frame m g, fun m g _ => Cert.Kernel8Ideal.Gen.frame m g, Cert.WgradInA.frame_ref,
  fun m g _ => Cert.Kernel9.Gen.frame m g, fun m g _ => Cert.Kernel9Ideal.Gen.frame m g, Cert.WgradInB.frame_ref,
  fun m g _ => Cert.Kernel10.Gen.frame m g, fun m g _ => Cert.Kernel10Ideal.Gen.frame m g,
  fun m g _ => Cert.Kernel10Ideal.Gen.frame m g, Cert.InBwd.frame_ref, fun m g _ => Cert.InBwd.frame_ref m g trivial,
  fun m g _ => Cert.Kernel11.Gen.frame m g, fun m g _ => Cert.Kernel11Ideal.Gen.frame m g, Cert.OutStage.frame_ref,
  fun m g _ => Cert.Kernel12.Gen.frame m g, fun m g _ => Cert.Kernel12Ideal.Gen.frame m g,
  fun m g _ => Cert.Kernel12Ideal.Gen.frame m g, Cert.OutBwd.frame_ref, fun m g _ => Cert.OutBwd.frame_ref m g trivial,
  fun m g _ => Cert.Kernel13.Gen.frame m g, fun m g _ => Cert.Kernel13Ideal.Gen.frame m g, Cert.GdnFwd.frame_ref,
  fun m g _ => Cert.Kernel14.Gen.frame m g, fun m g _ => Cert.Kernel14Ideal.Gen.frame m g, Cert.AdamSquare.frame_ref,
  fun m g _ => Cert.Kernel15.Gen.frame m g, fun m g _ => Cert.Kernel15Ideal.Gen.frame m g, Cert.AdamUp.frame_ref,
  fun m g _ => Cert.Kernel16.Gen.frame m g, fun m g _ => Cert.Kernel16Ideal.Gen.frame m g, Cert.AdamDown.frame_ref,
  fun m g _ => Cert.Kernel17.Gen.frame m g, fun m g _ => Cert.Kernel17Ideal.Gen.frame m g, Cert.AdamPle.frame_ref,
  fun m g _ => Cert.Kernel18.Gen.frame m g, fun m g _ => Cert.Kernel18Ideal.Gen.frame m g, Cert.AdamConv.frame_ref,
  fun m g _ => Cert.Kernel19.Gen.frame m g, fun m g _ => Cert.Kernel19Ideal.Gen.frame m g, Cert.AdamIn.frame_ref, trivial,
  Cert.GdnPrep.algebraic, trivial, Cert.Mlp.algebraic, trivial, Cert.InProj.algebraic, trivial, Cert.WgradUp.algebraic,
  trivial, Cert.WgradDown.algebraic, trivial, Cert.WgradSquare.algebraic, trivial, Cert.WgradPle.algebraic, trivial,
  Cert.WgradInA.algebraic, trivial, Cert.WgradInB.algebraic, trivial, Cert.InBwd.algebraic, trivial, Cert.OutStage.algebraic,
  trivial, Cert.OutBwd.algebraic, trivial, Cert.GdnFwd.algebraic, trivial, Cert.AdamSquare.algebraic, trivial,
  Cert.AdamUp.algebraic, trivial, Cert.AdamDown.algebraic, trivial, Cert.AdamPle.algebraic, trivial, Cert.AdamConv.algebraic,
  trivial, Cert.AdamIn.algebraic⟩

end Cert.Proof

end
